-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v40_0)) (v1 : (c : Dev Cert.Kernel4Ideal.nD) → Buf (Elt Ideal) ((c.tc : Thread Cert.Kernel4Ideal.nD Cert.Kernel4Ideal.τ).loc Cert.Kernel4Ideal.main_v40_1)) (v2 : (c : Dev Cert.Kernel4Ideal.nD) → Buf (Elt Ideal) ((c.tc : Thread Cert.Kernel4Ideal.nD Cert.Kernel4Ideal.τ).loc Cert.Kernel4Ideal.main_v40_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40_0) = v0 c
          ∧ r.2.mem ((c.tc : Thread Cert.Kernel4Ideal.nD Cert.Kernel4Ideal.τ).loc Cert.Kernel4Ideal.main_v40_1) = v1 c
          ∧ r.2.mem ((c.tc : Thread Cert.Kernel4Ideal.nD Cert.Kernel4Ideal.τ).loc Cert.Kernel4Ideal.main_v40_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v105) = v0 c
          ∧ r.2.mem ((c.tc : Thread Cert.Reference4Ideal.nD Cert.Reference4Ideal.τ).loc Cert.Reference4Ideal.main_v115) = v1 c
          ∧ r.2.mem ((c.tc : Thread Cert.Reference4Ideal.nD Cert.Reference4Ideal.τ).loc Cert.Reference4Ideal.main_v114) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v37_0)) (v1 : (c : Dev Cert.Kernel6Ideal.nD) → Buf (Elt Ideal) ((c.tc : Thread Cert.Kernel6Ideal.nD Cert.Kernel6Ideal.τ).loc Cert.Kernel6Ideal.main_v37_1)) (v2 : (c : Dev Cert.Kernel6Ideal.nD) → Buf (Elt Ideal) ((c.tc : Thread Cert.Kernel6Ideal.nD Cert.Kernel6Ideal.τ).loc Cert.Kernel6Ideal.main_v37_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37_0) = v0 c
          ∧ r.2.mem ((c.tc : Thread Cert.Kernel6Ideal.nD Cert.Kernel6Ideal.τ).loc Cert.Kernel6Ideal.main_v37_1) = v1 c
          ∧ r.2.mem ((c.tc : Thread Cert.Kernel6Ideal.nD Cert.Kernel6Ideal.τ).loc Cert.Kernel6Ideal.main_v37_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v105) = v0 c
          ∧ r.2.mem ((c.tc : Thread Cert.Reference6Ideal.nD Cert.Reference6Ideal.τ).loc Cert.Reference6Ideal.main_v115) = v1 c
          ∧ r.2.mem ((c.tc : Thread Cert.Reference6Ideal.nD Cert.Reference6Ideal.τ).loc Cert.Reference6Ideal.main_v114) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v93) = v0 c
          ∧ r.2.mem ((c.tc : Thread Cert.Reference7Ideal.nD Cert.Reference7Ideal.τ).loc Cert.Reference7Ideal.main_v79) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v101) = v0 c
          ∧ r.2.mem ((c.tc : Thread Cert.Reference8Ideal.nD Cert.Reference8Ideal.τ).loc Cert.Reference8Ideal.main_v102) = v1 c
          ∧ r.2.mem ((c.tc : Thread Cert.Reference8Ideal.nD Cert.Reference8Ideal.τ).loc Cert.Reference8Ideal.main_v100) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S8192x4864 : Shape := ⟨2, ![8192, 4864]⟩
abbrev S8192x128 : Shape := ⟨2, ![8192, 128]⟩
abbrev S2x4096x128 : Shape := ⟨3, ![2, 4096, 128]⟩
abbrev S2x4096x8 : Shape := ⟨3, ![2, 4096, 8]⟩
abbrev S2x8x4096 : Shape := ⟨3, ![2, 8, 4096]⟩
abbrev S8192x512 : Shape := ⟨2, ![8192, 512]⟩
abbrev S256x512 : Shape := ⟨2, ![256, 512]⟩
abbrev S4096x512 : Shape := ⟨2, ![4096, 512]⟩
abbrev S256x128 : Shape := ⟨2, ![256, 128]⟩
abbrev S1x8x4096 : Shape := ⟨3, ![1, 8, 4096]⟩
abbrev S4x256x1 : Shape := ⟨3, ![4, 256, 1]⟩
abbrev S4x256x128 : Shape := ⟨3, ![4, 256, 128]⟩
abbrev S256x256 : Shape := ⟨2, ![256, 256]⟩
abbrev S256x1 : Shape := ⟨2, ![256, 1]⟩
abbrev S1x1x256 : Shape := ⟨3, ![1, 1, 256]⟩
abbrev S1x256 : Shape := ⟨2, ![1, 256]⟩
abbrev S1x256x1 : Shape := ⟨3, ![1, 256, 1]⟩
abbrev S256 : Shape := ⟨1, ![256]⟩
abbrev S1x256x128 : Shape := ⟨3, ![1, 256, 128]⟩

abbrev nBuf : Space → Nat
  | .hbm => 6
  | .vmem => 15
  | .smem => 0
  | _ => 0

abbrev bufTy : (tb : Table) → Fin (tcTables nBuf tb) → BufTy
  | .hbm, ⟨0, _⟩ => ⟨S8192x4864, .bf16⟩
  | .hbm, ⟨1, _⟩ => ⟨S8192x128, .f32⟩
  | .hbm, ⟨2, _⟩ => ⟨S2x4096x128, .f32⟩
  | .hbm, ⟨3, _⟩ => ⟨S2x4096x8, .f32⟩
  | .hbm, ⟨4, _⟩ => ⟨S2x8x4096, .f32⟩
  | .hbm, ⟨5, _⟩ => ⟨S8192x512, .f32⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S256x128, .f32⟩
  | .local _ .vmem, ⟨7, _⟩ => ⟨S256x128, .f32⟩
  | .local _ .vmem, ⟨8, _⟩ => ⟨S1x8x4096, .f32⟩
  | .local _ .vmem, ⟨9, _⟩ => ⟨S1x8x4096, .f32⟩
  | .local _ .vmem, ⟨10, _⟩ => ⟨S256x512, .f32⟩
  | .local _ .vmem, ⟨11, _⟩ => ⟨S256x512, .f32⟩
  | .local _ .vmem, ⟨12, _⟩ => ⟨S4x256x1, .f32⟩
  | .local _ .vmem, ⟨13, _⟩ => ⟨S4x256x1, .f32⟩
  | .local _ .vmem, ⟨14, _⟩ => ⟨S4x256x128, .f32⟩
  | _, _ => ⟨S8192x4864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_10 : BitVec 32 := 0#32
  let arg1 : BitVec 32 := BitVec.ofNat 32 (i 1).val
  let v15 : BitVec 32 := Scalar.subi arg1 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_11 : BitVec 32 := 1#32
  ⟨c0_i32_10, v19, c1_i32_11⟩
def k0_mult1 (i : grid0.Coords) (k0_t1 : Fin (k0_t1_loop i).trips) : BitVec 32 :=
  let c0_i32_10 : BitVec 32 := 0#32
  let c1_i32_11 : BitVec 32 := 1#32
  let arg11 : BitVec 32 := Scf.iv c0_i32_10 c1_i32_11 k0_t1
  let c256_i32_175 : BitVec 32 := 256#32
  let v266 : BitVec 32 := Scalar.muli arg11 c256_i32_175
  v266
def k0_off1 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c256_i32_175 : BitVec 32 := 256#32
  let v266 : BitVec 32 := Scalar.muli arg11 c256_i32_175
  let v267 : BitVec 32 := v266
  let v269 : Index := Scalar.indexCast v267
  let c0_178 : Index := 0#32
  ![v269.toNat, 0]
def k0_off2 (i : grid0.Coords) (k0_t1 : Fin (k0_t1_loop i).trips) : Fin 3 → Nat :=
  let c0_183 : Index := 0#32
  let c0_184 : Index := 0#32
  let c0_i32_10 : BitVec 32 := 0#32
  let c1_i32_11 : BitVec 32 := 1#32
  let arg11 : BitVec 32 := Scf.iv c0_i32_10 c1_i32_11 k0_t1
  let c256_i32_175 : BitVec 32 := 256#32
  let v266 : BitVec 32 := Scalar.muli arg11 c256_i32_175
  let v267 : BitVec 32 := v266
  let v275 : Index := Scalar.indexCast v267
  ![0, 0, v275.toNat]
def k0_off3 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c256_i32_175 : BitVec 32 := 256#32
  let v266 : BitVec 32 := Scalar.muli arg11 c256_i32_175
  let v267 : BitVec 32 := v266
  let v285 : Index := Scalar.indexCast v267
  let c128_188 : Index := 128#32
  ![v285.toNat, 128]
def k0_off4 (i : grid0.Coords) (k0_t1 : Fin (k0_t1_loop i).trips) : Fin 3 → Nat :=
  let c0_193 : Index := 0#32
  let c1_194 : Index := 1#32
  let c0_i32_10 : BitVec 32 := 0#32
  let c1_i32_11 : BitVec 32 := 1#32
  let arg11 : BitVec 32 := Scf.iv c0_i32_10 c1_i32_11 k0_t1
  let c256_i32_175 : BitVec 32 := 256#32
  let v266 : BitVec 32 := Scalar.muli arg11 c256_i32_175
  let v267 : BitVec 32 := v266
  let v291 : Index := Scalar.indexCast v267
  ![0, 1, v291.toNat]
def k0_off5 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c256_i32_175 : BitVec 32 := 256#32
  let v266 : BitVec 32 := Scalar.muli arg11 c256_i32_175
  let v267 : BitVec 32 := v266
  let v301 : Index := Scalar.indexCast v267
  let c256_198 : Index := 256#32
  ![v301.toNat, 256]
def k0_off6 (i : grid0.Coords) (k0_t1 : Fin (k0_t1_loop i).trips) : Fin 3 → Nat :=
  let c0_203 : Index := 0#32
  let c2_204 : Index := 2#32
  let c0_i32_10 : BitVec 32 := 0#32
  let c1_i32_11 : BitVec 32 := 1#32
  let arg11 : BitVec 32 := Scf.iv c0_i32_10 c1_i32_11 k0_t1
  let c256_i32_175 : BitVec 32 := 256#32
  let v266 : BitVec 32 := Scalar.muli arg11 c256_i32_175
  let v267 : BitVec 32 := v266
  let v307 : Index := Scalar.indexCast v267
  ![0, 2, v307.toNat]
def k0_off7 (i : grid0.Coords) (k0_t1 : Fin (k0_t1_loop i).trips) : Fin 2 → Nat :=
  let c0_i32_10 : BitVec 32 := 0#32
  let c1_i32_11 : BitVec 32 := 1#32
  let arg11 : BitVec 32 := Scf.iv c0_i32_10 c1_i32_11 k0_t1
  let c256_i32_175 : BitVec 32 := 256#32
  let v266 : BitVec 32 := Scalar.muli arg11 c256_i32_175
  let v267 : BitVec 32 := v266
  let v317 : Index := Scalar.indexCast v267
  let c384_208 : Index := 384#32
  ![v317.toNat, 384]
def k0_off8 (i : grid0.Coords) (k0_t1 : Fin (k0_t1_loop i).trips) : Fin 3 → Nat :=
  let c0_213 : Index := 0#32
  let c3_214 : Index := 3#32
  let c0_i32_10 : BitVec 32 := 0#32
  let c1_i32_11 : BitVec 32 := 1#32
  let arg11 : BitVec 32 := Scf.iv c0_i32_10 c1_i32_11 k0_t1
  let c256_i32_175 : BitVec 32 := 256#32
  let v266 : BitVec 32 := Scalar.muli arg11 c256_i32_175
  let v267 : BitVec 32 := v266
  let v323 : Index := Scalar.indexCast v267
  ![0, 3, v323.toNat]
@[reducible] def k0_t2_loop (i : grid0.Coords) : Scf.Loop 32 :=
  let c0_i32_10 : BitVec 32 := 0#32
  let arg1 : BitVec 32 := BitVec.ofNat 32 (i 1).val
  let v15 : BitVec 32 := Scalar.subi arg1 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let v16 : BitVec 32 := Scalar.addi c0_i32_10 v15
  let c1_i32_12 : BitVec 32 := 1#32
  ⟨v19, v16, c1_i32_12⟩
def k0_mult2 (i : grid0.Coords) (k0_t2 : Fin (k0_t2_loop i).trips) : BitVec 32 :=
  let c0_i32_10 : BitVec 32 := 0#32
  let arg1 : BitVec 32 := BitVec.ofNat 32 (i 1).val
  let v15 : BitVec 32 := Scalar.subi arg1 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg11 : BitVec 32 := Scf.iv v19 c1_i32_12 k0_t2
  let c256_i32_175 : BitVec 32 := 256#32
  let v266 : BitVec 32 := Scalar.muli arg11 c256_i32_175
  v266
def k0_off9 (i : grid0.Coords) (k0_t2 : Fin (k0_t2_loop i).trips) : Fin 2 → Nat :=
  let c0_i32_10 : BitVec 32 := 0#32
  let arg1 : BitVec 32 := BitVec.ofNat 32 (i 1).val
  let v15 : BitVec 32 := Scalar.subi arg1 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg11 : BitVec 32 := Scf.iv v19 c1_i32_12 k0_t2
  let c256_i32_175 : BitVec 32 := 256#32
  let v266 : BitVec 32 := Scalar.muli arg11 c256_i32_175
  let v267 : BitVec 32 := v266
  let v269 : Index := Scalar.indexCast v267
  let c0_178 : Index := 0#32
  ![v269.toNat, 0]
def k0_off10 (i : grid0.Coords) (k0_t2 : Fin (k0_t2_loop i).trips) : Fin 3 → Nat :=
  let c0_183 : Index := 0#32
  let c0_184 : Index := 0#32
  let c0_i32_10 : BitVec 32 := 0#32
  let arg1 : BitVec 32 := BitVec.ofNat 32 (i 1).val
  let v15 : BitVec 32 := Scalar.subi arg1 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg11 : BitVec 32 := Scf.iv v19 c1_i32_12 k0_t2
  let c256_i32_175 : BitVec 32 := 256#32
  let v266 : BitVec 32 := Scalar.muli arg11 c256_i32_175
  let v267 : BitVec 32 := v266
  let v275 : Index := Scalar.indexCast v267
  ![0, 0, v275.toNat]
def k0_off11 (i : grid0.Coords) (k0_t2 : Fin (k0_t2_loop i).trips) : Fin 2 → Nat :=
  let c0_i32_10 : BitVec 32 := 0#32
  let arg1 : BitVec 32 := BitVec.ofNat 32 (i 1).val
  let v15 : BitVec 32 := Scalar.subi arg1 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg11 : BitVec 32 := Scf.iv v19 c1_i32_12 k0_t2
  let c256_i32_175 : BitVec 32 := 256#32
  let v266 : BitVec 32 := Scalar.muli arg11 c256_i32_175
  let v267 : BitVec 32 := v266
  let v285 : Index := Scalar.indexCast v267
  let c128_188 : Index := 128#32
  ![v285.toNat, 128]
def k0_off12 (i : grid0.Coords) (k0_t2 : Fin (k0_t2_loop i).trips) : Fin 3 → Nat :=
  let c0_193 : Index := 0#32
  let c1_194 : Index := 1#32
  let c0_i32_10 : BitVec 32 := 0#32
  let arg1 : BitVec 32 := BitVec.ofNat 32 (i 1).val
  let v15 : BitVec 32 := Scalar.subi arg1 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg11 : BitVec 32 := Scf.iv v19 c1_i32_12 k0_t2
  let c256_i32_175 : BitVec 32 := 256#32
  let v266 : BitVec 32 := Scalar.muli arg11 c256_i32_175
  let v267 : BitVec 32 := v266
  let v291 : Index := Scalar.indexCast v267
  ![0, 1, v291.toNat]
def k0_off13 (i : grid0.Coords) (k0_t2 : Fin (k0_t2_loop i).trips) : Fin 2 → Nat :=
  let c0_i32_10 : BitVec 32 := 0#32
  let arg1 : BitVec 32 := BitVec.ofNat 32 (i 1).val
  let v15 : BitVec 32 := Scalar.subi arg1 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg11 : BitVec 32 := Scf.iv v19 c1_i32_12 k0_t2
  let c256_i32_175 : BitVec 32 := 256#32
  let v266 : BitVec 32 := Scalar.muli arg11 c256_i32_175
  let v267 : BitVec 32 := v266
  let v301 : Index := Scalar.indexCast v267
  let c256_198 : Index := 256#32
  ![v301.toNat, 256]
def k0_off14 (i : grid0.Coords) (k0_t2 : Fin (k0_t2_loop i).trips) : Fin 3 → Nat :=
  let c0_203 : Index := 0#32
  let c2_204 : Index := 2#32
  let c0_i32_10 : BitVec 32 := 0#32
  let arg1 : BitVec 32 := BitVec.ofNat 32 (i 1).val
  let v15 : BitVec 32 := Scalar.subi arg1 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg11 : BitVec 32 := Scf.iv v19 c1_i32_12 k0_t2
  let c256_i32_175 : BitVec 32 := 256#32
  let v266 : BitVec 32 := Scalar.muli arg11 c256_i32_175
  let v267 : BitVec 32 := v266
  let v307 : Index := Scalar.indexCast v267
  ![0, 2, v307.toNat]
def k0_off15 (i : grid0.Coords) (k0_t2 : Fin (k0_t2_loop i).trips) : Fin 2 → Nat :=
  let c0_i32_10 : BitVec 32 := 0#32
  let arg1 : BitVec 32 := BitVec.ofNat 32 (i 1).val
  let v15 : BitVec 32 := Scalar.subi arg1 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg11 : BitVec 32 := Scf.iv v19 c1_i32_12 k0_t2
  let c256_i32_175 : BitVec 32 := 256#32
  let v266 : BitVec 32 := Scalar.muli arg11 c256_i32_175
  let v267 : BitVec 32 := v266
  let v317 : Index := Scalar.indexCast v267
  let c384_208 : Index := 384#32
  ![v317.toNat, 384]
def k0_off16 (i : grid0.Coords) (k0_t2 : Fin (k0_t2_loop i).trips) : Fin 3 → Nat :=
  let c0_213 : Index := 0#32
  let c3_214 : Index := 3#32
  let c0_i32_10 : BitVec 32 := 0#32
  let arg1 : BitVec 32 := BitVec.ofNat 32 (i 1).val
  let v15 : BitVec 32 := Scalar.subi arg1 c0_i32_10
  let c1_i32 : BitVec 32 := 1#32
  let v17 : BitVec 32 := Scalar.divsi v15 c1_i32
  let v18 : BitVec 32 := Scalar.muli v17 c1_i32
  let v19 : BitVec 32 := Scalar.addi c0_i32_10 v18
  let c1_i32_12 : BitVec 32 := 1#32
  let arg11 : BitVec 32 := Scf.iv v19 c1_i32_12 k0_t2
  let c256_i32_175 : BitVec 32 := 256#32
  let v266 : BitVec 32 := Scalar.muli arg11 c256_i32_175
  let v267 : BitVec 32 := v266
  let v323 : Index := Scalar.indexCast v267
  ![0, 3, v323.toNat]
def k0_mult3 (i : grid0.Coords) : BitVec 32 :=
  let arg1 : BitVec 32 := BitVec.ofNat 32 (i 1).val
  let c256_i32 : BitVec 32 := 256#32
  let v20 : BitVec 32 := Scalar.muli arg1 c256_i32
  v20
def k0_off17 (i : grid0.Coords) : Fin 2 → Nat :=
  let arg1 : BitVec 32 := BitVec.ofNat 32 (i 1).val
  let c256_i32 : BitVec 32 := 256#32
  let v20 : BitVec 32 := Scalar.muli arg1 c256_i32
  let v21 : BitVec 32 := v20
  let v23 : Index := Scalar.indexCast v21
  let c0_15 : Index := 0#32
  ![v23.toNat, 0]
def k0_off18 (i : grid0.Coords) : Fin 3 → Nat :=
  let c0_20 : Index := 0#32
  let c0_21 : Index := 0#32
  let arg1 : BitVec 32 := BitVec.ofNat 32 (i 1).val
  let c256_i32 : BitVec 32 := 256#32
  let v20 : BitVec 32 := Scalar.muli arg1 c256_i32
  let v21 : BitVec 32 := v20
  let v29 : Index := Scalar.indexCast v21
  ![0, 0, v29.toNat]
def k0_off19 (i : grid0.Coords) : Fin 2 → Nat :=
  let arg1 : BitVec 32 := BitVec.ofNat 32 (i 1).val
  let c256_i32 : BitVec 32 := 256#32
  let v20 : BitVec 32 := Scalar.muli arg1 c256_i32
  let v21 : BitVec 32 := v20
  let v39 : Index := Scalar.indexCast v21
  let c128_24 : Index := 128#32
  ![v39.toNat, 128]
def k0_off20 (i : grid0.Coords) : Fin 3 → Nat :=
  let c0_28 : Index := 0#32
  let c1_29 : Index := 1#32
  let arg1 : BitVec 32 := BitVec.ofNat 32 (i 1).val
  let c256_i32 : BitVec 32 := 256#32
  let v20 : BitVec 32 := Scalar.muli arg1 c256_i32
  let v21 : BitVec 32 := v20
  let v45 : Index := Scalar.indexCast v21
  ![0, 1, v45.toNat]
def k0_off21 (i : grid0.Coords) : Fin 2 → Nat :=
  let arg1 : BitVec 32 := BitVec.ofNat 32 (i 1).val
  let c256_i32 : BitVec 32 := 256#32
  let v20 : BitVec 32 := Scalar.muli arg1 c256_i32
  let v21 : BitVec 32 := v20
  let v55 : Index := Scalar.indexCast v21
  let c256_32 : Index := 256#32
  ![v55.toNat, 256]
def k0_off22 (i : grid0.Coords) : Fin 3 → Nat :=
  let c0_36 : Index := 0#32
  let c2_37 : Index := 2#32
  let arg1 : BitVec 32 := BitVec.ofNat 32 (i 1).val
  let c256_i32 : BitVec 32 := 256#32
  let v20 : BitVec 32 := Scalar.muli arg1 c256_i32
  let v21 : BitVec 32 := v20
  let v61 : Index := Scalar.indexCast v21
  ![0, 2, v61.toNat]
def k0_off23 (i : grid0.Coords) : Fin 2 → Nat :=
  let arg1 : BitVec 32 := BitVec.ofNat 32 (i 1).val
  let c256_i32 : BitVec 32 := 256#32
  let v20 : BitVec 32 := Scalar.muli arg1 c256_i32
  let v21 : BitVec 32 := v20
  let v71 : Index := Scalar.indexCast v21
  let c384_40 : Index := 384#32
  ![v71.toNat, 384]
def k0_off24 (i : grid0.Coords) : Fin 3 → Nat :=
  let c0_44 : Index := 0#32
  let c3_45 : Index := 3#32
  let arg1 : BitVec 32 := BitVec.ofNat 32 (i 1).val
  let c256_i32 : BitVec 32 := 256#32
  let v20 : BitVec 32 := Scalar.muli arg1 c256_i32
  let v21 : BitVec 32 := v20
  let v77 : Index := Scalar.indexCast v21
  ![0, 3, v77.toNat]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x4864 : Shape := ⟨2, ![8192, 4864]⟩
abbrev S8192x128 : Shape := ⟨2, ![8192, 128]⟩
abbrev S8192x512 : Shape := ⟨2, ![8192, 512]⟩
abbrev S2x4096x4x128 : Shape := ⟨4, ![2, 4096, 4, 128]⟩
abbrev S8192x4 : Shape := ⟨2, ![8192, 4]⟩
abbrev S2x4096x4 : Shape := ⟨3, ![2, 4096, 4]⟩
abbrev S4096 : Shape := ⟨1, ![4096]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x4x1x4096 : Shape := ⟨4, ![2, 4, 1, 4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x4x128x4096 : Shape := ⟨4, ![2, 4, 128, 4096]⟩

abbrev nBuf : Space → Nat
  | .hbm => 57
  | .vmem => 0
  | .smem => 0
  | _ => 0

abbrev bufTy : (tb : Table) → Fin (tcTables nBuf tb) → BufTy
  | .hbm, ⟨0, _⟩ => ⟨S8192x4864, .bf16⟩
  | .hbm, ⟨1, _⟩ => ⟨S8192x128, .f32⟩
  | .hbm, ⟨2, _⟩ => ⟨S8192x4864, .f32⟩
  | .hbm, ⟨3, _⟩ => ⟨S8192x512, .f32⟩
  | .hbm, ⟨4, _⟩ => ⟨S2x4096x4x128, .f32⟩
  | .hbm, ⟨5, _⟩ => ⟨S8192x512, .f32⟩
  | .hbm, ⟨6, _⟩ => ⟨S2x4096x4x128, .f32⟩
  | .hbm, ⟨7, _⟩ => ⟨S8192x512, .f32⟩
  | .hbm, ⟨8, _⟩ => ⟨S2x4096x4x128, .f32⟩
  | .hbm, ⟨9, _⟩ => ⟨S8192x4, .f32⟩
  | .hbm, ⟨10, _⟩ => ⟨S2x4096x4, .f32⟩
  | .hbm, ⟨11, _⟩ => ⟨S4096, .i32⟩
  | .hbm, ⟨12, _⟩ => ⟨S2x4x4096x4096, .f32⟩
  | .hbm, ⟨13, _⟩ => ⟨S_, .f32⟩
  | .hbm, ⟨14, _⟩ => ⟨S2x4x4096x4096, .f32⟩
  | .hbm, ⟨15, _⟩ => ⟨S2x4x4096x4096, .f32⟩
  | .hbm, ⟨16, _⟩ => ⟨S2x4x4096, .f32⟩
  | .hbm, ⟨17, _⟩ => ⟨S2x4x4096x1, .f32⟩
  | .hbm, ⟨18, _⟩ => ⟨S2x4x4096, .f32⟩
  | .hbm, ⟨19, _⟩ => ⟨S2x4x1x4096, .f32⟩
  | .hbm, ⟨20, _⟩ => ⟨S2x4x4096x4096, .f32⟩
  | .hbm, ⟨21, _⟩ => ⟨S2x4x4096x4096, .f32⟩
  | .hbm, ⟨22, _⟩ => ⟨S2x4x4096x4096, .f32⟩
  | .hbm, ⟨23, _⟩ => ⟨S2x4x4096x4096, .f32⟩
  | .hbm, ⟨24, _⟩ => ⟨S1x4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S1x1x4096x4096, .i1⟩
  | .hbm, ⟨30, _⟩ => ⟨S_, .f32⟩
  | .hbm, ⟨31, _⟩ => ⟨S_, .f32⟩
  | .hbm, ⟨32, _⟩ => ⟨S2x4x4096x4096, .i1⟩
  | .hbm, ⟨33, _⟩ => ⟨S2x4x4096x4096, .f32⟩
  | .hbm, ⟨34, _⟩ => ⟨S2x4x4096x4096, .f32⟩
  | .hbm, ⟨35, _⟩ => ⟨S_, .f32⟩
  | .hbm, ⟨36, _⟩ => ⟨S2x4x4096, .f32⟩
  | .hbm, ⟨37, _⟩ => ⟨S2x4x4096x1, .f32⟩
  | .hbm, ⟨38, _⟩ => ⟨S2x4x4096x4096, .f32⟩
  | .hbm, ⟨39, _⟩ => ⟨S2x4x4096x4096, .f32⟩
  | .hbm, ⟨40, _⟩ => ⟨S2x4x4096x4096, .f32⟩
  | .hbm, ⟨41, _⟩ => ⟨S_, .f32⟩
  | .hbm, ⟨42, _⟩ => ⟨S_, .f32⟩
  | .hbm, ⟨43, _⟩ => ⟨S2x4x4096x4096, .i1⟩
  | .hbm, ⟨44, _⟩ => ⟨S2x4x4096x4096, .f32⟩
  | .hbm, ⟨45, _⟩ => ⟨S2x4x4096x4096, .f32⟩
  | .hbm, ⟨46, _⟩ => ⟨S_, .f32⟩
  | .hbm, ⟨47, _⟩ => ⟨S2x4x4096, .f32⟩
  | .hbm, ⟨48, _⟩ => ⟨S2x4x4096x1, .f32⟩
  | .hbm, ⟨49, _⟩ => ⟨S_, .f32⟩
  | .hbm, ⟨50, _⟩ => ⟨S2x4x4096x1, .f32⟩
  | .hbm, ⟨51, _⟩ => ⟨S2x4x4096x1, .f32⟩
  | .hbm, ⟨52, _⟩ => ⟨S2x4x4096x4096, .f32⟩
  | .hbm, ⟨53, _⟩ => ⟨S2x4x4096x4096, .f32⟩
  | .hbm, ⟨54, _⟩ => ⟨S2x4x128x4096, .f32⟩
  | .hbm, ⟨55, _⟩ => ⟨S2x4096x4x128, .f32⟩
  | .hbm, ⟨56, _⟩ => ⟨S8192x512, .f32⟩
  | _, _ => ⟨S8192x4864, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x8192 : Shape := ⟨2, ![2048, 8192]⟩
abbrev S1x2048 : Shape := ⟨2, ![1, 2048]⟩
abbrev S512x2048 : Shape := ⟨2, ![512, 2048]⟩
abbrev S2048x1024 : Shape := ⟨2, ![2048, 1024]⟩
abbrev S1024x2048 : Shape := ⟨2, ![1024, 2048]⟩
abbrev S512 : Shape := ⟨1, ![512]⟩
abbrev S512x1 : Shape := ⟨2, ![512, 1]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S1x2048, .f32⟩
  | .hbm, ⟨6, _⟩ => ⟨S2048x8192, .bf16⟩
  | .hbm, ⟨7, _⟩ => ⟨S8192x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S8192x1024 : Shape := ⟨2, ![8192, 1024]⟩
abbrev S8192x512 : Shape := ⟨2, ![8192, 512]⟩
abbrev S2048 : Shape := ⟨1, ![2048]⟩
abbrev S2048x2048 : Shape := ⟨2, ![2048, 2048]⟩
abbrev S8192x2048 : Shape := ⟨2, ![8192, 2048]⟩
abbrev S1x2048 : Shape := ⟨2, ![1, 2048]⟩
abbrev S512x1024 : Shape := ⟨2, ![512, 1024]⟩
abbrev S512x512 : Shape := ⟨2, ![512, 512]⟩
abbrev S512x2048 : Shape := ⟨2, ![512, 2048]⟩
abbrev S1x1024 : Shape := ⟨2, ![1, 1024]⟩
abbrev S512 : Shape := ⟨1, ![512]⟩
abbrev S512x1 : Shape := ⟨2, ![512, 1]⟩
abbrev S1x512 : Shape := ⟨2, ![1, 512]⟩
abbrev S1024x2048 : Shape := ⟨2, ![1024, 2048]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S2048, .f32⟩
  | .hbm, ⟨4, _⟩ => ⟨S2048x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S2048x2048, .bf16⟩
  | .hbm, ⟨9, _⟩ => ⟨S1x2048, .f32⟩
  | .hbm, ⟨10, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x2048, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8192x1024 : Shape := ⟨2, ![8192, 1024]⟩
abbrev S8192x512 : Shape := ⟨2, ![8192, 512]⟩
abbrev S2048 : Shape := ⟨1, ![2048]⟩
abbrev S2048x2048 : Shape := ⟨2, ![2048, 2048]⟩
abbrev S8192x2048 : Shape := ⟨2, ![8192, 2048]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512 : Shape := ⟨1, ![512]⟩
abbrev S1x512 : Shape := ⟨2, ![1, 512]⟩
abbrev S1x2048 : Shape := ⟨2, ![1, 2048]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S2048, .f32⟩
  | .hbm, ⟨4, _⟩ => ⟨S2048x2048, .f32⟩
  | .hbm, ⟨5, _⟩ => ⟨S8192x2048, .f32⟩
  | .hbm, ⟨6, _⟩ => ⟨S2048, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S512, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x512, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S512, .f32⟩
  | .hbm, ⟨42, _⟩ => ⟨S8192x512, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x512, .f32⟩
  | .hbm, ⟨54, _⟩ => ⟨S8192x512, .f32⟩
  | .hbm, ⟨55, _⟩ => ⟨S1x512, .f32⟩
  | .hbm, ⟨56, _⟩ => ⟨S8192x512, .f32⟩
  | .hbm, ⟨57, _⟩ => ⟨S8192x512, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x2048, .f32⟩
  | .hbm, ⟨72, _⟩ => ⟨S8192x2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S2048x4880 : Shape := ⟨2, ![2048, 4880]⟩
abbrev S4 : Shape := ⟨1, ![4]⟩
abbrev S2048x2560 : Shape := ⟨2, ![2048, 2560]⟩
abbrev S2048x1536 : Shape := ⟨2, ![2048, 1536]⟩
abbrev S2048x768 : Shape := ⟨2, ![2048, 768]⟩
abbrev S2048x4864 : Shape := ⟨2, ![2048, 4864]⟩
abbrev S_ : Shape := ⟨0, ![]⟩
abbrev S2048x112 : Shape := ⟨2, ![2048, 112]⟩
abbrev S2048x4 : Shape := ⟨2, ![2048, 4]⟩
abbrev S2048x12 : Shape := ⟨2, ![2048, 12]⟩
abbrev S2048x128 : Shape := ⟨2, ![2048, 128]⟩
abbrev S124 : Shape := ⟨1, ![124]⟩
abbrev S128 : Shape := ⟨1, ![128]⟩
abbrev S1x128 : Shape := ⟨2, ![1, 128]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x96 : Shape := ⟨2, ![8192, 96]⟩
abbrev S8192x128 : Shape := ⟨2, ![8192, 128]⟩
abbrev S8192x112 : Shape := ⟨2, ![8192, 112]⟩
abbrev S1x2048 : Shape := ⟨2, ![1, 2048]⟩
abbrev S8192x4864 : Shape := ⟨2, ![8192, 4864]⟩
abbrev S1024x2048 : Shape := ⟨2, ![1024, 2048]⟩
abbrev S2048x256 : Shape := ⟨2, ![2048, 256]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 55
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4880, .f32⟩
  | .hbm, ⟨3, _⟩ => ⟨S4, .f32⟩
  | .hbm, ⟨4, _⟩ => ⟨S2048x2560, .f32⟩
  | .hbm, ⟨5, _⟩ => ⟨S2048x1536, .f32⟩
  | .hbm, ⟨6, _⟩ => ⟨S2048x768, .f32⟩
  | .hbm, ⟨7, _⟩ => ⟨S2048x4864, .f32⟩
  | .hbm, ⟨8, _⟩ => ⟨S2048x4864, .bf16⟩
  | .hbm, ⟨9, _⟩ => ⟨S_, .f32⟩
  | .hbm, ⟨10, _⟩ => ⟨S2048x112, .f32⟩
  | .hbm, ⟨11, _⟩ => ⟨S2048x4, .f32⟩
  | .hbm, ⟨12, _⟩ => ⟨S2048x12, .f32⟩
  | .hbm, ⟨13, _⟩ => ⟨S2048x128, .f32⟩
  | .hbm, ⟨14, _⟩ => ⟨S2048x128, .bf16⟩
  | .hbm, ⟨15, _⟩ => ⟨S_, .f32⟩
  | .hbm, ⟨16, _⟩ => ⟨S124, .f32⟩
  | .hbm, ⟨17, _⟩ => ⟨S128, .f32⟩
  | .hbm, ⟨18, _⟩ => ⟨S1x128, .f32⟩
  | .hbm, ⟨19, _⟩ => ⟨S4096, .i32⟩
  | .hbm, ⟨20, _⟩ => ⟨S1x4096, .i32⟩
  | .hbm, ⟨21, _⟩ => ⟨S2x4096, .i32⟩
  | .hbm, ⟨22, _⟩ => ⟨S8192, .i32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S8192, .f32⟩
  | .hbm, ⟨32, _⟩ => ⟨S8192x1, .f32⟩
  | .hbm, ⟨33, _⟩ => ⟨S1x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S_, .f32⟩
  | .hbm, ⟨40, _⟩ => ⟨S8192x96, .f32⟩
  | .hbm, ⟨41, _⟩ => ⟨S8192x128, .f32⟩
  | .hbm, ⟨42, _⟩ => ⟨S8192x16, .f32⟩
  | .hbm, ⟨43, _⟩ => ⟨S_, .f32⟩
  | .hbm, ⟨44, _⟩ => ⟨S8192x112, .f32⟩
  | .hbm, ⟨45, _⟩ => ⟨S8192x128, .f32⟩
  | .hbm, ⟨46, _⟩ => ⟨S_, .f32⟩
  | .hbm, ⟨47, _⟩ => ⟨S8192x16, .f32⟩
  | .hbm, ⟨48, _⟩ => ⟨S_, .f32⟩
  | .hbm, ⟨49, _⟩ => ⟨S8192x96, .f32⟩
  | .hbm, ⟨50, _⟩ => ⟨S8192x128, .f32⟩
  | .hbm, ⟨51, _⟩ => ⟨S1x2048, .f32⟩
  | .hbm, ⟨52, _⟩ => ⟨S8192x4864, .f32⟩
  | .hbm, ⟨53, _⟩ => ⟨S8192x4864, .bf16⟩
  | .hbm, ⟨54, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | .local _ .vmem, ⟨5, _⟩ => ⟨S2048x128, .bf16⟩
  | .local _ .vmem, ⟨6, _⟩ => ⟨S1x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x256, .f32⟩
  | .local _ .vmem, ⟨14, _⟩ => ⟨S1024x256, .f32⟩
  | .local _ .vmem, ⟨15, _⟩ => ⟨S1024x256, .bf16⟩
  | .local _ .vmem, ⟨16, _⟩ => ⟨S1024x256, .bf16⟩
  | .local _ .vmem, ⟨17, _⟩ => ⟨S1024x128, .f32⟩
  | .local _ .vmem, ⟨18, _⟩ => ⟨S1024x128, .f32⟩
  | .local _ .vmem, ⟨19, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40_0 : Ref sig .tc := ⟨.hbm, 52, rfl⟩
abbrev main_v40_1 : Ref sig .tc := ⟨.hbm, 53, rfl⟩
abbrev main_v40_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 19], ![false, false]⟩

def k0_cond2 (i : grid0.Coords) : BitVec 1 :=
  let arg1 : BitVec 32 := BitVec.ofNat 32 (i 1).val
  let c8_i32 : BitVec 32 := 8#32
  let v7 : BitVec 1 := Scalar.cmpi .eq arg1 c8_i32
  let c9_i32 : BitVec 32 := 9#32
  let v8 : BitVec 1 := Scalar.cmpi .eq arg1 c9_i32
  let v9 : BitVec 1 := Scalar.ori v7 v8
  let c16_i32 : BitVec 32 := 16#32
  let v10 : BitVec 1 := Scalar.cmpi .eq arg1 c16_i32
  let c17_i32 : BitVec 32 := 17#32
  let v11 : BitVec 1 := Scalar.cmpi .eq arg1 c17_i32
  let v13 : BitVec 1 := Scalar.ori v10 v11
  let c18_i32 : BitVec 32 := 18#32
  let v12 : BitVec 1 := Scalar.cmpi .eq arg1 c18_i32
  let v14 : BitVec 1 := Scalar.ori v13 v12
  let v15 : BitVec 1 := Scalar.ori v9 v14
  let v_true : BitVec 1 := 1#1
  let v16 : BitVec 1 := Scalar.xori v15 v_true
  let v17 : BitVec 32 := Scalar.extui v16
  let c0_i32_4 : BitVec 32 := 0#32
  let v18 : BitVec 1 := Scalar.cmpi .ne v17 c0_i32_4
  v18

def k0_cond3 (i : grid0.Coords) : BitVec 1 :=
  let arg1 : BitVec 32 := BitVec.ofNat 32 (i 1).val
  let c8_i32 : BitVec 32 := 8#32
  let v7 : BitVec 1 := Scalar.cmpi .eq arg1 c8_i32
  let c9_i32 : BitVec 32 := 9#32
  let v8 : BitVec 1 := Scalar.cmpi .eq arg1 c9_i32
  let v9 : BitVec 1 := Scalar.ori v7 v8
  let v19 : BitVec 32 := Scalar.extui v9
  let c0_i32_5 : BitVec 32 := 0#32
  let v20 : BitVec 1 := Scalar.cmpi .ne v19 c0_i32_5
  v20

def k0_cond4 (i : grid0.Coords) : BitVec 1 :=
  let arg1 : BitVec 32 := BitVec.ofNat 32 (i 1).val
  let c16_i32 : BitVec 32 := 16#32
  let v10 : BitVec 1 := Scalar.cmpi .eq arg1 c16_i32
  let c17_i32 : BitVec 32 := 17#32
  let v11 : BitVec 1 := Scalar.cmpi .eq arg1 c17_i32
  let v13 : BitVec 1 := Scalar.ori v10 v11
  let c18_i32 : BitVec 32 := 18#32
  let v12 : BitVec 1 := Scalar.cmpi .eq arg1 c18_i32
  let v14 : BitVec 1 := Scalar.ori v13 v12
  let v21 : BitVec 32 := Scalar.extui v14
  let c0_i32_6 : BitVec 32 := 0#32
  let v22 : BitVec 1 := Scalar.cmpi .ne v21 c0_i32_6
  v22

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference4Ideal.lean ====
abbrev S8192x2048 : Shape := ⟨2, ![8192, 2048]⟩
abbrev S2048 : Shape := ⟨1, ![2048]⟩
abbrev S2048x4880 : Shape := ⟨2, ![2048, 4880]⟩
abbrev S4 : Shape := ⟨1, ![4]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x4096x2048 : Shape := ⟨3, ![2, 4096, 2048]⟩
abbrev S2x4096x4880 : Shape := ⟨3, ![2, 4096, 4880]⟩
abbrev S2x4096x1024 : Shape := ⟨3, ![2, 4096, 1024]⟩
abbrev S2x4096x512 : Shape := ⟨3, ![2, 4096, 512]⟩
abbrev S2x4096x768 : Shape := ⟨3, ![2, 4096, 768]⟩
abbrev S2x4096x12 : Shape := ⟨3, ![2, 4096, 12]⟩
abbrev S2x4096x4 : Shape := ⟨3, ![2, 4096, 4]⟩
abbrev S2x4096x4x128 : Shape := ⟨4, ![2, 4096, 4, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S2x4096x4x16 : Shape := ⟨4, ![2, 4096, 4, 16]⟩
abbrev S2x4096x4x96 : Shape := ⟨4, ![2, 4096, 4, 96]⟩
abbrev S2x4096x6x128 : Shape := ⟨4, ![2, 4096, 6, 128]⟩
abbrev S2x4096x3x128 : Shape := ⟨4, ![2, 4096, 3, 128]⟩
abbrev S2x4096x3x16 : Shape := ⟨4, ![2, 4096, 3, 16]⟩
abbrev S2x4096x3x96 : Shape := ⟨4, ![2, 4096, 3, 96]⟩
abbrev S1x1x4 : Shape := ⟨3, ![1, 1, 4]⟩
abbrev S2x4096x3x1x128 : Shape := ⟨5, ![2, 4096, 3, 1, 128]⟩
abbrev S2x4096x3x2x128 : Shape := ⟨5, ![2, 4096, 3, 2, 128]⟩
abbrev S2x4096x4864 : Shape := ⟨3, ![2, 4096, 4864]⟩
abbrev S8192x4864 : Shape := ⟨2, ![8192, 4864]⟩
abbrev S2x4096x112 : Shape := ⟨3, ![2, 4096, 112]⟩
abbrev S2x4096x128 : Shape := ⟨3, ![2, 4096, 128]⟩
abbrev S8192x128 : Shape := ⟨2, ![8192, 128]⟩

abbrev nBuf : Space → Nat
  | .hbm => 147
  | .vmem => 0
  | .smem => 0
  | _ => 0

abbrev hbmTy0_0 (i : Nat) : BufTy := match i % 128 with
  | 0 => ⟨S8192x2048, .f32⟩
  | 1 => ⟨S2048, .f32⟩
  | 2 => ⟨S2048x4880, .f32⟩
  | 3 => ⟨S4, .f32⟩
  | 4 => ⟨S4096, .i32⟩
  | 5 => ⟨S8192x2048, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x2048, .f32⟩
  | 17 => ⟨S8192x2048, .f32⟩
  | 18 => ⟨S1x2048, .f32⟩
  | 19 => ⟨S8192x2048, .f32⟩
  | 20 => ⟨S8192x2048, .f32⟩
  | 21 => ⟨S2x4096x2048, .f32⟩
  | 22 => ⟨S2x4096x4880, .f32⟩
  | 23 => ⟨S2x4096x1024, .f32⟩
  | 24 => ⟨S2x4096x1024, .f32⟩
  | 25 => ⟨S2x4096x512, .f32⟩
  | 26 => ⟨S2x4096x768, .f32⟩
  | 27 => ⟨S2x4096x12, .f32⟩
  | 28 => ⟨S2x4096x512, .f32⟩
  | 29 => ⟨S2x4096x512, .f32⟩
  | 30 => ⟨S2x4096x512, .f32⟩
  | 31 => ⟨S2x4096x4, .f32⟩
  | 32 => ⟨S2x4096x4x128, .f32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S4096, .f32⟩
  | 42 => ⟨S4096x1, .f32⟩
  | 43 => ⟨S1x16, .f32⟩
  | 44 => ⟨S4096x16, .f32⟩
  | 45 => ⟨S4096x16, .f32⟩
  | 46 => ⟨S4096x16, .f32⟩
  | 47 => ⟨S4096x16, .f32⟩
  | 48 => ⟨S1x4096x1x16, .f32⟩
  | 49 => ⟨S4096x16, .f32⟩
  | 50 => ⟨S1x4096x1x16, .f32⟩
  | 51 => ⟨S2x4096x4x16, .f32⟩
  | 52 => ⟨S2x4096x4x16, .f32⟩
  | 53 => ⟨S2x4096x4x96, .f32⟩
  | 54 => ⟨S2x4096x4x16, .f32⟩
  | 55 => ⟨S2x4096x4x16, .f32⟩
  | 56 => ⟨S2x4096x4x16, .f32⟩
  | 57 => ⟨S2x4096x4x16, .f32⟩
  | 58 => ⟨S2x4096x4x16, .f32⟩
  | 59 => ⟨S2x4096x4x16, .f32⟩
  | 60 => ⟨S2x4096x4x16, .f32⟩
  | 61 => ⟨S2x4096x4x16, .f32⟩
  | 62 => ⟨S2x4096x4x16, .f32⟩
  | 63 => ⟨S2x4096x4x16, .f32⟩
  | 64 => ⟨S2x4096x4x128, .f32⟩
  | 65 => ⟨S2x4096x6x128, .f32⟩
  | 66 => ⟨S2x4096x3x128, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S4096, .f32⟩
  | 76 => ⟨S4096x1, .f32⟩
  | 77 => ⟨S1x16, .f32⟩
  | 78 => ⟨S4096x16, .f32⟩
  | 79 => ⟨S4096x16, .f32⟩
  | 80 => ⟨S4096x16, .f32⟩
  | 81 => ⟨S4096x16, .f32⟩
  | 82 => ⟨S1x4096x1x16, .f32⟩
  | 83 => ⟨S4096x16, .f32⟩
  | 84 => ⟨S1x4096x1x16, .f32⟩
  | 85 => ⟨S2x4096x3x16, .f32⟩
  | 86 => ⟨S2x4096x3x16, .f32⟩
  | 87 => ⟨S2x4096x3x96, .f32⟩
  | 88 => ⟨S2x4096x3x16, .f32⟩
  | 89 => ⟨S2x4096x3x16, .f32⟩
  | 90 => ⟨S2x4096x3x16, .f32⟩
  | 91 => ⟨S2x4096x3x16, .f32⟩
  | 92 => ⟨S2x4096x3x16, .f32⟩
  | 93 => ⟨S2x4096x3x16, .f32⟩
  | 94 => ⟨S2x4096x3x16, .f32⟩
  | 95 => ⟨S2x4096x3x16, .f32⟩
  | 96 => ⟨S2x4096x3x16, .f32⟩
  | 97 => ⟨S2x4096x3x16, .f32⟩
  | 98 => ⟨S2x4096x3x128, .f32⟩
  | 99 => ⟨S2x4096x3x128, .f32⟩
  | 100 => ⟨S2x4096x12, .f32⟩
  | 101 => ⟨S2x4096x12, .f32⟩
  | 102 => ⟨S_, .f32⟩
  | 103 => ⟨S2x4096x12, .f32⟩
  | 104 => ⟨S2x4096x12, .f32⟩
  | 105 => ⟨S_, .f32⟩
  | 106 => ⟨S2x4096x12, .f32⟩
  | 107 => ⟨S2x4096x12, .f32⟩
  | 108 => ⟨S1x1x4, .f32⟩
  | 109 => ⟨S2x4096x4, .f32⟩
  | 110 => ⟨S2x4096x4, .f32⟩
  | 111 => ⟨S2x4096x4, .f32⟩
  | 112 => ⟨S_, .f32⟩
  | 113 => ⟨S2x4096x4, .f32⟩
  | 114 => ⟨S2x4096x4, .f32⟩
  | 115 => ⟨S2x4096x4, .f32⟩
  | 116 => ⟨S2x4096x4, .f32⟩
  | 117 => ⟨S2x4096x4, .i1⟩
  | 118 => ⟨S2x4096x4, .f32⟩
  | 119 => ⟨S2x4096x4, .f32⟩
  | 120 => ⟨S2x4096x4, .f32⟩
  | 121 => ⟨S2x4096x4, .f32⟩
  | 122 => ⟨S2x4096x4, .f32⟩
  | 123 => ⟨S2x4096x4, .f32⟩
  | 124 => ⟨S2x4096x4, .f32⟩
  | 125 => ⟨S2x4096x4, .f32⟩
  | 126 => ⟨S2x4096x4, .f32⟩
  | 127 => ⟨S2x4096x3x1x128, .f32⟩
  | _ => ⟨S8192x2048, .f32⟩

abbrev hbmTy0_1 (i : Nat) : BufTy := match i % 128 with
  | 0 => ⟨S2x4096x3x1x128, .f32⟩
  | 1 => ⟨S2x4096x3x2x128, .f32⟩
  | 2 => ⟨S2x4096x512, .f32⟩
  | 3 => ⟨S2x4096x768, .f32⟩
  | 4 => ⟨S2x4096x4864, .f32⟩
  | 5 => ⟨S8192x4864, .f32⟩
  | 6 => ⟨S_, .f32⟩
  | 7 => ⟨S2x4096x112, .f32⟩
  | 8 => ⟨S2x4096x112, .f32⟩
  | 9 => ⟨S2x4096x112, .f32⟩
  | 10 => ⟨S_, .f32⟩
  | 11 => ⟨S2x4096x112, .f32⟩
  | 12 => ⟨S2x4096x112, .f32⟩
  | 13 => ⟨S_, .f32⟩
  | 14 => ⟨S2x4096x112, .f32⟩
  | 15 => ⟨S2x4096x112, .f32⟩
  | 16 => ⟨S2x4096x128, .f32⟩
  | 17 => ⟨S8192x128, .f32⟩
  | 18 => ⟨S8192x4864, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_4 : Ref sig .tc := ⟨.hbm, 69, rfl⟩
abbrev main_v60 : Ref sig .tc := ⟨.hbm, 70, rfl⟩
abbrev main_v61 : Ref sig .tc := ⟨.hbm, 71, rfl⟩
abbrev main_cst_5 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_cst_6 : Ref sig .tc := ⟨.hbm, 102, rfl⟩
abbrev main_v91 : Ref sig .tc := ⟨.hbm, 103, rfl⟩
abbrev main_v92 : Ref sig .tc := ⟨.hbm, 104, rfl⟩
abbrev main_cst_7 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_call0_v0 : Ref sig .tc := ⟨.hbm, 111, rfl⟩
abbrev main_call0_call0_cst : Ref sig .tc := ⟨.hbm, 112, rfl⟩
abbrev main_call0_call0_v0 : Ref sig .tc := ⟨.hbm, 113, rfl⟩
abbrev main_call0_call0_v1 : Ref sig .tc := ⟨.hbm, 114, rfl⟩
abbrev main_call0_call0_v2 : Ref sig .tc := ⟨.hbm, 115, rfl⟩
abbrev main_call0_call0_v3 : Ref sig .tc := ⟨.hbm, 116, rfl⟩
abbrev main_call0_call0_v4 : Ref sig .tc := ⟨.hbm, 117, rfl⟩
abbrev main_call0_call0_v5 : Ref sig .tc := ⟨.hbm, 118, rfl⟩
abbrev main_call0_call0_v6 : Ref sig .tc := ⟨.hbm, 119, rfl⟩
abbrev main_call0_call0_v7 : Ref sig .tc := ⟨.hbm, 120, rfl⟩
abbrev main_call0_call0_v8 : Ref sig .tc := ⟨.hbm, 121, rfl⟩
abbrev main_call0_call0_v9 : Ref sig .tc := ⟨.hbm, 122, rfl⟩
abbrev main_call0_call0_v10 : Ref sig .tc := ⟨.hbm, 123, rfl⟩
abbrev main_call0_call0_v11 : Ref sig .tc := ⟨.hbm, 124, rfl⟩
abbrev main_call0_v1 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_8 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_9 : Ref sig .tc := ⟨.hbm, 138, rfl⟩
abbrev main_v109 : Ref sig .tc := ⟨.hbm, 139, rfl⟩
abbrev main_v110 : Ref sig .tc := ⟨.hbm, 140, rfl⟩
abbrev main_cst_10 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩

abbrev nD : Nat := 1
abbrev τ : Topo := Topo.v7x

variable {F : FTy → Type} [FloatOps F]
-- ==== Kernel5.lean ====
abbrev S128x2048 : Shape := ⟨2, ![128, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S2048x1024 : Shape := ⟨2, ![2048, 1024]⟩
abbrev S1024x2048 : Shape := ⟨2, ![1024, 2048]⟩
abbrev S128 : Shape := ⟨1, ![128]⟩
abbrev S128x1 : Shape := ⟨2, ![128, 1]⟩
abbrev S128x1024 : Shape := ⟨2, ![128, 1024]⟩

abbrev nBuf : Space → Nat
  | .hbm => 10
  | .vmem => 10
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S1x2048, .f32⟩
  | .hbm, ⟨6, _⟩ => ⟨S2048x8192, .bf16⟩
  | .hbm, ⟨7, _⟩ => ⟨S8192x2048, .bf16⟩
  | .hbm, ⟨8, _⟩ => ⟨S1x2048, .f32⟩
  | .hbm, ⟨9, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S128x2048, .f32⟩
  | .local _ .vmem, ⟨8, _⟩ => ⟨S128x2048, .bf16⟩
  | .local _ .vmem, ⟨9, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference5Ideal.lean ====
abbrev S128x2048 : Shape := ⟨2, ![128, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x8192 : Shape := ⟨2, ![128, 8192]⟩

abbrev nBuf : Space → Nat
  | .hbm => 44
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S128x2048, .f32⟩
  | .hbm, ⟨6, _⟩ => ⟨S_, .f32⟩
  | .hbm, ⟨7, _⟩ => ⟨S128, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S128x1, .f32⟩
  | .hbm, ⟨16, _⟩ => ⟨S128x2048, .f32⟩
  | .hbm, ⟨17, _⟩ => ⟨S128x2048, .f32⟩
  | .hbm, ⟨18, _⟩ => ⟨S1x2048, .f32⟩
  | .hbm, ⟨19, _⟩ => ⟨S128x2048, .f32⟩
  | .hbm, ⟨20, _⟩ => ⟨S128x2048, .f32⟩
  | .hbm, ⟨21, _⟩ => ⟨S128x8192, .f32⟩
  | .hbm, ⟨22, _⟩ => ⟨S_, .f32⟩
  | .hbm, ⟨23, _⟩ => ⟨S128x8192, .f32⟩
  | .hbm, ⟨24, _⟩ => ⟨S128x8192, .f32⟩
  | .hbm, ⟨25, _⟩ => ⟨S128x8192, .f32⟩
  | .hbm, ⟨26, _⟩ => ⟨S128x2048, .f32⟩
  | .hbm, ⟨27, _⟩ => ⟨S128x2048, .f32⟩
  | .hbm, ⟨28, _⟩ => ⟨S_, .f32⟩
  | .hbm, ⟨29, _⟩ => ⟨S128, .f32⟩
  | .hbm, ⟨30, _⟩ => ⟨S128x1, .f32⟩
  | .hbm, ⟨31, _⟩ => ⟨S_, .f32⟩
  | .hbm, ⟨32, _⟩ => ⟨S128x1, .f32⟩
  | .hbm, ⟨33, _⟩ => ⟨S128x1, .f32⟩
  | .hbm, ⟨34, _⟩ => ⟨S_, .f32⟩
  | .hbm, ⟨35, _⟩ => ⟨S128x1, .f32⟩
  | .hbm, ⟨36, _⟩ => ⟨S128x1, .f32⟩
  | .hbm, ⟨37, _⟩ => ⟨S128x1, .f32⟩
  | .hbm, ⟨38, _⟩ => ⟨S128x2048, .f32⟩
  | .hbm, ⟨39, _⟩ => ⟨S128x2048, .f32⟩
  | .hbm, ⟨40, _⟩ => ⟨S1x2048, .f32⟩
  | .hbm, ⟨41, _⟩ => ⟨S128x2048, .f32⟩
  | .hbm, ⟨42, _⟩ => ⟨S128x2048, .f32⟩
  | .hbm, ⟨43, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel6.lean ====
abbrev S128x2048 : Shape := ⟨2, ![128, 2048]⟩
abbrev S2048 : Shape := ⟨1, ![2048]⟩
abbrev S2048x4880 : Shape := ⟨2, ![2048, 4880]⟩
abbrev S4 : Shape := ⟨1, ![4]⟩
abbrev S2048x2560 : Shape := ⟨2, ![2048, 2560]⟩
abbrev S2048x1536 : Shape := ⟨2, ![2048, 1536]⟩
abbrev S2048x768 : Shape := ⟨2, ![2048, 768]⟩
abbrev S2048x4864 : Shape := ⟨2, ![2048, 4864]⟩
abbrev S_ : Shape := ⟨0, ![]⟩
abbrev S2048x112 : Shape := ⟨2, ![2048, 112]⟩
abbrev S2048x4 : Shape := ⟨2, ![2048, 4]⟩
abbrev S2048x12 : Shape := ⟨2, ![2048, 12]⟩
abbrev S2048x128 : Shape := ⟨2, ![2048, 128]⟩
abbrev S124 : Shape := ⟨1, ![124]⟩
abbrev S128 : Shape := ⟨1, ![128]⟩
abbrev S1x128 : Shape := ⟨2, ![1, 128]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S128x96 : Shape := ⟨2, ![128, 96]⟩
abbrev S128x128 : Shape := ⟨2, ![128, 128]⟩
abbrev S128x112 : Shape := ⟨2, ![128, 112]⟩
abbrev S1x2048 : Shape := ⟨2, ![1, 2048]⟩
abbrev S128x4864 : Shape := ⟨2, ![128, 4864]⟩
abbrev S2048x256 : Shape := ⟨2, ![2048, 256]⟩
abbrev S128x256 : Shape := ⟨2, ![128, 256]⟩

abbrev nBuf : Space → Nat
  | .hbm => 53
  | .vmem => 15
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S2048x4880, .f32⟩
  | .hbm, ⟨3, _⟩ => ⟨S4, .f32⟩
  | .hbm, ⟨4, _⟩ => ⟨S2048x2560, .f32⟩
  | .hbm, ⟨5, _⟩ => ⟨S2048x1536, .f32⟩
  | .hbm, ⟨6, _⟩ => ⟨S2048x768, .f32⟩
  | .hbm, ⟨7, _⟩ => ⟨S2048x4864, .f32⟩
  | .hbm, ⟨8, _⟩ => ⟨S2048x4864, .bf16⟩
  | .hbm, ⟨9, _⟩ => ⟨S_, .f32⟩
  | .hbm, ⟨10, _⟩ => ⟨S2048x112, .f32⟩
  | .hbm, ⟨11, _⟩ => ⟨S2048x4, .f32⟩
  | .hbm, ⟨12, _⟩ => ⟨S2048x12, .f32⟩
  | .hbm, ⟨13, _⟩ => ⟨S2048x128, .f32⟩
  | .hbm, ⟨14, _⟩ => ⟨S2048x128, .bf16⟩
  | .hbm, ⟨15, _⟩ => ⟨S_, .f32⟩
  | .hbm, ⟨16, _⟩ => ⟨S124, .f32⟩
  | .hbm, ⟨17, _⟩ => ⟨S128, .f32⟩
  | .hbm, ⟨18, _⟩ => ⟨S1x128, .f32⟩
  | .hbm, ⟨19, _⟩ => ⟨S_, .i32⟩
  | .hbm, ⟨20, _⟩ => ⟨S128, .i32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S128, .f32⟩
  | .hbm, ⟨30, _⟩ => ⟨S128x1, .f32⟩
  | .hbm, ⟨31, _⟩ => ⟨S1x16, .f32⟩
  | .hbm, ⟨32, _⟩ => ⟨S128x16, .f32⟩
  | .hbm, ⟨33, _⟩ => ⟨S128x16, .f32⟩
  | .hbm, ⟨34, _⟩ => ⟨S128x16, .f32⟩
  | .hbm, ⟨35, _⟩ => ⟨S128x16, .f32⟩
  | .hbm, ⟨36, _⟩ => ⟨S128x16, .f32⟩
  | .hbm, ⟨37, _⟩ => ⟨S_, .f32⟩
  | .hbm, ⟨38, _⟩ => ⟨S128x96, .f32⟩
  | .hbm, ⟨39, _⟩ => ⟨S128x128, .f32⟩
  | .hbm, ⟨40, _⟩ => ⟨S128x16, .f32⟩
  | .hbm, ⟨41, _⟩ => ⟨S_, .f32⟩
  | .hbm, ⟨42, _⟩ => ⟨S128x112, .f32⟩
  | .hbm, ⟨43, _⟩ => ⟨S128x128, .f32⟩
  | .hbm, ⟨44, _⟩ => ⟨S_, .f32⟩
  | .hbm, ⟨45, _⟩ => ⟨S128x16, .f32⟩
  | .hbm, ⟨46, _⟩ => ⟨S_, .f32⟩
  | .hbm, ⟨47, _⟩ => ⟨S128x96, .f32⟩
  | .hbm, ⟨48, _⟩ => ⟨S128x128, .f32⟩
  | .hbm, ⟨49, _⟩ => ⟨S1x2048, .f32⟩
  | .hbm, ⟨50, _⟩ => ⟨S128x4864, .f32⟩
  | .hbm, ⟨51, _⟩ => ⟨S128x4864, .bf16⟩
  | .hbm, ⟨52, _⟩ => ⟨S128x128, .f32⟩
  | .local _ .vmem, ⟨0, _⟩ => ⟨S128x2048, .f32⟩
  | .local _ .vmem, ⟨1, _⟩ => ⟨S1x2048, .f32⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x256, .f32⟩
  | .local _ .vmem, ⟨10, _⟩ => ⟨S128x256, .f32⟩
  | .local _ .vmem, ⟨11, _⟩ => ⟨S128x256, .bf16⟩
  | .local _ .vmem, ⟨12, _⟩ => ⟨S128x256, .bf16⟩
  | .local _ .vmem, ⟨13, _⟩ => ⟨S128x128, .f32⟩
  | .local _ .vmem, ⟨14, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13

abbrev nD : Nat := 1
abbrev τ : Topo := Topo.v7x

variable {F : FTy → Type} [FloatOps F]

abbrev grid0 : Pipeline.Grid := ⟨2, ![1, 19], ![false, false]⟩

def k0_cond2 (i : grid0.Coords) : BitVec 1 :=
  let arg1 : BitVec 32 := BitVec.ofNat 32 (i 1).val
  let c8_i32 : BitVec 32 := 8#32
  let v7 : BitVec 1 := Scalar.cmpi .eq arg1 c8_i32
  let c9_i32 : BitVec 32 := 9#32
  let v8 : BitVec 1 := Scalar.cmpi .eq arg1 c9_i32
  let v9 : BitVec 1 := Scalar.ori v7 v8
  let c16_i32 : BitVec 32 := 16#32
  let v10 : BitVec 1 := Scalar.cmpi .eq arg1 c16_i32
  let c17_i32 : BitVec 32 := 17#32
  let v11 : BitVec 1 := Scalar.cmpi .eq arg1 c17_i32
  let v13 : BitVec 1 := Scalar.ori v10 v11
  let c18_i32 : BitVec 32 := 18#32
  let v12 : BitVec 1 := Scalar.cmpi .eq arg1 c18_i32
  let v14 : BitVec 1 := Scalar.ori v13 v12
  let v15 : BitVec 1 := Scalar.ori v9 v14
  let v_true : BitVec 1 := 1#1
  let v16 : BitVec 1 := Scalar.xori v15 v_true
  let v17 : BitVec 32 := Scalar.extui v16
  let c0_i32_4 : BitVec 32 := 0#32
  let v18 : BitVec 1 := Scalar.cmpi .ne v17 c0_i32_4
  v18

def k0_cond3 (i : grid0.Coords) : BitVec 1 :=
  let arg1 : BitVec 32 := BitVec.ofNat 32 (i 1).val
  let c8_i32 : BitVec 32 := 8#32
  let v7 : BitVec 1 := Scalar.cmpi .eq arg1 c8_i32
  let c9_i32 : BitVec 32 := 9#32
  let v8 : BitVec 1 := Scalar.cmpi .eq arg1 c9_i32
  let v9 : BitVec 1 := Scalar.ori v7 v8
  let v19 : BitVec 32 := Scalar.extui v9
  let c0_i32_5 : BitVec 32 := 0#32
  let v20 : BitVec 1 := Scalar.cmpi .ne v19 c0_i32_5
  v20

def k0_cond4 (i : grid0.Coords) : BitVec 1 :=
  let arg1 : BitVec 32 := BitVec.ofNat 32 (i 1).val
  let c16_i32 : BitVec 32 := 16#32
  let v10 : BitVec 1 := Scalar.cmpi .eq arg1 c16_i32
  let c17_i32 : BitVec 32 := 17#32
  let v11 : BitVec 1 := Scalar.cmpi .eq arg1 c17_i32
  let v13 : BitVec 1 := Scalar.ori v10 v11
  let c18_i32 : BitVec 32 := 18#32
  let v12 : BitVec 1 := Scalar.cmpi .eq arg1 c18_i32
  let v14 : BitVec 1 := Scalar.ori v13 v12
  let v21 : BitVec 32 := Scalar.extui v14
  let c0_i32_6 : BitVec 32 := 0#32
  let v22 : BitVec 1 := Scalar.cmpi .ne v21 c0_i32_6
  v22

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== Reference6Ideal.lean ====
abbrev S128x2048 : Shape := ⟨2, ![128, 2048]⟩
abbrev S2048 : Shape := ⟨1, ![2048]⟩
abbrev S2048x4880 : Shape := ⟨2, ![2048, 4880]⟩
abbrev S4 : Shape := ⟨1, ![4]⟩
abbrev S1 : Shape := ⟨1, ![1]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x1x2048 : Shape := ⟨3, ![128, 1, 2048]⟩
abbrev S128x1x4880 : Shape := ⟨3, ![128, 1, 4880]⟩
abbrev S128x1x1024 : Shape := ⟨3, ![128, 1, 1024]⟩
abbrev S128x1x512 : Shape := ⟨3, ![128, 1, 512]⟩
abbrev S128x1x768 : Shape := ⟨3, ![128, 1, 768]⟩
abbrev S128x1x12 : Shape := ⟨3, ![128, 1, 12]⟩
abbrev S128x1x4 : Shape := ⟨3, ![128, 1, 4]⟩
abbrev S128x1x4x128 : Shape := ⟨4, ![128, 1, 4, 128]⟩
abbrev S16 : Shape := ⟨1, ![16]⟩
abbrev S1x1 : Shape := ⟨2, ![1, 1]⟩
abbrev S1x16 : Shape := ⟨2, ![1, 16]⟩
abbrev S1x1x1x16 : Shape := ⟨4, ![1, 1, 1, 16]⟩
abbrev S128x1x4x16 : Shape := ⟨4, ![128, 1, 4, 16]⟩
abbrev S128x1x4x96 : Shape := ⟨4, ![128, 1, 4, 96]⟩
abbrev S128x1x6x128 : Shape := ⟨4, ![128, 1, 6, 128]⟩
abbrev S128x1x3x128 : Shape := ⟨4, ![128, 1, 3, 128]⟩
abbrev S128x1x3x16 : Shape := ⟨4, ![128, 1, 3, 16]⟩
abbrev S128x1x3x96 : Shape := ⟨4, ![128, 1, 3, 96]⟩
abbrev S1x1x4 : Shape := ⟨3, ![1, 1, 4]⟩
abbrev S128x1x3x1x128 : Shape := ⟨5, ![128, 1, 3, 1, 128]⟩
abbrev S128x1x3x2x128 : Shape := ⟨5, ![128, 1, 3, 2, 128]⟩
abbrev S128x1x4864 : Shape := ⟨3, ![128, 1, 4864]⟩
abbrev S128x4864 : Shape := ⟨2, ![128, 4864]⟩
abbrev S128x1x112 : Shape := ⟨3, ![128, 1, 112]⟩
abbrev S128x1x128 : Shape := ⟨3, ![128, 1, 128]⟩
abbrev S128x128 : Shape := ⟨2, ![128, 128]⟩

abbrev nBuf : Space → Nat
  | .hbm => 148
  | .vmem => 0
  | .smem => 0
  | _ => 0

abbrev hbmTy0_0 (i : Nat) : BufTy := match i % 128 with
  | 0 => ⟨S128x2048, .f32⟩
  | 1 => ⟨S2048, .f32⟩
  | 2 => ⟨S2048x4880, .f32⟩
  | 3 => ⟨S4, .f32⟩
  | 4 => ⟨S1, .i32⟩
  | 5 => ⟨S_, .i32⟩
  | 6 => ⟨S1, .i32⟩
  | 7 => ⟨S1, .i32⟩
  | 8 => ⟨S128x2048, .f32⟩
  | 9 => ⟨S_, .f32⟩
  | 10 => ⟨S128, .f32⟩
  | 11 => ⟨S128x1, .f32⟩
  | 12 => ⟨S_, .f32⟩
  | 13 => ⟨S128x1, .f32⟩
  | 14 => ⟨S128x1, .f32⟩
  | 15 => ⟨S_, .f32⟩
  | 16 => ⟨S128x1, .f32⟩
  | 17 => ⟨S128x1, .f32⟩
  | 18 => ⟨S128x1, .f32⟩
  | 19 => ⟨S128x2048, .f32⟩
  | 20 => ⟨S128x2048, .f32⟩
  | 21 => ⟨S1x2048, .f32⟩
  | 22 => ⟨S128x2048, .f32⟩
  | 23 => ⟨S128x2048, .f32⟩
  | 24 => ⟨S128x1x2048, .f32⟩
  | 25 => ⟨S128x1x4880, .f32⟩
  | 26 => ⟨S128x1x1024, .f32⟩
  | 27 => ⟨S128x1x1024, .f32⟩
  | 28 => ⟨S128x1x512, .f32⟩
  | 29 => ⟨S128x1x768, .f32⟩
  | 30 => ⟨S128x1x12, .f32⟩
  | 31 => ⟨S128x1x512, .f32⟩
  | 32 => ⟨S128x1x512, .f32⟩
  | 33 => ⟨S128x1x512, .f32⟩
  | 34 => ⟨S128x1x4, .f32⟩
  | 35 => ⟨S128x1x4x128, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S1, .f32⟩
  | 45 => ⟨S1x1, .f32⟩
  | 46 => ⟨S1x16, .f32⟩
  | 47 => ⟨S1x16, .f32⟩
  | 48 => ⟨S1x16, .f32⟩
  | 49 => ⟨S1x16, .f32⟩
  | 50 => ⟨S1x1x1x16, .f32⟩
  | 51 => ⟨S1x16, .f32⟩
  | 52 => ⟨S1x1x1x16, .f32⟩
  | 53 => ⟨S128x1x4x16, .f32⟩
  | 54 => ⟨S128x1x4x16, .f32⟩
  | 55 => ⟨S128x1x4x96, .f32⟩
  | 56 => ⟨S128x1x4x16, .f32⟩
  | 57 => ⟨S128x1x4x16, .f32⟩
  | 58 => ⟨S128x1x4x16, .f32⟩
  | 59 => ⟨S128x1x4x16, .f32⟩
  | 60 => ⟨S128x1x4x16, .f32⟩
  | 61 => ⟨S128x1x4x16, .f32⟩
  | 62 => ⟨S128x1x4x16, .f32⟩
  | 63 => ⟨S128x1x4x16, .f32⟩
  | 64 => ⟨S128x1x4x16, .f32⟩
  | 65 => ⟨S128x1x4x16, .f32⟩
  | 66 => ⟨S128x1x4x128, .f32⟩
  | 67 => ⟨S128x1x6x128, .f32⟩
  | 68 => ⟨S128x1x3x128, .f32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S1, .f32⟩
  | 78 => ⟨S1x1, .f32⟩
  | 79 => ⟨S1x16, .f32⟩
  | 80 => ⟨S1x16, .f32⟩
  | 81 => ⟨S1x16, .f32⟩
  | 82 => ⟨S1x16, .f32⟩
  | 83 => ⟨S1x1x1x16, .f32⟩
  | 84 => ⟨S1x16, .f32⟩
  | 85 => ⟨S1x1x1x16, .f32⟩
  | 86 => ⟨S128x1x3x16, .f32⟩
  | 87 => ⟨S128x1x3x16, .f32⟩
  | 88 => ⟨S128x1x3x96, .f32⟩
  | 89 => ⟨S128x1x3x16, .f32⟩
  | 90 => ⟨S128x1x3x16, .f32⟩
  | 91 => ⟨S128x1x3x16, .f32⟩
  | 92 => ⟨S128x1x3x16, .f32⟩
  | 93 => ⟨S128x1x3x16, .f32⟩
  | 94 => ⟨S128x1x3x16, .f32⟩
  | 95 => ⟨S128x1x3x16, .f32⟩
  | 96 => ⟨S128x1x3x16, .f32⟩
  | 97 => ⟨S128x1x3x16, .f32⟩
  | 98 => ⟨S128x1x3x16, .f32⟩
  | 99 => ⟨S128x1x3x128, .f32⟩
  | 100 => ⟨S128x1x3x128, .f32⟩
  | 101 => ⟨S128x1x12, .f32⟩
  | 102 => ⟨S128x1x12, .f32⟩
  | 103 => ⟨S_, .f32⟩
  | 104 => ⟨S128x1x12, .f32⟩
  | 105 => ⟨S128x1x12, .f32⟩
  | 106 => ⟨S_, .f32⟩
  | 107 => ⟨S128x1x12, .f32⟩
  | 108 => ⟨S128x1x12, .f32⟩
  | 109 => ⟨S1x1x4, .f32⟩
  | 110 => ⟨S128x1x4, .f32⟩
  | 111 => ⟨S128x1x4, .f32⟩
  | 112 => ⟨S128x1x4, .f32⟩
  | 113 => ⟨S_, .f32⟩
  | 114 => ⟨S128x1x4, .f32⟩
  | 115 => ⟨S128x1x4, .f32⟩
  | 116 => ⟨S128x1x4, .f32⟩
  | 117 => ⟨S128x1x4, .f32⟩
  | 118 => ⟨S128x1x4, .i1⟩
  | 119 => ⟨S128x1x4, .f32⟩
  | 120 => ⟨S128x1x4, .f32⟩
  | 121 => ⟨S128x1x4, .f32⟩
  | 122 => ⟨S128x1x4, .f32⟩
  | 123 => ⟨S128x1x4, .f32⟩
  | 124 => ⟨S128x1x4, .f32⟩
  | 125 => ⟨S128x1x4, .f32⟩
  | 126 => ⟨S128x1x4, .f32⟩
  | 127 => ⟨S128x1x4, .f32⟩
  | _ => ⟨S128x2048, .f32⟩

abbrev hbmTy0_1 (i : Nat) : BufTy := match i % 128 with
  | 0 => ⟨S128x1x3x1x128, .f32⟩
  | 1 => ⟨S128x1x3x1x128, .f32⟩
  | 2 => ⟨S128x1x3x2x128, .f32⟩
  | 3 => ⟨S128x1x512, .f32⟩
  | 4 => ⟨S128x1x768, .f32⟩
  | 5 => ⟨S128x1x4864, .f32⟩
  | 6 => ⟨S128x4864, .f32⟩
  | 7 => ⟨S_, .f32⟩
  | 8 => ⟨S128x1x112, .f32⟩
  | 9 => ⟨S128x1x112, .f32⟩
  | 10 => ⟨S128x1x112, .f32⟩
  | 11 => ⟨S_, .f32⟩
  | 12 => ⟨S128x1x112, .f32⟩
  | 13 => ⟨S128x1x112, .f32⟩
  | 14 => ⟨S_, .f32⟩
  | 15 => ⟨S128x1x112, .f32⟩
  | 16 => ⟨S128x1x112, .f32⟩
  | 17 => ⟨S128x1x128, .f32⟩
  | 18 => ⟨S128x128, .f32⟩
  | 19 => ⟨S128x4864, .bf16⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_4 : Ref sig .tc := ⟨.hbm, 71, rfl⟩
abbrev main_v61 : Ref sig .tc := ⟨.hbm, 72, rfl⟩
abbrev main_v62 : Ref sig .tc := ⟨.hbm, 73, rfl⟩
abbrev main_cst_5 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_cst_6 : Ref sig .tc := ⟨.hbm, 103, rfl⟩
abbrev main_v91 : Ref sig .tc := ⟨.hbm, 104, rfl⟩
abbrev main_v92 : Ref sig .tc := ⟨.hbm, 105, rfl⟩
abbrev main_cst_7 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_call0_v0 : Ref sig .tc := ⟨.hbm, 112, rfl⟩
abbrev main_call0_call0_cst : Ref sig .tc := ⟨.hbm, 113, rfl⟩
abbrev main_call0_call0_v0 : Ref sig .tc := ⟨.hbm, 114, rfl⟩
abbrev main_call0_call0_v1 : Ref sig .tc := ⟨.hbm, 115, rfl⟩
abbrev main_call0_call0_v2 : Ref sig .tc := ⟨.hbm, 116, rfl⟩
abbrev main_call0_call0_v3 : Ref sig .tc := ⟨.hbm, 117, rfl⟩
abbrev main_call0_call0_v4 : Ref sig .tc := ⟨.hbm, 118, rfl⟩
abbrev main_call0_call0_v5 : Ref sig .tc := ⟨.hbm, 119, rfl⟩
abbrev main_call0_call0_v6 : Ref sig .tc := ⟨.hbm, 120, rfl⟩
abbrev main_call0_call0_v7 : Ref sig .tc := ⟨.hbm, 121, rfl⟩
abbrev main_call0_call0_v8 : Ref sig .tc := ⟨.hbm, 122, rfl⟩
abbrev main_call0_call0_v9 : Ref sig .tc := ⟨.hbm, 123, rfl⟩
abbrev main_call0_call0_v10 : Ref sig .tc := ⟨.hbm, 124, rfl⟩
abbrev main_call0_call0_v11 : Ref sig .tc := ⟨.hbm, 125, rfl⟩
abbrev main_call0_v1 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_8 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_9 : Ref sig .tc := ⟨.hbm, 139, rfl⟩
abbrev main_v109 : Ref sig .tc := ⟨.hbm, 140, rfl⟩
abbrev main_v110 : Ref sig .tc := ⟨.hbm, 141, rfl⟩
abbrev main_cst_10 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩

abbrev nD : Nat := 1
abbrev τ : Topo := Topo.v7x

variable {F : FTy → Type} [FloatOps F]
-- ==== Kernel7.lean ====
abbrev S128x4864 : Shape := ⟨2, ![128, 4864]⟩
abbrev S128x3x1024 : Shape := ⟨3, ![128, 3, 1024]⟩
abbrev S128x1024 : Shape := ⟨2, ![128, 1024]⟩
abbrev S4x1024 : Shape := ⟨2, ![4, 1024]⟩
abbrev S1024 : Shape := ⟨1, ![1024]⟩
abbrev S8x128x128 : Shape := ⟨3, ![8, 128, 128]⟩
abbrev S3x128x1024 : Shape := ⟨3, ![3, 128, 1024]⟩
abbrev S8x128x256 : Shape := ⟨3, ![8, 128, 256]⟩
abbrev S1x1024 : Shape := ⟨2, ![1, 1024]⟩
abbrev S1x128x1024 : Shape := ⟨3, ![1, 128, 1024]⟩
abbrev S128x128 : Shape := ⟨2, ![128, 128]⟩
abbrev S1x128x256 : Shape := ⟨3, ![1, 128, 256]⟩
abbrev S128x256 : Shape := ⟨2, ![128, 256]⟩

abbrev nBuf : Space → Nat
  | .hbm => 19
  | .vmem => 12
  | .smem => 0
  | _ => 0

abbrev bufTy : (tb : Table) → Fin (tcTables nBuf tb) → BufTy
  | .hbm, ⟨0, _⟩ => ⟨S128x4864, .f32⟩
  | .hbm, ⟨1, _⟩ => ⟨S128x3x1024, .f32⟩
  | .hbm, ⟨2, _⟩ => ⟨S128x1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S3x128x1024, .f32⟩
  | .hbm, ⟨11, _⟩ => ⟨S8x128x256, .f32⟩
  | .hbm, ⟨12, _⟩ => ⟨S8x128x256, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S128x1024, .f32⟩
  | .hbm, ⟨18, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S3x128x1024, .f32⟩
  | .local _ .vmem, ⟨3, _⟩ => ⟨S128x1024, .f32⟩
  | .local _ .vmem, ⟨4, _⟩ => ⟨S4x1024, .f32⟩
  | .local _ .vmem, ⟨5, _⟩ => ⟨S1x1024, .f32⟩
  | .local _ .vmem, ⟨6, _⟩ => ⟨S8x128x256, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S128x1024, .f32⟩
  | .local _ .vmem, ⟨11, _⟩ => ⟨S128x1024, .f32⟩
  | _, _ => ⟨S128x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference7Ideal.lean ====
abbrev S128x4864 : Shape := ⟨2, ![128, 4864]⟩
abbrev S128x3x1024 : Shape := ⟨3, ![128, 3, 1024]⟩
abbrev S128x1024 : Shape := ⟨2, ![128, 1024]⟩
abbrev S4x1024 : Shape := ⟨2, ![4, 1024]⟩
abbrev S1024 : Shape := ⟨1, ![1024]⟩
abbrev S8x128x128 : Shape := ⟨3, ![8, 128, 128]⟩
abbrev S128x1x1024 : Shape := ⟨3, ![128, 1, 1024]⟩
abbrev S128x4x1024 : Shape := ⟨3, ![128, 4, 1024]⟩
abbrev S1x1024 : Shape := ⟨2, ![1, 1024]⟩
abbrev S1x1x1024 : Shape := ⟨3, ![1, 1, 1024]⟩
abbrev S128x1x8x128 : Shape := ⟨4, ![128, 1, 8, 128]⟩
abbrev S8x128x128x1 : Shape := ⟨4, ![8, 128, 128, 1]⟩
abbrev S_ : Shape := ⟨0, ![]⟩

abbrev nBuf : Space → Nat
  | .hbm => 127
  | .vmem => 0
  | .smem => 0
  | _ => 0

abbrev bufTy : (tb : Table) → Fin (tcTables nBuf tb) → BufTy
  | .hbm, ⟨0, _⟩ => ⟨S128x4864, .f32⟩
  | .hbm, ⟨1, _⟩ => ⟨S128x3x1024, .f32⟩
  | .hbm, ⟨2, _⟩ => ⟨S128x1024, .f32⟩
  | .hbm, ⟨3, _⟩ => ⟨S4x1024, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S8x128x128, .f32⟩
  | .hbm, ⟨8, _⟩ => ⟨S1024, .f32⟩
  | .hbm, ⟨9, _⟩ => ⟨S1024, .f32⟩
  | .hbm, ⟨10, _⟩ => ⟨S128x1024, .f32⟩
  | .hbm, ⟨11, _⟩ => ⟨S128x1x1024, .f32⟩
  | .hbm, ⟨12, _⟩ => ⟨S128x1024, .f32⟩
  | .hbm, ⟨13, _⟩ => ⟨S128x4x1024, .f32⟩
  | .hbm, ⟨14, _⟩ => ⟨S1x1024, .f32⟩
  | .hbm, ⟨15, _⟩ => ⟨S1024, .f32⟩
  | .hbm, ⟨16, _⟩ => ⟨S128x1x1024, .f32⟩
  | .hbm, ⟨17, _⟩ => ⟨S1x1x1024, .f32⟩
  | .hbm, ⟨18, _⟩ => ⟨S128x1x1024, .f32⟩
  | .hbm, ⟨19, _⟩ => ⟨S128x1x1024, .f32⟩
  | .hbm, ⟨20, _⟩ => ⟨S1x1x1024, .f32⟩
  | .hbm, ⟨21, _⟩ => ⟨S128x1x1024, .f32⟩
  | .hbm, ⟨22, _⟩ => ⟨S128x1x1024, .f32⟩
  | .hbm, ⟨23, _⟩ => ⟨S1x1024, .f32⟩
  | .hbm, ⟨24, _⟩ => ⟨S1024, .f32⟩
  | .hbm, ⟨25, _⟩ => ⟨S128x1x1024, .f32⟩
  | .hbm, ⟨26, _⟩ => ⟨S1x1x1024, .f32⟩
  | .hbm, ⟨27, _⟩ => ⟨S128x1x1024, .f32⟩
  | .hbm, ⟨28, _⟩ => ⟨S128x1x1024, .f32⟩
  | .hbm, ⟨29, _⟩ => ⟨S128x1x1024, .f32⟩
  | .hbm, ⟨30, _⟩ => ⟨S1x1024, .f32⟩
  | .hbm, ⟨31, _⟩ => ⟨S1024, .f32⟩
  | .hbm, ⟨32, _⟩ => ⟨S128x1x1024, .f32⟩
  | .hbm, ⟨33, _⟩ => ⟨S1x1x1024, .f32⟩
  | .hbm, ⟨34, _⟩ => ⟨S128x1x1024, .f32⟩
  | .hbm, ⟨35, _⟩ => ⟨S128x1x1024, .f32⟩
  | .hbm, ⟨36, _⟩ => ⟨S128x1x1024, .f32⟩
  | .hbm, ⟨37, _⟩ => ⟨S1x1024, .f32⟩
  | .hbm, ⟨38, _⟩ => ⟨S1024, .f32⟩
  | .hbm, ⟨39, _⟩ => ⟨S128x1x1024, .f32⟩
  | .hbm, ⟨40, _⟩ => ⟨S1x1x1024, .f32⟩
  | .hbm, ⟨41, _⟩ => ⟨S128x1x1024, .f32⟩
  | .hbm, ⟨42, _⟩ => ⟨S128x1x1024, .f32⟩
  | .hbm, ⟨43, _⟩ => ⟨S128x1x1024, .f32⟩
  | .hbm, ⟨44, _⟩ => ⟨S128x3x1024, .f32⟩
  | .hbm, ⟨45, _⟩ => ⟨S128x1x8x128, .f32⟩
  | .hbm, ⟨46, _⟩ => ⟨S8x128x128x1, .f32⟩
  | .hbm, ⟨47, _⟩ => ⟨S128x1x8x128, .f32⟩
  | .hbm, ⟨48, _⟩ => ⟨S128x1x1024, .f32⟩
  | .hbm, ⟨49, _⟩ => ⟨S1x1x1024, .f32⟩
  | .hbm, ⟨50, _⟩ => ⟨S128x1x1024, .f32⟩
  | .hbm, ⟨51, _⟩ => ⟨S128x1x1024, .f32⟩
  | .hbm, ⟨52, _⟩ => ⟨S128x1x1024, .f32⟩
  | .hbm, ⟨53, _⟩ => ⟨S128x1x1024, .f32⟩
  | .hbm, ⟨54, _⟩ => ⟨S_, .f32⟩
  | .hbm, ⟨55, _⟩ => ⟨S128x1x1024, .f32⟩
  | .hbm, ⟨56, _⟩ => ⟨S128x1x1024, .f32⟩
  | .hbm, ⟨57, _⟩ => ⟨S_, .f32⟩
  | .hbm, ⟨58, _⟩ => ⟨S128x1x1024, .f32⟩
  | .hbm, ⟨59, _⟩ => ⟨S128x1x1024, .f32⟩
  | .hbm, ⟨60, _⟩ => ⟨S128x1x8x128, .f32⟩
  | .hbm, ⟨61, _⟩ => ⟨S8x128x128x1, .f32⟩
  | .hbm, ⟨62, _⟩ => ⟨S128x1x8x128, .f32⟩
  | .hbm, ⟨63, _⟩ => ⟨S128x1x1024, .f32⟩
  | .hbm, ⟨64, _⟩ => ⟨S1x1x1024, .f32⟩
  | .hbm, ⟨65, _⟩ => ⟨S128x1x1024, .f32⟩
  | .hbm, ⟨66, _⟩ => ⟨S128x1x1024, .f32⟩
  | .hbm, ⟨67, _⟩ => ⟨S128x1x1024, .f32⟩
  | .hbm, ⟨68, _⟩ => ⟨S128x1x1024, .f32⟩
  | .hbm, ⟨69, _⟩ => ⟨S_, .f32⟩
  | .hbm, ⟨70, _⟩ => ⟨S128x1x1024, .f32⟩
  | .hbm, ⟨71, _⟩ => ⟨S128x1x1024, .f32⟩
  | .hbm, ⟨72, _⟩ => ⟨S_, .f32⟩
  | .hbm, ⟨73, _⟩ => ⟨S128x1x1024, .f32⟩
  | .hbm, ⟨74, _⟩ => ⟨S128x1x1024, .f32⟩
  | .hbm, ⟨75, _⟩ => ⟨S_, .f32⟩
  | .hbm, ⟨76, _⟩ => ⟨S128x1x1024, .f32⟩
  | .hbm, ⟨77, _⟩ => ⟨S128x1x1024, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S1024, .f32⟩
  | .hbm, ⟨83, _⟩ => ⟨S1024, .f32⟩
  | .hbm, ⟨84, _⟩ => ⟨S1024, .i1⟩
  | .hbm, ⟨85, _⟩ => ⟨S1024, .f32⟩
  | .hbm, ⟨86, _⟩ => ⟨S1024, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S1x1x1024, .f32⟩
  | .hbm, ⟨94, _⟩ => ⟨S128x1x1024, .f32⟩
  | .hbm, ⟨95, _⟩ => ⟨S128x1x1024, .f32⟩
  | .hbm, ⟨96, _⟩ => ⟨S128x1x1024, .f32⟩
  | .hbm, ⟨97, _⟩ => ⟨S_, .f32⟩
  | .hbm, ⟨98, _⟩ => ⟨S128x1x1024, .f32⟩
  | .hbm, ⟨99, _⟩ => ⟨S128x1x1024, .f32⟩
  | .hbm, ⟨100, _⟩ => ⟨S128x1x1024, .f32⟩
  | .hbm, ⟨101, _⟩ => ⟨S128x1x1024, .f32⟩
  | .hbm, ⟨102, _⟩ => ⟨S128x1x1024, .f32⟩
  | .hbm, ⟨103, _⟩ => ⟨S128x1x1024, .f32⟩
  | .hbm, ⟨104, _⟩ => ⟨S128x1x1024, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S128x1024, .f32⟩
  | .hbm, ⟨109, _⟩ => ⟨S128x1024, .f32⟩
  | .hbm, ⟨110, _⟩ => ⟨S128x1024, .f32⟩
  | .hbm, ⟨111, _⟩ => ⟨S_, .f32⟩
  | .hbm, ⟨112, _⟩ => ⟨S128x1024, .f32⟩
  | .hbm, ⟨113, _⟩ => ⟨S128x1024, .f32⟩
  | .hbm, ⟨114, _⟩ => ⟨S128x1024, .f32⟩
  | .hbm, ⟨115, _⟩ => ⟨S_, .f32⟩
  | .hbm, ⟨116, _⟩ => ⟨S128x1024, .f32⟩
  | .hbm, ⟨117, _⟩ => ⟨S128x1024, .f32⟩
  | .hbm, ⟨118, _⟩ => ⟨S128x1024, .f32⟩
  | .hbm, ⟨119, _⟩ => ⟨S_, .f32⟩
  | .hbm, ⟨120, _⟩ => ⟨S128x1024, .f32⟩
  | .hbm, ⟨121, _⟩ => ⟨S128x1024, .f32⟩
  | .hbm, ⟨122, _⟩ => ⟨S_, .f32⟩
  | .hbm, ⟨123, _⟩ => ⟨S128x1024, .f32⟩
  | .hbm, ⟨124, _⟩ => ⟨S128x1024, .f32⟩
  | .hbm, ⟨125, _⟩ => ⟨S128x1024, .f32⟩
  | .hbm, ⟨126, _⟩ => ⟨S128x1024, .f32⟩
  | _, _ => ⟨S128x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst : Ref sig .tc := ⟨.hbm, 54, rfl⟩
abbrev main_v44 : Ref sig .tc := ⟨.hbm, 55, rfl⟩
abbrev main_v45 : Ref sig .tc := ⟨.hbm, 56, rfl⟩
abbrev main_cst_0 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_1 : Ref sig .tc := ⟨.hbm, 69, rfl⟩
abbrev main_v57 : Ref sig .tc := ⟨.hbm, 70, rfl⟩
abbrev main_v58 : Ref sig .tc := ⟨.hbm, 71, rfl⟩
abbrev main_cst_2 : Ref sig .tc := ⟨.hbm, 72, rfl⟩
abbrev main_v59 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_4 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_5 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_6 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_7 : Ref sig .tc := ⟨.hbm, 119, rfl⟩
abbrev main_v88 : Ref sig .tc := ⟨.hbm, 120, rfl⟩
abbrev main_v89 : Ref sig .tc := ⟨.hbm, 121, rfl⟩
abbrev main_cst_8 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]
-- ==== Kernel8.lean ====
abbrev S8192x4864 : Shape := ⟨2, ![8192, 4864]⟩
abbrev S4x1024 : Shape := ⟨2, ![4, 1024]⟩
abbrev S1024 : Shape := ⟨1, ![1024]⟩
abbrev S8x128x128 : Shape := ⟨3, ![8, 128, 128]⟩
abbrev S8x128x256 : Shape := ⟨3, ![8, 128, 256]⟩
abbrev S1x1024 : Shape := ⟨2, ![1, 1024]⟩
abbrev S8192x1024 : Shape := ⟨2, ![8192, 1024]⟩
abbrev S2x1x1024 : Shape := ⟨3, ![2, 1, 1024]⟩
abbrev S2x3x1024 : Shape := ⟨3, ![2, 3, 1024]⟩
abbrev S256x1024 : Shape := ⟨2, ![256, 1024]⟩
abbrev S1x1x1024 : Shape := ⟨3, ![1, 1, 1024]⟩
abbrev S1x3x1024 : Shape := ⟨3, ![1, 3, 1024]⟩
abbrev S264x1024 : Shape := ⟨2, ![264, 1024]⟩
abbrev S8x1024 : Shape := ⟨2, ![8, 1024]⟩
abbrev S3x1024 : Shape := ⟨2, ![3, 1024]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩

abbrev nBuf : Space → Nat
  | .hbm => 17
  | .vmem => 18
  | .smem => 0
  | _ => 0

abbrev bufTy : (tb : Table) → Fin (tcTables nBuf tb) → BufTy
  | .hbm, ⟨0, _⟩ => ⟨S8192x4864, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S1024, .f32⟩
  | .hbm, ⟨8, _⟩ => ⟨S8x128x256, .f32⟩
  | .hbm, ⟨9, _⟩ => ⟨S8x128x256, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .f32⟩
  | .hbm, ⟨15, _⟩ => ⟨S2x1x1024, .f32⟩
  | .hbm, ⟨16, _⟩ => ⟨S2x3x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S1x1024, .f32⟩
  | .local _ .vmem, ⟨6, _⟩ => ⟨S8x128x256, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x3x1024, .f32⟩
  | .local _ .vmem, ⟨15, _⟩ => ⟨S1x3x1024, .f32⟩
  | .local _ .vmem, ⟨16, _⟩ => ⟨S264x1024, .f32⟩
  | .local _ .vmem, ⟨17, _⟩ => ⟨S8x1024, .f32⟩
  | _, _ => ⟨S8192x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_13 : BitVec 32 := 0#32
  let v31 : BitVec 1 := Scalar.cmpi .ne v30 c0_i32_13
  v31

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x3x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference8Ideal.lean ====
abbrev S8192x4864 : Shape := ⟨2, ![8192, 4864]⟩
abbrev S4x1024 : Shape := ⟨2, ![4, 1024]⟩
abbrev S1024 : Shape := ⟨1, ![1024]⟩
abbrev S8x128x128 : Shape := ⟨3, ![8, 128, 128]⟩
abbrev S8192x1024 : Shape := ⟨2, ![8192, 1024]⟩
abbrev S2x4096x1024 : Shape := ⟨3, ![2, 4096, 1024]⟩
abbrev S_ : Shape := ⟨0, ![]⟩
abbrev S2x3x1024 : Shape := ⟨3, ![2, 3, 1024]⟩
abbrev S2x4099x1024 : Shape := ⟨3, ![2, 4099, 1024]⟩
abbrev S1x1024 : Shape := ⟨2, ![1, 1024]⟩
abbrev S1x1x1024 : Shape := ⟨3, ![1, 1, 1024]⟩
abbrev S2x4096x8x128 : Shape := ⟨4, ![2, 4096, 8, 128]⟩
abbrev S8x128x2x4096 : Shape := ⟨4, ![8, 128, 2, 4096]⟩
abbrev S2x1024 : Shape := ⟨2, ![2, 1024]⟩
abbrev S4096x2x1024 : Shape := ⟨3, ![4096, 2, 1024]⟩
abbrev S1x2x1024 : Shape := ⟨3, ![1, 2, 1024]⟩
abbrev S2x1x1024 : Shape := ⟨3, ![2, 1, 1024]⟩

abbrev nBuf : Space → Nat
  | .hbm => 166
  | .vmem => 0
  | .smem => 0
  | _ => 0

abbrev hbmTy0_0 (i : Nat) : BufTy := match i % 128 with
  | 0 => ⟨S8192x4864, .f32⟩
  | 1 => ⟨S4x1024, .f32⟩
  | 2 => ⟨S1024, .f32⟩
  | 3 => ⟨S8x128x128, .f32⟩
  | 4 => ⟨S1024, .f32⟩
  | 5 => ⟨S8x128x128, .f32⟩
  | 6 => ⟨S1024, .f32⟩
  | 7 => ⟨S1024, .f32⟩
  | 8 => ⟨S8192x1024, .f32⟩
  | 9 => ⟨S2x4096x1024, .f32⟩
  | 10 => ⟨S8192x1024, .f32⟩
  | 11 => ⟨S2x4096x1024, .f32⟩
  | 12 => ⟨S_, .f32⟩
  | 13 => ⟨S2x3x1024, .f32⟩
  | 14 => ⟨S2x4099x1024, .f32⟩
  | 15 => ⟨S1x1024, .f32⟩
  | 16 => ⟨S1024, .f32⟩
  | 17 => ⟨S2x4096x1024, .f32⟩
  | 18 => ⟨S1x1x1024, .f32⟩
  | 19 => ⟨S2x4096x1024, .f32⟩
  | 20 => ⟨S2x4096x1024, .f32⟩
  | 21 => ⟨S1x1x1024, .f32⟩
  | 22 => ⟨S2x4096x1024, .f32⟩
  | 23 => ⟨S2x4096x1024, .f32⟩
  | 24 => ⟨S1x1024, .f32⟩
  | 25 => ⟨S1024, .f32⟩
  | 26 => ⟨S2x4096x1024, .f32⟩
  | 27 => ⟨S1x1x1024, .f32⟩
  | 28 => ⟨S2x4096x1024, .f32⟩
  | 29 => ⟨S2x4096x1024, .f32⟩
  | 30 => ⟨S2x4096x1024, .f32⟩
  | 31 => ⟨S1x1024, .f32⟩
  | 32 => ⟨S1024, .f32⟩
  | 33 => ⟨S2x4096x1024, .f32⟩
  | 34 => ⟨S1x1x1024, .f32⟩
  | 35 => ⟨S2x4096x1024, .f32⟩
  | 36 => ⟨S2x4096x1024, .f32⟩
  | 37 => ⟨S2x4096x1024, .f32⟩
  | 38 => ⟨S1x1024, .f32⟩
  | 39 => ⟨S1024, .f32⟩
  | 40 => ⟨S2x4096x1024, .f32⟩
  | 41 => ⟨S1x1x1024, .f32⟩
  | 42 => ⟨S2x4096x1024, .f32⟩
  | 43 => ⟨S2x4096x1024, .f32⟩
  | 44 => ⟨S2x4096x1024, .f32⟩
  | 45 => ⟨S2x3x1024, .f32⟩
  | 46 => ⟨S2x4096x8x128, .f32⟩
  | 47 => ⟨S8x128x2x4096, .f32⟩
  | 48 => ⟨S2x4096x8x128, .f32⟩
  | 49 => ⟨S2x4096x1024, .f32⟩
  | 50 => ⟨S1x1x1024, .f32⟩
  | 51 => ⟨S2x4096x1024, .f32⟩
  | 52 => ⟨S2x4096x1024, .f32⟩
  | 53 => ⟨S2x4096x1024, .f32⟩
  | 54 => ⟨S2x4096x1024, .f32⟩
  | 55 => ⟨S_, .f32⟩
  | 56 => ⟨S2x4096x1024, .f32⟩
  | 57 => ⟨S2x4096x1024, .f32⟩
  | 58 => ⟨S_, .f32⟩
  | 59 => ⟨S2x4096x1024, .f32⟩
  | 60 => ⟨S2x4096x1024, .f32⟩
  | 61 => ⟨S2x4096x8x128, .f32⟩
  | 62 => ⟨S8x128x2x4096, .f32⟩
  | 63 => ⟨S2x4096x8x128, .f32⟩
  | 64 => ⟨S2x4096x1024, .f32⟩
  | 65 => ⟨S1x1x1024, .f32⟩
  | 66 => ⟨S2x4096x1024, .f32⟩
  | 67 => ⟨S2x4096x1024, .f32⟩
  | 68 => ⟨S2x4096x1024, .f32⟩
  | 69 => ⟨S2x4096x1024, .f32⟩
  | 70 => ⟨S_, .f32⟩
  | 71 => ⟨S2x4096x1024, .f32⟩
  | 72 => ⟨S2x4096x1024, .f32⟩
  | 73 => ⟨S_, .f32⟩
  | 74 => ⟨S2x4096x1024, .f32⟩
  | 75 => ⟨S2x4096x1024, .f32⟩
  | 76 => ⟨S_, .f32⟩
  | 77 => ⟨S2x4096x1024, .f32⟩
  | 78 => ⟨S2x4096x1024, .f32⟩
  | 79 => ⟨S1024, .f32⟩
  | 80 => ⟨S_, .f32⟩
  | 81 => ⟨S1024, .f32⟩
  | 82 => ⟨S1024, .f32⟩
  | 83 => ⟨S1024, .f32⟩
  | 84 => ⟨S1024, .f32⟩
  | 85 => ⟨S1024, .i1⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S1024, .f32⟩
  | 94 => ⟨S1x1x1024, .f32⟩
  | 95 => ⟨S2x4096x1024, .f32⟩
  | 96 => ⟨S2x4096x1024, .f32⟩
  | 97 => ⟨S2x4096x1024, .f32⟩
  | 98 => ⟨S_, .f32⟩
  | 99 => ⟨S2x4096x1024, .f32⟩
  | 100 => ⟨S2x4096x1024, .f32⟩
  | 101 => ⟨S2x4096x1024, .f32⟩
  | 102 => ⟨S2x4096x1024, .f32⟩
  | 103 => ⟨S2x4096x1024, .f32⟩
  | 104 => ⟨S2x4096x1024, .f32⟩
  | 105 => ⟨S2x4096x1024, .f32⟩
  | 106 => ⟨S_, .f32⟩
  | 107 => ⟨S2x1024, .f32⟩
  | 108 => ⟨S4096x2x1024, .f32⟩
  | 109 => ⟨S4096x2x1024, .f32⟩
  | 110 => ⟨S2x4096x1024, .f32⟩
  | 111 => ⟨S2x4096x1024, .f32⟩
  | 112 => ⟨S_, .f32⟩
  | 113 => ⟨S2x4096x1024, .f32⟩
  | 114 => ⟨S2x4096x1024, .f32⟩
  | 115 => ⟨S2x4096x1024, .f32⟩
  | 116 => ⟨S_, .f32⟩
  | 117 => ⟨S2x4096x1024, .f32⟩
  | 118 => ⟨S2x4096x1024, .f32⟩
  | 119 => ⟨S2x4096x1024, .f32⟩
  | 120 => ⟨S_, .f32⟩
  | 121 => ⟨S2x4096x1024, .f32⟩
  | 122 => ⟨S2x4096x1024, .f32⟩
  | 123 => ⟨S_, .f32⟩
  | 124 => ⟨S2x4096x1024, .f32⟩
  | 125 => ⟨S2x4096x1024, .f32⟩
  | 126 => ⟨S2x4096x1024, .f32⟩
  | 127 => ⟨S4096x2x1024, .f32⟩
  | _ => ⟨S8192x4864, .f32⟩

abbrev hbmTy0_1 (i : Nat) : BufTy := match i % 128 with
  | 0 => ⟨S_, .f32⟩
  | 1 => ⟨S4096x2x1024, .f32⟩
  | 2 => ⟨S_, .i32⟩
  | 3 => ⟨S4096x2x1024, .f32⟩
  | 4 => ⟨S4096x2x1024, .f32⟩
  | 5 => ⟨S4096x2x1024, .f32⟩
  | 6 => ⟨S_, .i32⟩
  | 7 => ⟨S2x1024, .f32⟩
  | 8 => ⟨S4096x2x1024, .f32⟩
  | 9 => ⟨S_, .i32⟩
  | 10 => ⟨S_, .i1⟩
  | 11 => ⟨S_, .i32⟩
  | 12 => ⟨S_, .i32⟩
  | 13 => ⟨S1x2x1024, .f32⟩
  | 14 => ⟨S2x1024, .f32⟩
  | 15 => ⟨S_, .i32⟩
  | 16 => ⟨S_, .i32⟩
  | 17 => ⟨S1x2x1024, .f32⟩
  | 18 => ⟨S2x1024, .f32⟩
  | 19 => ⟨S_, .i32⟩
  | 20 => ⟨S_, .i32⟩
  | 21 => ⟨S1x2x1024, .f32⟩
  | 22 => ⟨S2x1024, .f32⟩
  | 23 => ⟨S2x1024, .f32⟩
  | 24 => ⟨S2x1024, .f32⟩
  | 25 => ⟨S2x1024, .f32⟩
  | 26 => ⟨S1x2x1024, .f32⟩
  | 27 => ⟨S_, .i32⟩
  | 28 => ⟨S_, .i32⟩
  | 29 => ⟨S4096x2x1024, .f32⟩
  | 30 => ⟨S_, .i32⟩
  | 31 => ⟨S_, .i32⟩
  | 32 => ⟨S2x4096x1024, .f32⟩
  | 33 => ⟨S8192x1024, .f32⟩
  | 34 => ⟨S2x4096x1024, .f32⟩
  | 35 => ⟨S2x3x1024, .f32⟩
  | 36 => ⟨S8192x1024, .f32⟩
  | 37 => ⟨S2x1x1024, .f32⟩
  | _ => ⟨S8192x4864, .f32⟩

abbrev hbmTy (i : Nat) : BufTy := match i / 128 with
  | 0 => hbmTy0_0 i
  | 1 => hbmTy0_1 i
  | _ => ⟨S8192x4864, .f32⟩

abbrev bufTy : (tb : Table) → Fin (tcTables nBuf tb) → BufTy
  | .hbm, ⟨i, _⟩ => hbmTy i
  | _, _ => ⟨S8192x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_0 : Ref sig .tc := ⟨.hbm, 55, rfl⟩
abbrev main_v46 : Ref sig .tc := ⟨.hbm, 56, rfl⟩
abbrev main_v47 : Ref sig .tc := ⟨.hbm, 57, rfl⟩
abbrev main_cst_1 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_2 : Ref sig .tc := ⟨.hbm, 70, rfl⟩
abbrev main_v59 : Ref sig .tc := ⟨.hbm, 71, rfl⟩
abbrev main_v60 : Ref sig .tc := ⟨.hbm, 72, rfl⟩
abbrev main_cst_3 : Ref sig .tc := ⟨.hbm, 73, rfl⟩
abbrev main_v61 : Ref sig .tc := ⟨.hbm, 74, rfl⟩
abbrev main_v62 : Ref sig .tc := ⟨.hbm, 75, rfl⟩
abbrev main_cst_4 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_5 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_6 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_7 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_8 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_9 : Ref sig .tc := ⟨.hbm, 120, rfl⟩
abbrev main_v89 : Ref sig .tc := ⟨.hbm, 121, rfl⟩
abbrev main_v90 : Ref sig .tc := ⟨.hbm, 122, rfl⟩
abbrev main_cst_10 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_11 : Ref sig .tc := ⟨.hbm, 128, rfl⟩
abbrev main_v95 : Ref sig .tc := ⟨.hbm, 129, rfl⟩
abbrev main_c : Ref sig .tc := ⟨.hbm, 130, rfl⟩
abbrev main_v96_0 : Ref sig .tc := ⟨.hbm, 131, rfl⟩
abbrev main_v96_1 : Ref sig .tc := ⟨.hbm, 132, rfl⟩
abbrev main_v96_2 : Ref sig .tc := ⟨.hbm, 133, rfl⟩
abbrev main_v96_3 : Ref sig .tc := ⟨.hbm, 134, rfl⟩
abbrev main_v96_4 : Ref sig .tc := ⟨.hbm, 135, rfl⟩
abbrev main_v96_5 : Ref sig .tc := ⟨.hbm, 136, rfl⟩
abbrev main_while0c_c_17 : Ref sig .tc := ⟨.hbm, 137, rfl⟩
abbrev main_while0c_v103 : Ref sig .tc := ⟨.hbm, 138, rfl⟩
abbrev main_while0b_call1_c : Ref sig .tc := ⟨.hbm, 139, rfl⟩
abbrev main_while0b_call1_c_0 : Ref sig .tc := ⟨.hbm, 140, rfl⟩
abbrev main_while0b_call1_v0 : Ref sig .tc := ⟨.hbm, 141, rfl⟩
abbrev main_while0b_v103 : Ref sig .tc := ⟨.hbm, 142, rfl⟩
abbrev main_while0b_call2_c : Ref sig .tc := ⟨.hbm, 143, rfl⟩
abbrev main_while0b_call2_c_0 : Ref sig .tc := ⟨.hbm, 144, rfl⟩
abbrev main_while0b_call2_v0 : Ref sig .tc := ⟨.hbm, 145, rfl⟩
abbrev main_while0b_v104 : Ref sig .tc := ⟨.hbm, 146, rfl⟩
abbrev main_while0b_call3_c : Ref sig .tc := ⟨.hbm, 147, rfl⟩
abbrev main_while0b_call3_c_0 : Ref sig .tc := ⟨.hbm, 148, rfl⟩
abbrev main_while0b_call3_v0 : Ref sig .tc := ⟨.hbm, 149, rfl⟩
abbrev main_while0b_v105 : Ref sig .tc := ⟨.hbm, 150, rfl⟩
abbrev main_while0b_v106 : Ref sig .tc := ⟨.hbm, 151, rfl⟩
abbrev main_while0b_v107 : Ref sig .tc := ⟨.hbm, 152, rfl⟩
abbrev main_while0b_v108 : Ref sig .tc := ⟨.hbm, 153, rfl⟩
abbrev main_while0b_call4_v0 : Ref sig .tc := ⟨.hbm, 154, rfl⟩
abbrev main_while0b_call4_c : Ref sig .tc := ⟨.hbm, 155, rfl⟩
abbrev main_while0b_call4_c_0 : Ref sig .tc := ⟨.hbm, 156, rfl⟩
abbrev main_while0b_v109 : Ref sig .tc := ⟨.hbm, 157, rfl⟩
abbrev main_while0b_c_17 : Ref sig .tc := ⟨.hbm, 158, rfl⟩
abbrev main_while0b_v110 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩

abbrev nD : Nat := 1
abbrev τ : Topo := Topo.v7x

variable {F : FTy → Type} [FloatOps F]

abbrev main_while0_count : Scf.Loop 32 := ⟨0#32, 4096#32, 1#32⟩
-- ==== Proof.FoxTrip.lean ====
/- One key tile of the loop over whole tiles: what the trip leaves in the running maximum, the running sum and the
   accumulator of each head. -/
module

public import proofs.«01_k».proof.Proof.Gen.KernelIdeal.Value
public import Idealize.ShloMosaic.Lib.Pipeline.ReadBack
public import Idealize.ShloMosaic.Lib.WritesUnit
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open scoped BigOperators
open Cert.KernelIdeal Cert.KernelIdeal.Gen
open Cert.KernelIdeal.Gen.trip_k0_t1

/-- The whole key tiles before the diagonal one. -/
theorem trips_eq : ∀ i : grid0.Coords, (k0_t1_loop i).trips = (i 1).val := by decide +kernel

theorem trips_lt (i : grid0.Coords) (k : Fin (k0_t1_loop i).trips) : k.val < 16 := by
  exact Nat.lt_trans (Nat.lt_of_lt_of_eq k.isLt (trips_eq i)) (i 1).isLt

/-- The position in the sequence of key `j` of tile `k`. -/
def key (k : ℕ) (hk : k < 16) (j : Fin 256) : Fin 4096 := ⟨256 * k + j, by have := j.isLt; omega⟩

/-- Column `d` of head `h`. -/
def hcol (h : Fin 4) (d : Fin 128) : Fin 512 := ⟨128 * h + d, by have := h.isLt; have := d.isLt; omega⟩

/-- The score of query row `p` of the block against key `j`, head `h`: the scaled product and the decay. -/
def logit (x0 : Vec Ideal S256x512 .bf16) (x1 : Vec Ideal S4096x512 .bf16) (x3 : Vec Ideal S256x128 .f32) (x4 : Vec Ideal S1x8x4096 .f32)
    (h : Fin 4) (p : Fin 256) (j : Fin 4096) : EReal :=
  (∑ d : Fin 128, x0 (ix2 p (hcol h d)) * x1 (ix2 j (hcol h d))) * Ideal.ofBits .f32 0x3DB504F3#32
    + (x3 (ix2 p ⟨h, by have := h.isLt; omega⟩) - x4 (ix3 0 ⟨h, by have := h.isLt; omega⟩ j))

variable (𝒱 : Variants) (c : Dev nD) (bd : Option 𝒱.V) (i : grid0.Coords)
  (arg2 : Memref sig .tc .vmem S256x512 .bf16) (harg2 : arg2.IsWhole) (arg3 : Memref sig .tc .vmem S4096x512 .bf16) (harg3 : arg3.IsWhole)
  (arg4 : Memref sig .tc .vmem S4096x512 .bf16) (harg4 : arg4.IsWhole) (arg5 : Memref sig .tc .vmem S256x128 .f32) (harg5 : arg5.IsWhole)
  (arg6 : Memref sig .tc .vmem S1x8x4096 .f32) (harg6 : arg6.IsWhole) (arg7 : Memref sig .tc .vmem S256x512 .f32) (harg7 : arg7.IsWhole)
  (arg8 : Memref sig .tc .vmem S4x256x1 .f32) (harg8 : arg8.IsWhole) (arg9 : Memref sig .tc .vmem S4x256x1 .f32) (harg9 : arg9.IsWhole)
  (arg10 : Memref sig .tc .vmem S4x256x128 .f32) (harg10 : arg10.IsWhole)
  (x0 : Vec Ideal S256x512 .bf16) (x1 : Vec Ideal S4096x512 .bf16) (x2 : Vec Ideal S4096x512 .bf16) (x3 : Vec Ideal S256x128 .f32) (x4 : Vec Ideal S1x8x4096 .f32)

  (k : Fin (k0_t1_loop i).trips) (f8 : BufTy.Contents (Elt Ideal) arg8.view.ty) (f9 : BufTy.Contents (Elt Ideal) arg9.view.ty)
  (f10 : BufTy.Contents (Elt Ideal) arg10.view.ty)

theorem fold_max_eq {ι : Type*} (s : ι → EReal) (K : Finset ι) : K.fold max (Ideal.ofBits .f32 0xFF800000#32) s = K.sup s := by
  rw [show Ideal.ofBits .f32 0xFF800000#32 = ⊥ by simp [Ideal.ofBits, Ideal.ieee]]; rfl

/-- Reading head `h` of a scratch array after its four heads were stored. -/
theorem read_heads {sig : RefSig} {κ : Kind} {sp : Space} {n : ℕ} (v : View sig κ sp ⟨3, ![4, 256, n]⟩ .f32) (f : v.ty.Contents (Elt Ideal)) (i3 i2 i1 i0)
    (w3 w2 w1 w0 : (⟨3, ![1, 256, n]⟩ : Shape).Idx → EReal) (L : List (View.Piece (Elt Ideal) ⟨3, ![4, 256, n]⟩ .f32)) (h : Fin 4) (p : Fin 256) (q : Fin n) :
    v.read (Elt Ideal) (v.writes (Elt Ideal) f ((⟨Rect.unit ![3, 0, 0] ![1, 256, n] i3, w3⟩ : View.Piece (Elt Ideal) ⟨3, ![4, 256, n]⟩ .f32)
      :: (⟨Rect.unit ![2, 0, 0] ![1, 256, n] i2, w2⟩ : View.Piece (Elt Ideal) ⟨3, ![4, 256, n]⟩ .f32)
      :: (⟨Rect.unit ![1, 0, 0] ![1, 256, n] i1, w1⟩ : View.Piece (Elt Ideal) ⟨3, ![4, 256, n]⟩ .f32)
      :: (⟨Rect.unit ![0, 0, 0] ![1, 256, n] i0, w0⟩ : View.Piece (Elt Ideal) ⟨3, ![4, 256, n]⟩ .f32) :: L)) (ix3 h p q)
      = (match h with | 0 => w0 | 1 => w1 | 2 => w2 | 3 => w3) (ix3 0 p q) := by
  have hit : ∀ a : Fin 4, (∀ b : Fin 3, ((ix3 a p q : (⟨3, ![4, 256, n]⟩ : Shape).Idx) b).val = (![a.val, 0, 0] : Fin 3 → ℕ) b + ((ix3 0 p q : (⟨3, ![1, 256, n]⟩ : Shape).Idx) b).val) := by
    intro a b; fin_cases b <;> simp [ix3]
  match h with
  | 3 => exact View.read_writes_cons_unit_of_mem v f _ _ _ _ (ix3 0 p q) rfl (hit 3)
  | 2 =>
    rw [View.read_writes_cons_unit_of_not_mem v f _ _ _ _ rfl 0 (.inl (show (2 : ℕ) < 3 by decide))]
    exact View.read_writes_cons_unit_of_mem v f _ _ _ _ (ix3 0 p q) rfl (hit 2)
  | 1 =>
    rw [View.read_writes_cons_unit_of_not_mem v f _ _ _ _ rfl 0 (.inl (show (1 : ℕ) < 3 by decide)), View.read_writes_cons_unit_of_not_mem v f _ _ _ _ rfl 0 (.inl (show (1 : ℕ) < 2 by decide))]
    exact View.read_writes_cons_unit_of_mem v f _ _ _ _ (ix3 0 p q) rfl (hit 1)
  | 0 =>
    rw [View.read_writes_cons_unit_of_not_mem v f _ _ _ _ rfl 0 (.inl (show (0 : ℕ) < 3 by decide)), View.read_writes_cons_unit_of_not_mem v f _ _ _ _ rfl 0 (.inl (show (0 : ℕ) < 2 by decide)), View.read_writes_cons_unit_of_not_mem v f _ _ _ _ rfl 0 (.inl (show (0 : ℕ) < 1 by decide))]
    exact View.read_writes_cons_unit_of_mem v f _ _ _ _ (ix3 0 p q) rfl (hit 0)

/-- A score read through a tile's blocks. -/
theorem logit_of (k : ℕ) (hk : k < 16) (h : Fin 4) (p j : Fin 256) (a : Fin 128 → Fin 512) (b : Fin 128 → Fin 4096) (b' : Fin 128 → Fin 512) (e : Fin 128) (g : Fin 1) (o : Fin 8) (r : Fin 4096)
    (ha : ∀ d, (a d).val = 128 * h.val + d.val) (hb : ∀ d, (b d).val = 256 * k + j.val) (hb' : ∀ d, (b' d).val = 128 * h.val + d.val)
    (he : e.val = h.val) (ho : o.val = h.val) (hr : r.val = 256 * k + j.val) :
    (∑ d : Fin 128, x0 (ix2 p (a d)) * x1 (ix2 (b d) (b' d))) * Ideal.ofBits .f32 0x3DB504F3#32 + (x3 (ix2 p e) - x4 (ix3 g o r))
      = logit x0 x1 x3 x4 h p (key k hk j) := by
  have e1 : ∀ d, a d = hcol h d := fun d => Fin.ext (ha d)
  have e2 : ∀ d, b d = key k hk j := fun d => Fin.ext (hb d)
  have e3 : ∀ d, b' d = hcol h d := fun d => Fin.ext (hb' d)
  have e4 : e = ⟨h, by have := h.isLt; omega⟩ := Fin.ext he
  have e5 : o = ⟨h, by have := h.isLt; omega⟩ := Fin.ext ho
  have e6 : r = key k hk j := Fin.ext hr
  have e7 : g = 0 := Subsingleton.elim _ _
  simp only [logit, e1, e2, e3, e4, e5, e6, e7]

theorem trip_m0 (p : Fin 256) : trip_k0_t1.sl.v353 (F := Ideal) i arg2 arg3 arg5 arg6 arg8 (harg2.unread x0) (harg3.unread x1) (harg5.unread x3) (harg6.unread x4) k f8 (ix3 0 p 0)
      = max (arg8.view.read (Elt Ideal) f8 (ix3 0 p 0)) (Finset.univ.sup fun j : Fin 256 => logit x0 x1 x3 x4 0 p (key k (trips_lt i k) j)) := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise
  simp only [k0_off1_eq, k0_off2_eq, k0_off3_eq, k0_off4_eq, k0_off5_eq, k0_off6_eq, k0_off7_eq, k0_off8_eq]
  simp only [fold_max_eq]
  refine congrArg _ (congrArg (Finset.sup Finset.univ) (funext fun j => ?_))
  exact logit_of x0 x1 x3 x4 k.val (trips_lt i k) 0 p j _ _ _ _ _ _ _ (fun d => by simp) (fun d => by simp) (fun d => by simp) (by simp) (by simp) (by simp)

theorem trip_m1 (p : Fin 256) : trip_k0_t1.sl.v376 (F := Ideal) i arg2 arg3 arg5 arg6 arg8 (harg2.unread x0) (harg3.unread x1) (harg5.unread x3) (harg6.unread x4) k f8 (ix3 0 p 0)
      = max (arg8.view.read (Elt Ideal) f8 (ix3 1 p 0)) (Finset.univ.sup fun j : Fin 256 => logit x0 x1 x3 x4 1 p (key k (trips_lt i k) j)) := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise
  simp only [k0_off1_eq, k0_off2_eq, k0_off3_eq, k0_off4_eq, k0_off5_eq, k0_off6_eq, k0_off7_eq, k0_off8_eq]
  simp only [fold_max_eq]
  refine congrArg _ (congrArg (Finset.sup Finset.univ) (funext fun j => ?_))
  exact logit_of x0 x1 x3 x4 k.val (trips_lt i k) 1 p j _ _ _ _ _ _ _ (fun d => by simp) (fun d => by simp) (fun d => by simp) (by simp) (by simp) (by simp)

theorem trip_m2 (p : Fin 256) : trip_k0_t1.sl.v399 (F := Ideal) i arg2 arg3 arg5 arg6 arg8 (harg2.unread x0) (harg3.unread x1) (harg5.unread x3) (harg6.unread x4) k f8 (ix3 0 p 0)
      = max (arg8.view.read (Elt Ideal) f8 (ix3 2 p 0)) (Finset.univ.sup fun j : Fin 256 => logit x0 x1 x3 x4 2 p (key k (trips_lt i k) j)) := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise
  simp only [k0_off1_eq, k0_off2_eq, k0_off3_eq, k0_off4_eq, k0_off5_eq, k0_off6_eq, k0_off7_eq, k0_off8_eq]
  simp only [fold_max_eq]
  refine congrArg _ (congrArg (Finset.sup Finset.univ) (funext fun j => ?_))
  exact logit_of x0 x1 x3 x4 k.val (trips_lt i k) 2 p j _ _ _ _ _ _ _ (fun d => by simp) (fun d => by simp) (fun d => by simp) (by simp) (by simp) (by simp)

theorem trip_m3 (p : Fin 256) : trip_k0_t1.sl.v422 (F := Ideal) i arg2 arg3 arg5 arg6 arg8 (harg2.unread x0) (harg3.unread x1) (harg5.unread x3) (harg6.unread x4) k f8 (ix3 0 p 0)
      = max (arg8.view.read (Elt Ideal) f8 (ix3 3 p 0)) (Finset.univ.sup fun j : Fin 256 => logit x0 x1 x3 x4 3 p (key k (trips_lt i k) j)) := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise
  simp only [k0_off1_eq, k0_off2_eq, k0_off3_eq, k0_off4_eq, k0_off5_eq, k0_off6_eq, k0_off7_eq, k0_off8_eq]
  simp only [fold_max_eq]
  refine congrArg _ (congrArg (Finset.sup Finset.univ) (funext fun j => ?_))
  exact logit_of x0 x1 x3 x4 k.val (trips_lt i k) 3 p j _ _ _ _ _ _ _ (fun d => by simp) (fun d => by simp) (fun d => by simp) (by simp) (by simp) (by simp)

theorem trip_l0 (p : Fin 256) (m' : EReal)
    (hm : m' = max (arg8.view.read (Elt Ideal) f8 (ix3 0 p 0)) (Finset.univ.sup fun j : Fin 256 => logit x0 x1 x3 x4 0 p (key k (trips_lt i k) j))) :
    trip_k0_t1.sl.v350 (F := Ideal) i arg2 arg3 arg5 arg6 arg8 arg9 (harg2.unread x0) (harg3.unread x1) (harg5.unread x3) (harg6.unread x4) k f8 f9 (ix3 0 p 0)
      = Ideal.exp (arg8.view.read (Elt Ideal) f8 (ix3 0 p 0) - m') * arg9.view.read (Elt Ideal) f9 (ix3 0 p 0)
        + ∑ j : Fin 256, Ideal.exp (logit x0 x1 x3 x4 0 p (key k (trips_lt i k) j) - m') := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise
  simp only [k0_off1_eq, k0_off2_eq, k0_off3_eq, k0_off4_eq, k0_off5_eq, k0_off6_eq, k0_off7_eq, k0_off8_eq]
  simp only [fold_max_eq]
  refine congrArg₂ (· + ·) (congrArg₂ (· * ·) (congrArg Ideal.exp (congrArg₂ (· - ·) rfl ?_)) rfl) (Finset.sum_congr rfl fun j _ => congrArg Ideal.exp (congrArg₂ (· - ·) ?_ ?_))
  · rw [hm]; refine congrArg _ (congrArg (Finset.sup Finset.univ) (funext fun j => ?_)); exact logit_of x0 x1 x3 x4 k.val (trips_lt i k) 0 p j _ _ _ _ _ _ _ (fun d => by simp) (fun d => by simp) (fun d => by simp) (by simp) (by simp) (by simp)
  · exact logit_of x0 x1 x3 x4 k.val (trips_lt i k) 0 p j _ _ _ _ _ _ _ (fun d => by simp) (fun d => by simp) (fun d => by simp) (by simp) (by simp) (by simp)
  · rw [hm]; refine congrArg _ (congrArg (Finset.sup Finset.univ) (funext fun j => ?_)); exact logit_of x0 x1 x3 x4 k.val (trips_lt i k) 0 p j _ _ _ _ _ _ _ (fun d => by simp) (fun d => by simp) (fun d => by simp) (by simp) (by simp) (by simp)

theorem trip_l1 (p : Fin 256) (m' : EReal)
    (hm : m' = max (arg8.view.read (Elt Ideal) f8 (ix3 1 p 0)) (Finset.univ.sup fun j : Fin 256 => logit x0 x1 x3 x4 1 p (key k (trips_lt i k) j))) :
    trip_k0_t1.sl.v373 (F := Ideal) i arg2 arg3 arg5 arg6 arg8 arg9 (harg2.unread x0) (harg3.unread x1) (harg5.unread x3) (harg6.unread x4) k f8 f9 (ix3 0 p 0)
      = Ideal.exp (arg8.view.read (Elt Ideal) f8 (ix3 1 p 0) - m') * arg9.view.read (Elt Ideal) f9 (ix3 1 p 0)
        + ∑ j : Fin 256, Ideal.exp (logit x0 x1 x3 x4 1 p (key k (trips_lt i k) j) - m') := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise
  simp only [k0_off1_eq, k0_off2_eq, k0_off3_eq, k0_off4_eq, k0_off5_eq, k0_off6_eq, k0_off7_eq, k0_off8_eq]
  simp only [fold_max_eq]
  refine congrArg₂ (· + ·) (congrArg₂ (· * ·) (congrArg Ideal.exp (congrArg₂ (· - ·) rfl ?_)) rfl) (Finset.sum_congr rfl fun j _ => congrArg Ideal.exp (congrArg₂ (· - ·) ?_ ?_))
  · rw [hm]; refine congrArg _ (congrArg (Finset.sup Finset.univ) (funext fun j => ?_)); exact logit_of x0 x1 x3 x4 k.val (trips_lt i k) 1 p j _ _ _ _ _ _ _ (fun d => by simp) (fun d => by simp) (fun d => by simp) (by simp) (by simp) (by simp)
  · exact logit_of x0 x1 x3 x4 k.val (trips_lt i k) 1 p j _ _ _ _ _ _ _ (fun d => by simp) (fun d => by simp) (fun d => by simp) (by simp) (by simp) (by simp)
  · rw [hm]; refine congrArg _ (congrArg (Finset.sup Finset.univ) (funext fun j => ?_)); exact logit_of x0 x1 x3 x4 k.val (trips_lt i k) 1 p j _ _ _ _ _ _ _ (fun d => by simp) (fun d => by simp) (fun d => by simp) (by simp) (by simp) (by simp)

theorem trip_l2 (p : Fin 256) (m' : EReal)
    (hm : m' = max (arg8.view.read (Elt Ideal) f8 (ix3 2 p 0)) (Finset.univ.sup fun j : Fin 256 => logit x0 x1 x3 x4 2 p (key k (trips_lt i k) j))) :
    trip_k0_t1.sl.v396 (F := Ideal) i arg2 arg3 arg5 arg6 arg8 arg9 (harg2.unread x0) (harg3.unread x1) (harg5.unread x3) (harg6.unread x4) k f8 f9 (ix3 0 p 0)
      = Ideal.exp (arg8.view.read (Elt Ideal) f8 (ix3 2 p 0) - m') * arg9.view.read (Elt Ideal) f9 (ix3 2 p 0)
        + ∑ j : Fin 256, Ideal.exp (logit x0 x1 x3 x4 2 p (key k (trips_lt i k) j) - m') := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise
  simp only [k0_off1_eq, k0_off2_eq, k0_off3_eq, k0_off4_eq, k0_off5_eq, k0_off6_eq, k0_off7_eq, k0_off8_eq]
  simp only [fold_max_eq]
  refine congrArg₂ (· + ·) (congrArg₂ (· * ·) (congrArg Ideal.exp (congrArg₂ (· - ·) rfl ?_)) rfl) (Finset.sum_congr rfl fun j _ => congrArg Ideal.exp (congrArg₂ (· - ·) ?_ ?_))
  · rw [hm]; refine congrArg _ (congrArg (Finset.sup Finset.univ) (funext fun j => ?_)); exact logit_of x0 x1 x3 x4 k.val (trips_lt i k) 2 p j _ _ _ _ _ _ _ (fun d => by simp) (fun d => by simp) (fun d => by simp) (by simp) (by simp) (by simp)
  · exact logit_of x0 x1 x3 x4 k.val (trips_lt i k) 2 p j _ _ _ _ _ _ _ (fun d => by simp) (fun d => by simp) (fun d => by simp) (by simp) (by simp) (by simp)
  · rw [hm]; refine congrArg _ (congrArg (Finset.sup Finset.univ) (funext fun j => ?_)); exact logit_of x0 x1 x3 x4 k.val (trips_lt i k) 2 p j _ _ _ _ _ _ _ (fun d => by simp) (fun d => by simp) (fun d => by simp) (by simp) (by simp) (by simp)

theorem trip_l3 (p : Fin 256) (m' : EReal)
    (hm : m' = max (arg8.view.read (Elt Ideal) f8 (ix3 3 p 0)) (Finset.univ.sup fun j : Fin 256 => logit x0 x1 x3 x4 3 p (key k (trips_lt i k) j))) :
    trip_k0_t1.sl.v419 (F := Ideal) i arg2 arg3 arg5 arg6 arg8 arg9 (harg2.unread x0) (harg3.unread x1) (harg5.unread x3) (harg6.unread x4) k f8 f9 (ix3 0 p 0)
      = Ideal.exp (arg8.view.read (Elt Ideal) f8 (ix3 3 p 0) - m') * arg9.view.read (Elt Ideal) f9 (ix3 3 p 0)
        + ∑ j : Fin 256, Ideal.exp (logit x0 x1 x3 x4 3 p (key k (trips_lt i k) j) - m') := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise
  simp only [k0_off1_eq, k0_off2_eq, k0_off3_eq, k0_off4_eq, k0_off5_eq, k0_off6_eq, k0_off7_eq, k0_off8_eq]
  simp only [fold_max_eq]
  refine congrArg₂ (· + ·) (congrArg₂ (· * ·) (congrArg Ideal.exp (congrArg₂ (· - ·) rfl ?_)) rfl) (Finset.sum_congr rfl fun j _ => congrArg Ideal.exp (congrArg₂ (· - ·) ?_ ?_))
  · rw [hm]; refine congrArg _ (congrArg (Finset.sup Finset.univ) (funext fun j => ?_)); exact logit_of x0 x1 x3 x4 k.val (trips_lt i k) 3 p j _ _ _ _ _ _ _ (fun d => by simp) (fun d => by simp) (fun d => by simp) (by simp) (by simp) (by simp)
  · exact logit_of x0 x1 x3 x4 k.val (trips_lt i k) 3 p j _ _ _ _ _ _ _ (fun d => by simp) (fun d => by simp) (fun d => by simp) (by simp) (by simp) (by simp)
  · rw [hm]; refine congrArg _ (congrArg (Finset.sup Finset.univ) (funext fun j => ?_)); exact logit_of x0 x1 x3 x4 k.val (trips_lt i k) 3 p j _ _ _ _ _ _ _ (fun d => by simp) (fun d => by simp) (fun d => by simp) (by simp) (by simp) (by simp)

theorem trip_a0 (p : Fin 256) (q : Fin 128) (m' : EReal)
    (hm : m' = max (arg8.view.read (Elt Ideal) f8 (ix3 0 p 0)) (Finset.univ.sup fun j : Fin 256 => logit x0 x1 x3 x4 0 p (key k (trips_lt i k) j))) :
    trip_k0_t1.sl.v432 (F := Ideal) i arg2 arg3 arg4 arg5 arg6 arg8 arg10 (harg2.unread x0) (harg3.unread x1) (harg4.unread x2) (harg5.unread x3) (harg6.unread x4) k f8 f10 (ix3 0 p q)
      = Ideal.exp (arg8.view.read (Elt Ideal) f8 (ix3 0 p 0) - m') * arg10.view.read (Elt Ideal) f10 (ix3 0 p q)
        + ∑ j : Fin 256, Ideal.exp (logit x0 x1 x3 x4 0 p (key k (trips_lt i k) j) - m') * x2 (ix2 (key k (trips_lt i k) j) (hcol 0 q)) := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise
  simp only [k0_off1_eq, k0_off2_eq, k0_off3_eq, k0_off4_eq, k0_off5_eq, k0_off6_eq, k0_off7_eq, k0_off8_eq]
  simp only [fold_max_eq]
  refine congrArg₂ (· + ·) (congrArg₂ (· * ·) (congrArg Ideal.exp (congrArg₂ (· - ·) rfl ?_)) rfl) (Finset.sum_congr rfl fun j _ => congrArg₂ (· * ·) (congrArg Ideal.exp (congrArg₂ (· - ·) ?_ ?_))
    (congrArg x2 (congrArg₂ ix2 (Fin.ext (by simp [key])) (Fin.ext (by simp [hcol])))))
  · rw [hm]; refine congrArg _ (congrArg (Finset.sup Finset.univ) (funext fun j => ?_)); exact logit_of x0 x1 x3 x4 k.val (trips_lt i k) 0 p j _ _ _ _ _ _ _ (fun d => by simp) (fun d => by simp) (fun d => by simp) (by simp) (by simp) (by simp)
  · exact logit_of x0 x1 x3 x4 k.val (trips_lt i k) 0 p j _ _ _ _ _ _ _ (fun d => by simp) (fun d => by simp) (fun d => by simp) (by simp) (by simp) (by simp)
  · rw [hm]; refine congrArg _ (congrArg (Finset.sup Finset.univ) (funext fun j => ?_)); exact logit_of x0 x1 x3 x4 k.val (trips_lt i k) 0 p j _ _ _ _ _ _ _ (fun d => by simp) (fun d => by simp) (fun d => by simp) (by simp) (by simp) (by simp)

theorem trip_a1 (p : Fin 256) (q : Fin 128) (m' : EReal)
    (hm : m' = max (arg8.view.read (Elt Ideal) f8 (ix3 1 p 0)) (Finset.univ.sup fun j : Fin 256 => logit x0 x1 x3 x4 1 p (key k (trips_lt i k) j))) :
    trip_k0_t1.sl.v441 (F := Ideal) i arg2 arg3 arg4 arg5 arg6 arg8 arg10 (harg2.unread x0) (harg3.unread x1) (harg4.unread x2) (harg5.unread x3) (harg6.unread x4) k f8 f10 (ix3 0 p q)
      = Ideal.exp (arg8.view.read (Elt Ideal) f8 (ix3 1 p 0) - m') * arg10.view.read (Elt Ideal) f10 (ix3 1 p q)
        + ∑ j : Fin 256, Ideal.exp (logit x0 x1 x3 x4 1 p (key k (trips_lt i k) j) - m') * x2 (ix2 (key k (trips_lt i k) j) (hcol 1 q)) := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise
  simp only [k0_off1_eq, k0_off2_eq, k0_off3_eq, k0_off4_eq, k0_off5_eq, k0_off6_eq, k0_off7_eq, k0_off8_eq]
  simp only [fold_max_eq]
  refine congrArg₂ (· + ·) (congrArg₂ (· * ·) (congrArg Ideal.exp (congrArg₂ (· - ·) rfl ?_)) rfl) (Finset.sum_congr rfl fun j _ => congrArg₂ (· * ·) (congrArg Ideal.exp (congrArg₂ (· - ·) ?_ ?_))
    (congrArg x2 (congrArg₂ ix2 (Fin.ext (by simp [key])) (Fin.ext (by simp [hcol])))))
  · rw [hm]; refine congrArg _ (congrArg (Finset.sup Finset.univ) (funext fun j => ?_)); exact logit_of x0 x1 x3 x4 k.val (trips_lt i k) 1 p j _ _ _ _ _ _ _ (fun d => by simp) (fun d => by simp) (fun d => by simp) (by simp) (by simp) (by simp)
  · exact logit_of x0 x1 x3 x4 k.val (trips_lt i k) 1 p j _ _ _ _ _ _ _ (fun d => by simp) (fun d => by simp) (fun d => by simp) (by simp) (by simp) (by simp)
  · rw [hm]; refine congrArg _ (congrArg (Finset.sup Finset.univ) (funext fun j => ?_)); exact logit_of x0 x1 x3 x4 k.val (trips_lt i k) 1 p j _ _ _ _ _ _ _ (fun d => by simp) (fun d => by simp) (fun d => by simp) (by simp) (by simp) (by simp)

theorem trip_a2 (p : Fin 256) (q : Fin 128) (m' : EReal)
    (hm : m' = max (arg8.view.read (Elt Ideal) f8 (ix3 2 p 0)) (Finset.univ.sup fun j : Fin 256 => logit x0 x1 x3 x4 2 p (key k (trips_lt i k) j))) :
    k0_pay73 (F := Ideal) (trip_k0_t1.sl.r_3 i arg4 (harg4.unread x2) k) (trip_k0_t1.sl.v387 i arg2 arg3 arg5 arg6 arg8 (harg2.unread x0) (harg3.unread x1) (harg5.unread x3) (harg6.unread x4) k f8) (trip_k0_t1.sl.v400 i arg2 arg3 arg5 arg6 arg8 (harg2.unread x0) (harg3.unread x1) (harg5.unread x3) (harg6.unread x4) k f8) (trip_k0_t1.sl.v442 arg10 f10) (ix3 0 p q)
      = Ideal.exp (arg8.view.read (Elt Ideal) f8 (ix3 2 p 0) - m') * arg10.view.read (Elt Ideal) f10 (ix3 2 p q)
        + ∑ j : Fin 256, Ideal.exp (logit x0 x1 x3 x4 2 p (key k (trips_lt i k) j) - m') * x2 (ix2 (key k (trips_lt i k) j) (hcol 2 q)) := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise [k0_pay73]
  simp only [k0_off1_eq, k0_off2_eq, k0_off3_eq, k0_off4_eq, k0_off5_eq, k0_off6_eq, k0_off7_eq, k0_off8_eq]
  simp only [fold_max_eq]
  refine congrArg₂ (· + ·) (congrArg₂ (· * ·) (congrArg Ideal.exp (congrArg₂ (· - ·) rfl ?_)) rfl) (Finset.sum_congr rfl fun j _ => congrArg₂ (· * ·) (congrArg Ideal.exp (congrArg₂ (· - ·) ?_ ?_))
    (congrArg x2 (congrArg₂ ix2 (Fin.ext (by simp [key])) (Fin.ext (by simp [hcol])))))
  · rw [hm]; refine congrArg _ (congrArg (Finset.sup Finset.univ) (funext fun j => ?_)); exact logit_of x0 x1 x3 x4 k.val (trips_lt i k) 2 p j _ _ _ _ _ _ _ (fun d => by simp) (fun d => by simp) (fun d => by simp) (by simp) (by simp) (by simp)
  · exact logit_of x0 x1 x3 x4 k.val (trips_lt i k) 2 p j _ _ _ _ _ _ _ (fun d => by simp) (fun d => by simp) (fun d => by simp) (by simp) (by simp) (by simp)
  · rw [hm]; refine congrArg _ (congrArg (Finset.sup Finset.univ) (funext fun j => ?_)); exact logit_of x0 x1 x3 x4 k.val (trips_lt i k) 2 p j _ _ _ _ _ _ _ (fun d => by simp) (fun d => by simp) (fun d => by simp) (by simp) (by simp) (by simp)

theorem trip_a3 (p : Fin 256) (q : Fin 128) (m' : EReal)
    (hm : m' = max (arg8.view.read (Elt Ideal) f8 (ix3 3 p 0)) (Finset.univ.sup fun j : Fin 256 => logit x0 x1 x3 x4 3 p (key k (trips_lt i k) j))) :
    k0_pay74 (F := Ideal) (trip_k0_t1.sl.r_4 i arg4 (harg4.unread x2) k) (trip_k0_t1.sl.v410 i arg2 arg3 arg5 arg6 arg8 (harg2.unread x0) (harg3.unread x1) (harg5.unread x3) (harg6.unread x4) k f8) (trip_k0_t1.sl.v423 i arg2 arg3 arg5 arg6 arg8 (harg2.unread x0) (harg3.unread x1) (harg5.unread x3) (harg6.unread x4) k f8) (trip_k0_t1.sl.v451 arg10 f10) (ix3 0 p q)
      = Ideal.exp (arg8.view.read (Elt Ideal) f8 (ix3 3 p 0) - m') * arg10.view.read (Elt Ideal) f10 (ix3 3 p q)
        + ∑ j : Fin 256, Ideal.exp (logit x0 x1 x3 x4 3 p (key k (trips_lt i k) j) - m') * x2 (ix2 (key k (trips_lt i k) j) (hcol 3 q)) := by
  simp only [sl.arg11, sl.cst_179, sl.cst_180, sl.cst_219, sl.cst_223, sl.cst_275, sl.r, sl.r_1, sl.r_2, sl.r_3, sl.r_4, sl.v266, sl.v269, sl.v271, sl.v272, sl.v273, sl.v277, sl.v278, sl.v279, sl.v280, sl.v281, sl.v287, sl.v289, sl.v293, sl.v294, sl.v295, sl.v296, sl.v297, sl.v303, sl.v305, sl.v309, sl.v310, sl.v311, sl.v312, sl.v313, sl.v319, sl.v321, sl.v325, sl.v326, sl.v327, sl.v328, sl.v329, sl.v333, sl.v334, sl.v335, sl.v336, sl.v337, sl.v338, sl.v339, sl.v340, sl.v341, sl.v343, sl.v344, sl.v345, sl.v346, sl.v347, sl.v350, sl.v353, sl.v354, sl.v355, sl.v356, sl.v357, sl.v358, sl.v359, sl.v360, sl.v361, sl.v362, sl.v363, sl.v364, sl.v365, sl.v366, sl.v367, sl.v368, sl.v369, sl.v370, sl.v373, sl.v376, sl.v377, sl.v378, sl.v379, sl.v380, sl.v381, sl.v382, sl.v383, sl.v384, sl.v385, sl.v386, sl.v387, sl.v388, sl.v389, sl.v390, sl.v391, sl.v392, sl.v393, sl.v396, sl.v399, sl.v400, sl.v401, sl.v402, sl.v403, sl.v404, sl.v405, sl.v406, sl.v407, sl.v408, sl.v409, sl.v410, sl.v411, sl.v412, sl.v413, sl.v414, sl.v415, sl.v416, sl.v419, sl.v422, sl.v423, sl.v425, sl.v426, sl.v427, sl.v428, sl.v429, sl.v432, sl.v433, sl.v434, sl.v435, sl.v436, sl.v437, sl.v438, sl.v441, sl.v442, sl.v451, View.readAt_eq_ld, Memref.IsWhole.read_unread]
  pointwise [k0_pay74]
  simp only [k0_off1_eq, k0_off2_eq, k0_off3_eq, k0_off4_eq, k0_off5_eq, k0_off6_eq, k0_off7_eq, k0_off8_eq]
  simp only [fold_max_eq]
  refine congrArg₂ (· + ·) (congrArg₂ (· * ·) (congrArg Ideal.exp (congrArg₂ (· - ·) rfl ?_)) rfl) (Finset.sum_congr rfl fun j _ => congrArg₂ (· * ·) (congrArg Ideal.exp (congrArg₂ (· - ·) ?_ ?_))
    (congrArg x2 (congrArg₂ ix2 (Fin.ext (by simp [key])) (Fin.ext (by simp [hcol])))))
  · rw [hm]; refine congrArg _ (congrArg (Finset.sup Finset.univ) (funext fun j => ?_)); exact logit_of x0 x1 x3 x4 k.val (trips_lt i k) 3 p j _ _ _ _ _ _ _ (fun d => by simp) (fun d => by simp) (fun d => by simp) (by simp) (by simp) (by simp)
  · exact logit_of x0 x1 x3 x4 k.val (trips_lt i k) 3 p j _ _ _ _ _ _ _ (fun d => by simp) (fun d => by simp) (fun d => by simp) (by simp) (by simp) (by simp)
  · rw [hm]; refine congrArg _ (congrArg (Finset.sup Finset.univ) (funext fun j => ?_)); exact logit_of x0 x1 x3 x4 k.val (trips_lt i k) 3 p j _ _ _ _ _ _ _ (fun d => by simp) (fun d => by simp) (fun d => by simp) (by simp) (by simp) (by simp)

/-- What one trip leaves in the running maximum. -/
theorem trip_max (h : Fin 4) (p : Fin 256) :
    arg8.view.read (Elt Ideal) (arg8.view.writes (Elt Ideal) f8 (tripL_k0_t1 (F := Ideal) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) k f8 f9 f10).1) (ix3 h p 0)
      = max (arg8.view.read (Elt Ideal) f8 (ix3 h p 0)) (Finset.univ.sup fun j : Fin 256 => logit x0 x1 x3 x4 h p (key k (trips_lt i k) j)) := by
  unfold tripL_k0_t1 trip_k0_t1
  dsimp only
  refine (read_heads _ _ _ _ _ _ _ _ _ _ _ h p 0).trans ?_
  match h with
  | 0 => exact trip_m0 i arg2 harg2 arg3 harg3 arg5 harg5 arg6 harg6 arg8 x0 x1 x3 x4 k f8 p
  | 1 => exact trip_m1 i arg2 harg2 arg3 harg3 arg5 harg5 arg6 harg6 arg8 x0 x1 x3 x4 k f8 p
  | 2 => exact trip_m2 i arg2 harg2 arg3 harg3 arg5 harg5 arg6 harg6 arg8 x0 x1 x3 x4 k f8 p
  | 3 => exact trip_m3 i arg2 harg2 arg3 harg3 arg5 harg5 arg6 harg6 arg8 x0 x1 x3 x4 k f8 p

/-- What one trip leaves in the running sum. -/
theorem trip_sum (h : Fin 4) (p : Fin 256) (m' : EReal)
    (hm : m' = max (arg8.view.read (Elt Ideal) f8 (ix3 h p 0)) (Finset.univ.sup fun j : Fin 256 => logit x0 x1 x3 x4 h p (key k (trips_lt i k) j))) :
    arg9.view.read (Elt Ideal) (arg9.view.writes (Elt Ideal) f9 (tripL_k0_t1 (F := Ideal) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) k f8 f9 f10).2.1) (ix3 h p 0)
      = Ideal.exp (arg8.view.read (Elt Ideal) f8 (ix3 h p 0) - m') * arg9.view.read (Elt Ideal) f9 (ix3 h p 0)
        + ∑ j : Fin 256, Ideal.exp (logit x0 x1 x3 x4 h p (key k (trips_lt i k) j) - m') := by
  unfold tripL_k0_t1 trip_k0_t1
  dsimp only
  refine (read_heads _ _ _ _ _ _ _ _ _ _ _ h p 0).trans ?_
  match h with
  | 0 => exact trip_l0 i arg2 harg2 arg3 harg3 arg5 harg5 arg6 harg6 arg8 arg9 x0 x1 x3 x4 k f8 f9 p m' hm
  | 1 => exact trip_l1 i arg2 harg2 arg3 harg3 arg5 harg5 arg6 harg6 arg8 arg9 x0 x1 x3 x4 k f8 f9 p m' hm
  | 2 => exact trip_l2 i arg2 harg2 arg3 harg3 arg5 harg5 arg6 harg6 arg8 arg9 x0 x1 x3 x4 k f8 f9 p m' hm
  | 3 => exact trip_l3 i arg2 harg2 arg3 harg3 arg5 harg5 arg6 harg6 arg8 arg9 x0 x1 x3 x4 k f8 f9 p m' hm

/-- What one trip leaves in the accumulator. -/
theorem trip_acc (h : Fin 4) (p : Fin 256) (q : Fin 128) (m' : EReal)
    (hm : m' = max (arg8.view.read (Elt Ideal) f8 (ix3 h p 0)) (Finset.univ.sup fun j : Fin 256 => logit x0 x1 x3 x4 h p (key k (trips_lt i k) j))) :
    arg10.view.read (Elt Ideal) (arg10.view.writes (Elt Ideal) f10 (tripL_k0_t1 (F := Ideal) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) k f8 f9 f10).2.2) (ix3 h p q)
      = Ideal.exp (arg8.view.read (Elt Ideal) f8 (ix3 h p 0) - m') * arg10.view.read (Elt Ideal) f10 (ix3 h p q)
        + ∑ j : Fin 256, Ideal.exp (logit x0 x1 x3 x4 h p (key k (trips_lt i k) j) - m') * x2 (ix2 (key k (trips_lt i k) j) (hcol h q)) := by
  unfold tripL_k0_t1 trip_k0_t1
  dsimp only
  refine (read_heads _ _ _ _ _ _ _ _ _ _ _ h p q).trans ?_
  match h with
  | 0 => exact trip_a0 i arg2 harg2 arg3 harg3 arg4 harg4 arg5 harg5 arg6 harg6 arg8 arg10 x0 x1 x2 x3 x4 k f8 f10 p q m' hm
  | 1 => exact trip_a1 i arg2 harg2 arg3 harg3 arg4 harg4 arg5 harg5 arg6 harg6 arg8 arg10 x0 x1 x2 x3 x4 k f8 f10 p q m' hm
  | 2 => exact trip_a2 i arg2 harg2 arg3 harg3 arg4 harg4 arg5 harg5 arg6 harg6 arg8 arg10 x0 x1 x2 x3 x4 k f8 f10 p q m' hm
  | 3 => exact trip_a3 i arg2 harg2 arg3 harg3 arg4 harg4 arg5 harg5 arg6 harg6 arg8 arg10 x0 x1 x2 x3 x4 k f8 f10 p q m' hm

end Cert.KernelIdeal.Value

end
-- ==== Proof.FoxDiag.lean ====
/- The diagonal key tile: its keys after the query row are masked; what it leaves in the running maximum, the running
   sum and the accumulator of each head. -/
module

public import proofs.«01_k».proof.Proof.FoxTrip
public import Idealize.ShloMosaic.Lib.Pipeline.ReadBack
public import Idealize.ShloMosaic.Lib.WritesUnit
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open scoped BigOperators
open Cert.KernelIdeal Cert.KernelIdeal.Gen
open Cert.KernelIdeal.Gen.kernelRun0_A

variable (𝒱 : Variants) (c : Dev nD) (bd : Option 𝒱.V) (i : grid0.Coords)
  (arg2 : Memref sig .tc .vmem S256x512 .bf16) (harg2 : arg2.IsWhole) (arg3 : Memref sig .tc .vmem S4096x512 .bf16) (harg3 : arg3.IsWhole)
  (arg4 : Memref sig .tc .vmem S4096x512 .bf16) (harg4 : arg4.IsWhole) (arg5 : Memref sig .tc .vmem S256x128 .f32) (harg5 : arg5.IsWhole)
  (arg6 : Memref sig .tc .vmem S1x8x4096 .f32) (harg6 : arg6.IsWhole) (arg7 : Memref sig .tc .vmem S256x512 .f32) (harg7 : arg7.IsWhole)
  (arg8 : Memref sig .tc .vmem S4x256x1 .f32) (harg8 : arg8.IsWhole) (arg9 : Memref sig .tc .vmem S4x256x1 .f32) (harg9 : arg9.IsWhole)
  (arg10 : Memref sig .tc .vmem S4x256x128 .f32) (harg10 : arg10.IsWhole)
  (x0 : Vec Ideal S256x512 .bf16) (x1 : Vec Ideal S4096x512 .bf16) (x2 : Vec Ideal S4096x512 .bf16) (x3 : Vec Ideal S256x128 .f32) (x4 : Vec Ideal S1x8x4096 .f32)

/-- The score on the diagonal tile: minus infinity after the query's own position. -/
def diag (h : Fin 4) (p j : Fin 256) : EReal := if j ≤ p then logit x0 x1 x3 x4 h p (key (i 1).val (i 1).isLt j) else ⊥

/-- What the loops leave, as pieces: the maximum, the sum, the accumulator. -/
def loopM : List (View.Piece (Elt Ideal) S4x256x1 .f32) := (kernelRun0_A.sl.HS0_1_1 (F := Ideal) c i arg2 harg2 arg3 harg3 arg4 harg4 arg5 harg5 arg6 harg6 arg7 harg7 arg8 harg8 arg9 harg9 arg10 harg10 x0 x1 x2 x3 x4).tail
def loopL : List (View.Piece (Elt Ideal) S4x256x1 .f32) := (kernelRun0_A.sl.HS1_1_1 (F := Ideal) c i arg2 harg2 arg3 harg3 arg4 harg4 arg5 harg5 arg6 harg6 arg7 harg7 arg8 harg8 arg9 harg9 arg10 harg10 x0 x1 x2 x3 x4).tail
def loopA : List (View.Piece (Elt Ideal) S4x256x128 .f32) := (kernelRun0_A.sl.HS2_1_1 (F := Ideal) c i arg2 harg2 arg3 harg3 arg4 harg4 arg5 harg5 arg6 harg6 arg7 harg7 arg8 harg8 arg9 harg9 arg10 harg10 x0 x1 x2 x3 x4).tail

def oldM (h : Fin 4) (p : Fin 256) : EReal := arg8.view.read (Elt Ideal) (arg8.view.writes (Elt Ideal) arg8.view.junk (loopM c i arg2 harg2 arg3 harg3 arg4 harg4 arg5 harg5 arg6 harg6 arg7 harg7 arg8 harg8 arg9 harg9 arg10 harg10 x0 x1 x2 x3 x4)) (ix3 h p 0)
def oldL (h : Fin 4) (p : Fin 256) : EReal := arg9.view.read (Elt Ideal) (arg9.view.writes (Elt Ideal) arg9.view.junk (loopL c i arg2 harg2 arg3 harg3 arg4 harg4 arg5 harg5 arg6 harg6 arg7 harg7 arg8 harg8 arg9 harg9 arg10 harg10 x0 x1 x2 x3 x4)) (ix3 h p 0)
def oldA (h : Fin 4) (p : Fin 256) (q : Fin 128) : EReal := arg10.view.read (Elt Ideal) (arg10.view.writes (Elt Ideal) arg10.view.junk (loopA c i arg2 harg2 arg3 harg3 arg4 harg4 arg5 harg5 arg6 harg6 arg7 harg7 arg8 harg8 arg9 harg9 arg10 harg10 x0 x1 x2 x3 x4)) (ix3 h p q)

theorem readCov_head {sig : RefSig} {κ : Kind} {sp : Space} {n : ℕ} (v : View sig κ sp ⟨3, ![4, 256, n]⟩ .f32) (L : List (View.Piece (Elt Ideal) ⟨3, ![4, 256, n]⟩ .f32))
    (h : Fin 4) (o : Fin 3 → ℕ) (ho : o = ![h.val, 0, 0]) (inb : ∀ a : Fin 3, o a + (![1, 256, n] : Fin 3 → ℕ) a ≤ (![4, 256, n] : Fin 3 → ℕ) a) (p : Fin 256) (q : Fin n) :
    v.readCov L (Rect.unit (s := ⟨3, ![4, 256, n]⟩) o ![1, 256, n] inb).toLoadRect (ix3 (0 : Fin 1) p q : (⟨3, ![1, 256, n]⟩ : Shape).Idx) = v.read (Elt Ideal) (v.writes (Elt Ideal) v.junk L) (ix3 h p q) := by
  subst ho
  show v.read (Elt Ideal) _ ((Rect.unit ![h.val, 0, 0] ![1, 256, n] inb).emb _) = _
  congr 1
  funext a
  apply Fin.ext
  fin_cases a <;> simp [Rect.emb, Rect.unit, ix3]

theorem skip_head {sig : RefSig} {κ : Kind} {sp : Space} {n : ℕ} (v : View sig κ sp ⟨3, ![4, 256, n]⟩ .f32) (f : v.ty.Contents (Elt Ideal)) (a : ℕ) (inb)
    (w : (⟨3, ![1, 256, n]⟩ : Shape).Idx → EReal) (L : List (View.Piece (Elt Ideal) ⟨3, ![4, 256, n]⟩ .f32)) (h : Fin 4) (p : Fin 256) (q : Fin n) (ha : a + 1 ≤ h.val) :
    v.read (Elt Ideal) (v.writes (Elt Ideal) f ((⟨Rect.unit ![a, 0, 0] ![1, 256, n] inb, w⟩ : View.Piece (Elt Ideal) ⟨3, ![4, 256, n]⟩ .f32) :: L)) (ix3 h p q)
      = v.read (Elt Ideal) (v.writes (Elt Ideal) f L) (ix3 h p q) :=
  View.read_writes_cons_unit_of_not_mem v f _ _ _ _ rfl 0 (.inr ha)

theorem oldM0 (p : Fin 256) : kernelRun0_A.sl.v88 (F := Ideal) c i arg2 harg2 arg3 harg3 arg4 harg4 arg5 harg5 arg6 harg6 arg7 harg7 arg8 harg8 arg9 harg9 arg10 harg10 x0 x1 x2 x3 x4 (ix3 0 p 0) = oldM c i arg2 harg2 arg3 harg3 arg4 harg4 arg5 harg5 arg6 harg6 arg7 harg7 arg8 harg8 arg9 harg9 arg10 harg10 x0 x1 x2 x3 x4 0 p := by
  refine (readCov_head _ _ 0 _ rfl _ p (0 : Fin 1)).trans ?_

  rfl

theorem oldM1 (p : Fin 256) : kernelRun0_A.sl.v115 (F := Ideal) c i arg2 harg2 arg3 harg3 arg4 harg4 arg5 harg5 arg6 harg6 arg7 harg7 arg8 harg8 arg9 harg9 arg10 harg10 x0 x1 x2 x3 x4 (ix3 0 p 0) = oldM c i arg2 harg2 arg3 harg3 arg4 harg4 arg5 harg5 arg6 harg6 arg7 harg7 arg8 harg8 arg9 harg9 arg10 harg10 x0 x1 x2 x3 x4 1 p := by
  refine (readCov_head _ _ 1 _ rfl _ p (0 : Fin 1)).trans ?_
  refine (skip_head _ _ 0 _ _ _ 1 p (0 : Fin 1) (by decide)).trans ?_
  rfl

theorem oldM2 (p : Fin 256) : kernelRun0_A.sl.v142 (F := Ideal) c i arg2 harg2 arg3 harg3 arg4 harg4 arg5 harg5 arg6 harg6 arg7 harg7 arg8 harg8 arg9 harg9 arg10 harg10 x0 x1 x2 x3 x4 (ix3 0 p 0) = oldM c i arg2 harg2 arg3 harg3 arg4 harg4 arg5 harg5 arg6 harg6 arg7 harg7 arg8 harg8 arg9 harg9 arg10 harg10 x0 x1 x2 x3 x4 2 p := by
  refine (readCov_head _ _ 2 _ rfl _ p (0 : Fin 1)).trans ?_
  refine (skip_head _ _ 1 _ _ _ 2 p (0 : Fin 1) (by decide)).trans ?_
  refine (skip_head _ _ 0 _ _ _ 2 p (0 : Fin 1) (by decide)).trans ?_
  rfl

theorem oldM3 (p : Fin 256) : kernelRun0_A.sl.v169 (F := Ideal) c i arg2 harg2 arg3 harg3 arg4 harg4 arg5 harg5 arg6 harg6 arg7 harg7 arg8 harg8 arg9 harg9 arg10 harg10 x0 x1 x2 x3 x4 (ix3 0 p 0) = oldM c i arg2 harg2 arg3 harg3 arg4 harg4 arg5 harg5 arg6 harg6 arg7 harg7 arg8 harg8 arg9 harg9 arg10 harg10 x0 x1 x2 x3 x4 3 p := by
  refine (readCov_head _ _ 3 _ rfl _ p (0 : Fin 1)).trans ?_
  refine (skip_head _ _ 2 _ _ _ 3 p (0 : Fin 1) (by decide)).trans ?_
  refine (skip_head _ _ 1 _ _ _ 3 p (0 : Fin 1) (by decide)).trans ?_
  refine (skip_head _ _ 0 _ _ _ 3 p (0 : Fin 1) (by decide)).trans ?_
  rfl

theorem oldL0 (p : Fin 256) : kernelRun0_A.sl.v100 (F := Ideal) c i arg2 harg2 arg3 harg3 arg4 harg4 arg5 harg5 arg6 harg6 arg7 harg7 arg8 harg8 arg9 harg9 arg10 harg10 x0 x1 x2 x3 x4 (ix3 0 p 0) = oldL c i arg2 harg2 arg3 harg3 arg4 harg4 arg5 harg5 arg6 harg6 arg7 harg7 arg8 harg8 arg9 harg9 arg10 harg10 x0 x1 x2 x3 x4 0 p := by
  refine (readCov_head _ _ 0 _ rfl _ p (0 : Fin 1)).trans ?_

  rfl

theorem oldL1 (p : Fin 256) : kernelRun0_A.sl.v127 (F := Ideal) c i arg2 harg2 arg3 harg3 arg4 harg4 arg5 harg5 arg6 harg6 arg7 harg7 arg8 harg8 arg9 harg9 arg10 harg10 x0 x1 x2 x3 x4 (ix3 0 p 0) = oldL c i arg2 harg2 arg3 harg3 arg4 harg4 arg5 harg5 arg6 harg6 arg7 harg7 arg8 harg8 arg9 harg9 arg10 harg10 x0 x1 x2 x3 x4 1 p := by
  refine (readCov_head _ _ 1 _ rfl _ p (0 : Fin 1)).trans ?_
  refine (skip_head _ _ 0 _ _ _ 1 p (0 : Fin 1) (by decide)).trans ?_
  rfl

theorem oldL2 (p : Fin 256) : kernelRun0_A.sl.v154 (F := Ideal) c i arg2 harg2 arg3 harg3 arg4 harg4 arg5 harg5 arg6 harg6 arg7 harg7 arg8 harg8 arg9 harg9 arg10 harg10 x0 x1 x2 x3 x4 (ix3 0 p 0) = oldL c i arg2 harg2 arg3 harg3 arg4 harg4 arg5 harg5 arg6 harg6 arg7 harg7 arg8 harg8 arg9 harg9 arg10 harg10 x0 x1 x2 x3 x4 2 p := by
  refine (readCov_head _ _ 2 _ rfl _ p (0 : Fin 1)).trans ?_
  refine (skip_head _ _ 1 _ _ _ 2 p (0 : Fin 1) (by decide)).trans ?_
  refine (skip_head _ _ 0 _ _ _ 2 p (0 : Fin 1) (by decide)).trans ?_
  rfl

theorem oldL3 (p : Fin 256) : kernelRun0_A.sl.v181 (F := Ideal) c i arg2 harg2 arg3 harg3 arg4 harg4 arg5 harg5 arg6 harg6 arg7 harg7 arg8 harg8 arg9 harg9 arg10 harg10 x0 x1 x2 x3 x4 (ix3 0 p 0) = oldL c i arg2 harg2 arg3 harg3 arg4 harg4 arg5 harg5 arg6 harg6 arg7 harg7 arg8 harg8 arg9 harg9 arg10 harg10 x0 x1 x2 x3 x4 3 p := by
  refine (readCov_head _ _ 3 _ rfl _ p (0 : Fin 1)).trans ?_
  refine (skip_head _ _ 2 _ _ _ 3 p (0 : Fin 1) (by decide)).trans ?_
  refine (skip_head _ _ 1 _ _ _ 3 p (0 : Fin 1) (by decide)).trans ?_
  refine (skip_head _ _ 0 _ _ _ 3 p (0 : Fin 1) (by decide)).trans ?_
  rfl

theorem oldA0 (p : Fin 256) (q : Fin 128) : kernelRun0_A.sl.v194 (F := Ideal) c i arg2 harg2 arg3 harg3 arg4 harg4 arg5 harg5 arg6 harg6 arg7 harg7 arg8 harg8 arg9 harg9 arg10 harg10 x0 x1 x2 x3 x4 (ix3 0 p q) = oldA c i arg2 harg2 arg3 harg3 arg4 harg4 arg5 harg5 arg6 harg6 arg7 harg7 arg8 harg8 arg9 harg9 arg10 harg10 x0 x1 x2 x3 x4 0 p q := by
  refine (readCov_head _ _ 0 _ rfl _ p q).trans ?_

  rfl

theorem oldA1 (p : Fin 256) (q : Fin 128) : kernelRun0_A.sl.v203 (F := Ideal) c i arg2 harg2 arg3 harg3 arg4 harg4 arg5 harg5 arg6 harg6 arg7 harg7 arg8 harg8 arg9 harg9 arg10 harg10 x0 x1 x2 x3 x4 (ix3 0 p q) = oldA c i arg2 harg2 arg3 harg3 arg4 harg4 arg5 harg5 arg6 harg6 arg7 harg7 arg8 harg8 arg9 harg9 arg10 harg10 x0 x1 x2 x3 x4 1 p q := by
  refine (readCov_head _ _ 1 _ rfl _ p q).trans ?_
  refine (skip_head _ _ 0 _ _ _ 1 p q (by decide)).trans ?_
  rfl

theorem oldA2 (p : Fin 256) (q : Fin 128) : kernelRun0_A.sl.v212 (F := Ideal) c i arg2 harg2 arg3 harg3 arg4 harg4 arg5 harg5 arg6 harg6 arg7 harg7 arg8 harg8 arg9 harg9 arg10 harg10 x0 x1 x2 x3 x4 (ix3 0 p q) = oldA c i arg2 harg2 arg3 harg3 arg4 harg4 arg5 harg5 arg6 harg6 arg7 harg7 arg8 harg8 arg9 harg9 arg10 harg10 x0 x1 x2 x3 x4 2 p q := by
  refine (readCov_head _ _ 2 _ rfl _ p q).trans ?_
  refine (skip_head _ _ 1 _ _ _ 2 p q (by decide)).trans ?_
  refine (skip_head _ _ 0 _ _ _ 2 p q (by decide)).trans ?_
  rfl

theorem oldA3 (p : Fin 256) (q : Fin 128) : kernelRun0_A.sl.v221 (F := Ideal) c i arg2 harg2 arg3 harg3 arg4 harg4 arg5 harg5 arg6 harg6 arg7 harg7 arg8 harg8 arg9 harg9 arg10 harg10 x0 x1 x2 x3 x4 (ix3 0 p q) = oldA c i arg2 harg2 arg3 harg3 arg4 harg4 arg5 harg5 arg6 harg6 arg7 harg7 arg8 harg8 arg9 harg9 arg10 harg10 x0 x1 x2 x3 x4 3 p q := by
  refine (readCov_head _ _ 3 _ rfl _ p q).trans ?_
  refine (skip_head _ _ 2 _ _ _ 3 p q (by decide)).trans ?_
  refine (skip_head _ _ 1 _ _ _ 3 p q (by decide)).trans ?_
  refine (skip_head _ _ 0 _ _ _ 3 p q (by decide)).trans ?_
  rfl

theorem sel_causal (p j : Fin 256) (a b : EReal) :
    Scalar.select (IntOp.cmpi CmpIPredicate.sle (BitVec.ofNat 32 j.val) (BitVec.ofNat 32 p.val)) a b = if j ≤ p then a else b := by
  rw [WordCmp.cmpi_sle_ofNat (w := 32) (by have := j.isLt; omega) (by have := p.isLt; omega)]
  by_cases h : j ≤ p
  · have h' : j.val ≤ p.val := h
    simp [h, h', Scalar.select]
  · have h' : ¬ j.val ≤ p.val := h
    simp [h, h', Scalar.select]

/-- A masked score of the diagonal tile. -/
theorem diag_of (h : Fin 4) (p j : Fin 256) (X : EReal) (hX : X = logit x0 x1 x3 x4 h p (key (i 1).val (i 1).isLt j)) :
    Scalar.select (IntOp.cmpi CmpIPredicate.sle (BitVec.ofNat 32 j.val) (BitVec.ofNat 32 p.val)) X (Named.named (F := Ideal) (φ := .f32) κ "mask" 0xF149F2CA#32) = diag i x0 x1 x3 x4 h p j := by
  rw [sel_causal, hX]
  rfl

/-- A probability of the diagonal tile: the mask selects what the exponential gives already. -/
theorem prob_of (h : Fin 4) (p j : Fin 256) (X m' m'' : EReal) (hX : X = diag i x0 x1 x3 x4 h p j) (hm : m'' = m') :
    Scalar.select (IntOp.cmpi CmpIPredicate.sle (BitVec.ofNat 32 j.val) (BitVec.ofNat 32 p.val)) (Ideal.exp (X - m'')) 0 = Ideal.exp (diag i x0 x1 x3 x4 h p j - m') := by
  rw [sel_causal, hX, hm]
  by_cases hj : j ≤ p
  · simp [hj]
  · simp [hj, diag]

theorem prob_mul_of (h : Fin 4) (p j : Fin 256) (X m' m'' v v' : EReal) (hX : X = diag i x0 x1 x3 x4 h p j) (hm : m'' = m') (hv : v = v') :
    Scalar.select (IntOp.cmpi CmpIPredicate.sle (BitVec.ofNat 32 j.val) (BitVec.ofNat 32 p.val)) (Ideal.exp (X - m'') * v) 0 = Ideal.exp (diag i x0 x1 x3 x4 h p j - m') * v' := by
  rw [sel_causal, hX, hm, hv]
  by_cases hj : j ≤ p
  · simp [hj]
  · simp [hj, diag]

theorem newL0 (p : Fin 256) (m' : EReal) (hm : m' = max (oldM c i arg2 harg2 arg3 harg3 arg4 harg4 arg5 harg5 arg6 harg6 arg7 harg7 arg8 harg8 arg9 harg9 arg10 harg10 x0 x1 x2 x3 x4 0 p) (Finset.univ.sup (diag i x0 x1 x3 x4 0 p))) :
    arg9.view.read (Elt Ideal) (arg9.view.writes (Elt Ideal) arg9.view.junk (kernelRun0_A.sl.HS1_4 (F := Ideal) c i arg2 harg2 arg3 harg3 arg4 harg4 arg5 harg5 arg6 harg6 arg7 harg7 arg8 harg8 arg9 harg9 arg10 harg10 x0 x1 x2 x3 x4)) (ix3 0 p 0)
      = Ideal.exp (oldM c i arg2 harg2 arg3 harg3 arg4 harg4 arg5 harg5 arg6 harg6 arg7 harg7 arg8 harg8 arg9 harg9 arg10 harg10 x0 x1 x2 x3 x4 0 p - m') * oldL c i arg2 harg2 arg3 harg3 arg4 harg4 arg5 harg5 arg6 harg6 arg7 harg7 arg8 harg8 arg9 harg9 arg10 harg10 x0 x1 x2 x3 x4 0 p + ∑ j : Fin 256, Ideal.exp (diag i x0 x1 x3 x4 0 p j - m') := by
  unfold kernelRun0_A.sl.HS1_4 kernelRun0_A.sl.HS1_3 kernelRun0_A.sl.HS1_2 kernelRun0_A.sl.HS1_1_1
  refine (read_heads _ _ _ _ _ _ _ _ _ _ _ 0 p 0).trans ?_
  dsimp only
  simp only [sl.cst_100, sl.cst_104, sl.cst_114, sl.cst_145, sl.cst_25, sl.cst_26, sl.r, sl.r_1, sl.r_10, sl.r_11, sl.r_12, sl.r_13, sl.r_14, sl.r_15, sl.r_16, sl.r_17, sl.r_18, sl.r_19, sl.r_2, sl.r_20, sl.r_21, sl.r_3, sl.r_4, sl.r_5, sl.r_6, sl.r_7, sl.r_8, sl.r_9, sl.v15, sl.v17, sl.v176, sl.v177, sl.v178, sl.v179, sl.v18, sl.v180, sl.v182, sl.v183, sl.v184, sl.v185, sl.v186, sl.v189, sl.v19, sl.v190, sl.v191, sl.v192, sl.v193, sl.v195, sl.v196, sl.v197, sl.v198, sl.v199, sl.v20, sl.v202, sl.v204, sl.v205, sl.v206, sl.v207, sl.v208, sl.v211, sl.v213, sl.v214, sl.v215, sl.v216, sl.v217, sl.v220, sl.v222, sl.v223, sl.v224, sl.v225, sl.v226, sl.v229, sl.v231, sl.v233, sl.v234, sl.v235, sl.v236, sl.v237, sl.v29, sl.v31, sl.v32, sl.v33, sl.v34, sl.v35, sl.v41, sl.v42, sl.v43, sl.v47, sl.v48, sl.v49, sl.v50, sl.v51, sl.v57, sl.v59, sl.v63, sl.v64, sl.v65, View.readAt_eq_ld, Memref.IsWhole.read_unread]
  pointwise [k0_pay72, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
  simp only [k0_off17_eq, k0_off18_eq, k0_off19_eq, k0_off20_eq, k0_off21_eq, k0_off22_eq, k0_off23_eq, k0_off24_eq]
  simp only [fold_max_eq, oldM0, oldM1, oldM2, oldM3, oldL0, oldL1, oldL2, oldL3, oldA0, oldA1, oldA2, oldA3]

  refine congrArg₂ (· + ·) (congrArg₂ (· * ·) (congrArg Ideal.exp (congrArg₂ (· - ·) rfl ?_)) rfl) (Finset.sum_congr rfl fun j _ => prob_of i x0 x1 x3 x4 0 p j _ m' _ ?_ ?_)
  · rw [hm]; refine congrArg _ (congrArg (Finset.sup Finset.univ) (funext fun j => ?_)); exact diag_of i x0 x1 x3 x4 0 p j _ (logit_of x0 x1 x3 x4 (i 1).val (i 1).isLt 0 p j _ _ _ _ _ _ _ (fun d => by simp) (fun d => by simp) (fun d => by simp) (by simp) (by simp) (by simp))
  · exact diag_of i x0 x1 x3 x4 0 p j _ (logit_of x0 x1 x3 x4 (i 1).val (i 1).isLt 0 p j _ _ _ _ _ _ _ (fun d => by simp) (fun d => by simp) (fun d => by simp) (by simp) (by simp) (by simp))
  · rw [hm]; refine congrArg _ (congrArg (Finset.sup Finset.univ) (funext fun j => ?_)); exact diag_of i x0 x1 x3 x4 0 p j _ (logit_of x0 x1 x3 x4 (i 1).val (i 1).isLt 0 p j _ _ _ _ _ _ _ (fun d => by simp) (fun d => by simp) (fun d => by simp) (by simp) (by simp) (by simp))

theorem newL1 (p : Fin 256) (m' : EReal) (hm : m' = max (oldM c i arg2 harg2 arg3 harg3 arg4 harg4 arg5 harg5 arg6 harg6 arg7 harg7 arg8 harg8 arg9 harg9 arg10 harg10 x0 x1 x2 x3 x4 1 p) (Finset.univ.sup (diag i x0 x1 x3 x4 1 p))) :
    arg9.view.read (Elt Ideal) (arg9.view.writes (Elt Ideal) arg9.view.junk (kernelRun0_A.sl.HS1_4 (F := Ideal) c i arg2 harg2 arg3 harg3 arg4 harg4 arg5 harg5 arg6 harg6 arg7 harg7 arg8 harg8 arg9 harg9 arg10 harg10 x0 x1 x2 x3 x4)) (ix3 1 p 0)
      = Ideal.exp (oldM c i arg2 harg2 arg3 harg3 arg4 harg4 arg5 harg5 arg6 harg6 arg7 harg7 arg8 harg8 arg9 harg9 arg10 harg10 x0 x1 x2 x3 x4 1 p - m') * oldL c i arg2 harg2 arg3 harg3 arg4 harg4 arg5 harg5 arg6 harg6 arg7 harg7 arg8 harg8 arg9 harg9 arg10 harg10 x0 x1 x2 x3 x4 1 p + ∑ j : Fin 256, Ideal.exp (diag i x0 x1 x3 x4 1 p j - m') := by
  unfold kernelRun0_A.sl.HS1_4 kernelRun0_A.sl.HS1_3 kernelRun0_A.sl.HS1_2 kernelRun0_A.sl.HS1_1_1
  refine (read_heads _ _ _ _ _ _ _ _ _ _ _ 1 p 0).trans ?_
  dsimp only
  simp only [sl.cst_100, sl.cst_104, sl.cst_114, sl.cst_145, sl.cst_25, sl.cst_26, sl.r, sl.r_1, sl.r_10, sl.r_11, sl.r_12, sl.r_13, sl.r_14, sl.r_15, sl.r_16, sl.r_17, sl.r_18, sl.r_19, sl.r_2, sl.r_20, sl.r_21, sl.r_3, sl.r_4, sl.r_5, sl.r_6, sl.r_7, sl.r_8, sl.r_9, sl.v15, sl.v17, sl.v176, sl.v177, sl.v178, sl.v179, sl.v18, sl.v180, sl.v182, sl.v183, sl.v184, sl.v185, sl.v186, sl.v189, sl.v19, sl.v190, sl.v191, sl.v192, sl.v193, sl.v195, sl.v196, sl.v197, sl.v198, sl.v199, sl.v20, sl.v202, sl.v204, sl.v205, sl.v206, sl.v207, sl.v208, sl.v211, sl.v213, sl.v214, sl.v215, sl.v216, sl.v217, sl.v220, sl.v222, sl.v223, sl.v224, sl.v225, sl.v226, sl.v229, sl.v231, sl.v233, sl.v234, sl.v235, sl.v236, sl.v237, sl.v29, sl.v31, sl.v32, sl.v33, sl.v34, sl.v35, sl.v41, sl.v42, sl.v43, sl.v47, sl.v48, sl.v49, sl.v50, sl.v51, sl.v57, sl.v59, sl.v63, sl.v64, sl.v65, View.readAt_eq_ld, Memref.IsWhole.read_unread]
  pointwise [k0_pay72, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
  simp only [k0_off17_eq, k0_off18_eq, k0_off19_eq, k0_off20_eq, k0_off21_eq, k0_off22_eq, k0_off23_eq, k0_off24_eq]
  simp only [fold_max_eq, oldM0, oldM1, oldM2, oldM3, oldL0, oldL1, oldL2, oldL3, oldA0, oldA1, oldA2, oldA3]

  refine congrArg₂ (· + ·) (congrArg₂ (· * ·) (congrArg Ideal.exp (congrArg₂ (· - ·) rfl ?_)) rfl) (Finset.sum_congr rfl fun j _ => prob_of i x0 x1 x3 x4 1 p j _ m' _ ?_ ?_)
  · rw [hm]; refine congrArg _ (congrArg (Finset.sup Finset.univ) (funext fun j => ?_)); exact diag_of i x0 x1 x3 x4 1 p j _ (logit_of x0 x1 x3 x4 (i 1).val (i 1).isLt 1 p j _ _ _ _ _ _ _ (fun d => by simp) (fun d => by simp) (fun d => by simp) (by simp) (by simp) (by simp))
  · exact diag_of i x0 x1 x3 x4 1 p j _ (logit_of x0 x1 x3 x4 (i 1).val (i 1).isLt 1 p j _ _ _ _ _ _ _ (fun d => by simp) (fun d => by simp) (fun d => by simp) (by simp) (by simp) (by simp))
  · rw [hm]; refine congrArg _ (congrArg (Finset.sup Finset.univ) (funext fun j => ?_)); exact diag_of i x0 x1 x3 x4 1 p j _ (logit_of x0 x1 x3 x4 (i 1).val (i 1).isLt 1 p j _ _ _ _ _ _ _ (fun d => by simp) (fun d => by simp) (fun d => by simp) (by simp) (by simp) (by simp))

theorem newL2 (p : Fin 256) (m' : EReal) (hm : m' = max (oldM c i arg2 harg2 arg3 harg3 arg4 harg4 arg5 harg5 arg6 harg6 arg7 harg7 arg8 harg8 arg9 harg9 arg10 harg10 x0 x1 x2 x3 x4 2 p) (Finset.univ.sup (diag i x0 x1 x3 x4 2 p))) :
    arg9.view.read (Elt Ideal) (arg9.view.writes (Elt Ideal) arg9.view.junk (kernelRun0_A.sl.HS1_4 (F := Ideal) c i arg2 harg2 arg3 harg3 arg4 harg4 arg5 harg5 arg6 harg6 arg7 harg7 arg8 harg8 arg9 harg9 arg10 harg10 x0 x1 x2 x3 x4)) (ix3 2 p 0)
      = Ideal.exp (oldM c i arg2 harg2 arg3 harg3 arg4 harg4 arg5 harg5 arg6 harg6 arg7 harg7 arg8 harg8 arg9 harg9 arg10 harg10 x0 x1 x2 x3 x4 2 p - m') * oldL c i arg2 harg2 arg3 harg3 arg4 harg4 arg5 harg5 arg6 harg6 arg7 harg7 arg8 harg8 arg9 harg9 arg10 harg10 x0 x1 x2 x3 x4 2 p + ∑ j : Fin 256, Ideal.exp (diag i x0 x1 x3 x4 2 p j - m') := by
  unfold kernelRun0_A.sl.HS1_4 kernelRun0_A.sl.HS1_3 kernelRun0_A.sl.HS1_2 kernelRun0_A.sl.HS1_1_1
  refine (read_heads _ _ _ _ _ _ _ _ _ _ _ 2 p 0).trans ?_
  dsimp only
  simp only [sl.cst_100, sl.cst_104, sl.cst_114, sl.cst_145, sl.cst_25, sl.cst_26, sl.r, sl.r_1, sl.r_10, sl.r_11, sl.r_12, sl.r_13, sl.r_14, sl.r_15, sl.r_16, sl.r_17, sl.r_18, sl.r_19, sl.r_2, sl.r_20, sl.r_21, sl.r_3, sl.r_4, sl.r_5, sl.r_6, sl.r_7, sl.r_8, sl.r_9, sl.v15, sl.v17, sl.v176, sl.v177, sl.v178, sl.v179, sl.v18, sl.v180, sl.v182, sl.v183, sl.v184, sl.v185, sl.v186, sl.v189, sl.v19, sl.v190, sl.v191, sl.v192, sl.v193, sl.v195, sl.v196, sl.v197, sl.v198, sl.v199, sl.v20, sl.v202, sl.v204, sl.v205, sl.v206, sl.v207, sl.v208, sl.v211, sl.v213, sl.v214, sl.v215, sl.v216, sl.v217, sl.v220, sl.v222, sl.v223, sl.v224, sl.v225, sl.v226, sl.v229, sl.v231, sl.v233, sl.v234, sl.v235, sl.v236, sl.v237, sl.v29, sl.v31, sl.v32, sl.v33, sl.v34, sl.v35, sl.v41, sl.v42, sl.v43, sl.v47, sl.v48, sl.v49, sl.v50, sl.v51, sl.v57, sl.v59, sl.v63, sl.v64, sl.v65, View.readAt_eq_ld, Memref.IsWhole.read_unread]
  pointwise [k0_pay72, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
  simp only [k0_off17_eq, k0_off18_eq, k0_off19_eq, k0_off20_eq, k0_off21_eq, k0_off22_eq, k0_off23_eq, k0_off24_eq]
  simp only [fold_max_eq, oldM0, oldM1, oldM2, oldM3, oldL0, oldL1, oldL2, oldL3, oldA0, oldA1, oldA2, oldA3]

  refine congrArg₂ (· + ·) (congrArg₂ (· * ·) (congrArg Ideal.exp (congrArg₂ (· - ·) rfl ?_)) rfl) (Finset.sum_congr rfl fun j _ => prob_of i x0 x1 x3 x4 2 p j _ m' _ ?_ ?_)
  · rw [hm]; refine congrArg _ (congrArg (Finset.sup Finset.univ) (funext fun j => ?_)); exact diag_of i x0 x1 x3 x4 2 p j _ (logit_of x0 x1 x3 x4 (i 1).val (i 1).isLt 2 p j _ _ _ _ _ _ _ (fun d => by simp) (fun d => by simp) (fun d => by simp) (by simp) (by simp) (by simp))
  · exact diag_of i x0 x1 x3 x4 2 p j _ (logit_of x0 x1 x3 x4 (i 1).val (i 1).isLt 2 p j _ _ _ _ _ _ _ (fun d => by simp) (fun d => by simp) (fun d => by simp) (by simp) (by simp) (by simp))
  · rw [hm]; refine congrArg _ (congrArg (Finset.sup Finset.univ) (funext fun j => ?_)); exact diag_of i x0 x1 x3 x4 2 p j _ (logit_of x0 x1 x3 x4 (i 1).val (i 1).isLt 2 p j _ _ _ _ _ _ _ (fun d => by simp) (fun d => by simp) (fun d => by simp) (by simp) (by simp) (by simp))

theorem newL3 (p : Fin 256) (m' : EReal) (hm : m' = max (oldM c i arg2 harg2 arg3 harg3 arg4 harg4 arg5 harg5 arg6 harg6 arg7 harg7 arg8 harg8 arg9 harg9 arg10 harg10 x0 x1 x2 x3 x4 3 p) (Finset.univ.sup (diag i x0 x1 x3 x4 3 p))) :
    arg9.view.read (Elt Ideal) (arg9.view.writes (Elt Ideal) arg9.view.junk (kernelRun0_A.sl.HS1_4 (F := Ideal) c i arg2 harg2 arg3 harg3 arg4 harg4 arg5 harg5 arg6 harg6 arg7 harg7 arg8 harg8 arg9 harg9 arg10 harg10 x0 x1 x2 x3 x4)) (ix3 3 p 0)
      = Ideal.exp (oldM c i arg2 harg2 arg3 harg3 arg4 harg4 arg5 harg5 arg6 harg6 arg7 harg7 arg8 harg8 arg9 harg9 arg10 harg10 x0 x1 x2 x3 x4 3 p - m') * oldL c i arg2 harg2 arg3 harg3 arg4 harg4 arg5 harg5 arg6 harg6 arg7 harg7 arg8 harg8 arg9 harg9 arg10 harg10 x0 x1 x2 x3 x4 3 p + ∑ j : Fin 256, Ideal.exp (diag i x0 x1 x3 x4 3 p j - m') := by
  unfold kernelRun0_A.sl.HS1_4 kernelRun0_A.sl.HS1_3 kernelRun0_A.sl.HS1_2 kernelRun0_A.sl.HS1_1_1
  refine (read_heads _ _ _ _ _ _ _ _ _ _ _ 3 p 0).trans ?_
  dsimp only
  simp only [sl.cst_100, sl.cst_104, sl.cst_114, sl.cst_145, sl.cst_25, sl.cst_26, sl.r, sl.r_1, sl.r_10, sl.r_11, sl.r_12, sl.r_13, sl.r_14, sl.r_15, sl.r_16, sl.r_17, sl.r_18, sl.r_19, sl.r_2, sl.r_20, sl.r_21, sl.r_3, sl.r_4, sl.r_5, sl.r_6, sl.r_7, sl.r_8, sl.r_9, sl.v15, sl.v17, sl.v176, sl.v177, sl.v178, sl.v179, sl.v18, sl.v180, sl.v182, sl.v183, sl.v184, sl.v185, sl.v186, sl.v189, sl.v19, sl.v190, sl.v191, sl.v192, sl.v193, sl.v195, sl.v196, sl.v197, sl.v198, sl.v199, sl.v20, sl.v202, sl.v204, sl.v205, sl.v206, sl.v207, sl.v208, sl.v211, sl.v213, sl.v214, sl.v215, sl.v216, sl.v217, sl.v220, sl.v222, sl.v223, sl.v224, sl.v225, sl.v226, sl.v229, sl.v231, sl.v233, sl.v234, sl.v235, sl.v236, sl.v237, sl.v29, sl.v31, sl.v32, sl.v33, sl.v34, sl.v35, sl.v41, sl.v42, sl.v43, sl.v47, sl.v48, sl.v49, sl.v50, sl.v51, sl.v57, sl.v59, sl.v63, sl.v64, sl.v65, View.readAt_eq_ld, Memref.IsWhole.read_unread]
  pointwise [k0_pay72, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
  simp only [k0_off17_eq, k0_off18_eq, k0_off19_eq, k0_off20_eq, k0_off21_eq, k0_off22_eq, k0_off23_eq, k0_off24_eq]
  simp only [fold_max_eq, oldM0, oldM1, oldM2, oldM3, oldL0, oldL1, oldL2, oldL3, oldA0, oldA1, oldA2, oldA3]

  refine congrArg₂ (· + ·) (congrArg₂ (· * ·) (congrArg Ideal.exp (congrArg₂ (· - ·) rfl ?_)) rfl) (Finset.sum_congr rfl fun j _ => prob_of i x0 x1 x3 x4 3 p j _ m' _ ?_ ?_)
  · rw [hm]; refine congrArg _ (congrArg (Finset.sup Finset.univ) (funext fun j => ?_)); exact diag_of i x0 x1 x3 x4 3 p j _ (logit_of x0 x1 x3 x4 (i 1).val (i 1).isLt 3 p j _ _ _ _ _ _ _ (fun d => by simp) (fun d => by simp) (fun d => by simp) (by simp) (by simp) (by simp))
  · exact diag_of i x0 x1 x3 x4 3 p j _ (logit_of x0 x1 x3 x4 (i 1).val (i 1).isLt 3 p j _ _ _ _ _ _ _ (fun d => by simp) (fun d => by simp) (fun d => by simp) (by simp) (by simp) (by simp))
  · rw [hm]; refine congrArg _ (congrArg (Finset.sup Finset.univ) (funext fun j => ?_)); exact diag_of i x0 x1 x3 x4 3 p j _ (logit_of x0 x1 x3 x4 (i 1).val (i 1).isLt 3 p j _ _ _ _ _ _ _ (fun d => by simp) (fun d => by simp) (fun d => by simp) (by simp) (by simp) (by simp))

theorem newA0 (p : Fin 256) (q : Fin 128) (m' : EReal) (hm : m' = max (oldM c i arg2 harg2 arg3 harg3 arg4 harg4 arg5 harg5 arg6 harg6 arg7 harg7 arg8 harg8 arg9 harg9 arg10 harg10 x0 x1 x2 x3 x4 0 p) (Finset.univ.sup (diag i x0 x1 x3 x4 0 p))) :
    arg10.view.read (Elt Ideal) (arg10.view.writes (Elt Ideal) arg10.view.junk (kernelRun0_A.sl.HS2_4 (F := Ideal) c i arg2 harg2 arg3 harg3 arg4 harg4 arg5 harg5 arg6 harg6 arg7 harg7 arg8 harg8 arg9 harg9 arg10 harg10 x0 x1 x2 x3 x4)) (ix3 0 p q)
      = Ideal.exp (oldM c i arg2 harg2 arg3 harg3 arg4 harg4 arg5 harg5 arg6 harg6 arg7 harg7 arg8 harg8 arg9 harg9 arg10 harg10 x0 x1 x2 x3 x4 0 p - m') * oldA c i arg2 harg2 arg3 harg3 arg4 harg4 arg5 harg5 arg6 harg6 arg7 harg7 arg8 harg8 arg9 harg9 arg10 harg10 x0 x1 x2 x3 x4 0 p q + ∑ j : Fin 256, Ideal.exp (diag i x0 x1 x3 x4 0 p j - m') * x2 (ix2 (key (i 1).val (i 1).isLt j) (hcol 0 q)) := by
  unfold kernelRun0_A.sl.HS2_4 kernelRun0_A.sl.HS2_3 kernelRun0_A.sl.HS2_2 kernelRun0_A.sl.HS2_1_1
  refine (read_heads _ _ _ _ _ _ _ _ _ _ _ 0 p q).trans ?_
  dsimp only
  simp only [sl.cst_100, sl.cst_104, sl.cst_114, sl.cst_145, sl.cst_25, sl.cst_26, sl.r, sl.r_1, sl.r_10, sl.r_11, sl.r_12, sl.r_13, sl.r_14, sl.r_15, sl.r_16, sl.r_17, sl.r_18, sl.r_19, sl.r_2, sl.r_20, sl.r_21, sl.r_3, sl.r_4, sl.r_5, sl.r_6, sl.r_7, sl.r_8, sl.r_9, sl.v15, sl.v17, sl.v176, sl.v177, sl.v178, sl.v179, sl.v18, sl.v180, sl.v182, sl.v183, sl.v184, sl.v185, sl.v186, sl.v189, sl.v19, sl.v190, sl.v191, sl.v192, sl.v193, sl.v195, sl.v196, sl.v197, sl.v198, sl.v199, sl.v20, sl.v202, sl.v204, sl.v205, sl.v206, sl.v207, sl.v208, sl.v211, sl.v213, sl.v214, sl.v215, sl.v216, sl.v217, sl.v220, sl.v222, sl.v223, sl.v224, sl.v225, sl.v226, sl.v229, sl.v231, sl.v233, sl.v234, sl.v235, sl.v236, sl.v237, sl.v29, sl.v31, sl.v32, sl.v33, sl.v34, sl.v35, sl.v41, sl.v42, sl.v43, sl.v47, sl.v48, sl.v49, sl.v50, sl.v51, sl.v57, sl.v59, sl.v63, sl.v64, sl.v65, View.readAt_eq_ld, Memref.IsWhole.read_unread]
  pointwise [k0_pay72, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
  simp only [k0_off17_eq, k0_off18_eq, k0_off19_eq, k0_off20_eq, k0_off21_eq, k0_off22_eq, k0_off23_eq, k0_off24_eq]
  simp only [fold_max_eq, oldM0, oldM1, oldM2, oldM3, oldL0, oldL1, oldL2, oldL3, oldA0, oldA1, oldA2, oldA3]

  refine congrArg₂ (· + ·) (congrArg₂ (· * ·) (congrArg Ideal.exp (congrArg₂ (· - ·) rfl ?_)) rfl) (Finset.sum_congr rfl fun j _ => prob_mul_of i x0 x1 x3 x4 0 p j _ m' _ _ _ ?_ ?_ ?_)
  · rw [hm]; refine congrArg _ (congrArg (Finset.sup Finset.univ) (funext fun j => ?_)); exact diag_of i x0 x1 x3 x4 0 p j _ (logit_of x0 x1 x3 x4 (i 1).val (i 1).isLt 0 p j _ _ _ _ _ _ _ (fun d => by simp) (fun d => by simp) (fun d => by simp) (by simp) (by simp) (by simp))
  · exact diag_of i x0 x1 x3 x4 0 p j _ (logit_of x0 x1 x3 x4 (i 1).val (i 1).isLt 0 p j _ _ _ _ _ _ _ (fun d => by simp) (fun d => by simp) (fun d => by simp) (by simp) (by simp) (by simp))
  · rw [hm]; refine congrArg _ (congrArg (Finset.sup Finset.univ) (funext fun j => ?_)); exact diag_of i x0 x1 x3 x4 0 p j _ (logit_of x0 x1 x3 x4 (i 1).val (i 1).isLt 0 p j _ _ _ _ _ _ _ (fun d => by simp) (fun d => by simp) (fun d => by simp) (by simp) (by simp) (by simp))
  · refine congrArg x2 (congrArg₂ ix2 (Fin.ext ?_) (Fin.ext ?_))
    · simp [key]
    · simp [hcol]

theorem newA1 (p : Fin 256) (q : Fin 128) (m' : EReal) (hm : m' = max (oldM c i arg2 harg2 arg3 harg3 arg4 harg4 arg5 harg5 arg6 harg6 arg7 harg7 arg8 harg8 arg9 harg9 arg10 harg10 x0 x1 x2 x3 x4 1 p) (Finset.univ.sup (diag i x0 x1 x3 x4 1 p))) :
    arg10.view.read (Elt Ideal) (arg10.view.writes (Elt Ideal) arg10.view.junk (kernelRun0_A.sl.HS2_4 (F := Ideal) c i arg2 harg2 arg3 harg3 arg4 harg4 arg5 harg5 arg6 harg6 arg7 harg7 arg8 harg8 arg9 harg9 arg10 harg10 x0 x1 x2 x3 x4)) (ix3 1 p q)
      = Ideal.exp (oldM c i arg2 harg2 arg3 harg3 arg4 harg4 arg5 harg5 arg6 harg6 arg7 harg7 arg8 harg8 arg9 harg9 arg10 harg10 x0 x1 x2 x3 x4 1 p - m') * oldA c i arg2 harg2 arg3 harg3 arg4 harg4 arg5 harg5 arg6 harg6 arg7 harg7 arg8 harg8 arg9 harg9 arg10 harg10 x0 x1 x2 x3 x4 1 p q + ∑ j : Fin 256, Ideal.exp (diag i x0 x1 x3 x4 1 p j - m') * x2 (ix2 (key (i 1).val (i 1).isLt j) (hcol 1 q)) := by
  unfold kernelRun0_A.sl.HS2_4 kernelRun0_A.sl.HS2_3 kernelRun0_A.sl.HS2_2 kernelRun0_A.sl.HS2_1_1
  refine (read_heads _ _ _ _ _ _ _ _ _ _ _ 1 p q).trans ?_
  dsimp only
  simp only [sl.cst_100, sl.cst_104, sl.cst_114, sl.cst_145, sl.cst_25, sl.cst_26, sl.r, sl.r_1, sl.r_10, sl.r_11, sl.r_12, sl.r_13, sl.r_14, sl.r_15, sl.r_16, sl.r_17, sl.r_18, sl.r_19, sl.r_2, sl.r_20, sl.r_21, sl.r_3, sl.r_4, sl.r_5, sl.r_6, sl.r_7, sl.r_8, sl.r_9, sl.v15, sl.v17, sl.v176, sl.v177, sl.v178, sl.v179, sl.v18, sl.v180, sl.v182, sl.v183, sl.v184, sl.v185, sl.v186, sl.v189, sl.v19, sl.v190, sl.v191, sl.v192, sl.v193, sl.v195, sl.v196, sl.v197, sl.v198, sl.v199, sl.v20, sl.v202, sl.v204, sl.v205, sl.v206, sl.v207, sl.v208, sl.v211, sl.v213, sl.v214, sl.v215, sl.v216, sl.v217, sl.v220, sl.v222, sl.v223, sl.v224, sl.v225, sl.v226, sl.v229, sl.v231, sl.v233, sl.v234, sl.v235, sl.v236, sl.v237, sl.v29, sl.v31, sl.v32, sl.v33, sl.v34, sl.v35, sl.v41, sl.v42, sl.v43, sl.v47, sl.v48, sl.v49, sl.v50, sl.v51, sl.v57, sl.v59, sl.v63, sl.v64, sl.v65, View.readAt_eq_ld, Memref.IsWhole.read_unread]
  pointwise [k0_pay72, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
  simp only [k0_off17_eq, k0_off18_eq, k0_off19_eq, k0_off20_eq, k0_off21_eq, k0_off22_eq, k0_off23_eq, k0_off24_eq]
  simp only [fold_max_eq, oldM0, oldM1, oldM2, oldM3, oldL0, oldL1, oldL2, oldL3, oldA0, oldA1, oldA2, oldA3]

  refine congrArg₂ (· + ·) (congrArg₂ (· * ·) (congrArg Ideal.exp (congrArg₂ (· - ·) rfl ?_)) rfl) (Finset.sum_congr rfl fun j _ => prob_mul_of i x0 x1 x3 x4 1 p j _ m' _ _ _ ?_ ?_ ?_)
  · rw [hm]; refine congrArg _ (congrArg (Finset.sup Finset.univ) (funext fun j => ?_)); exact diag_of i x0 x1 x3 x4 1 p j _ (logit_of x0 x1 x3 x4 (i 1).val (i 1).isLt 1 p j _ _ _ _ _ _ _ (fun d => by simp) (fun d => by simp) (fun d => by simp) (by simp) (by simp) (by simp))
  · exact diag_of i x0 x1 x3 x4 1 p j _ (logit_of x0 x1 x3 x4 (i 1).val (i 1).isLt 1 p j _ _ _ _ _ _ _ (fun d => by simp) (fun d => by simp) (fun d => by simp) (by simp) (by simp) (by simp))
  · rw [hm]; refine congrArg _ (congrArg (Finset.sup Finset.univ) (funext fun j => ?_)); exact diag_of i x0 x1 x3 x4 1 p j _ (logit_of x0 x1 x3 x4 (i 1).val (i 1).isLt 1 p j _ _ _ _ _ _ _ (fun d => by simp) (fun d => by simp) (fun d => by simp) (by simp) (by simp) (by simp))
  · refine congrArg x2 (congrArg₂ ix2 (Fin.ext ?_) (Fin.ext ?_))
    · simp [key]
    · simp [hcol]

theorem newA2 (p : Fin 256) (q : Fin 128) (m' : EReal) (hm : m' = max (oldM c i arg2 harg2 arg3 harg3 arg4 harg4 arg5 harg5 arg6 harg6 arg7 harg7 arg8 harg8 arg9 harg9 arg10 harg10 x0 x1 x2 x3 x4 2 p) (Finset.univ.sup (diag i x0 x1 x3 x4 2 p))) :
    arg10.view.read (Elt Ideal) (arg10.view.writes (Elt Ideal) arg10.view.junk (kernelRun0_A.sl.HS2_4 (F := Ideal) c i arg2 harg2 arg3 harg3 arg4 harg4 arg5 harg5 arg6 harg6 arg7 harg7 arg8 harg8 arg9 harg9 arg10 harg10 x0 x1 x2 x3 x4)) (ix3 2 p q)
      = Ideal.exp (oldM c i arg2 harg2 arg3 harg3 arg4 harg4 arg5 harg5 arg6 harg6 arg7 harg7 arg8 harg8 arg9 harg9 arg10 harg10 x0 x1 x2 x3 x4 2 p - m') * oldA c i arg2 harg2 arg3 harg3 arg4 harg4 arg5 harg5 arg6 harg6 arg7 harg7 arg8 harg8 arg9 harg9 arg10 harg10 x0 x1 x2 x3 x4 2 p q + ∑ j : Fin 256, Ideal.exp (diag i x0 x1 x3 x4 2 p j - m') * x2 (ix2 (key (i 1).val (i 1).isLt j) (hcol 2 q)) := by
  unfold kernelRun0_A.sl.HS2_4 kernelRun0_A.sl.HS2_3 kernelRun0_A.sl.HS2_2 kernelRun0_A.sl.HS2_1_1
  refine (read_heads _ _ _ _ _ _ _ _ _ _ _ 2 p q).trans ?_
  dsimp only
  simp only [sl.cst_100, sl.cst_104, sl.cst_114, sl.cst_145, sl.cst_25, sl.cst_26, sl.r, sl.r_1, sl.r_10, sl.r_11, sl.r_12, sl.r_13, sl.r_14, sl.r_15, sl.r_16, sl.r_17, sl.r_18, sl.r_19, sl.r_2, sl.r_20, sl.r_21, sl.r_3, sl.r_4, sl.r_5, sl.r_6, sl.r_7, sl.r_8, sl.r_9, sl.v15, sl.v17, sl.v176, sl.v177, sl.v178, sl.v179, sl.v18, sl.v180, sl.v182, sl.v183, sl.v184, sl.v185, sl.v186, sl.v189, sl.v19, sl.v190, sl.v191, sl.v192, sl.v193, sl.v195, sl.v196, sl.v197, sl.v198, sl.v199, sl.v20, sl.v202, sl.v204, sl.v205, sl.v206, sl.v207, sl.v208, sl.v211, sl.v213, sl.v214, sl.v215, sl.v216, sl.v217, sl.v220, sl.v222, sl.v223, sl.v224, sl.v225, sl.v226, sl.v229, sl.v231, sl.v233, sl.v234, sl.v235, sl.v236, sl.v237, sl.v29, sl.v31, sl.v32, sl.v33, sl.v34, sl.v35, sl.v41, sl.v42, sl.v43, sl.v47, sl.v48, sl.v49, sl.v50, sl.v51, sl.v57, sl.v59, sl.v63, sl.v64, sl.v65, View.readAt_eq_ld, Memref.IsWhole.read_unread]
  pointwise [k0_pay72, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
  simp only [k0_off17_eq, k0_off18_eq, k0_off19_eq, k0_off20_eq, k0_off21_eq, k0_off22_eq, k0_off23_eq, k0_off24_eq]
  simp only [fold_max_eq, oldM0, oldM1, oldM2, oldM3, oldL0, oldL1, oldL2, oldL3, oldA0, oldA1, oldA2, oldA3]

  refine congrArg₂ (· + ·) (congrArg₂ (· * ·) (congrArg Ideal.exp (congrArg₂ (· - ·) rfl ?_)) rfl) (Finset.sum_congr rfl fun j _ => prob_mul_of i x0 x1 x3 x4 2 p j _ m' _ _ _ ?_ ?_ ?_)
  · rw [hm]; refine congrArg _ (congrArg (Finset.sup Finset.univ) (funext fun j => ?_)); exact diag_of i x0 x1 x3 x4 2 p j _ (logit_of x0 x1 x3 x4 (i 1).val (i 1).isLt 2 p j _ _ _ _ _ _ _ (fun d => by simp) (fun d => by simp) (fun d => by simp) (by simp) (by simp) (by simp))
  · exact diag_of i x0 x1 x3 x4 2 p j _ (logit_of x0 x1 x3 x4 (i 1).val (i 1).isLt 2 p j _ _ _ _ _ _ _ (fun d => by simp) (fun d => by simp) (fun d => by simp) (by simp) (by simp) (by simp))
  · rw [hm]; refine congrArg _ (congrArg (Finset.sup Finset.univ) (funext fun j => ?_)); exact diag_of i x0 x1 x3 x4 2 p j _ (logit_of x0 x1 x3 x4 (i 1).val (i 1).isLt 2 p j _ _ _ _ _ _ _ (fun d => by simp) (fun d => by simp) (fun d => by simp) (by simp) (by simp) (by simp))
  · refine congrArg x2 (congrArg₂ ix2 (Fin.ext ?_) (Fin.ext ?_))
    · simp [key]
    · simp [hcol]

theorem newA3 (p : Fin 256) (q : Fin 128) (m' : EReal) (hm : m' = max (oldM c i arg2 harg2 arg3 harg3 arg4 harg4 arg5 harg5 arg6 harg6 arg7 harg7 arg8 harg8 arg9 harg9 arg10 harg10 x0 x1 x2 x3 x4 3 p) (Finset.univ.sup (diag i x0 x1 x3 x4 3 p))) :
    arg10.view.read (Elt Ideal) (arg10.view.writes (Elt Ideal) arg10.view.junk (kernelRun0_A.sl.HS2_4 (F := Ideal) c i arg2 harg2 arg3 harg3 arg4 harg4 arg5 harg5 arg6 harg6 arg7 harg7 arg8 harg8 arg9 harg9 arg10 harg10 x0 x1 x2 x3 x4)) (ix3 3 p q)
      = Ideal.exp (oldM c i arg2 harg2 arg3 harg3 arg4 harg4 arg5 harg5 arg6 harg6 arg7 harg7 arg8 harg8 arg9 harg9 arg10 harg10 x0 x1 x2 x3 x4 3 p - m') * oldA c i arg2 harg2 arg3 harg3 arg4 harg4 arg5 harg5 arg6 harg6 arg7 harg7 arg8 harg8 arg9 harg9 arg10 harg10 x0 x1 x2 x3 x4 3 p q + ∑ j : Fin 256, Ideal.exp (diag i x0 x1 x3 x4 3 p j - m') * x2 (ix2 (key (i 1).val (i 1).isLt j) (hcol 3 q)) := by
  unfold kernelRun0_A.sl.HS2_4 kernelRun0_A.sl.HS2_3 kernelRun0_A.sl.HS2_2 kernelRun0_A.sl.HS2_1_1
  refine (read_heads _ _ _ _ _ _ _ _ _ _ _ 3 p q).trans ?_
  dsimp only
  simp only [sl.cst_100, sl.cst_104, sl.cst_114, sl.cst_145, sl.cst_25, sl.cst_26, sl.r, sl.r_1, sl.r_10, sl.r_11, sl.r_12, sl.r_13, sl.r_14, sl.r_15, sl.r_16, sl.r_17, sl.r_18, sl.r_19, sl.r_2, sl.r_20, sl.r_21, sl.r_3, sl.r_4, sl.r_5, sl.r_6, sl.r_7, sl.r_8, sl.r_9, sl.v15, sl.v17, sl.v176, sl.v177, sl.v178, sl.v179, sl.v18, sl.v180, sl.v182, sl.v183, sl.v184, sl.v185, sl.v186, sl.v189, sl.v19, sl.v190, sl.v191, sl.v192, sl.v193, sl.v195, sl.v196, sl.v197, sl.v198, sl.v199, sl.v20, sl.v202, sl.v204, sl.v205, sl.v206, sl.v207, sl.v208, sl.v211, sl.v213, sl.v214, sl.v215, sl.v216, sl.v217, sl.v220, sl.v222, sl.v223, sl.v224, sl.v225, sl.v226, sl.v229, sl.v231, sl.v233, sl.v234, sl.v235, sl.v236, sl.v237, sl.v29, sl.v31, sl.v32, sl.v33, sl.v34, sl.v35, sl.v41, sl.v42, sl.v43, sl.v47, sl.v48, sl.v49, sl.v50, sl.v51, sl.v57, sl.v59, sl.v63, sl.v64, sl.v65, View.readAt_eq_ld, Memref.IsWhole.read_unread]
  pointwise [k0_pay72, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124]
  simp only [k0_off17_eq, k0_off18_eq, k0_off19_eq, k0_off20_eq, k0_off21_eq, k0_off22_eq, k0_off23_eq, k0_off24_eq]
  simp only [fold_max_eq, oldM0, oldM1, oldM2, oldM3, oldL0, oldL1, oldL2, oldL3, oldA0, oldA1, oldA2, oldA3]

  refine congrArg₂ (· + ·) (congrArg₂ (· * ·) (congrArg Ideal.exp (congrArg₂ (· - ·) rfl ?_)) rfl) (Finset.sum_congr rfl fun j _ => prob_mul_of i x0 x1 x3 x4 3 p j _ m' _ _ _ ?_ ?_ ?_)
  · rw [hm]; refine congrArg _ (congrArg (Finset.sup Finset.univ) (funext fun j => ?_)); exact diag_of i x0 x1 x3 x4 3 p j _ (logit_of x0 x1 x3 x4 (i 1).val (i 1).isLt 3 p j _ _ _ _ _ _ _ (fun d => by simp) (fun d => by simp) (fun d => by simp) (by simp) (by simp) (by simp))
  · exact diag_of i x0 x1 x3 x4 3 p j _ (logit_of x0 x1 x3 x4 (i 1).val (i 1).isLt 3 p j _ _ _ _ _ _ _ (fun d => by simp) (fun d => by simp) (fun d => by simp) (by simp) (by simp) (by simp))
  · rw [hm]; refine congrArg _ (congrArg (Finset.sup Finset.univ) (funext fun j => ?_)); exact diag_of i x0 x1 x3 x4 3 p j _ (logit_of x0 x1 x3 x4 (i 1).val (i 1).isLt 3 p j _ _ _ _ _ _ _ (fun d => by simp) (fun d => by simp) (fun d => by simp) (by simp) (by simp) (by simp))
  · refine congrArg x2 (congrArg₂ ix2 (Fin.ext ?_) (Fin.ext ?_))
    · simp [key]
    · simp [hcol]

end Cert.KernelIdeal.Value

end
-- ==== Proof.FoxSoftmax.lean ====
/- The softmax of a set of keys built up set by set: the running maximum, the weights' sum and the weighted values,
   at every extended real. -/
module

public import Idealize.ShloMosaic.Lib.Pipeline.ValueKit

@[expose] public section

noncomputable section

namespace Cert.Fox

open Idealize.ShloMosaic
open scoped BigOperators

/-- An exponential of a difference whose second term is at least its first is a real between zero and one. -/
theorem exp_sub_unit {a b : EReal} (h : a ≤ b) : ∃ r : ℝ, 0 ≤ r ∧ r ≤ 1 ∧ Ideal.exp (a - b) = (r : EReal) := by
  induction b with
  | bot => exact ⟨0, le_refl _, zero_le_one, by rw [le_bot_iff.mp h]; rfl⟩
  | top => exact ⟨0, le_refl _, zero_le_one, by rw [EReal.sub_top]; rfl⟩
  | coe b =>
    induction a with
    | bot => exact ⟨0, le_refl _, zero_le_one, by rw [EReal.bot_sub]; rfl⟩
    | top => exact absurd h (by simp)
    | coe a =>
      refine ⟨Real.exp (a - b), (Real.exp_pos _).le, ?_, by rw [← EReal.coe_sub]; rfl⟩
      rw [Real.exp_le_one_iff]
      have : a ≤ b := by exact_mod_cast h
      linarith

/-- Rescaling by the change of the maximum moves an exponential to the new maximum. -/
theorem exp_rescale {s a b : EReal} (h : s ≤ a) (h' : a ≤ b) :
    Ideal.exp (a - b) * Ideal.exp (s - a) = Ideal.exp (s - b) := by
  induction a with
  | bot =>
    rw [le_bot_iff.mp h, EReal.bot_sub, EReal.bot_sub, Ideal.exp_bot, zero_mul]
  | top =>
    rw [top_le_iff.mp h', EReal.sub_top, EReal.sub_top, Ideal.exp_bot, zero_mul]
  | coe a =>
    induction b with
    | bot => exact absurd h' (by simp)
    | top => rw [EReal.sub_top, EReal.sub_top, Ideal.exp_bot, zero_mul]
    | coe b =>
      induction s with
      | bot => rw [EReal.bot_sub, EReal.bot_sub, Ideal.exp_bot, mul_zero]
      | top => exact absurd h (by simp)
      | coe s =>
        rw [← EReal.coe_sub, ← EReal.coe_sub, ← EReal.coe_sub, Ideal.exp_coe, Ideal.exp_coe, Ideal.exp_coe, ← EReal.coe_mul,
          ← Real.exp_add]
        congr 2; ring

/-- A real factor that is not negative distributes over a sum, infinities included. -/
theorem real_mul_add {r : ℝ} (hr : 0 ≤ r) (x y : EReal) : (r : EReal) * (x + y) = r * x + r * y :=
  EReal.left_distrib_of_nonneg_of_ne_top (by exact_mod_cast hr) (EReal.coe_ne_top r) x y

theorem real_mul_sum {ι : Type*} {r : ℝ} (hr : 0 ≤ r) (K : Finset ι) (f : ι → EReal) :
    (r : EReal) * ∑ j ∈ K, f j = ∑ j ∈ K, (r : EReal) * f j := by
  classical
  induction K using Finset.induction_on with
  | empty => simp
  | insert a s ha ih => rw [Finset.sum_insert ha, Finset.sum_insert ha, real_mul_add hr, ih]

variable {ι : Type*}

/-- The values of the keys in `K`, weighted by the exponentials of their scores below the largest. -/
def wsum (s v : ι → EReal) (K : Finset ι) : EReal := ∑ j ∈ K, Ideal.exp (s j - K.sup s) * v j

/-- One more set of keys: what was summed is rescaled to the new maximum. -/
theorem wsum_union [DecidableEq ι] (s v : ι → EReal) (K T : Finset ι) (h : Disjoint K T) :
    Ideal.exp (K.sup s - (K ∪ T).sup s) * wsum s v K + ∑ j ∈ T, Ideal.exp (s j - (K ∪ T).sup s) * v j = wsum s v (K ∪ T) := by
  have hle : K.sup s ≤ (K ∪ T).sup s := Finset.sup_mono Finset.subset_union_left
  rw [wsum, wsum, Finset.sum_union h]
  congr 1
  obtain ⟨r, h0, -, hr⟩ := exp_sub_unit hle
  rw [hr, real_mul_sum h0]
  refine Finset.sum_congr rfl fun j hj => ?_
  rw [← hr, ← mul_assoc, exp_rescale (Finset.le_sup hj) hle]

/-- Keys whose score is minus infinity neither raise the maximum nor carry weight. -/
theorem wsum_of_bot [DecidableEq ι] (s v : ι → EReal) (K T : Finset ι) (hKT : K ⊆ T) (hb : ∀ j ∈ T, j ∉ K → s j = ⊥) :
    wsum s v T = wsum s v K := by
  have hs : T.sup s = K.sup s := by
    refine le_antisymm (Finset.sup_le fun j hj => ?_) (Finset.sup_mono hKT)
    by_cases hK : j ∈ K
    · exact Finset.le_sup hK
    · rw [hb j hj hK]; exact bot_le
  rw [wsum, wsum, hs]
  refine (Finset.sum_subset hKT fun j hj hK => ?_).symm
  rw [hb j hj hK, EReal.bot_sub, Ideal.exp_bot, zero_mul]

theorem fold_max_eq_sup (s : ι → EReal) (K : Finset ι) : K.fold max ⊥ s = K.sup s := rfl

/-- The weights' sum is a real that is not negative. -/
theorem wsum_one_real (s : ι → EReal) (K : Finset ι) : ∃ r : ℝ, 0 ≤ r ∧ wsum s (fun _ => 1) K = (r : EReal) := by
  have : ∀ j, j ∈ K → ∃ r : ℝ, 0 ≤ r ∧ Ideal.exp (s j - K.sup s) * 1 = (r : EReal) := fun j hj => by
    obtain ⟨r, h0, -, hr⟩ := exp_sub_unit (Finset.le_sup (f := s) hj)
    exact ⟨r, h0, by rw [mul_one, hr]⟩
  rw [wsum]
  generalize K.sup s = m at this
  classical
  induction K using Finset.induction_on with
  | empty => exact ⟨0, le_refl _, by simp⟩
  | insert a t ha ih =>
    obtain ⟨r, hr, e⟩ := ih fun j hj => this j (Finset.mem_insert_of_mem hj)
    obtain ⟨q, hq, e'⟩ := this a (Finset.mem_insert_self a t)
    exact ⟨q + r, add_nonneg hq hr, by rw [Finset.sum_insert ha, e, e', EReal.coe_add]⟩

/-- Dividing the weighted values by a positive real is weighting by the divided weights. -/
theorem div_wsum {r : ℝ} (hr : 0 < r) (K : Finset ι) (w v : ι → EReal) :
    Ideal.div (∑ j ∈ K, w j * v j) (r : EReal) = ∑ j ∈ K, v j * Ideal.div (w j) (r : EReal) := by
  rw [Ideal.div_coe hr.ne', mul_comm, real_mul_sum (by positivity)]
  refine Finset.sum_congr rfl fun j _ => ?_
  rw [Ideal.div_coe hr.ne']
  rw [mul_comm (w j) (v j), mul_comm, mul_assoc]

end Cert.Fox

end
-- ==== Proof.FoxLoop.lean ====
/- The loop over the key tiles before the diagonal: after n tiles the running maximum, the running sum and the accumulator
   are those of the first 256 n keys; with the diagonal tile they are those of all keys. -/
module

public import proofs.«01_k».proof.Proof.FoxDiag
public import proofs.«01_k».proof.Proof.FoxSoftmax
public import Idealize.ShloMosaic.Lib.Pipeline.ReadBack
public import Idealize.ShloMosaic.Lib.WritesUnit
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open scoped BigOperators
open Cert.Fox Cert.KernelIdeal Cert.KernelIdeal.Gen

/-- The keys before tile n. -/
def below (n : ℕ) : Finset (Fin 4096) := Finset.univ.filter fun r => r.val < 256 * n

/-- The keys of tile k. -/
def tile (k : ℕ) (hk : k < 16) : Finset (Fin 4096) := Finset.univ.image (key k hk)

theorem key_inj (k : ℕ) (hk : k < 16) : Function.Injective (key k hk) := fun a b h => by
  have h' : (key k hk a).val = (key k hk b).val := congrArg Fin.val h
  simp only [key] at h'
  exact Fin.ext (by omega)

theorem below_disjoint (k : ℕ) (hk : k < 16) : Disjoint (below k) (tile k hk) := by
  rw [Finset.disjoint_left]
  intro r hr ht
  obtain ⟨j, -, rfl⟩ := Finset.mem_image.mp ht
  have h : (key k hk j).val < 256 * k := (Finset.mem_filter.mp hr).2
  simp only [key] at h
  omega

theorem below_succ (k : ℕ) (hk : k < 16) : below k ∪ tile k hk = below (k + 1) := by
  ext r
  simp only [below, tile, Finset.mem_union, Finset.mem_filter, Finset.mem_univ, true_and, Finset.mem_image]
  constructor
  · rintro (h | ⟨j, rfl⟩)
    · omega
    · have := j.isLt
      simp only [key]
      omega
  · intro h
    by_cases hr : r.val < 256 * k
    · exact .inl hr
    · exact .inr ⟨⟨r.val - 256 * k, by omega⟩, Fin.ext (by simp only [key]; omega)⟩

theorem below_zero : below 0 = ∅ := by
  ext r
  simp [below]

theorem step_max (s : Fin 4096 → EReal) (k : ℕ) (hk : k < 16) :
    max ((below k).sup s) (Finset.univ.sup fun j : Fin 256 => s (key k hk j)) = (below (k + 1)).sup s := by
  rw [← below_succ k hk, Finset.sup_union, tile, Finset.sup_image]
  rfl

theorem step_sum (s v : Fin 4096 → EReal) (k : ℕ) (hk : k < 16) :
    Ideal.exp ((below k).sup s - (below (k + 1)).sup s) * wsum s v (below k) + ∑ j : Fin 256, Ideal.exp (s (key k hk j) - (below (k + 1)).sup s) * v (key k hk j)
      = wsum s v (below (k + 1)) := by
  rw [← below_succ k hk, ← wsum_union s v _ _ (below_disjoint k hk)]
  refine congrArg₂ (· + ·) rfl ?_
  rw [tile, Finset.sum_image fun a _ b _ h => key_inj k hk h]

variable (𝒱 : Variants) (c : Dev nD) (bd : Option 𝒱.V) (i : grid0.Coords)
  (arg2 : Memref sig .tc .vmem S256x512 .bf16) (harg2 : arg2.IsWhole) (arg3 : Memref sig .tc .vmem S4096x512 .bf16) (harg3 : arg3.IsWhole)
  (arg4 : Memref sig .tc .vmem S4096x512 .bf16) (harg4 : arg4.IsWhole) (arg5 : Memref sig .tc .vmem S256x128 .f32) (harg5 : arg5.IsWhole)
  (arg6 : Memref sig .tc .vmem S1x8x4096 .f32) (harg6 : arg6.IsWhole) (arg7 : Memref sig .tc .vmem S256x512 .f32) (harg7 : arg7.IsWhole)
  (arg8 : Memref sig .tc .vmem S4x256x1 .f32) (harg8 : arg8.IsWhole) (arg9 : Memref sig .tc .vmem S4x256x1 .f32) (harg9 : arg9.IsWhole)
  (arg10 : Memref sig .tc .vmem S4x256x128 .f32) (harg10 : arg10.IsWhole)
  (x0 : Vec Ideal S256x512 .bf16) (x1 : Vec Ideal S4096x512 .bf16) (x2 : Vec Ideal S4096x512 .bf16) (x3 : Vec Ideal S256x128 .f32) (x4 : Vec Ideal S1x8x4096 .f32)

/-- The query's position. -/
def qpos (p : Fin 256) : Fin 4096 := key (i 1).val (i 1).isLt p

/-- The scores of one query over all keys: minus infinity after its own position. -/
def score (h : Fin 4) (p : Fin 256) (r : Fin 4096) : EReal := if r ≤ qpos i p then logit x0 x1 x3 x4 h p r else ⊥

theorem score_before (h : Fin 4) (p : Fin 256) (k : ℕ) (hk : k < 16) (hlt : k < (i 1).val) (j : Fin 256) :
    score i x0 x1 x3 x4 h p (key k hk j) = logit x0 x1 x3 x4 h p (key k hk j) := by
  refine if_pos ?_
  show (key k hk j).val ≤ (qpos i p).val
  have := j.isLt
  simp only [key, qpos]
  omega

theorem score_diag (h : Fin 4) (p j : Fin 256) : score i x0 x1 x3 x4 h p (key (i 1).val (i 1).isLt j) = diag i x0 x1 x3 x4 h p j := by
  unfold score diag
  refine if_congr ?_ rfl rfl
  show (key (i 1).val (i 1).isLt j).val ≤ (qpos i p).val ↔ j.val ≤ p.val
  simp only [key, qpos]
  omega

theorem wsum_all (h : Fin 4) (p : Fin 256) (v : Fin 4096 → EReal) :
    wsum (score i x0 x1 x3 x4 h p) v (below ((i 1).val + 1)) = wsum (score i x0 x1 x3 x4 h p) v Finset.univ := by
  refine (wsum_of_bot _ v _ _ (Finset.subset_univ _) fun r _ hr => ?_).symm
  refine if_neg fun hle => hr ?_
  have hle' : r.val ≤ (qpos i p).val := hle
  have := p.isLt
  simp only [key, qpos] at hle'
  exact Finset.mem_filter.mpr ⟨Finset.mem_univ _, by omega⟩

/-- What the three running buffers hold after n key tiles. -/
def Inv (n : ℕ) (f8 : arg8.view.ty.Contents (Elt Ideal)) (f9 : arg9.view.ty.Contents (Elt Ideal)) (f10 : arg10.view.ty.Contents (Elt Ideal)) : Prop :=
  ∀ (h : Fin 4) (p : Fin 256),
    arg8.view.read (Elt Ideal) f8 (ix3 h p 0) = (below n).sup (score i x0 x1 x3 x4 h p)
    ∧ arg9.view.read (Elt Ideal) f9 (ix3 h p 0) = wsum (score i x0 x1 x3 x4 h p) (fun _ => 1) (below n)
    ∧ ∀ q : Fin 128, arg10.view.read (Elt Ideal) f10 (ix3 h p q) = wsum (score i x0 x1 x3 x4 h p) (fun r => x2 (ix2 r (hcol h q))) (below n)

theorem inv_trip (k : Fin (k0_t1_loop i).trips) (f8 : arg8.view.ty.Contents (Elt Ideal)) (f9 : arg9.view.ty.Contents (Elt Ideal)) (f10 : arg10.view.ty.Contents (Elt Ideal))
    (hI : Inv i arg8 arg9 arg10 x0 x1 x2 x3 x4 k.val f8 f9 f10) :
    Inv i arg8 arg9 arg10 x0 x1 x2 x3 x4 (k.val + 1)
      (arg8.view.writes (Elt Ideal) f8 (tripL_k0_t1 (F := Ideal) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) k f8 f9 f10).1)
      (arg9.view.writes (Elt Ideal) f9 (tripL_k0_t1 (F := Ideal) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) k f8 f9 f10).2.1)
      (arg10.view.writes (Elt Ideal) f10 (tripL_k0_t1 (F := Ideal) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) k f8 f9 f10).2.2) := by
  intro h p
  obtain ⟨hM, hL, hA⟩ := hI h p
  have hlt : k.val < (i 1).val := Nat.lt_of_lt_of_eq k.isLt (trips_eq i)
  have hs := score_before i x0 x1 x3 x4 h p k.val (trips_lt i k) hlt
  have hm : (below (k.val + 1)).sup (score i x0 x1 x3 x4 h p)
      = max (arg8.view.read (Elt Ideal) f8 (ix3 h p 0)) (Finset.univ.sup fun j : Fin 256 => logit x0 x1 x3 x4 h p (key k (trips_lt i k) j)) := by
    rw [hM, ← step_max _ k.val (trips_lt i k)]
    exact congrArg _ (congrArg _ (funext hs))
  refine ⟨?_, ?_, fun q => ?_⟩
  · refine (trip_max 𝒱 c bd i arg2 harg2 arg3 harg3 arg4 harg4 arg5 harg5 arg6 harg6 arg7 harg7 arg8 harg8 arg9 harg9 arg10 harg10 x0 x1 x2 x3 x4 k f8 f9 f10 h p).trans ?_
    exact hm.symm
  · refine (trip_sum 𝒱 c bd i arg2 harg2 arg3 harg3 arg4 harg4 arg5 harg5 arg6 harg6 arg7 harg7 arg8 harg8 arg9 harg9 arg10 harg10 x0 x1 x2 x3 x4 k f8 f9 f10 h p _ hm).trans ?_
    rw [hM, hL, ← step_sum _ _ k.val (trips_lt i k)]
    simp only [hs, mul_one]
  · refine (trip_acc 𝒱 c bd i arg2 harg2 arg3 harg3 arg4 harg4 arg5 harg5 arg6 harg6 arg7 harg7 arg8 harg8 arg9 harg9 arg10 harg10 x0 x1 x2 x3 x4 k f8 f9 f10 h p q _ hm).trans ?_
    rw [hM, hA q, ← step_sum _ _ k.val (trips_lt i k)]
    simp only [hs]

theorem inv_loop (G8 : arg8.view.ty.Contents (Elt Ideal)) (G9 : arg9.view.ty.Contents (Elt Ideal)) (G10 : arg10.view.ty.Contents (Elt Ideal))
    (h0 : Inv i arg8 arg9 arg10 x0 x1 x2 x3 x4 0 G8 G9 G10) (n : ℕ) (hn : n ≤ (k0_t1_loop i).trips) :
    Inv i arg8 arg9 arg10 x0 x1 x2 x3 x4 n (arg8.view.writes (Elt Ideal) G8 (pb_k0_t1 (F := Ideal) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G8 G9 G10 n).1) (arg9.view.writes (Elt Ideal) G9 (pb_k0_t1 (F := Ideal) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G8 G9 G10 n).2.1)
      (arg10.view.writes (Elt Ideal) G10 (pb_k0_t1 (F := Ideal) 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G8 G9 G10 n).2.2) := by
  induction n with
  | zero => exact h0
  | succ n ih =>
    have hk := inv_trip 𝒱 c bd i arg2 harg2 arg3 harg3 arg4 harg4 arg5 harg5 arg6 harg6 arg7 harg7 arg8 harg8 arg9 harg9 arg10 harg10 x0 x1 x2 x3 x4 ⟨n, hn⟩ _ _ _ (ih (Nat.le_of_succ_le hn))
    rw [pb_k0_t1_succ 𝒱 c bd i arg2 harg2 arg3 harg3 arg4 harg4 arg5 harg5 arg6 harg6 arg7 harg7 arg8 harg8 arg9 harg9 arg10 harg10 (harg2.unread x0) (harg3.unread x1) (harg4.unread x2) (harg5.unread x3) (harg6.unread x4) G8 G9 G10 ⟨n, hn⟩]
    simp only [View.writes_append]
    exact hk

theorem loop2_trips : Scf.trips (k0_t2_loop i).lb (k0_t2_loop i).ub (k0_t2_loop i).st = 0 := by
  revert i
  decide +kernel

theorem inv_start : Inv i arg8 arg9 arg10 x0 x1 x2 x3 x4 0 (arg8.view.writes (Elt Ideal) arg8.view.junk (kernelRun0_A.sl.HS0_1 (F := Ideal))) (arg9.view.writes (Elt Ideal) arg9.view.junk (kernelRun0_A.sl.HS1_1 (F := Ideal)))
    (arg10.view.writes (Elt Ideal) arg10.view.junk (kernelRun0_A.sl.HS2_1 (F := Ideal))) := by
  intro h p
  refine ⟨?_, ?_, fun q => ?_⟩
  · rw [below_zero, Finset.sup_empty]
    refine (View.read_writes_cons_unit_of_mem _ _ _ _ _ _ (ix3 h p (0 : Fin 1)) rfl (fun b => by fin_cases b <;> simp [ix3])).trans ?_
    rfl
  · rw [below_zero, wsum, Finset.sum_empty]
    refine (View.read_writes_cons_unit_of_mem _ _ _ _ _ _ (ix3 h p (0 : Fin 1)) rfl (fun b => by fin_cases b <;> simp [ix3])).trans ?_
    pointwise [k0_pay70]
  · rw [below_zero, wsum, Finset.sum_empty]
    refine (View.read_writes_cons_unit_of_mem _ _ _ _ _ _ (ix3 h p q) rfl (fun b => by fin_cases b <;> simp [ix3])).trans ?_
    pointwise [k0_pay71]

/-- What the loops leave. -/
theorem inv_old : Inv i arg8 arg9 arg10 x0 x1 x2 x3 x4 (i 1).val (arg8.view.writes (Elt Ideal) arg8.view.junk (loopM c i arg2 harg2 arg3 harg3 arg4 harg4 arg5 harg5 arg6 harg6 arg7 harg7 arg8 harg8 arg9 harg9 arg10 harg10 x0 x1 x2 x3 x4)) (arg9.view.writes (Elt Ideal) arg9.view.junk (loopL c i arg2 harg2 arg3 harg3 arg4 harg4 arg5 harg5 arg6 harg6 arg7 harg7 arg8 harg8 arg9 harg9 arg10 harg10 x0 x1 x2 x3 x4))
    (arg10.view.writes (Elt Ideal) arg10.view.junk (loopA c i arg2 harg2 arg3 harg3 arg4 harg4 arg5 harg5 arg6 harg6 arg7 harg7 arg8 harg8 arg9 harg9 arg10 harg10 x0 x1 x2 x3 x4)) := by
  have h := inv_loop Variants.none c none i arg2 harg2 arg3 harg3 arg4 harg4 arg5 harg5 arg6 harg6 arg7 harg7 arg8 harg8 arg9 harg9 arg10 harg10 x0 x1 x2 x3 x4 _ _ _ (inv_start i arg8 arg9 arg10 x0 x1 x2 x3 x4) (i 1).val (trips_eq i).ge
  unfold loopM loopL loopA kernelRun0_A.sl.HS0_1_1 kernelRun0_A.sl.HS1_1_1 kernelRun0_A.sl.HS2_1_1
  have e1 : Scf.trips (k0_t1_loop i).lb (k0_t1_loop i).ub (k0_t1_loop i).st = (i 1).val := trips_eq i
  have e2 := loop2_trips i
  simp only [List.tail_cons]
  dsimp only [k0_t1_loop] at e1
  dsimp only [k0_t2_loop] at e2
  simp only [e1, e2, pb_k0_t2, List.nil_append, View.writes_append]
  exact h

theorem max_all (h : Fin 4) (p : Fin 256) : (below ((i 1).val + 1)).sup (score i x0 x1 x3 x4 h p)
    = max (oldM c i arg2 harg2 arg3 harg3 arg4 harg4 arg5 harg5 arg6 harg6 arg7 harg7 arg8 harg8 arg9 harg9 arg10 harg10 x0 x1 x2 x3 x4 h p) (Finset.univ.sup (diag i x0 x1 x3 x4 h p)) := by
  rw [oldM, ((inv_old c i arg2 harg2 arg3 harg3 arg4 harg4 arg5 harg5 arg6 harg6 arg7 harg7 arg8 harg8 arg9 harg9 arg10 harg10 x0 x1 x2 x3 x4) h p).1, ← step_max _ (i 1).val (i 1).isLt]
  exact congrArg _ (congrArg _ (funext fun j => score_diag i x0 x1 x3 x4 h p j))

/-- The running sum at the end: the sum of the weights of all keys. -/
theorem end_sum (h : Fin 4) (p : Fin 256) :
    arg9.view.read (Elt Ideal) (arg9.view.writes (Elt Ideal) arg9.view.junk (kernelRun0_A.sl.HS1_4 (F := Ideal) c i arg2 harg2 arg3 harg3 arg4 harg4 arg5 harg5 arg6 harg6 arg7 harg7 arg8 harg8 arg9 harg9 arg10 harg10 x0 x1 x2 x3 x4)) (ix3 h p 0) = wsum (score i x0 x1 x3 x4 h p) (fun _ => 1) Finset.univ := by
  have hm := fun h => max_all c i arg2 harg2 arg3 harg3 arg4 harg4 arg5 harg5 arg6 harg6 arg7 harg7 arg8 harg8 arg9 harg9 arg10 harg10 x0 x1 x2 x3 x4 h p
  have e : arg9.view.read (Elt Ideal) (arg9.view.writes (Elt Ideal) arg9.view.junk (kernelRun0_A.sl.HS1_4 (F := Ideal) c i arg2 harg2 arg3 harg3 arg4 harg4 arg5 harg5 arg6 harg6 arg7 harg7 arg8 harg8 arg9 harg9 arg10 harg10 x0 x1 x2 x3 x4)) (ix3 h p 0)
      = Ideal.exp (oldM c i arg2 harg2 arg3 harg3 arg4 harg4 arg5 harg5 arg6 harg6 arg7 harg7 arg8 harg8 arg9 harg9 arg10 harg10 x0 x1 x2 x3 x4 h p - (below ((i 1).val + 1)).sup (score i x0 x1 x3 x4 h p)) * oldL c i arg2 harg2 arg3 harg3 arg4 harg4 arg5 harg5 arg6 harg6 arg7 harg7 arg8 harg8 arg9 harg9 arg10 harg10 x0 x1 x2 x3 x4 h p
        + ∑ j : Fin 256, Ideal.exp (diag i x0 x1 x3 x4 h p j - (below ((i 1).val + 1)).sup (score i x0 x1 x3 x4 h p)) := by
    match h with
    | 0 => exact newL0 c i arg2 harg2 arg3 harg3 arg4 harg4 arg5 harg5 arg6 harg6 arg7 harg7 arg8 harg8 arg9 harg9 arg10 harg10 x0 x1 x2 x3 x4 p _ (hm 0)
    | 1 => exact newL1 c i arg2 harg2 arg3 harg3 arg4 harg4 arg5 harg5 arg6 harg6 arg7 harg7 arg8 harg8 arg9 harg9 arg10 harg10 x0 x1 x2 x3 x4 p _ (hm 1)
    | 2 => exact newL2 c i arg2 harg2 arg3 harg3 arg4 harg4 arg5 harg5 arg6 harg6 arg7 harg7 arg8 harg8 arg9 harg9 arg10 harg10 x0 x1 x2 x3 x4 p _ (hm 2)
    | 3 => exact newL3 c i arg2 harg2 arg3 harg3 arg4 harg4 arg5 harg5 arg6 harg6 arg7 harg7 arg8 harg8 arg9 harg9 arg10 harg10 x0 x1 x2 x3 x4 p _ (hm 3)
  rw [e, oldM, oldL, ((inv_old c i arg2 harg2 arg3 harg3 arg4 harg4 arg5 harg5 arg6 harg6 arg7 harg7 arg8 harg8 arg9 harg9 arg10 harg10 x0 x1 x2 x3 x4) h p).1, ((inv_old c i arg2 harg2 arg3 harg3 arg4 harg4 arg5 harg5 arg6 harg6 arg7 harg7 arg8 harg8 arg9 harg9 arg10 harg10 x0 x1 x2 x3 x4) h p).2.1, ← wsum_all, ← step_sum _ _ (i 1).val (i 1).isLt]
  simp only [score_diag, mul_one]

/-- The accumulator at the end: the weighted sum of all values. -/
theorem end_acc (h : Fin 4) (p : Fin 256) (q : Fin 128) :
    arg10.view.read (Elt Ideal) (arg10.view.writes (Elt Ideal) arg10.view.junk (kernelRun0_A.sl.HS2_4 (F := Ideal) c i arg2 harg2 arg3 harg3 arg4 harg4 arg5 harg5 arg6 harg6 arg7 harg7 arg8 harg8 arg9 harg9 arg10 harg10 x0 x1 x2 x3 x4)) (ix3 h p q) = wsum (score i x0 x1 x3 x4 h p) (fun r => x2 (ix2 r (hcol h q))) Finset.univ := by
  have hm := fun h => max_all c i arg2 harg2 arg3 harg3 arg4 harg4 arg5 harg5 arg6 harg6 arg7 harg7 arg8 harg8 arg9 harg9 arg10 harg10 x0 x1 x2 x3 x4 h p
  have e : arg10.view.read (Elt Ideal) (arg10.view.writes (Elt Ideal) arg10.view.junk (kernelRun0_A.sl.HS2_4 (F := Ideal) c i arg2 harg2 arg3 harg3 arg4 harg4 arg5 harg5 arg6 harg6 arg7 harg7 arg8 harg8 arg9 harg9 arg10 harg10 x0 x1 x2 x3 x4)) (ix3 h p q)
      = Ideal.exp (oldM c i arg2 harg2 arg3 harg3 arg4 harg4 arg5 harg5 arg6 harg6 arg7 harg7 arg8 harg8 arg9 harg9 arg10 harg10 x0 x1 x2 x3 x4 h p - (below ((i 1).val + 1)).sup (score i x0 x1 x3 x4 h p)) * oldA c i arg2 harg2 arg3 harg3 arg4 harg4 arg5 harg5 arg6 harg6 arg7 harg7 arg8 harg8 arg9 harg9 arg10 harg10 x0 x1 x2 x3 x4 h p q
        + ∑ j : Fin 256, Ideal.exp (diag i x0 x1 x3 x4 h p j - (below ((i 1).val + 1)).sup (score i x0 x1 x3 x4 h p)) * x2 (ix2 (key (i 1).val (i 1).isLt j) (hcol h q)) := by
    match h with
    | 0 => exact newA0 c i arg2 harg2 arg3 harg3 arg4 harg4 arg5 harg5 arg6 harg6 arg7 harg7 arg8 harg8 arg9 harg9 arg10 harg10 x0 x1 x2 x3 x4 p q _ (hm 0)
    | 1 => exact newA1 c i arg2 harg2 arg3 harg3 arg4 harg4 arg5 harg5 arg6 harg6 arg7 harg7 arg8 harg8 arg9 harg9 arg10 harg10 x0 x1 x2 x3 x4 p q _ (hm 1)
    | 2 => exact newA2 c i arg2 harg2 arg3 harg3 arg4 harg4 arg5 harg5 arg6 harg6 arg7 harg7 arg8 harg8 arg9 harg9 arg10 harg10 x0 x1 x2 x3 x4 p q _ (hm 2)
    | 3 => exact newA3 c i arg2 harg2 arg3 harg3 arg4 harg4 arg5 harg5 arg6 harg6 arg7 harg7 arg8 harg8 arg9 harg9 arg10 harg10 x0 x1 x2 x3 x4 p q _ (hm 3)
  rw [e, oldM, oldA, ((inv_old c i arg2 harg2 arg3 harg3 arg4 harg4 arg5 harg5 arg6 harg6 arg7 harg7 arg8 harg8 arg9 harg9 arg10 harg10 x0 x1 x2 x3 x4) h p).1, ((inv_old c i arg2 harg2 arg3 harg3 arg4 harg4 arg5 harg5 arg6 harg6 arg7 harg7 arg8 harg8 arg9 harg9 arg10 harg10 x0 x1 x2 x3 x4) h p).2.2 q, ← wsum_all, ← step_sum _ _ (i 1).val (i 1).isLt]
  simp only [score_diag]

theorem read_cols {sig : RefSig} {κ : Kind} {sp : Space} (v : View sig κ sp ⟨2, ![256, 512]⟩ .f32) (f : v.ty.Contents (Elt Ideal)) (i3 i2 i1 i0)
    (w3 w2 w1 w0 : (⟨2, ![256, 128]⟩ : Shape).Idx → EReal) (h : Fin 4) (p : Fin 256) (q : Fin 128) :
    v.read (Elt Ideal) (v.writes (Elt Ideal) f [(⟨Rect.unit ![0, 384] ![256, 128] i3, w3⟩ : View.Piece (Elt Ideal) ⟨2, ![256, 512]⟩ .f32),
      (⟨Rect.unit ![0, 256] ![256, 128] i2, w2⟩ : View.Piece (Elt Ideal) ⟨2, ![256, 512]⟩ .f32),
      (⟨Rect.unit ![0, 128] ![256, 128] i1, w1⟩ : View.Piece (Elt Ideal) ⟨2, ![256, 512]⟩ .f32),
      (⟨Rect.unit ![0, 0] ![256, 128] i0, w0⟩ : View.Piece (Elt Ideal) ⟨2, ![256, 512]⟩ .f32)]) (ix2 p (hcol h q))
      = (match h with | 0 => w0 | 1 => w1 | 2 => w2 | 3 => w3) (ix2 p q) := by
  have hit : ∀ a : Fin 4, (∀ b : Fin 2, ((ix2 p (hcol a q) : (⟨2, ![256, 512]⟩ : Shape).Idx) b).val = (![0, 128 * a.val] : Fin 2 → ℕ) b + ((ix2 p q : (⟨2, ![256, 128]⟩ : Shape).Idx) b).val) := by
    intro a b; fin_cases b <;> simp [ix2, hcol]
  have hlt : ∀ a : Fin 4, (hcol a q).val < 128 * a.val + 128 := fun a => by have := q.isLt; simp only [hcol]; omega
  match h with
  | 3 => exact View.read_writes_cons_unit_of_mem v f _ _ _ _ (ix2 p q) rfl (hit 3)
  | 2 =>
    rw [View.read_writes_cons_unit_of_not_mem v f _ _ _ _ rfl 1 (.inl (hlt 2))]
    exact View.read_writes_cons_unit_of_mem v f _ _ _ _ (ix2 p q) rfl (hit 2)
  | 1 =>
    rw [View.read_writes_cons_unit_of_not_mem v f _ _ _ _ rfl 1 (.inl ((hlt 1).trans_le (show 128 * 1 + 128 ≤ 384 by decide))), View.read_writes_cons_unit_of_not_mem v f _ _ _ _ rfl 1 (.inl (hlt 1))]
    exact View.read_writes_cons_unit_of_mem v f _ _ _ _ (ix2 p q) rfl (hit 1)
  | 0 =>
    rw [View.read_writes_cons_unit_of_not_mem v f _ _ _ _ rfl 1 (.inl ((hlt 0).trans_le (show 128 * 0 + 128 ≤ 384 by decide))), View.read_writes_cons_unit_of_not_mem v f _ _ _ _ rfl 1 (.inl ((hlt 0).trans_le (show 128 * 0 + 128 ≤ 256 by decide))), View.read_writes_cons_unit_of_not_mem v f _ _ _ _ rfl 1 (.inl (hlt 0))]
    exact View.read_writes_cons_unit_of_mem v f _ _ _ _ (ix2 p q) rfl (hit 0)

theorem quotient_of (h : Fin 4) (p : Fin 256) (q : Fin 128) (a l e : EReal) (ha : a = arg10.view.read (Elt Ideal) (arg10.view.writes (Elt Ideal) arg10.view.junk (kernelRun0_A.sl.HS2_4 (F := Ideal) c i arg2 harg2 arg3 harg3 arg4 harg4 arg5 harg5 arg6 harg6 arg7 harg7 arg8 harg8 arg9 harg9 arg10 harg10 x0 x1 x2 x3 x4)) (ix3 h p q))
    (hl : l = arg9.view.read (Elt Ideal) (arg9.view.writes (Elt Ideal) arg9.view.junk (kernelRun0_A.sl.HS1_4 (F := Ideal) c i arg2 harg2 arg3 harg3 arg4 harg4 arg5 harg5 arg6 harg6 arg7 harg7 arg8 harg8 arg9 harg9 arg10 harg10 x0 x1 x2 x3 x4)) (ix3 h p 0)) :
    Ideal.div a (max l e) = Ideal.div (wsum (score i x0 x1 x3 x4 h p) (fun r => x2 (ix2 r (hcol h q))) Finset.univ) (max (wsum (score i x0 x1 x3 x4 h p) (fun _ => 1) Finset.univ) e) := by
  rw [ha, hl, end_acc, end_sum]

/-- The block one grid point leaves in the output window. -/
theorem out_block (arg7' : View sig .tc .vmem S256x512 .f32) (h : Fin 4) (p : Fin 256) (q : Fin 128) :
    arg7'.read (Elt Ideal) (arg7'.writes (Elt Ideal) arg7'.junk (kernelRun0_A (F := Ideal) c i arg2 harg2 arg3 harg3 arg4 harg4 arg5 harg5 arg6 harg6 arg7 harg7 arg8 harg8 arg9 harg9 arg10 harg10 x0 x1 x2 x3 x4).1) (ix2 p (hcol h q))
      = Ideal.div (wsum (score i x0 x1 x3 x4 h p) (fun r => x2 (ix2 r (hcol h q))) Finset.univ)
          (max (wsum (score i x0 x1 x3 x4 h p) (fun _ => 1) Finset.univ) (Ideal.ofBits .f32 0x0DA24260#32)) := by
  unfold kernelRun0_A
  dsimp only
  refine (read_cols _ _ _ _ _ _ _ _ _ _ h p q).trans ?_
  match h with
  | 0 =>
    dsimp only [kernelRun0_A.sl.v237, kernelRun0_A.sl.v231, kernelRun0_A.sl.v233, kernelRun0_A.sl.v234, kernelRun0_A.sl.v235, kernelRun0_A.sl.v236, kernelRun0_A.sl.cst_145]
    pointwise
    exact quotient_of c i arg2 harg2 arg3 harg3 arg4 harg4 arg5 harg5 arg6 harg6 arg7 harg7 arg8 harg8 arg9 harg9 arg10 harg10 x0 x1 x2 x3 x4 0 p q _ _ _ (readCov_head _ _ 0 _ rfl _ p q) (readCov_head _ _ 0 _ rfl _ p (0 : Fin 1))
  | 1 =>
    dsimp only [kernelRun0_A.sl.r_21]
    pointwise [k0_pay126, k0_pay127, k0_pay128]
    exact quotient_of c i arg2 harg2 arg3 harg3 arg4 harg4 arg5 harg5 arg6 harg6 arg7 harg7 arg8 harg8 arg9 harg9 arg10 harg10 x0 x1 x2 x3 x4 1 p q _ _ _ (readCov_head _ _ 1 _ rfl _ p q) (readCov_head _ _ 1 _ rfl _ p (0 : Fin 1))
  | 2 =>
    dsimp only [kernelRun0_A.sl.r_21]
    pointwise [k0_pay126, k0_pay127, k0_pay128]
    exact quotient_of c i arg2 harg2 arg3 harg3 arg4 harg4 arg5 harg5 arg6 harg6 arg7 harg7 arg8 harg8 arg9 harg9 arg10 harg10 x0 x1 x2 x3 x4 2 p q _ _ _ (readCov_head _ _ 2 _ rfl _ p q) (readCov_head _ _ 2 _ rfl _ p (0 : Fin 1))
  | 3 =>
    dsimp only [kernelRun0_A.sl.r_21]
    pointwise [k0_pay126, k0_pay127, k0_pay128]
    exact quotient_of c i arg2 harg2 arg3 harg3 arg4 harg4 arg5 harg5 arg6 harg6 arg7 harg7 arg8 harg8 arg9 harg9 arg10 harg10 x0 x1 x2 x3 x4 3 p q _ _ _ (readCov_head _ _ 3 _ rfl _ p q) (readCov_head _ _ 3 _ rfl _ p (0 : Fin 1))
end Cert.KernelIdeal.Value

end
-- ==== Proof.FoxRef.lean ====
/- The attention reference's result as a term of its arguments, in steps: the scores, the masked scores, the weights, the
   probabilities, the weighted values. -/
module

public import proofs.«01_k».proof.Proof.Gen.ReferenceIdeal.Run
public import proofs.«01_k».proof.Proof.FoxSoftmax
public import Idealize.ShloMosaic.Lib.Pipeline.ValueKit
public import Idealize.ShloMosaic.Lib.WordCmp

@[expose] public section

set_option maxRecDepth 16384

noncomputable section

namespace Cert.ReferenceIdeal.Value

open Idealize.ShloMosaic Idealize.ShloMosaic.TcCoe Idealize.SL.Sem
open scoped BigOperators
open Cert.Fox Cert.ReferenceIdeal Cert.ReferenceIdeal.Gen

/-- The queries of four heads. -/
def queries (a0 : FVec Ideal S8192x4864 .bf16) : FVec Ideal S2x4096x4x128 .f32 :=
  shapeCast _ (extractStridedSlice S8192x512 ![0, 2560] (extf .f32 a0 bitsLt_bf16_f32) slices_S8192x4864_S8192x512_0_2560) shapeCasts_S8192x512_S2x4096x4x128

/-- The keys of four heads. -/
def keys (a0 : FVec Ideal S8192x4864 .bf16) : FVec Ideal S2x4096x4x128 .f32 :=
  shapeCast _ (extractStridedSlice S8192x512 ![0, 3072] (extf .f32 a0 bitsLt_bf16_f32) slices_S8192x4864_S8192x512_0_3072) shapeCasts_S8192x512_S2x4096x4x128

/-- The values of four heads. -/
def vals (a0 : FVec Ideal S8192x4864 .bf16) : FVec Ideal S2x4096x4x128 .f32 :=
  shapeCast _ (extractStridedSlice S8192x512 ![0, 3584] (extf .f32 a0 bitsLt_bf16_f32) slices_S8192x4864_S8192x512_0_3584) shapeCasts_S8192x512_S2x4096x4x128

/-- The cumulative gate of each head. -/
def gate (a1 : FVec Ideal S8192x128 .f32) : FVec Ideal S2x4x4096 .f32 :=
  transpose S2x4x4096 [0, 2, 1] (shapeCast _ (extractStridedSlice S8192x4 ![0, 0] a1 slices_S8192x128_S8192x4_0_0) shapeCasts_S8192x4_S2x4096x4) transposes_S2x4096x4_S2x4x4096_0_2_1

/-- The keys no later than the query. -/
def causal : IVec S2x4x4096x4096 1 :=
  broadcastInDim S2x4x4096x4096 ![0, 1, 2, 3] bcast_S1x1x4096x4096_S2x4x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The scores. -/
def scores (q k : FVec Ideal S2x4096x4x128 .f32) (g : FVec Ideal S2x4x4096 .f32) : FVec Ideal S2x4x4096x4096 .f32 :=
  addf (mulf (Host.dotGeneral dot_S2x4096x4x128_S2x4096x4x128_S2x4x4096x4096_3_3_1_1_02_02 none q k) (broadcastInDim S2x4x4096x4096 ![] bcast_S_S2x4x4096x4096 (constant S_ .f32 0x3DB504F3#32))) (subf (broadcastInDim S2x4x4096x4096 ![0, 1, 2, 3] bcast_S2x4x4096x1_S2x4x4096x4096_0_1_2_3 (broadcastInDim S2x4x4096x1 ![0, 1, 2] bcast_S2x4x4096_S2x4x4096x1_0_1_2 g)) (broadcastInDim S2x4x4096x4096 ![0, 1, 2, 3] bcast_S2x4x1x4096_S2x4x4096x4096_0_1_2_3 (broadcastInDim S2x4x1x4096 ![0, 1, 3] bcast_S2x4x4096_S2x4x1x4096_0_1_3 g)))

/-- The scores with minus infinity after the query. -/
def masked (s : FVec Ideal S2x4x4096x4096 .f32) : FVec Ideal S2x4x4096x4096 .f32 :=
  select causal s (broadcastInDim S2x4x4096x4096 ![] bcast_S_S2x4x4096x4096 (id (constant S_ .f32 0xFF800000#32)))

/-- The row maximum, repeated along the keys. -/
def rowmax (s : FVec Ideal S2x4x4096x4096 .f32) : FVec Ideal S2x4x4096x4096 .f32 :=
  broadcastInDim S2x4x4096x4096 ![0, 1, 2, 3] bcast_S2x4x4096x1_S2x4x4096x4096_0_1_2_3 (broadcastInDim S2x4x4096x1 ![0, 1, 2] bcast_S2x4x4096_S2x4x4096x1_0_1_2 (Host.reduce FloatOps.maximumf s (constant S_ .f32 0xFF800000#32) reducesTo_S2x4x4096x4096_S2x4x4096_d3 h_S_))

/-- The weights. -/
def weights (s : FVec Ideal S2x4x4096x4096 .f32) : FVec Ideal S2x4x4096x4096 .f32 :=
  select causal (Host.exp (subf s (rowmax s))) (broadcastInDim S2x4x4096x4096 ![] bcast_S_S2x4x4096x4096 (id (constant S_ .f32 0x00000000#32)))

/-- The probabilities. -/
def probs (w : FVec Ideal S2x4x4096x4096 .f32) : FVec Ideal S2x4x4096x4096 .f32 :=
  Host.divf w (broadcastInDim S2x4x4096x4096 ![0, 1, 2, 3] bcast_S2x4x4096x1_S2x4x4096x4096_0_1_2_3 (maximumf (broadcastInDim S2x4x4096x1 ![0, 1, 2] bcast_S2x4x4096_S2x4x4096x1_0_1_2 (Host.reduceAdd w (constant S_ .f32 0x00000000#32) reducesTo_S2x4x4096x4096_S2x4x4096_d3 h_S_)) (broadcastInDim S2x4x4096x1 ![] bcast_S_S2x4x4096x1 (constant S_ .f32 0x0DA24260#32))))

/-- The weighted values, heads side by side. -/
def mixed (v : FVec Ideal S2x4096x4x128 .f32) (p : FVec Ideal S2x4x4096x4096 .f32) : FVec Ideal S8192x512 .f32 :=
  shapeCast _ (transpose S2x4096x4x128 [0, 3, 1, 2] (Host.dotGeneral dot_S2x4096x4x128_S2x4x4096x4096_S2x4x128x4096_1_3_3_2_02_01 none v p) transposes_S2x4x128x4096_S2x4096x4x128_0_3_1_2) shapeCasts_S2x4096x4x128_S8192x512

/-- The whole reference. -/
def ref (a0 : FVec Ideal S8192x4864 .bf16) (a1 : FVec Ideal S8192x128 .f32) : FVec Ideal S8192x512 .f32 :=
  mixed (vals a0) (probs (weights (masked (scores (queries a0) (keys a0) (gate a1)))))

theorem res_eq (m : (ℓ : Loc nD τ sig) → Buf (Elt Ideal) ℓ) (c : Dev nD) :
    res_main_v42 (F := Ideal) m c = ref (m ((c.tc : Thread nD τ).loc main_arg0)) (m ((c.tc : Thread nD τ).loc main_arg1)) := rfl

/-- The row of sequence b, position i. -/
def row (b : Fin 2) (i : Fin 4096) : Fin 8192 := ⟨4096 * b.val + i.val, by have := b.isLt; have := i.isLt; omega⟩

/-- A column of head h. -/
def col (o : ℕ) (h : Fin 4) (d : Fin 128) (ho : o ≤ 4352) : Fin 4864 := ⟨o + 128 * h.val + d.val, by have := h.isLt; have := d.isLt; omega⟩

theorem queries_at (a0 : FVec Ideal S8192x4864 .bf16) (b : Fin 2) (i : Fin 4096) (h : Fin 4) (d : Fin 128) :
    queries a0 (ix4 b i h d) = a0 (ix2 (row b i) (col 2560 h d (by decide))) := by
  pointwise [queries]
  exact congrArg a0 (congrArg₂ ix2 (Fin.ext (by simp only [row]; omega)) (Fin.ext (by simp only [col]; omega)))

theorem causal_at (b : Fin 2) (h : Fin 4) (i j : Fin 4096) (x y : EReal) :
    Scalar.select (causal (ix4 b h i j)) x y = if j ≤ i then x else y := by
  pointwise [causal]
  rw [WordCmp.cmpi_sle_ofNat (w := 32) (by have := j.isLt; omega) (by have := i.isLt; omega)]
  by_cases h : j ≤ i
  · have h' : j.val ≤ i.val := h
    simp [h, h', Scalar.select]
  · have h' : ¬ j.val ≤ i.val := h
    simp [h, h', Scalar.select]

theorem scores_at (q k : FVec Ideal S2x4096x4x128 .f32) (g : FVec Ideal S2x4x4096 .f32) (b : Fin 2) (h : Fin 4) (i j : Fin 4096) :
    scores q k g (ix4 b h i j) = (∑ d : Fin 128, q (ix4 b i h d) * k (ix4 b j h d)) * Ideal.ofBits .f32 0x3DB504F3#32 + (g (ix3 b h i) - g (ix3 b h j)) := by
  pointwise [scores]

theorem gate_at (a1 : FVec Ideal S8192x128 .f32) (b : Fin 2) (h : Fin 4) (i : Fin 4096) :
    gate a1 (ix3 b h i) = a1 (ix2 (row b i) ⟨h, by have := h.isLt; omega⟩) := by
  pointwise [gate]
  exact congrArg a1 (congrArg₂ ix2 (Fin.ext (by simp only [row]; omega)) rfl)

theorem rowmax_at (s : FVec Ideal S2x4x4096x4096 .f32) (b : Fin 2) (h : Fin 4) (i j : Fin 4096) :
    rowmax s (ix4 b h i j) = Finset.univ.sup fun r : Fin 4096 => s (ix4 b h i r) := by
  pointwise [rowmax]
  have e : Ideal.ofBits .f32 0xFF800000#32 = ⊥ := by simp [Ideal.ofBits, Ideal.ieee]
  rw [e]
  rfl

theorem probs_at (w : FVec Ideal S2x4x4096x4096 .f32) (b : Fin 2) (h : Fin 4) (i j : Fin 4096) :
    probs w (ix4 b h i j) = Ideal.div (w (ix4 b h i j)) (max (∑ r : Fin 4096, w (ix4 b h i r)) (Ideal.ofBits .f32 0x0DA24260#32)) := by
  pointwise [probs]

theorem mixed_at (v : FVec Ideal S2x4096x4x128 .f32) (p : FVec Ideal S2x4x4096x4096 .f32) (b : Fin 2) (h : Fin 4) (i : Fin 4096) (d : Fin 128) :
    mixed v p (ix2 (row b i) ⟨128 * h.val + d.val, by have := h.isLt; have := d.isLt; omega⟩) = ∑ j : Fin 4096, v (ix4 b j h d) * p (ix4 b h i j) := by
  pointwise [mixed]
  have e1 : ∀ hb, (⟨(row b i).val / 4096, hb⟩ : Fin 2) = b := fun _ => Fin.ext (by have := i.isLt; simp only [row]; omega)
  have e2 : ∀ hb, (⟨(row b i).val % 4096, hb⟩ : Fin 4096) = i := fun _ => Fin.ext (by have := i.isLt; simp only [row]; omega)
  simp only [e1, e2]

theorem keys_at (a0 : FVec Ideal S8192x4864 .bf16) (b : Fin 2) (i : Fin 4096) (h : Fin 4) (d : Fin 128) :
    keys a0 (ix4 b i h d) = a0 (ix2 (row b i) (col 3072 h d (by decide))) := by
  pointwise [keys]
  exact congrArg a0 (congrArg₂ ix2 (Fin.ext (by simp only [row]; omega)) (Fin.ext (by simp only [col]; omega)))

theorem vals_at (a0 : FVec Ideal S8192x4864 .bf16) (b : Fin 2) (i : Fin 4096) (h : Fin 4) (d : Fin 128) :
    vals a0 (ix4 b i h d) = a0 (ix2 (row b i) (col 3584 h d (by decide))) := by
  pointwise [vals]
  exact congrArg a0 (congrArg₂ ix2 (Fin.ext (by simp only [row]; omega)) (Fin.ext (by simp only [col]; omega)))

/-- The masked scores of one query of one head. -/
def rowScore (a0 : FVec Ideal S8192x4864 .bf16) (a1 : FVec Ideal S8192x128 .f32) (b : Fin 2) (h : Fin 4) (i j : Fin 4096) : EReal :=
  if j ≤ i then (∑ d : Fin 128, a0 (ix2 (row b i) (col 2560 h d (by decide))) * a0 (ix2 (row b j) (col 3072 h d (by decide)))) * Ideal.ofBits .f32 0x3DB504F3#32
    + (a1 (ix2 (row b i) ⟨h, by have := h.isLt; omega⟩) - a1 (ix2 (row b j) ⟨h, by have := h.isLt; omega⟩)) else ⊥

theorem masked_at (a0 : FVec Ideal S8192x4864 .bf16) (a1 : FVec Ideal S8192x128 .f32) (b : Fin 2) (h : Fin 4) (i j : Fin 4096) :
    masked (scores (queries a0) (keys a0) (gate a1)) (ix4 b h i j) = rowScore a0 a1 b h i j := by
  have e : Ideal.ofBits .f32 0xFF800000#32 = ⊥ := by simp [Ideal.ofBits, Ideal.ieee]
  refine (causal_at b h i j _ _).trans ?_
  unfold rowScore
  refine if_congr Iff.rfl ?_ e
  rw [scores_at, gate_at, gate_at]
  simp only [queries_at, keys_at]

theorem weights_at (a0 : FVec Ideal S8192x4864 .bf16) (a1 : FVec Ideal S8192x128 .f32) (b : Fin 2) (h : Fin 4) (i j : Fin 4096) :
    weights (masked (scores (queries a0) (keys a0) (gate a1))) (ix4 b h i j)
      = Ideal.exp (rowScore a0 a1 b h i j - Finset.univ.sup (rowScore a0 a1 b h i)) := by
  have hrow : (fun r => masked (scores (queries a0) (keys a0) (gate a1)) (ix4 b h i r)) = rowScore a0 a1 b h i := funext fun r => masked_at a0 a1 b h i r
  have hm : rowmax (masked (scores (queries a0) (keys a0) (gate a1))) (ix4 b h i j) = Finset.univ.sup (rowScore a0 a1 b h i) := by rw [rowmax_at, hrow]
  refine (causal_at b h i j _ _).trans ?_
  have h1 : Host.exp (subf (masked (scores (queries a0) (keys a0) (gate a1))) (rowmax (masked (scores (queries a0) (keys a0) (gate a1))))) (ix4 b h i j)
      = Ideal.exp (rowScore a0 a1 b h i j - Finset.univ.sup (rowScore a0 a1 b h i)) := by
    rw [← hm, ← masked_at]
    rfl
  rw [h1]
  by_cases hj : j ≤ i
  · rw [if_pos hj]
  · rw [if_neg hj]
    have hb : rowScore a0 a1 b h i j = ⊥ := if_neg hj
    rw [hb, EReal.bot_sub, Ideal.exp_bot]
    exact Ideal.ofBits_zero .f32

/-- The least divisor is a positive real. -/
theorem least_pos : ∃ r : ℝ, 0 < r ∧ Ideal.ofBits .f32 0x0DA24260#32 = (r : EReal) := by
  refine ⟨_, ?_, by simp [Ideal.ofBits, Ideal.ieee]; rfl⟩
  positivity

/-- The reference at one query, head and channel: the weighted sum of the values over the sum of the weights. -/
theorem ref_at (a0 : FVec Ideal S8192x4864 .bf16) (a1 : FVec Ideal S8192x128 .f32) (b : Fin 2) (h : Fin 4) (i : Fin 4096) (d : Fin 128) :
    ref a0 a1 (ix2 (row b i) ⟨128 * h.val + d.val, by have := h.isLt; have := d.isLt; omega⟩)
      = Ideal.div (wsum (rowScore a0 a1 b h i) (fun j => a0 (ix2 (row b j) (col 3584 h d (by decide)))) Finset.univ)
          (max (wsum (rowScore a0 a1 b h i) (fun _ => 1) Finset.univ) (Ideal.ofBits .f32 0x0DA24260#32)) := by
  obtain ⟨e, he, hE⟩ := least_pos
  obtain ⟨l, hl, hL⟩ := wsum_one_real (rowScore a0 a1 b h i) Finset.univ
  have hL' := hL
  simp only [wsum, mul_one] at hL'
  unfold ref
  rw [mixed_at]
  simp only [probs_at, weights_at, vals_at]
  rw [hL, hL', hE]
  have hmax : max (l : EReal) (e : EReal) = ((max l e : ℝ) : EReal) := (EReal.coe_strictMono.monotone.map_max).symm
  rw [hmax, wsum, div_wsum (lt_max_of_lt_right he)]

end Cert.ReferenceIdeal.Value

end
-- ==== Proof.Fox.lean ====
/- The attention kernel's output array is the reference: each grid point's block is the reference's rows of one sequence. -/
module

public import proofs.«01_k».proof.Proof.FoxLoop
public import proofs.«01_k».proof.Proof.FoxRef
public import Idealize.ShloMosaic.Lib.Pipeline.ReadBack

@[expose] public section

set_option maxRecDepth 16384

noncomputable section

namespace Cert.KernelIdeal.Value

open Idealize.ShloMosaic Idealize.ShloMosaic.TcCoe Idealize.SL.Sem
open Idealize.ShloMosaic.Pipeline (Dat)
open scoped BigOperators
open Cert.Fox Cert.KernelIdeal Cert.KernelIdeal.Gen
open Cert.ReferenceIdeal.Value (row col rowScore)

variable (m : (ℓ : Loc nD τ sig) → Buf (Elt Ideal) ℓ) (c : Dev nD) (t : Fin cfg0.N)

/-- The packed projections. -/
abbrev packed : FVec Ideal S8192x4864 .bf16 := m ((c : Thread nD τ).loc main_arg0)

/-- The cumulative gates. -/
abbrev gates : FVec Ideal S8192x128 .f32 := m ((c : Thread nD τ).loc main_arg1)

/-- The sequence of a grid point. -/
def seq : Fin 2 := ⟨t.val / 16, by have : t.val < 32 := t.isLt; omega⟩

theorem idx : ∀ t : Fin cfg0.N, win0_0.index t = ![t.val, 5]
    ∧ win0_1.index t = ![t.val / 16, 6]
    ∧ win0_2.index t = ![t.val / 16, 7]
    ∧ win0_3.index t = ![t.val, 0]
    ∧ win0_4.index t = ![t.val / 16, 0, 0]
    ∧ win0_5.index t = ![t.val, 0] :=
  (by decide +kernel : ∀ t : Fin grid0.N, _)

theorem coord1 : ((grid0.coords t) 1).val = t.val % 16 := by
  revert t
  decide +kernel

theorem query_at (p : Fin 256) (h : Fin 4) (d : Fin 128) :
    X0_0 m c t (ix2 p (hcol h d)) = packed m c (ix2 (row (seq t) (qpos (grid0.coords t) p)) (col 2560 h d (by decide))) := by
  unfold X0_0 Pipeline.Window.fill
  rw [dif_pos (moved0_0 t _)]
  have hc := coord1 t
  blk_point [iblk, V, idx t, row, col, seq, qpos, key, hcol]

theorem key_at (r : Fin 4096) (h : Fin 4) (d : Fin 128) :
    X0_1 m c t (ix2 r (hcol h d)) = packed m c (ix2 (row (seq t) r) (col 3072 h d (by decide))) := by
  unfold X0_1 Pipeline.Window.fill
  rw [dif_pos (moved0_1 t _)]
  blk_point [iblk, V, idx t, row, col, seq, hcol]

theorem value_at (r : Fin 4096) (h : Fin 4) (d : Fin 128) :
    X0_2 m c t (ix2 r (hcol h d)) = packed m c (ix2 (row (seq t) r) (col 3584 h d (by decide))) := by
  unfold X0_2 Pipeline.Window.fill
  rw [dif_pos (moved0_2 t _)]
  blk_point [iblk, V, idx t, row, col, seq, hcol]

theorem qgate_at (p : Fin 256) (h : Fin 128) :
    iblk m c 3 t (ix2 p h) = gates m c (ix2 (row (seq t) (qpos (grid0.coords t) p)) h) := by
  have hc := coord1 t
  blk_point [iblk, V, idx t, row, seq, qpos, key]

/-- The gates transposed, heads as rows. -/
def crow (a1 : FVec Ideal S8192x128 .f32) : FVec Ideal S2x8x4096 .f32 :=
  transpose S2x8x4096 [0, 2, 1] (extractStridedSlice S2x4096x8 ![0, 0, 0] (shapeCast _ a1 shapeCasts_S8192x128_S2x4096x128) slices_S2x4096x128_S2x4096x8_0_0_0) transposes_S2x4096x8_S2x8x4096_0_2_1

theorem V_crow : V m c main_v2 = crow (gates m c) := rfl

theorem crow_at (a1 : FVec Ideal S8192x128 .f32) (b : Fin 2) (h : Fin 8) (r : Fin 4096) :
    crow a1 (ix3 b h r) = a1 (ix2 (row b r) ⟨h, by have := h.isLt; omega⟩) := by
  pointwise [crow]
  exact congrArg a1 (congrArg₂ ix2 (Fin.ext (by simp only [row]; omega)) rfl)

theorem kgate_at (r : Fin 4096) (h : Fin 8) :
    iblk m c 4 t (ix3 0 h r) = gates m c (ix2 (row (seq t) r) ⟨h, by have := h.isLt; omega⟩) := by
  have e : iblk m c 4 t (ix3 0 h r) = V m c main_v2 (ix3 (seq t) h r) := by
    show ((cfg0.win 4).blk t).view.read (Elt Ideal) (V m c main_v2) (ix3 0 h r) = _
    generalize V m c main_v2 = A
    blk_point [idx t, seq]
  rw [e, V_crow, crow_at]

theorem score_at (p : Fin 256) (h : Fin 4) :
    score (grid0.coords t) (X0_0 m c t) (X0_1 m c t) (iblk m c 3 t) (iblk m c 4 t) h p = rowScore (packed m c) (gates m c) (seq t) h (qpos (grid0.coords t) p) := by
  funext r
  unfold score rowScore
  refine if_congr Iff.rfl ?_ rfl
  unfold logit
  refine congrArg₂ (· + ·) (congrArg₂ (· * ·) (Finset.sum_congr rfl fun d _ => congrArg₂ (· * ·) (query_at m c t p h d) (key_at m c t r h d)) rfl)
    (congrArg₂ (· - ·) (qgate_at m c t p _) (kgate_at m c t r _))

/-- What one grid point leaves in the output block. -/
theorem point (p : Fin 256) (h : Fin 4) (q : Fin 128) :
    outsAt0 m c t (ix2 p (hcol h q)) = Cert.ReferenceIdeal.Value.ref (packed m c) (gates m c) (ix2 (row (seq t) (qpos (grid0.coords t) p)) (hcol h q)) := by
  refine (out_block c (grid0.coords t) _ _ _ _ _ _ _ _ _ _ _ _ _ _ _ _ _ _ (X0_0 m c t) (X0_1 m c t) (X0_2 m c t) (iblk m c 3 t) (iblk m c 4 t) VO0_5 h p q).trans ?_
  refine Eq.trans ?_ (Cert.ReferenceIdeal.Value.ref_at (packed m c) (gates m c) (seq t) h (qpos (grid0.coords t) p) q).symm
  rw [score_at]
  simp only [value_at]

theorem final : (dats m 0 c).arrAt 5 (cfgs 0).N = Cert.ReferenceIdeal.Value.ref (packed m c) (gates m c) := by
  refine (dats m 0 c).arrAt_eq_of_covers 5 _ (by decide +kernel) fun t hf y => ?_
  blk_simp; rw [after0_5]
  obtain ⟨p, k, rfl⟩ : ∃ (p : Fin 256) (k : Fin 512), y = ix2 p k := ⟨y 0, y 1, eq_ix2 y⟩
  obtain ⟨h, q, rfl⟩ : ∃ (h : Fin 4) (q : Fin 128), k = hcol h q :=
    ⟨⟨k.val / 128, by have := k.isLt; omega⟩, ⟨k.val % 128, by omega⟩, Fin.ext (by simp only [hcol]; omega)⟩
  refine (point m c t p h q).trans (congrArg _ ?_)
  have hc := coord1 t
  generalize Cert.ReferenceIdeal.Value.ref (packed m c) (gates m c) = R
  blk_point [idx t, row, seq, qpos, key, hcol]

end Cert.KernelIdeal.Value

end
-- ==== Proof.FoxClaim.lean ====
/- The attention claim: the kernel's array is the reference's. -/
module

public import proofs.«01_k».proof.Defs
public import proofs.«01_k».proof.Proof.Fox
public import Idealize.ShloMosaic.Lib.Claim

@[expose] public section

noncomputable section

namespace Cert.Proof

open Idealize.ShloMosaic Idealize.SL.Sem

theorem algebraic1 : Cert.algebraic_KernelIdeal_ReferenceIdeal := by
  pair_intro
  · run_from Cert.KernelIdeal.Gen.run_main m g
  · run_from Cert.ReferenceIdeal.Value.run m' g'
    obtain ⟨h0, h1⟩ := hagree c
    rw [Cert.ReferenceIdeal.Value.res_eq m' c, h0, h1]
    exact (Cert.KernelIdeal.Value.final m c).symm

end Cert.Proof

end
-- ==== Proof.FfnRef.lean ====
/- The feed-forward reference's result as a term of its arguments, in two steps: the hidden layer contracted with the
   second weight (before normalisation), then the residual with the normalised row. -/
module

public import proofs.«01_k».proof.Proof.Gen.Reference2Ideal.Run
public import Idealize.ShloMosaic.Lib.Pipeline.ValueKit

@[expose] public section

set_option maxRecDepth 16384

noncomputable section

namespace Cert.Reference2Ideal.Value

open Idealize.ShloMosaic Idealize.ShloMosaic.TcCoe Idealize.SL.Sem
open Cert.Reference2Ideal Cert.Reference2Ideal.Gen

/-- The input rows normalised by their root mean square. -/
def normed (a0 : FVec Ideal S8192x2048 .f32) (a1 : FVec Ideal S2048 .f32) : FVec Ideal S8192x2048 .f32 :=
  mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a1))

/-- The first product, rectified. -/
def hidden (h : FVec Ideal S8192x2048 .f32) (a3 : FVec Ideal S2048x8192 .f32) : FVec Ideal S8192x8192 .f32 :=
  maximumf (Host.dotGeneral dot_S8192x2048_S2048x8192_S8192x8192_1_0_0_1_n_n none h a3) (broadcastInDim S8192x8192 ![] bcast_S_S8192x8192 (constant S_ .f32 0x00000000#32))

/-- The squared hidden layer times the second weight. -/
def down (h : FVec Ideal S8192x8192 .f32) (a4 : FVec Ideal S8192x2048 .f32) : FVec Ideal S8192x2048 .f32 :=
  Host.dotGeneral dot_S8192x8192_S8192x2048_S8192x2048_1_0_0_1_n_n none (mulf h h) a4

/-- The residual plus the normalised row. -/
def closing (a0 d : FVec Ideal S8192x2048 .f32) (a2 : FVec Ideal S2048 .f32) : FVec Ideal S8192x2048 .f32 :=
  addf a0 (normed d a2)

/-- The whole reference. -/
def ref (a0 : FVec Ideal S8192x2048 .f32) (a1 a2 : FVec Ideal S2048 .f32) (a3 : FVec Ideal S2048x8192 .f32)
    (a4 : FVec Ideal S8192x2048 .f32) : FVec Ideal S8192x2048 .f32 :=
  closing a0 (down (hidden (normed a0 a1) a3) a4) a2

theorem res_eq (m : (ℓ : Loc nD τ sig) → Buf (Elt Ideal) ℓ) (c : Dev nD) :
    res_main_v30 (F := Ideal) m c = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Reference2Ideal.Value

end
-- ==== Proof.Ffn.lean ====
/- The feed-forward kernel at extended reals: the accumulator after the last step of a row block is the reference's
   contraction, so the block written back is the reference's. -/
module

public import proofs.«01_k».proof.Proof.FfnRef
public import proofs.«01_k».proof.Proof.Gen.Kernel2Ideal.Value
public import Idealize.ShloMosaic.Lib.Pipeline.ReadBack

@[expose] public section

set_option maxRecDepth 16384

noncomputable section

namespace Cert.Kernel2Ideal.Value

open Idealize.ShloMosaic Idealize.ShloMosaic.TcCoe Idealize.SL.Sem
open Idealize.ShloMosaic.Pipeline (Dat)
open scoped BigOperators
open Cert.Kernel2Ideal Cert.Kernel2Ideal.Gen

variable (m : (ℓ : Loc nD τ sig) → Buf (Elt Ideal) ℓ)

theorem idx : ∀ t : Fin cfg0.N, win0_0.index t = ![t.val / 8, 0]
    ∧ win0_1.index t = ![0, 0]
    ∧ win0_2.index t = ![0, t.val % 8]
    ∧ win0_3.index t = ![t.val % 8, 0]
    ∧ win0_4.index t = ![0, 0]
    ∧ win0_5.index t = ![t.val / 8, 0] ∧ t.val / 8 < 16 :=
  (by decide +kernel : ∀ t : Fin grid0.N, _)

/-- The normalised rows of a point's block. -/
theorem pay1_at (c : Dev nD) (t : Fin cfg0.N) (y : S512x2048.Idx) (r : Fin 8192) (hr : (r : ℕ) = t.val / 8 * 512 + y 0) :
    k0_pay1 (F := Ideal) (iblk m c 0 t) (iblk m c 1 t) y
      = Cert.Reference2Ideal.Value.normed (m ((c : Thread nD τ).loc main_arg0)) (m ((c : Thread nD τ).loc main_arg1)) (ix2 r (y 1)) := by
  pointwise [k0_pay1, Cert.Reference2Ideal.Value.normed]
  blk_point [iblk, V, idx t]

theorem zero_at (y) : k0_pay2 (F := Ideal) y = 0 := by pointwise [k0_pay2]

/-- One step of the accumulation: the block's squared hidden columns times their rows of the second weight. -/
theorem pay3_at (xn : FVec Ideal S512x2048 .bf16) (wu : FVec Ideal S2048x1024 .bf16) (acc : FVec Ideal S512x2048 .f32) (wd : FVec Ideal S1024x2048 .bf16) (y) :
    k0_pay3 (F := Ideal) xn wu acc wd y = acc y + ∑ k : Fin 1024,
        max (∑ l : Fin 2048, xn (ix2 (y 0) l) * wu (ix2 l k)) 0 * max (∑ l : Fin 2048, xn (ix2 (y 0) l) * wu (ix2 l k)) 0 * wd (ix2 k (y 1)) := by
  pointwise [k0_pay3]

/-- The array row a block row of point `n` sits at. -/
abbrev rowOf (n : ℕ) (hn : n < cfg0.N) (p : Fin 512) : Fin 8192 :=
  ⟨n / 8 * 512 + p, by have := (idx ⟨n, hn⟩).2.2.2.2.2.2; dsimp only at this; omega⟩

/-- At every point the carried block holds the normalised rows of its row block. -/
theorem xn_at (c : Dev nD) : ∀ (n : ℕ) (hn : n < cfg0.N) (y : S512x2048.Idx), (outsAt0 m c n hn).2.1 y
    = Cert.Reference2Ideal.Value.normed (m ((c : Thread nD τ).loc main_arg0)) (m ((c : Thread nD τ).loc main_arg1)) (ix2 (rowOf n hn (y 0)) (y 1)) := by
  intro n
  induction n with
  | zero =>
    intro hn y
    rw [outsAt0_A m c ⟨0, hn⟩ rfl (by dsimp only; omega)]
    frame_out
    exact pay1_at m c ⟨0, hn⟩ y _ rfl
  | succ n ih =>
    intro hn y
    by_cases h0 : (n + 1) % 8 = 0
    · rw [outsAt0_A m c ⟨n + 1, hn⟩ h0 (by dsimp only; omega)]
      frame_out
      exact pay1_at m c ⟨n + 1, hn⟩ y _ rfl
    · have hr : rowOf (n + 1) hn (y 0) = rowOf n (by omega) (y 0) := by
        apply Fin.ext; simp only [rowOf]; omega
      rw [hr, ← ih (by omega) y]
      by_cases h1 : (n + 1) % 8 = 7
      · rw [outsAt0_C m c ⟨n + 1, hn⟩ h0 h1]; rfl
      · rw [outsAt0_B m c ⟨n + 1, hn⟩ h0 h1]; rfl

/-- One summand of the reference's second contraction, at row `r`, hidden column `l`, output column `q`. -/
def term (c : Dev nD) (r l : Fin 8192) (q : Fin 2048) : EReal :=
  Cert.Reference2Ideal.Value.hidden (Cert.Reference2Ideal.Value.normed (m ((c : Thread nD τ).loc main_arg0)) (m ((c : Thread nD τ).loc main_arg1))) (m ((c : Thread nD τ).loc main_arg3)) (ix2 r l)
    * Cert.Reference2Ideal.Value.hidden (Cert.Reference2Ideal.Value.normed (m ((c : Thread nD τ).loc main_arg0)) (m ((c : Thread nD τ).loc main_arg1))) (m ((c : Thread nD τ).loc main_arg3)) (ix2 r l)
    * (show FVec Ideal S8192x2048 .f32 from m ((c : Thread nD τ).loc main_arg4)) (ix2 l q)

/-- What point `t` adds to the accumulator. -/
def part (c : Dev nD) (t : Fin cfg0.N) (y : S512x2048.Idx) : EReal :=
  ∑ k : Fin 1024, term m c (rowOf t.val t.isLt (y 0)) ⟨t.val % 8 * 1024 + k, by have := k.isLt; omega⟩ (y 1)

theorem step_at (c : Dev nD) (t : Fin cfg0.N) (xn : FVec Ideal S512x2048 .bf16) (acc : FVec Ideal S512x2048 .f32)
    (hx : ∀ y, xn y = Cert.Reference2Ideal.Value.normed (m ((c : Thread nD τ).loc main_arg0)) (m ((c : Thread nD τ).loc main_arg1)) (ix2 (rowOf t.val t.isLt (y 0)) (y 1))) (y) :
    k0_pay3 (F := Ideal) xn (iblk m c 2 t) acc (iblk m c 3 t) y = acc y + part m c t y := by
  rw [pay3_at]
  simp only [hx, part, term]
  congr 1
  refine Finset.sum_congr rfl fun k _ => ?_
  pointwise [Cert.Reference2Ideal.Value.hidden]
  blk_point [iblk, V, idx t]

theorem acc_step (c : Dev nD) (t : Fin cfg0.N) (h : ¬t.val % 8 = 0) (y) :
    (outsAt0 m c t.val t.isLt).2.2 y = (outsAt0 m c (t.val - 1) (Nat.lt_of_le_of_lt (Nat.sub_le _ _) t.isLt)).2.2 y + part m c t y := by
  have hx : ∀ y, (outsAt0 m c (t.val - 1) (Nat.lt_of_le_of_lt (Nat.sub_le _ _) t.isLt)).2.1 y = Cert.Reference2Ideal.Value.normed (m ((c : Thread nD τ).loc main_arg0)) (m ((c : Thread nD τ).loc main_arg1)) (ix2 (rowOf t.val t.isLt (y 0)) (y 1)) := by
    intro y
    rw [xn_at]
    have hr : rowOf (t.val - 1) (Nat.lt_of_le_of_lt (Nat.sub_le _ _) t.isLt) (y 0) = rowOf t.val t.isLt (y 0) := by
      apply Fin.ext; simp only [rowOf]; omega
    rw [hr]
  by_cases h1 : t.val % 8 = 7
  · rw [outsAt0_C m c t h h1]; frame_out; rw [read_unread_whole, read_unread_whole]; exact step_at m c t _ _ hx y
  · rw [outsAt0_B m c t h h1]; frame_out; rw [read_unread_whole, read_unread_whole]; exact step_at m c t _ _ hx y

theorem acc_reset (c : Dev nD) (t : Fin cfg0.N) (h : t.val % 8 = 0) (y) :
    (outsAt0 m c t.val t.isLt).2.2 y = 0 + part m c t y := by
  rw [outsAt0_A m c t h (by omega)]; frame_out
  rw [step_at m c t _ _ (fun y => pay1_at m c t y _ rfl) y, zero_at]

/-- After the last step of a row block the accumulator is the reference's contraction. -/
theorem acc_last (c : Dev nD) (t : Fin cfg0.N) (h : t.val % 8 = 8 - 1) (y : S512x2048.Idx) :
    (outsAt0 m c t.val t.isLt).2.2 y = Cert.Reference2Ideal.Value.down (Cert.Reference2Ideal.Value.hidden (Cert.Reference2Ideal.Value.normed (m ((c : Thread nD τ).loc main_arg0)) (m ((c : Thread nD τ).loc main_arg1))) (m ((c : Thread nD τ).loc main_arg3))) (m ((c : Thread nD τ).loc main_arg4)) (ix2 (rowOf t.val t.isLt (y 0)) (y 1)) := by
  rw [Pipeline.eq_sum_fin_of_reset_step_apply_of_flush (fun n h => (outsAt0 m c n h).2.2) 8 (fun _ => 0) (part m c)
    (fun t h j => acc_reset m c t h j) (fun t h j => acc_step m c t h j) t h y, zero_add]
  pointwise [Cert.Reference2Ideal.Value.down]
  refine Fin.sum_mul_add_congr fun s k hl => ?_
  have e1 : rowOf (8 * (t.val / 8) + s.val) (Pipeline.run_point_lt_of_flush t h s) (y 0) = rowOf t.val t.isLt (y 0) :=
    Fin.ext (by have := s.isLt; simp only [rowOf]; omega)
  have e2 : (⟨(8 * (t.val / 8) + s.val) % 8 * 1024 + k.val, by have := k.isLt; omega⟩ : Fin 8192) = ⟨s.val * 1024 + k.val, hl⟩ :=
    Fin.ext (by have := s.isLt; dsimp only; omega)
  exact congrArg₂ (fun r l => term m c r l (y 1)) e1 e2

/-- What is written back for a row block is the reference's rows. -/
theorem point (c : Dev nD) (t : Fin cfg0.N) (h : t.val % 8 = 7) (y) : (outsAt0 m c t.val t.isLt).1 y
    = Cert.Reference2Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hacc := acc_last m c t h
  rw [outsAt0_C m c t (by omega) h] at hacc ⊢
  frame_out
  frame_out at hacc
  generalize k0_pay3 (F := Ideal) _ _ _ _ = A at hacc ⊢
  unfold Cert.Reference2Ideal.Value.ref
  generalize Cert.Reference2Ideal.Value.down _ _ = D at hacc ⊢
  pointwise [k0_pay4, Cert.Reference2Ideal.Value.closing, Cert.Reference2Ideal.Value.normed]
  simp only [hacc]
  blk_point [iblk, V, idx t, rowOf]

theorem final (c : Dev nD) : (dats m 0 c).arrAt 5 (cfgs 0).N = Cert.Reference2Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  exact point m c t ((flush0_5 t).mp hf) y

end Cert.Kernel2Ideal.Value

end
-- ==== Proof.FfnClaim.lean ====
/- The feed-forward kernel and its reference end with equal results. -/
module

public import proofs.«01_k».proof.Defs
public import proofs.«01_k».proof.Proof.Ffn
public import Idealize.ShloMosaic.Lib.Claim

@[expose] public section

noncomputable section

namespace Cert.Proof

open Idealize.ShloMosaic Idealize.SL.Sem

theorem algebraic2 : Cert.algebraic_Kernel2Ideal_Reference2Ideal := by
  pair_intro
  · run_from Cert.Kernel2Ideal.Gen.run_main m g
  · run_from Cert.Reference2Ideal.Value.run m' g'
    obtain ⟨h0, h1, h2, h3, h4⟩ := hagree c
    rw [Cert.Reference2Ideal.Value.res_eq m' c, h0, h1, h2, h3, h4]
    exact (Cert.Kernel2Ideal.Value.final m c).symm

end Cert.Proof

end
-- ==== Proof.MixRef.lean ====
/- The mixer-output reference's result as a term of its arguments, in steps: the three groups normalised, their product with
   the output weight, then the residual with the normalised row. -/
module

public import proofs.«01_k».proof.Proof.Gen.Reference3Ideal.Run
public import Idealize.ShloMosaic.Lib.Pipeline.ValueKit

@[expose] public section

set_option maxRecDepth 16384

noncomputable section

namespace Cert.Reference3Ideal.Value

open Idealize.ShloMosaic Idealize.ShloMosaic.TcCoe Idealize.SL.Sem
open Cert.Reference3Ideal Cert.Reference3Ideal.Gen

/-- The recurrence's group, normalised by its root mean square. -/
def groupA (x : FVec Ideal S8192x1024 .f32) (g : FVec Ideal S2048 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (extractStridedSlice S1024 ![0] g slices_S2048_S1024_0)))

/-- The sparse attention's group. -/
def groupB (x : FVec Ideal S8192x512 .f32) (g : FVec Ideal S2048 .f32) : FVec Ideal S8192x512 .f32 :=
  mulf (mulf x (broadcastInDim S8192x512 ![0, 1] bcast_S8192x1_S8192x512_0_1 (Host.rsqrt (addf (Host.divf (broadcastInDim S8192x1 ![0] bcast_S8192_S8192x1_0 (Host.reduceAdd (mulf x x) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 (extractStridedSlice S512 ![1024] g slices_S2048_S512_1024)))

/-- The forgetting attention's group. -/
def groupC (x : FVec Ideal S8192x512 .f32) (g : FVec Ideal S2048 .f32) : FVec Ideal S8192x512 .f32 :=
  mulf (mulf x (broadcastInDim S8192x512 ![0, 1] bcast_S8192x1_S8192x512_0_1 (Host.rsqrt (addf (Host.divf (broadcastInDim S8192x1 ![0] bcast_S8192_S8192x1_0 (Host.reduceAdd (mulf x x) (constant S_ .f32 0x00000000#32) reducesTo_S8192x512_S8192_d1 h_S_)) (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 (broadcastInDim S1x512 ![1] bcast_S512_S1x512_1 (extractStridedSlice S512 ![1536] g slices_S2048_S512_1536)))

/-- The three groups side by side. -/
def side (u : FVec Ideal S8192x1024 .f32) (v w : FVec Ideal S8192x512 .f32) : FVec Ideal S8192x2048 .f32 :=
  concatenate S8192x2048 1 [⟨S8192x1024, u⟩, ⟨S8192x512, v⟩, ⟨S8192x512, w⟩] concatenates_S8192x1024_S8192x512_S8192x512_S8192x2048_d1

/-- The three groups side by side times the output weight. -/
def product (u : FVec Ideal S8192x1024 .f32) (v w : FVec Ideal S8192x512 .f32) (a4 : FVec Ideal S2048x2048 .f32) : FVec Ideal S8192x2048 .f32 :=
  Host.dotGeneral dot_S8192x2048_S2048x2048_S8192x2048_1_0_0_1_n_n none (side u v w) a4

/-- The residual plus the normalised row. -/
def closing (x d : FVec Ideal S8192x2048 .f32) (g : FVec Ideal S2048 .f32) : FVec Ideal S8192x2048 .f32 :=
  addf x (mulf (mulf d (broadcastInDim S8192x2048 ![0, 1] bcast_S8192x1_S8192x2048_0_1 (Host.rsqrt (addf (Host.divf (broadcastInDim S8192x1 ![0] bcast_S8192_S8192x1_0 (Host.reduceAdd (mulf d d) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g)))

/-- The whole reference. -/
def ref (a0 : FVec Ideal S8192x1024 .f32) (a1 a2 : FVec Ideal S8192x512 .f32) (a3 : FVec Ideal S2048 .f32)
    (a4 : FVec Ideal S2048x2048 .f32) (a5 : FVec Ideal S8192x2048 .f32) (a6 : FVec Ideal S2048 .f32) : FVec Ideal S8192x2048 .f32 :=
  closing a5 (product (groupA a0 a3) (groupB a1 a3) (groupC a2 a3) a4) a6

theorem res_eq (m : (ℓ : Loc nD τ sig) → Buf (Elt Ideal) ℓ) (c : Dev nD) :
    res_main_v57 (F := Ideal) m c = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.Reference3Ideal.Value

end
-- ==== Proof.Mix.lean ====
/- The mixer-output kernel at extended reals: the three partial products of a block are the reference's one product, its
   contraction split at the group boundaries. -/
module

public import proofs.«01_k».proof.Proof.MixRef
public import proofs.«01_k».proof.Proof.Gen.Kernel3Ideal.Value

@[expose] public section

set_option maxRecDepth 16384

noncomputable section

namespace Cert.Kernel3Ideal.Value

open Idealize.ShloMosaic Idealize.ShloMosaic.TcCoe Idealize.SL.Sem
open Idealize.ShloMosaic.Pipeline (Dat)
open scoped BigOperators
open Cert.Kernel3Ideal Cert.Kernel3Ideal.Gen

variable (m : (ℓ : Loc nD τ sig) → Buf (Elt Ideal) ℓ)

theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![0, 0]
    ∧ win0_7.index t = ![t.val, 0] ∧ t.val < 16 :=
  (by decide +kernel : ∀ t : Fin grid0.N, _)

/-- The array row a block row of point `t` sits at. -/
abbrev rowOf (t : Fin cfg0.N) (p : Fin 512) : Fin 8192 :=
  ⟨t.val * 512 + p, by have := (idx t).2.2.2.2.2.2.2.2; omega⟩

theorem groupA_at (c : Dev nD) (t : Fin cfg0.N) (p : Fin 512) (q : Fin 1024) :
    k0_pay3 (F := Ideal) (iblk m c 3 t) (iblk m c 0 t) (ix2 p q)
      = Cert.Reference3Ideal.Value.groupA (m ((c : Thread nD τ).loc main_arg0)) (m ((c : Thread nD τ).loc main_arg3)) (ix2 (rowOf t p) q) := by
  pointwise [k0_pay3, k0_pay2, Cert.Reference3Ideal.Value.groupA]
  blk_point [iblk, V, idx t, rowOf]

theorem groupB_at (c : Dev nD) (t : Fin cfg0.N) (p q : Fin 512) :
    k0_pay4 (F := Ideal) (iblk m c 3 t) (iblk m c 1 t) (ix2 p q)
      = Cert.Reference3Ideal.Value.groupB (m ((c : Thread nD τ).loc main_arg1)) (m ((c : Thread nD τ).loc main_arg3)) (ix2 (rowOf t p) q) := by
  pointwise [k0_pay4, k0_pay2, Cert.Reference3Ideal.Value.groupB]
  blk_point [iblk, V, idx t, rowOf]

/-- The third group as the body forms it, inside its last payload. -/
def third (x : Vec Ideal S512x512 .f32) (g : FVec Ideal S1x512 .f32) (s : FVec Ideal S512x1 .f32) : FVec Ideal S512x512 .f32 :=
  mulf (mulf x (broadcastTo S512x512 s broadcasts_S512x1_S512x512)) (broadcastTo S512x512 g broadcasts_S1x512_S512x512)

theorem groupC_at (c : Dev nD) (t : Fin cfg0.N) (p q : Fin 512) :
    third (iblk m c 2 t) (k0_pay5 (iblk m c 3 t)) (k0_pay6 (iblk m c 2 t)) (ix2 p q)
      = Cert.Reference3Ideal.Value.groupC (m ((c : Thread nD τ).loc main_arg2)) (m ((c : Thread nD τ).loc main_arg3)) (ix2 (rowOf t p) q) := by
  pointwise [third, k0_pay5, k0_pay6, k0_pay2, Cert.Reference3Ideal.Value.groupC]
  blk_point [iblk, V, idx t, rowOf]

/-- A sum of 2048 terms split at 1024 and 1536. -/
theorem sum_split (f : Fin 2048 → EReal) : ∑ k, f k
    = (∑ k : Fin 1024, f ⟨k, by omega⟩) + (∑ k : Fin 512, f ⟨1024 + k, by omega⟩) + ∑ k : Fin 512, f ⟨1536 + k, by omega⟩ := by
  have h1 := Fin.sum_univ_add (a := 1536) (b := 512) f
  have h2 := Fin.sum_univ_add (a := 1024) (b := 512) (fun k : Fin 1536 => f (Fin.castAdd 512 k))
  exact h1.trans (congrArg (· + _) h2)

/-- The reference's product, read as three contractions. -/
theorem product_at (u : FVec Ideal Cert.Reference3Ideal.S8192x1024 .f32) (v w : FVec Ideal Cert.Reference3Ideal.S8192x512 .f32)
    (a4 : FVec Ideal Cert.Reference3Ideal.S2048x2048 .f32) (r : Fin 8192) (q : Fin 2048) :
    Cert.Reference3Ideal.Value.product u v w a4 (ix2 r q)
      = (∑ k : Fin 1024, u (ix2 r k) * a4 (ix2 (⟨k, by omega⟩ : Fin 2048) q)) + (∑ k : Fin 512, v (ix2 r k) * a4 (ix2 (⟨1024 + k, by omega⟩ : Fin 2048) q))
        + ∑ k : Fin 512, w (ix2 r k) * a4 (ix2 (⟨1536 + k, by omega⟩ : Fin 2048) q) := by
  pointwise [Cert.Reference3Ideal.Value.product, Cert.Reference3Ideal.Value.side]
  rw [sum_split]
  refine congrArg₂ (· + ·) (congrArg₂ (· + ·) (Finset.sum_congr rfl fun k _ => ?_) (Finset.sum_congr rfl fun k _ => ?_))
    (Finset.sum_congr rfl fun k _ => ?_)
  · rw [dif_pos (show (k : ℕ) < 1024 from k.isLt)]
  · have h1 : ¬ 1024 + (k : ℕ) < 1024 := by omega
    have h2 : 1024 + (k : ℕ) - 1024 < 512 := by omega
    rw [dif_neg h1, dif_pos h2]
    simp only [Nat.add_sub_cancel_left]
  · have h1 : ¬ 1536 + (k : ℕ) < 1024 := by omega
    have h2 : ¬ 1536 + (k : ℕ) - 1024 < 512 := by omega
    rw [dif_neg h1, dif_neg h2]
    have e : (⟨1536 + (k : ℕ) - 1024 - 512, by omega⟩ : Fin 512) = k := Fin.ext (by dsimp only; omega)
    exact congrArg (fun j => w (ix2 r j) * a4 (ix2 (⟨1536 + (k : ℕ), by omega⟩ : Fin 2048) q)) e

/-- The block's product: the three partial contractions added. -/
def prod (u : FVec Ideal S512x1024 .bf16) (v w : FVec Ideal S512x512 .bf16) (b0 : Vec Ideal S1024x2048 .bf16) (b1 b2 : Vec Ideal S512x2048 .bf16)
    (p : Fin 512) (q : Fin 2048) : EReal :=
  (∑ k : Fin 1024, u (ix2 p k) * b0 (ix2 k q)) + (∑ k : Fin 512, v (ix2 p k) * b1 (ix2 k q)) + ∑ k : Fin 512, w (ix2 p k) * b2 (ix2 k q)

theorem prod_at (c : Dev nD) (t : Fin cfg0.N) (p : Fin 512) (q : Fin 2048) :
    prod (k0_pay3 (iblk m c 3 t) (iblk m c 0 t)) (k0_pay4 (iblk m c 3 t) (iblk m c 1 t)) (third (iblk m c 2 t) (k0_pay5 (iblk m c 3 t)) (k0_pay6 (iblk m c 2 t)))
      (View.ld (iblk m c 4 t) r0_3) (View.ld (iblk m c 4 t) r0_4) (View.ld (iblk m c 4 t) r0_5) p q
      = Cert.Reference3Ideal.Value.product (Cert.Reference3Ideal.Value.groupA (m ((c : Thread nD τ).loc main_arg0)) (m ((c : Thread nD τ).loc main_arg3))) (Cert.Reference3Ideal.Value.groupB (m ((c : Thread nD τ).loc main_arg1)) (m ((c : Thread nD τ).loc main_arg3))) (Cert.Reference3Ideal.Value.groupC (m ((c : Thread nD τ).loc main_arg2)) (m ((c : Thread nD τ).loc main_arg3))) (m ((c : Thread nD τ).loc main_arg4)) (ix2 (rowOf t p) q) := by
  rw [product_at, prod]
  simp only [groupA_at, groupB_at, groupC_at]
  blk_point [iblk, V, idx t]

/-- The last payload once its product is known: the residual plus the normalised row. -/
theorem pay1_at (u : FVec Ideal S512x1024 .bf16) (v : FVec Ideal S512x512 .bf16) (x : Vec Ideal S512x512 .f32) (g : FVec Ideal S1x512 .f32) (s : FVec Ideal S512x1 .f32)
    (b0 : Vec Ideal S1024x2048 .bf16) (b1 b2 : Vec Ideal S512x2048 .bf16) (r : Vec Ideal S512x2048 .f32) (gp : Vec Ideal S1x2048 .f32)
    (P : Fin 512 → Fin 2048 → EReal) (hP : ∀ p q, prod u v (third x g s) b0 b1 b2 p q = P p q) (p : Fin 512) (q : Fin 2048) :
    k0_pay1 (F := Ideal) u v x g s b0 b1 b2 r gp (ix2 p q) = r (ix2 p q) + P p q
        * Ideal.rsqrt (Ideal.div (∑ k, P p k * P p k) (Ideal.ofBits FTy.f32 0x45000000#32) + Ideal.ofBits FTy.f32 0x358637BD#32) * gp (ix2 0 q) := by
  have e : ∀ a b, third x g s (ix2 a b) = x (ix2 a b) * s (ix2 a 0) * g (ix2 0 b) := fun a b => by pointwise [third]
  simp only [prod, e] at hP
  pointwise [k0_pay1]
  simp only [hP]

theorem point (c : Dev nD) (t : Fin cfg0.N) (y) :
    k0_pay1 (F := Ideal) (k0_pay3 (iblk m c 3 t) (iblk m c 0 t)) (k0_pay4 (iblk m c 3 t) (iblk m c 1 t)) (iblk m c 2 t) (k0_pay5
      (iblk m c 3 t)) (k0_pay6 (iblk m c 2 t)) (View.ld (iblk m c 4 t) r0_3) (View.ld (iblk m c 4 t) r0_4) (View.ld
      (iblk m c 4 t) r0_5) (iblk m c 5 t) (iblk m c 6 t) y
      = Cert.Reference3Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  have hp := prod_at m c t
  unfold Cert.Reference3Ideal.Value.ref
  generalize Cert.Reference3Ideal.Value.product _ _ _ _ = D at hp ⊢
  obtain ⟨p, q, rfl⟩ : ∃ (p : Fin 512) (q : Fin 2048), y = ix2 p q := ⟨y 0, y 1, eq_ix2 y⟩
  rw [pay1_at _ _ _ _ _ _ _ _ _ _ _ hp]
  pointwise [Cert.Reference3Ideal.Value.closing]
  blk_point [iblk, V, idx t, rowOf]

theorem final (c : Dev nD) : (dats m 0 c).arrAt 7 (cfgs 0).N = Cert.Reference3Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp; rw [after0_7]; frame_out
  exact point m c t y

end Cert.Kernel3Ideal.Value

end
-- ==== Proof.MixClaim.lean ====
/- The mixer-output kernel and its reference end with equal results. -/
module

public import proofs.«01_k».proof.Defs
public import proofs.«01_k».proof.Proof.Mix
public import Idealize.ShloMosaic.Lib.Claim

@[expose] public section

noncomputable section

namespace Cert.Proof

open Idealize.ShloMosaic Idealize.SL.Sem

theorem algebraic3 : Cert.algebraic_Kernel3Ideal_Reference3Ideal := by
  pair_intro
  · run_from Cert.Kernel3Ideal.Gen.run_main m g
  · run_from Cert.Reference3Ideal.Value.run m' g'
    obtain ⟨h0, h1, h2, h3, h4, h5, h6⟩ := hagree c
    rw [Cert.Reference3Ideal.Value.res_eq m' c, h0, h1, h2, h3, h4, h5, h6]
    exact (Cert.Kernel3Ideal.Value.final m c).symm

end Cert.Proof

end
-- ==== Proof.InprojRun.lean ====
module

public import proofs.«01_k».proof.Proof.Gen.Kernel4Ideal.Frame
public import proofs.«01_k».proof.Proof.Gen.Kernel4Ideal.Skeleton
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

/-! What one grid point of the input projection does to its buffers, over the extended reals.

The body runs in one of four ways.  On the first column block of a row block it normalises the rows into the scratch
buffer and stores the gates (`run_first`); on every column block it multiplies the normalised rows with the weight
block and stores the product twice, plain (`run_plain`), with both 128-lane halves rotated (`run_both`) or with the
first half rotated (`run_half`).  Each theorem states the contents the buffers end with in closed form.  -/

@[expose] public section

set_option maxRecDepth 16384

noncomputable section

namespace Cert.Kernel4Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

section

variable (c : Dev nD) (i : grid0.Coords)
variable (arg2 : Memref sig .tc .vmem S1024x2048 .f32) (harg2 : arg2.IsWhole)
variable (arg3 : Memref sig .tc .vmem S1x2048 .f32) (harg3 : arg3.IsWhole)
variable (arg4 : Memref sig .tc .vmem S2048x256 .bf16) (harg4 : arg4.IsWhole)
variable (arg5 : Memref sig .tc .vmem S2048x128 .bf16) (harg5 : arg5.IsWhole)
variable (arg6 : Memref sig .tc .vmem S1x128 .f32) (harg6 : arg6.IsWhole)
variable (arg7 : Memref sig .tc .vmem S1024x128 .f32) (harg7 : arg7.IsWhole)
variable (arg8 : Memref sig .tc .vmem S1024x128 .f32) (harg8 : arg8.IsWhole)
variable (arg9 : Memref sig .tc .vmem S1024x128 .f32) (harg9 : arg9.IsWhole)
variable (arg10 : Memref sig .tc .vmem S1024x256 .f32) (harg10 : arg10.IsWhole)
variable (arg11 : Memref sig .tc .vmem S1024x256 .bf16) (harg11 : arg11.IsWhole)
variable (arg12 : Memref sig .tc .vmem S1024x128 .f32) (harg12 : arg12.IsWhole)
variable (arg13 : Memref sig .tc .vmem S1024x2048 .bf16) (harg13 : arg13.IsWhole)
variable (x0 : Vec F S1024x2048 .f32) (x1 : Vec F S1x2048 .f32) (x2 : Vec F S2048x256 .bf16) (x3 : Vec F S2048x128 .bf16)
  (x4 : Vec F S1x128 .f32) (x5 x6 x7 : Vec F S1024x128 .f32) (xo : Vec F S1024x128 .f32) (xs : Vec F S1024x2048 .bf16)
  (y8 : Vec F S1024x256 .f32) (y9 : Vec F S1024x256 .bf16)

/-- On whole buffers the body leaves the inputs, the gates (`xo`) and the scratch (`xs`) as they are, and the two
products at `y8` and `y9`. -/
def Keeps : Prop := ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ owns (c : Thread nD τ) arg12 fullShare xo ∗ owns (c : Thread nD τ) arg13 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare y8 ∗ owns (c : Thread nD τ) arg11 fullShare y9 ∗ owns (c : Thread nD τ) arg12 fullShare xo ∗ owns (c : Thread nD τ) arg13 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13) K

/-- On whole buffers the body leaves the inputs as they are, the products at `y8` and `y9`, the gates at `xo` and the
scratch at `xs`, whatever these held. -/
def Fills : Prop := ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare y8 ∗ owns (c : Thread nD τ) arg11 fullShare y9 ∗ owns (c : Thread nD τ) arg12 fullShare xo ∗ owns (c : Thread nD τ) arg13 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13) K

set_option maxHeartbeats 1000000 in
/-- The first column block: rows normalised into the scratch, gates stored, plain product. -/
theorem run_first (hc1 : k0_cond1 i = 1#1) (hc2 : k0_cond2 i = 1#1) (hc3 : ¬k0_cond3 i = 1#1) (hc4 : ¬k0_cond4 i = 1#1) :
    Fills c i arg2 harg2 arg3 harg3 arg4 harg4 arg5 harg5 arg6 harg6 arg7 harg7 arg8 harg8 arg9 harg9 arg10 harg10 arg11 harg11 arg12 harg12 arg13 harg13 x0 x1 x2 x3 x4 x5 x6 x7 (k0_pay8 (k0_pay7 x0 x1) x3 x4) (k0_pay7 x0 x1) (k0_pay1 (k0_pay7 x0 x1) x2) (k0_pay2 (k0_pay7 x0 x1) x2) := by
  unfold Fills; intro E K
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4)
  sl_step
  iapply Hk
  have e7 : k0_pay7 (View.readAt (Elt F) arg2.view (Rect.unit ![0, 0] S1024x2048.size inb_S1024x2048_S1024x2048_0_0).toLoadRect (harg2.unread x0))
      (View.readAt (Elt F) arg3.view (Rect.unit ![0, 0] S1x2048.size inb_S1x2048_S1x2048_0_0).toLoadRect (harg3.unread x1)) = k0_pay7 x0 x1 :=
    congrArg₂ (k0_pay7 (F := F)) ((View.readAt_full _ _ _).trans (harg2.read_unread _)) ((View.readAt_full _ _ _).trans (harg3.read_unread _))
  have eh : run_first.sl.HS_1 c arg2 harg2 arg3 harg3 x0 x1
      = [⟨Rect.unit ![0, 0] S1024x2048.size inb_S1024x2048_S1024x2048_0_0, k0_pay7 x0 x1⟩] := by
    unfold run_first.sl.HS_1; rw [e7]
  have ev : run_first.sl.v3 c arg2 harg2 arg3 harg3 arg13 x0 x1 = k0_pay7 x0 x1 := by
    unfold run_first.sl.v3; rw [eh]; exact View.readCov_full _ _ _ _ _
  have ew : run_first.sl.v42 c arg2 harg2 arg3 harg3 arg13 x0 x1 = k0_pay7 x0 x1 := by
    unfold run_first.sl.v42; (try rw [eh]); first | exact View.readCov_full _ _ _ _ _ | exact (View.readCov_full _ _ _ _ _).trans e7
  have er : run_first.sl.r c arg2 harg2 arg3 harg3 arg5 harg5 arg6 harg6 arg13 x0 x1 x3 x4 = k0_pay8 (k0_pay7 x0 x1) x3 x4 := by
    unfold run_first.sl.r; rw [ew]
    exact congrArg₂ (k0_pay8 (F := F) (k0_pay7 x0 x1)) ((View.readAt_full _ _ _).trans (harg5.read_unread _)) ((View.readAt_full _ _ _).trans (harg6.read_unread _))
  rw [ev, er, eh]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro; exact (View.read_writes_full _ _ _ _ _).trans (congrArg (k0_pay1 (F := F) (k0_pay7 x0 x1)) ((View.readAt_full _ _ _).trans (harg4.read_unread _)))
  isplitl [H9]
  · iexists _; isplitr
    swap; · iexact H9
    ipureintro; exact (View.read_writes_full _ _ _ _ _).trans (congrArg (k0_pay2 (F := F) (k0_pay7 x0 x1)) ((View.readAt_full _ _ _).trans (harg4.read_unread _)))
  isplitl [H10]
  · iexists _; isplitr
    swap; · iexact H10
    ipureintro; exact View.read_writes_full _ _ _ _ _
  iexists _; isplitr
  swap; · iexact HS
  ipureintro; exact View.read_writes_full _ _ _ _ _

set_option maxHeartbeats 1000000 in
/-- A column block whose product is stored as it is. -/
theorem run_plain (hc1 : ¬k0_cond1 i = 1#1) (hc2 : k0_cond2 i = 1#1) (hc3 : ¬k0_cond3 i = 1#1) (hc4 : ¬k0_cond4 i = 1#1) :
    Keeps c i arg2 harg2 arg3 harg3 arg4 harg4 arg5 harg5 arg6 harg6 arg7 harg7 arg8 harg8 arg9 harg9 arg10 harg10 arg11 harg11 arg12 harg12 arg13 harg13 x0 x1 x2 x3 x4 x5 x6 x7 xo xs (k0_pay1 xs x2) (k0_pay2 xs x2) := by
  unfold Keeps; intro E K
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H9]
  · iexists _; isplitr
    swap; · iexact H9
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H10]
  · iexists _; isplitr; · ipureintro; exact harg12.read_unread _
    iexact H10
  iexists _; isplitr; · ipureintro; exact harg13.read_unread _
  iexact HS

set_option maxHeartbeats 1000000 in
/-- A column block with both halves rotated. -/
theorem run_both (hc1 : ¬k0_cond1 i = 1#1) (hc2 : ¬k0_cond2 i = 1#1) (hc3 : k0_cond3 i = 1#1) (hc4 : ¬k0_cond4 i = 1#1) :
    Keeps c i arg2 harg2 arg3 harg3 arg4 harg4 arg5 harg5 arg6 harg6 arg7 harg7 arg8 harg8 arg9 harg9 arg10 harg10 arg11 harg11 arg12 harg12 arg13 harg13 x0 x1 x2 x3 x4 x5 x6 x7 xo xs (k0_pay3 xs x2 x5 x6 x7) (k0_pay4 xs x2 x5 x6 x7) := by
  unfold Keeps; intro E K
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H9]
  · iexists _; isplitr
    swap; · iexact H9
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H10]
  · iexists _; isplitr; · ipureintro; exact harg12.read_unread _
    iexact H10
  iexists _; isplitr; · ipureintro; exact harg13.read_unread _
  iexact HS

set_option maxHeartbeats 1000000 in
/-- A column block with its first half rotated. -/
theorem run_half (hc1 : ¬k0_cond1 i = 1#1) (hc2 : ¬k0_cond2 i = 1#1) (hc3 : ¬k0_cond3 i = 1#1) (hc4 : k0_cond4 i = 1#1) :
    Keeps c i arg2 harg2 arg3 harg3 arg4 harg4 arg5 harg5 arg6 harg6 arg7 harg7 arg8 harg8 arg9 harg9 arg10 harg10 arg11 harg11 arg12 harg12 arg13 harg13 x0 x1 x2 x3 x4 x5 x6 x7 xo xs (k0_pay5 xs x2 x5 x6 x7) (k0_pay6 xs x2 x5 x6 x7) := by
  unfold Keeps; intro E K
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H9]
  · iexists _; isplitr
    swap; · iexact H9
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H10]
  · iexists _; isplitr; · ipureintro; exact harg12.read_unread _
    iexact H10
  iexists _; isplitr; · ipureintro; exact harg13.read_unread _
  iexact HS

end

end Cert.Kernel4Ideal.Inproj

end
-- ==== Proof.InprojFrame.lean ====
module

public import proofs.«01_k».proof.Proof.InprojRun
public import Idealize.ShloMosaic.Lib.Claim

/-! The input projection's whole run, over the extended reals: the contents of every buffer after every grid point in closed
form, the body's obligation from the four runs of `InprojRun`, the launch, and the frame.  -/

@[expose] public section

set_option maxRecDepth 16384

noncomputable section

namespace Cert.Kernel4Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which way the body runs at a point -/

theorem lt152 (t : Fin cfg0.N) : t.val < 152 := Nat.lt_of_lt_of_eq t.isLt N_0

/-- The body normalises at the first column block. -/
theorem cond1_iff : ∀ t : Fin cfg0.N, k0_cond1 (grid0.coords t) = 1#1 ↔ t.val % 19 = 0 := by decide +kernel
/-- The product is stored plain away from the rotated column blocks. -/
theorem cond2_iff : ∀ t : Fin cfg0.N, k0_cond2 (grid0.coords t) = 1#1 ↔ (t.val % 19 < 8 ∨ (9 < t.val % 19 ∧ t.val % 19 < 16)) := by
  decide +kernel
/-- Both halves are rotated at column blocks 8 and 9. -/
theorem cond3_iff : ∀ t : Fin cfg0.N, k0_cond3 (grid0.coords t) = 1#1 ↔ (8 ≤ t.val % 19 ∧ t.val % 19 ≤ 9) := by decide +kernel
/-- The first half is rotated from column block 16 on. -/
theorem cond4_iff : ∀ t : Fin cfg0.N, k0_cond4 (grid0.coords t) = 1#1 ↔ 16 ≤ t.val % 19 := by decide +kernel

/-- The products are stored at every point. -/
theorem live8 : ∀ t : Fin cfg0.N, cfg0.idle 8 (grid0.coords t) = false := by decide +kernel
theorem live9 : ∀ t : Fin cfg0.N, cfg0.idle 9 (grid0.coords t) = false := by decide +kernel
/-- The gates are stored at the first column block only. -/
theorem idle10 : ∀ t : Fin cfg0.N, cfg0.idle 10 (grid0.coords t) = !decide (t.val % 19 = 0) := by decide +kernel

/-- Before which points the gates' buffer holds nothing the body stored. -/
def freshTab : ℕ → Bool := fun n => decide (n % 19 = 0)
theorem freshTab_step : ∀ t : Fin cfg0.N,
    freshTab (t.val + 1) = ((cfg0.win 10).flush t || (cfg0.idle 10 (cfg0.grid.coords t) && freshTab t.val)) := by decide +kernel
theorem fresh10 (t : Fin cfg0.N) : cfg0.fresh 10 t.val = decide (t.val % 19 = 0) :=
  Pipeline.Cfg.fresh_tab cfg0 10 freshTab rfl freshTab_step t.val (Nat.le_of_lt t.isLt)

/-! ## The contents after a point -/

/-- The normalised rows of the row block of point `t`. -/
def xn (c : Dev nD) (t : Fin cfg0.N) : Vec F S1024x2048 .bf16 := k0_pay7 (iblk m c 0 t) (iblk m c 1 t)
/-- The gates of the row block of point `t`. -/
def gates (c : Dev nD) (t : Fin cfg0.N) : Vec F S1024x128 .f32 := k0_pay8 (xn m c t) (iblk m c 3 t) (iblk m c 4 t)
/-- The product stored at point `t`. -/
def prod (c : Dev nD) (t : Fin cfg0.N) : Vec F S1024x256 .f32 :=
  if 16 ≤ t.val % 19 then k0_pay5 (xn m c t) (iblk m c 2 t) (iblk m c 5 t) (iblk m c 6 t) (iblk m c 7 t)
  else if 8 ≤ t.val % 19 ∧ t.val % 19 ≤ 9 then k0_pay3 (xn m c t) (iblk m c 2 t) (iblk m c 5 t) (iblk m c 6 t) (iblk m c 7 t)
  else k0_pay1 (xn m c t) (iblk m c 2 t)
/-- The rounded product stored at point `t`. -/
def prodB (c : Dev nD) (t : Fin cfg0.N) : Vec F S1024x256 .bf16 :=
  if 16 ≤ t.val % 19 then k0_pay6 (xn m c t) (iblk m c 2 t) (iblk m c 5 t) (iblk m c 6 t) (iblk m c 7 t)
  else if 8 ≤ t.val % 19 ∧ t.val % 19 ≤ 9 then k0_pay4 (xn m c t) (iblk m c 2 t) (iblk m c 5 t) (iblk m c 6 t) (iblk m c 7 t)
  else k0_pay2 (xn m c t) (iblk m c 2 t)

/-- What holds between points: before the first, the scratch at anything; after a point, at its normalised rows. -/
def Inv (c : Dev nD) : (n : ℕ) → n ≤ cfg0.N → sProp 𝕄
  | 0, _ => Pipeline.ΦA spec0 c
  | n + 1, hn => iprop(iprop(owns (c : Thread nD τ) (Memref.whole cc0_scratch0) fullShare (xn m c ⟨n, hn⟩)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) (Memref.whole cc0_scratch0) fullShare (xn m c ⟨n, hn⟩)) ∗ (∃ r, prngReg c r)) := rfl
theorem Inv_pos (c : Dev nD) (n : ℕ) (h : n ≤ cfg0.N) (hz : n ≠ 0) :
    Inv m c n h = iprop(iprop(owns (c : Thread nD τ) (Memref.whole cc0_scratch0) fullShare (xn m c ⟨n - 1, by omega⟩)) ∗ (∃ r, prngReg c r)) := by
  cases n with
  | zero => exact absurd rfl hz
  | succ n => rfl

/-- The scratch and the generator register as the region starts with them. -/
theorem start_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- The proof data of the pipeline: every window's contents after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => prod m c t
    | ⟨9, _⟩ => prodB m c t
    | ⟨10, _⟩ => gates m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) :
    (dats m 0 c).Φ t.castSucc = Inv m c t.val (Nat.le_of_lt t.isLt) := by
  dsimp only [dats]; exact Pipeline.Dat.Φ_castSucc (Inv m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = prod m c t := by dsimp only [dats]
theorem after0_9 (c : Dev nD) (t : Fin cfg0.N) : (dats m 0 c).after 9 t = prodB m c t := by dsimp only [dats]
theorem after0_10 (c : Dev nD) (t : Fin cfg0.N) : (dats m 0 c).after 10 t = gates m c t := by dsimp only [dats]

/-! Each input's buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## Rows and gates are those of the point before within a row block -/

theorem index0_pred : ∀ t : Fin cfg0.N, t.val % 19 ≠ 0 →
    (cfg0.win 0).index t = (cfg0.win 0).index ⟨t.val - 1, Nat.lt_of_le_of_lt (Nat.sub_le _ _) t.isLt⟩ := by decide +kernel
theorem iblk0_pred (c : Dev nD) (t : Fin cfg0.N) (h : t.val % 19 ≠ 0) :
    (iblk m c 0 t : ((cfg0.win 0).block).Idx → Elt F (cfg0.win 0).elt) = iblk m c 0 ⟨t.val - 1, Nat.lt_of_le_of_lt (Nat.sub_le _ _) t.isLt⟩ :=
  (dats m 0 c).fetched_congr 0 (index0_pred t h) rfl (iblk m c 0 t)
theorem index1_pred : ∀ t : Fin cfg0.N, t.val % 19 ≠ 0 →
    (cfg0.win 1).index t = (cfg0.win 1).index ⟨t.val - 1, Nat.lt_of_le_of_lt (Nat.sub_le _ _) t.isLt⟩ := by decide +kernel
theorem iblk1_pred (c : Dev nD) (t : Fin cfg0.N) (h : t.val % 19 ≠ 0) :
    (iblk m c 1 t : ((cfg0.win 1).block).Idx → Elt F (cfg0.win 1).elt) = iblk m c 1 ⟨t.val - 1, Nat.lt_of_le_of_lt (Nat.sub_le _ _) t.isLt⟩ :=
  (dats m 0 c).fetched_congr 1 (index1_pred t h) rfl (iblk m c 1 t)
theorem index3_pred : ∀ t : Fin cfg0.N, t.val % 19 ≠ 0 →
    (cfg0.win 3).index t = (cfg0.win 3).index ⟨t.val - 1, Nat.lt_of_le_of_lt (Nat.sub_le _ _) t.isLt⟩ := by decide +kernel
theorem iblk3_pred (c : Dev nD) (t : Fin cfg0.N) (h : t.val % 19 ≠ 0) :
    (iblk m c 3 t : ((cfg0.win 3).block).Idx → Elt F (cfg0.win 3).elt) = iblk m c 3 ⟨t.val - 1, Nat.lt_of_le_of_lt (Nat.sub_le _ _) t.isLt⟩ :=
  (dats m 0 c).fetched_congr 3 (index3_pred t h) rfl (iblk m c 3 t)
theorem index4_pred : ∀ t : Fin cfg0.N, t.val % 19 ≠ 0 →
    (cfg0.win 4).index t = (cfg0.win 4).index ⟨t.val - 1, Nat.lt_of_le_of_lt (Nat.sub_le _ _) t.isLt⟩ := by decide +kernel
theorem iblk4_pred (c : Dev nD) (t : Fin cfg0.N) (h : t.val % 19 ≠ 0) :
    (iblk m c 4 t : ((cfg0.win 4).block).Idx → Elt F (cfg0.win 4).elt) = iblk m c 4 ⟨t.val - 1, Nat.lt_of_le_of_lt (Nat.sub_le _ _) t.isLt⟩ :=
  (dats m 0 c).fetched_congr 4 (index4_pred t h) rfl (iblk m c 4 t)
theorem xn_pred (c : Dev nD) (t : Fin cfg0.N) (h : t.val % 19 ≠ 0) :
    xn m c ⟨t.val - 1, Nat.lt_of_le_of_lt (Nat.sub_le _ _) t.isLt⟩ = xn m c t :=
  (congrArg₂ (k0_pay7 (F := F)) (iblk0_pred m c t h) (iblk1_pred m c t h)).symm
theorem gates_pred (c : Dev nD) (t : Fin cfg0.N) (h : t.val % 19 ≠ 0) :
    gates m c ⟨t.val - 1, Nat.lt_of_le_of_lt (Nat.sub_le _ _) t.isLt⟩ = gates m c t := by
  unfold gates; rw [xn_pred m c t h]
  exact (congrArg₂ (k0_pay8 (F := F) (xn m c t)) (iblk3_pred m c t h) (iblk4_pred m c t h)).symm

theorem carry10 (c : Dev nD) (t : Fin cfg0.N) (_ : t.val ≠ 0) (hi : cfg0.idle 10 (grid0.coords t) = true) (_ : cfg0.fresh 10 t.val = false) :
    (dats m 0 c).after 10 t = (dats m 0 c).after 10 ⟨t.val - 1, by omega⟩ := by
  rw [after0_10, after0_10]
  refine (gates_pred m c t fun h => ?_).symm
  rw [idle10, h] at hi; exact absurd hi (by decide)

/-- Away from the first column block the gates' buffer holds this row block's gates. -/
theorem before0_10 (c : Dev nD) (t : Fin cfg0.N) (h : t.val % 19 ≠ 0) (d) : (dats m 0 c).before 10 t d = gates m c t := by
  rw [Dat.before_out_traj _ 10 rfl (fun _ _ => rfl) (carry10 m c) t.val t rfl d,
    if_neg (by rw [fresh10, decide_eq_false h]; exact Bool.false_ne_true), after0_10]
  exact gates_pred m c t h

/-! ## The body's obligation -/

abbrev st0 (t : Fin cfg0.N) : Memref sig .tc .vmem S1024x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S2048x256 .bf16 := win0_2.stage (cfg0.slots t 2)
abbrev st3 (t : Fin cfg0.N) : Memref sig .tc .vmem S2048x128 .bf16 := win0_3.stage (cfg0.slots t 3)
abbrev st4 (t : Fin cfg0.N) : Memref sig .tc .vmem S1x128 .f32 := win0_4.stage (cfg0.slots t 4)
abbrev st5 (t : Fin cfg0.N) : Memref sig .tc .vmem S1024x128 .f32 := win0_5.stage (cfg0.slots t 5)
abbrev st6 (t : Fin cfg0.N) : Memref sig .tc .vmem S1024x128 .f32 := win0_6.stage (cfg0.slots t 6)
abbrev st7 (t : Fin cfg0.N) : Memref sig .tc .vmem S1024x128 .f32 := win0_7.stage (cfg0.slots t 7)
abbrev st8 (t : Fin cfg0.N) : Memref sig .tc .vmem S1024x256 .f32 := win0_8.stage (cfg0.slots t 8)
abbrev st9 (t : Fin cfg0.N) : Memref sig .tc .vmem S1024x256 .bf16 := win0_9.stage (cfg0.slots t 9)
abbrev st10 (t : Fin cfg0.N) : Memref sig .tc .vmem S1024x128 .f32 := win0_10.stage (cfg0.slots t 10)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves0 (c : Dev nD) (t : Fin cfg0.N) : (dats m 0 c).leavesExact 0 t = owns (c : Thread nD τ) (st0 t) fullShare (iblk m c 0 t) := by
  unfold Dat.leavesExact; rw [show cfg0.idle 0 (cfg0.grid.coords t) = false from rfl, after0_0]
theorem leaves1 (c : Dev nD) (t : Fin cfg0.N) : (dats m 0 c).leavesExact 1 t = owns (c : Thread nD τ) (st1 t) fullShare (iblk m c 1 t) := by
  unfold Dat.leavesExact; rw [show cfg0.idle 1 (cfg0.grid.coords t) = false from rfl, after0_1]
theorem leaves2 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, after0_2]
theorem leaves3 (c : Dev nD) (t : Fin cfg0.N) : (dats m 0 c).leavesExact 3 t = owns (c : Thread nD τ) (st3 t) fullShare (iblk m c 3 t) := by
  unfold Dat.leavesExact; rw [show cfg0.idle 3 (cfg0.grid.coords t) = false from rfl, after0_3]
theorem leaves4 (c : Dev nD) (t : Fin cfg0.N) : (dats m 0 c).leavesExact 4 t = owns (c : Thread nD τ) (st4 t) fullShare (iblk m c 4 t) := by
  unfold Dat.leavesExact; rw [show cfg0.idle 4 (cfg0.grid.coords t) = false from rfl, after0_4]
theorem leaves5 (c : Dev nD) (t : Fin cfg0.N) : (dats m 0 c).leavesExact 5 t = owns (c : Thread nD τ) (st5 t) fullShare (iblk m c 5 t) := by
  unfold Dat.leavesExact; rw [show cfg0.idle 5 (cfg0.grid.coords t) = false from rfl, after0_5]
theorem leaves6 (c : Dev nD) (t : Fin cfg0.N) : (dats m 0 c).leavesExact 6 t = owns (c : Thread nD τ) (st6 t) fullShare (iblk m c 6 t) := by
  unfold Dat.leavesExact; rw [show cfg0.idle 6 (cfg0.grid.coords t) = false from rfl, after0_6]
theorem leaves7 (c : Dev nD) (t : Fin cfg0.N) : (dats m 0 c).leavesExact 7 t = owns (c : Thread nD τ) (st7 t) fullShare (iblk m c 7 t) := by
  unfold Dat.leavesExact; rw [show cfg0.idle 7 (cfg0.grid.coords t) = false from rfl, after0_7]
theorem leaves8 (c : Dev nD) (t : Fin cfg0.N) : (dats m 0 c).leavesExact 8 t = owns (c : Thread nD τ) (st8 t) fullShare (prod m c t) := by
  unfold Dat.leavesExact; rw [show cfg0.idle 8 (cfg0.grid.coords t) = false from (live8 t), after0_8]
theorem leaves9 (c : Dev nD) (t : Fin cfg0.N) : (dats m 0 c).leavesExact 9 t = owns (c : Thread nD τ) (st9 t) fullShare (prodB m c t) := by
  unfold Dat.leavesExact; rw [show cfg0.idle 9 (cfg0.grid.coords t) = false from (live9 t), after0_9]
/-- The gates' buffer is left at the gates, stored there or not. -/
theorem leaves10 (c : Dev nD) (t : Fin cfg0.N) :
    owns (c : Thread nD τ) (st10 t) fullShare (gates m c t) ⊢ (dats m 0 c).leavesExact 10 t := by
  by_cases h : t.val % 19 = 0
  · rw [show (dats m 0 c).leavesExact 10 t = owns (c : Thread nD τ) (st10 t) fullShare (gates m c t) from by
      unfold Dat.leavesExact
      rw [show cfg0.idle 10 (cfg0.grid.coords t) = false from (idle10 t).trans (by simp [h]), after0_10]]
  · have hi : cfg0.idle 10 (cfg0.grid.coords t) = true := (idle10 t).trans (by simp [h])
    by_cases hf : (cfg0.win 10).flush t = true
    · rw [show (dats m 0 c).leavesExact 10 t = owns (c : Thread nD τ) (st10 t) fullShare (gates m c t) from by
        unfold Dat.leavesExact; rw [hi, hf, after0_10]]
    · rw [Dat.leavesExact_idle (dats m 0 c) 10 t hi (by simpa using hf)]
      simp only [before0_10 m c t h]
      iintro H
      iexists (gates m c t)
      iexact H

/-- A point that is not the first of its row block, from its run. -/
theorem sound_keep (c : Dev nD) (t : Fin cfg0.N) (h : t.val % 19 ≠ 0)
    (hrun : Keeps c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) (st10 t) (hstage0_10 ((cfg0.slots t 10).cast nbuf0_10)) (Memref.whole cc0_scratch0) (Memref.isWhole_whole _) (iblk m c 0 t) (iblk m c 1 t) (iblk m c 2 t) (iblk m c 3 t) (iblk m c 4 t) (iblk m c 5 t) (iblk m c 6 t) (iblk m c 7 t) (gates m c t) (xn m c t) (prod m c t) (prodB m c t)) :
    bodyPre m c t ⊢ wp frame (wpE (defs₀ (F := F)) Variants.none c none) Set.univ (bodyAt0 t) (fun _ => bodyPost m c t) := by
  unfold Keeps at hrun
  unfold bodyPre bodyPost bodyAt0
  simp only [before0_0, before0_1, before0_2, before0_3, before0_4, before0_5, before0_6, before0_7, leaves0, leaves1, leaves2, leaves3, leaves4, leaves5, leaves6, leaves7, leaves8, leaves9, before0_10 m c t h]
  rw [show (dats m 0 c).owesAt () t.succ = (dats m 0 c).owesAt () t.castSucc from rfl]
  rw [show (dats m 0 c).Φ t.succ = Inv m c (t.val + 1) t.isLt from rfl, Inv_succ]
  rw [Inv_castSucc m c t, Inv_pos m c _ _ (fun hz => h (by rw [hz])), xn_pred m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [HS]; · iexact HS
  iintro ⟨H0, H1, H2, H3, H4, H5, H6, H7, H8, H9, H10, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (leaves10 m c t)
  iexact H10

/-- The first point of a row block, from its run. -/
theorem sound_first (c : Dev nD) (t : Fin cfg0.N)
    (hrun : Fills c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) (st10 t) (hstage0_10 ((cfg0.slots t 10).cast nbuf0_10)) (Memref.whole cc0_scratch0) (Memref.isWhole_whole _) (iblk m c 0 t) (iblk m c 1 t) (iblk m c 2 t) (iblk m c 3 t) (iblk m c 4 t) (iblk m c 5 t) (iblk m c 6 t) (iblk m c 7 t) (gates m c t) (xn m c t) (prod m c t) (prodB m c t)) :
    bodyPre m c t ⊢ wp frame (wpE (defs₀ (F := F)) Variants.none c none) Set.univ (bodyAt0 t) (fun _ => bodyPost m c t) := by
  unfold Fills at hrun
  unfold bodyPre bodyPost bodyAt0
  simp only [before0_0, before0_1, before0_2, before0_3, before0_4, before0_5, before0_6, before0_7, leaves0, leaves1, leaves2, leaves3, leaves4, leaves5, leaves6, leaves7, leaves8, leaves9]
  rw [show (dats m 0 c).owesAt () t.succ = (dats m 0 c).owesAt () t.castSucc from rfl]
  rw [show (dats m 0 c).Φ t.succ = Inv m c (t.val + 1) t.isLt from rfl, Inv_succ]
  by_cases hz : t.val = 0
  · rw [Inv_castSucc m c t, Inv_zero m c _ _ hz, start_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (hrun Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, H8, H9, H10, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves10 m c t)
    iexact H10
  · rw [Inv_castSucc m c t, Inv_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (hrun Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexists _; iexact HS
    iintro ⟨H0, H1, H2, H3, H4, H5, H6, H7, H8, H9, H10, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves10 m c t)
    iexact H10

/-- The body's triple at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 19 = 0
  · refine sound_first m c t ?_
    rw [show prod m c t = k0_pay1 (xn m c t) (iblk m c 2 t) from by
        unfold Inproj.prod; rw [if_neg (by omega), if_neg (by omega)],
      show prodB m c t = k0_pay2 (xn m c t) (iblk m c 2 t) from by
        unfold prodB; rw [if_neg (by omega), if_neg (by omega)]]
    exact run_first (F := F) _ _ _ _ _ _ _ _ _ _ _ _ _ _ _ _ _ _ _ _ _ _ _ _ _ _ _ _ _ _ _ _ _ _ ((cond1_iff t).mpr h0) ((cond2_iff t).mpr (by omega))
      (fun h => by have := (cond3_iff t).mp h; omega) (fun h => by have := (cond4_iff t).mp h; omega)
  · refine sound_keep m c t h0 ?_
    by_cases h4 : 16 ≤ t.val % 19
    · rw [show prod m c t = _ from if_pos h4, show prodB m c t = _ from if_pos h4]
      exact run_half (F := F) _ _ _ _ _ _ _ _ _ _ _ _ _ _ _ _ _ _ _ _ _ _ _ _ _ _ _ _ _ _ _ _ _ _ _ _ (fun h => h0 ((cond1_iff t).mp h)) (fun h => by have := (cond2_iff t).mp h; omega)
        (fun h => by have := (cond3_iff t).mp h; omega) ((cond4_iff t).mpr h4)
    by_cases h3 : 8 ≤ t.val % 19 ∧ t.val % 19 ≤ 9
    · rw [show prod m c t = _ from (if_neg h4).trans (if_pos h3), show prodB m c t = _ from (if_neg h4).trans (if_pos h3)]
      exact run_both (F := F) _ _ _ _ _ _ _ _ _ _ _ _ _ _ _ _ _ _ _ _ _ _ _ _ _ _ _ _ _ _ _ _ _ _ _ _ (fun h => h0 ((cond1_iff t).mp h)) (fun h => by have := (cond2_iff t).mp h; omega)
        ((cond3_iff t).mpr h3) (fun h => h4 ((cond4_iff t).mp h))
    · rw [show prod m c t = _ from (if_neg h4).trans (if_neg h3), show prodB m c t = _ from (if_neg h4).trans (if_neg h3)]
      have hlt : t.val % 19 < 19 := Nat.mod_lt _ (by decide)
      exact run_plain (F := F) _ _ _ _ _ _ _ _ _ _ _ _ _ _ _ _ _ _ _ _ _ _ _ _ _ _ _ _ _ _ _ _ _ _ _ _ (fun h => h0 ((cond1_iff t).mp h)) ((cond2_iff t).mpr (by omega))
        (fun h => h3 ((cond3_iff t).mp h)) (fun h => h4 ((cond4_iff t).mp h))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region starts with the invariant, -/
theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- and gives the scratch back at the end. -/
theorem hout (c : Dev nD) : (dats m 0 c).Φ (Fin.last cfg0.N) ⊢ Pipeline.ΦA spec0 c := by
  rw [show (dats m 0 c).Φ (Fin.last cfg0.N) = Inv m c cfg0.N (Nat.le_refl _) from rfl,
    Inv_pos m c _ _ (by have : cfg0.N = 152 := N_0; omega), start_eq]
  iintro ⟨HS, Hg⟩
  isplitl [HS]
  · iexists _; iexact HS
  iexact Hg

/-! ## The run and the frame -/

set_option backward.isDefEq.respectTransparency.types false in
/-- The launch: every array ends at what the proof data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel4Ideal.Inproj

end
-- ==== Proof.InprojRef.lean ====
/- The input projection's reference as terms of its arguments: the product of the normalised rows with the whole weight,
   the two rotated pieces, the packing of the columns, and the gates. -/
module

public import proofs.«01_k».proof.Proof.Gen.Reference4Ideal.Run
public import Idealize.ShloMosaic.Lib.Pipeline.ValueKit

@[expose] public section

set_option maxRecDepth 16384

noncomputable section

namespace Cert.Reference4Ideal.Value

open Idealize.ShloMosaic Idealize.ShloMosaic.TcCoe Idealize.SL.Sem
open scoped BigOperators
open Cert.Reference4Ideal Cert.Reference4Ideal.Gen

/-- The input rows normalised by their root mean square. -/
def normed (a0 : FVec Ideal S8192x2048 .f32) (a1 : FVec Ideal S2048 .f32) : FVec Ideal S8192x2048 .f32 :=
  mulf (mulf a0 (broadcastInDim S8192x2048 ![0, 1] bcast_S8192x1_S8192x2048_0_1 (Host.rsqrt (addf (Host.divf (broadcastInDim S8192x1 ![0] bcast_S8192_S8192x1_0 (Host.reduceAdd (mulf a0 a0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 a1))

/-- The normalised rows times the whole weight. -/
def product (a0 : FVec Ideal S8192x2048 .f32) (a1 : FVec Ideal S2048 .f32) (a2 : FVec Ideal S2048x4880 .f32) : FVec Ideal S2x4096x4880 .f32 :=
  Host.dotGeneral dot_S2x4096x2048_S2048x4880_S2x4096x4880_2_0_01_1_n_n none (shapeCast _ (normed a0 a1) shapeCasts_S8192x2048_S2x4096x2048) a2

/-- The rotation angles: position times inverse frequency. -/
def angle : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- Their cosines. -/
def cosT : FVec Ideal S4096x16 .f32 := Host.cos angle

/-- Their sines. -/
def sinT : FVec Ideal S4096x16 .f32 := Host.sin angle

/-- The rotation of the first 32 lanes of each of four heads. -/
def turn4 (x : FVec Ideal S2x4096x4x128 .f32) : FVec Ideal S2x4096x4x128 .f32 :=
  concatenate S2x4096x4x128 3 [⟨S2x4096x4x16, ((subf (mulf (extractStridedSlice S2x4096x4x16 ![0, 0, 0, 0] x slices_S2x4096x4x128_S2x4096x4x16_0_0_0_0) (broadcastInDim S2x4096x4x16 ![0, 1, 2, 3] bcast_S1x4096x1x16_S2x4096x4x16_0_1_2_3 (broadcastInDim S1x4096x1x16 ![1, 3] bcast_S4096x16_S1x4096x1x16_1_3 cosT))) (mulf (extractStridedSlice S2x4096x4x16 ![0, 0, 0, 16] x slices_S2x4096x4x128_S2x4096x4x16_0_0_0_16) (broadcastInDim S2x4096x4x16 ![0, 1, 2, 3] bcast_S1x4096x1x16_S2x4096x4x16_0_1_2_3 (broadcastInDim S1x4096x1x16 ![1, 3] bcast_S4096x16_S1x4096x1x16_1_3 sinT)))))⟩, ⟨S2x4096x4x16, ((addf (mulf (extractStridedSlice S2x4096x4x16 ![0, 0, 0, 16] x slices_S2x4096x4x128_S2x4096x4x16_0_0_0_16) (broadcastInDim S2x4096x4x16 ![0, 1, 2, 3] bcast_S1x4096x1x16_S2x4096x4x16_0_1_2_3 (broadcastInDim S1x4096x1x16 ![1, 3] bcast_S4096x16_S1x4096x1x16_1_3 cosT))) (mulf (extractStridedSlice S2x4096x4x16 ![0, 0, 0, 0] x slices_S2x4096x4x128_S2x4096x4x16_0_0_0_0) (broadcastInDim S2x4096x4x16 ![0, 1, 2, 3] bcast_S1x4096x1x16_S2x4096x4x16_0_1_2_3 (broadcastInDim S1x4096x1x16 ![1, 3] bcast_S4096x16_S1x4096x1x16_1_3 sinT)))))⟩, ⟨S2x4096x4x96, ((extractStridedSlice S2x4096x4x96 ![0, 0, 0, 32] x slices_S2x4096x4x128_S2x4096x4x96_0_0_0_32))⟩] concatenates_S2x4096x4x16_S2x4096x4x16_S2x4096x4x96_S2x4096x4x128_d3

/-- The rotation of the first 32 lanes of each of three heads. -/
def turn3 (x : FVec Ideal S2x4096x3x128 .f32) : FVec Ideal S2x4096x3x128 .f32 :=
  concatenate S2x4096x3x128 3 [⟨S2x4096x3x16, ((subf (mulf (extractStridedSlice S2x4096x3x16 ![0, 0, 0, 0] x slices_S2x4096x3x128_S2x4096x3x16_0_0_0_0) (broadcastInDim S2x4096x3x16 ![0, 1, 2, 3] bcast_S1x4096x1x16_S2x4096x3x16_0_1_2_3 (broadcastInDim S1x4096x1x16 ![1, 3] bcast_S4096x16_S1x4096x1x16_1_3 cosT))) (mulf (extractStridedSlice S2x4096x3x16 ![0, 0, 0, 16] x slices_S2x4096x3x128_S2x4096x3x16_0_0_0_16) (broadcastInDim S2x4096x3x16 ![0, 1, 2, 3] bcast_S1x4096x1x16_S2x4096x3x16_0_1_2_3 (broadcastInDim S1x4096x1x16 ![1, 3] bcast_S4096x16_S1x4096x1x16_1_3 sinT)))))⟩, ⟨S2x4096x3x16, ((addf (mulf (extractStridedSlice S2x4096x3x16 ![0, 0, 0, 16] x slices_S2x4096x3x128_S2x4096x3x16_0_0_0_16) (broadcastInDim S2x4096x3x16 ![0, 1, 2, 3] bcast_S1x4096x1x16_S2x4096x3x16_0_1_2_3 (broadcastInDim S1x4096x1x16 ![1, 3] bcast_S4096x16_S1x4096x1x16_1_3 cosT))) (mulf (extractStridedSlice S2x4096x3x16 ![0, 0, 0, 0] x slices_S2x4096x3x128_S2x4096x3x16_0_0_0_0) (broadcastInDim S2x4096x3x16 ![0, 1, 2, 3] bcast_S1x4096x1x16_S2x4096x3x16_0_1_2_3 (broadcastInDim S1x4096x1x16 ![1, 3] bcast_S4096x16_S1x4096x1x16_1_3 sinT)))))⟩, ⟨S2x4096x3x96, ((extractStridedSlice S2x4096x3x96 ![0, 0, 0, 32] x slices_S2x4096x3x128_S2x4096x3x96_0_0_0_32))⟩] concatenates_S2x4096x3x16_S2x4096x3x16_S2x4096x3x96_S2x4096x3x128_d3

/-- The four heads at column 2048. -/
def heads4 (H : FVec Ideal S2x4096x4880 .f32) : FVec Ideal S2x4096x4x128 .f32 :=
  shapeCast _ (extractStridedSlice S2x4096x512 ![0, 0, 2048] H slices_S2x4096x4880_S2x4096x512_0_0_2048) shapeCasts_S2x4096x512_S2x4096x4x128

/-- The six heads at column 2560, the even ones. -/
def evens (H : FVec Ideal S2x4096x4880 .f32) : FVec Ideal S2x4096x3x128 .f32 :=
  Host.slice S2x4096x3x128 ![0, 0, 0, 0] ![1, 1, 2, 1] (shapeCast _ (extractStridedSlice S2x4096x768 ![0, 0, 2560] H slices_S2x4096x4880_S2x4096x768_0_0_2560) shapeCasts_S2x4096x768_S2x4096x6x128) slicesBy_S2x4096x6x128_S2x4096x3x128_0s1_0s1_0s2_0s1

/-- The odd ones. -/
def odds (H : FVec Ideal S2x4096x4880 .f32) : FVec Ideal S2x4096x3x128 .f32 :=
  Host.slice S2x4096x3x128 ![0, 0, 1, 0] ![1, 1, 2, 1] (shapeCast _ (extractStridedSlice S2x4096x768 ![0, 0, 2560] H slices_S2x4096x4880_S2x4096x768_0_0_2560) shapeCasts_S2x4096x768_S2x4096x6x128) slicesBy_S2x4096x6x128_S2x4096x3x128_0s1_0s1_1s2_0s1

/-- Even and odd heads interleaved again. -/
def interleaved (e o : FVec Ideal S2x4096x3x128 .f32) : FVec Ideal S2x4096x768 .f32 :=
  shapeCast _ (concatenate S2x4096x3x2x128 3 [⟨S2x4096x3x1x128, (broadcastInDim S2x4096x3x1x128 ![0, 1, 2, 4] bcast_S2x4096x3x128_S2x4096x3x1x128_0_1_2_4 e)⟩, ⟨S2x4096x3x1x128, (broadcastInDim S2x4096x3x1x128 ![0, 1, 2, 4] bcast_S2x4096x3x128_S2x4096x3x1x128_0_1_2_4 o)⟩] concatenates_S2x4096x3x1x128_S2x4096x3x1x128_S2x4096x3x2x128_d3) shapeCasts_S2x4096x3x2x128_S2x4096x768

/-- The four heads as columns. -/
def flat4 (x : FVec Ideal S2x4096x4x128 .f32) : FVec Ideal S2x4096x512 .f32 :=
  shapeCast _ x shapeCasts_S2x4096x4x128_S2x4096x512

/-- The packed columns. -/
def packed (H : FVec Ideal S2x4096x4880 .f32) (p : FVec Ideal S2x4096x512 .f32) (q : FVec Ideal S2x4096x768 .f32) : FVec Ideal S8192x4864 .f32 :=
  shapeCast _ ((concatenate S2x4096x4864 2 [⟨S2x4096x1024, ((extractStridedSlice S2x4096x1024 ![0, 0, 0] H slices_S2x4096x4880_S2x4096x1024_0_0_0))⟩, ⟨S2x4096x1024, ((extractStridedSlice S2x4096x1024 ![0, 0, 1024] H slices_S2x4096x4880_S2x4096x1024_0_0_1024))⟩, ⟨S2x4096x512, (p)⟩, ⟨S2x4096x512, ((extractStridedSlice S2x4096x512 ![0, 0, 3340] H slices_S2x4096x4880_S2x4096x512_0_0_3340))⟩, ⟨S2x4096x512, ((extractStridedSlice S2x4096x512 ![0, 0, 3852] H slices_S2x4096x4880_S2x4096x512_0_0_3852))⟩, ⟨S2x4096x512, ((extractStridedSlice S2x4096x512 ![0, 0, 4364] H slices_S2x4096x4880_S2x4096x512_0_0_4364))⟩, ⟨S2x4096x768, (q)⟩] concatenates_S2x4096x1024_S2x4096x1024_S2x4096x512_S2x4096x512_S2x4096x512_S2x4096x512_S2x4096x768_S2x4096x4864_d2)) shapeCasts_S2x4096x4864_S8192x4864

/-- The first result. -/
def ref (a0 : FVec Ideal S8192x2048 .f32) (a1 : FVec Ideal S2048 .f32) (a2 : FVec Ideal S2048x4880 .f32) : FVec Ideal S8192x4864 .f32 :=
  packed (product a0 a1 a2) (flat4 (turn4 (heads4 (product a0 a1 a2)))) (interleaved (turn3 (evens (product a0 a1 a2))) (odds (product a0 a1 a2)))

/-- The forget gates' argument. -/
def gateSum (H : FVec Ideal S2x4096x4880 .f32) (a3 : FVec Ideal S4 .f32) : FVec Ideal S2x4096x4 .f32 :=
  addf (extractStridedSlice S2x4096x4 ![0, 0, 4876] H slices_S2x4096x4880_S2x4096x4_0_0_4876) (broadcastInDim S2x4096x4 ![0, 1, 2] bcast_S1x1x4_S2x4096x4_0_1_2 (broadcastInDim S1x1x4 ![2] bcast_S4_S1x1x4_2 a3))

/-- The logarithm of the sigmoid. -/
def logSigmoid (z : FVec Ideal S2x4096x4 .f32) : FVec Ideal S2x4096x4 .f32 :=
  Host.negf (select (cmpf .une (subf (Host.negf z) (broadcastInDim S2x4096x4 ![] bcast_S_S2x4096x4 (constant S_ .f32 0x00000000#32))) (subf (Host.negf z) (broadcastInDim S2x4096x4 ![] bcast_S_S2x4096x4 (constant S_ .f32 0x00000000#32)))) (addf (Host.negf z) (broadcastInDim S2x4096x4 ![] bcast_S_S2x4096x4 (constant S_ .f32 0x00000000#32))) (addf (maximumf (Host.negf z) (broadcastInDim S2x4096x4 ![] bcast_S_S2x4096x4 (constant S_ .f32 0x00000000#32))) (Host.log1p (Host.exp (Host.negf (Host.absf (subf (Host.negf z) (broadcastInDim S2x4096x4 ![] bcast_S_S2x4096x4 (constant S_ .f32 0x00000000#32)))))))))

/-- The gate columns. -/
def gateCols (H : FVec Ideal S2x4096x4880 .f32) (l : FVec Ideal S2x4096x4 .f32) : FVec Ideal S8192x128 .f32 :=
  shapeCast _ ((concatenate S2x4096x128 2 [⟨S2x4096x4, (l)⟩, ⟨S2x4096x12, ((Host.divf (broadcastInDim S2x4096x12 ![] bcast_S_S2x4096x12 (constant S_ .f32 0x3F800000#32)) (addf (broadcastInDim S2x4096x12 ![] bcast_S_S2x4096x12 (constant S_ .f32 0x3F800000#32)) (Host.exp (Host.negf (extractStridedSlice S2x4096x12 ![0, 0, 3328] H slices_S2x4096x4880_S2x4096x12_0_0_3328))))))⟩, ⟨S2x4096x112, ((Host.divf (broadcastInDim S2x4096x112 ![] bcast_S_S2x4096x112 (constant S_ .f32 0x3F800000#32)) (addf (broadcastInDim S2x4096x112 ![] bcast_S_S2x4096x112 (constant S_ .f32 0x3F800000#32)) (Host.exp (Host.negf (broadcastInDim S2x4096x112 ![] bcast_S_S2x4096x112 (constant S_ .f32 0x00000000#32)))))))⟩] concatenates_S2x4096x4_S2x4096x12_S2x4096x112_S2x4096x128_d2)) shapeCasts_S2x4096x128_S8192x128

/-- The third result. -/
def refGates (a0 : FVec Ideal S8192x2048 .f32) (a1 : FVec Ideal S2048 .f32) (a2 : FVec Ideal S2048x4880 .f32) (a3 : FVec Ideal S4 .f32) : FVec Ideal S8192x128 .f32 :=
  gateCols (product a0 a1 a2) (logSigmoid (gateSum (product a0 a1 a2) a3))

theorem res_eq (m : (ℓ : Loc nD τ sig) → Buf (Elt Ideal) ℓ) (c : Dev nD) :
    res_main_v105 (F := Ideal) m c = ref (m ((c.tc : Thread nD τ).loc main_arg0)) (m ((c.tc : Thread nD τ).loc main_arg1)) (m ((c.tc : Thread nD τ).loc main_arg2)) := rfl

theorem res_eq_copy (m : (ℓ : Loc nD τ sig) → Buf (Elt Ideal) ℓ) (c : Dev nD) :
    res_main_v115 (F := Ideal) m c = ref (m ((c.tc : Thread nD τ).loc main_arg0)) (m ((c.tc : Thread nD τ).loc main_arg1)) (m ((c.tc : Thread nD τ).loc main_arg2)) := rfl

theorem res_eq_gates (m : (ℓ : Loc nD τ sig) → Buf (Elt Ideal) ℓ) (c : Dev nD) :
    res_main_v114 (F := Ideal) m c = refGates (m ((c.tc : Thread nD τ).loc main_arg0)) (m ((c.tc : Thread nD τ).loc main_arg1)) (m ((c.tc : Thread nD τ).loc main_arg2)) (m ((c.tc : Thread nD τ).loc main_arg3)) := rfl

/-- The product at a point: a row of the normalised input against a column of the weight. -/
theorem product_at (a0 : FVec Ideal S8192x2048 .f32) (a1 : FVec Ideal S2048 .f32) (a2 : FVec Ideal S2048x4880 .f32) (r : Fin 8192) (n : Fin 4880) :
    product a0 a1 a2 (ix3 (⟨r / 4096, by omega⟩ : Fin 2) (⟨r % 4096, by omega⟩ : Fin 4096) n) = ∑ k : Fin 2048, normed a0 a1 (ix2 r k) * a2 (ix2 k n) := by
  pointwise [product]

/-- The rotation of one head: lanes below 16 and below 32 are paired, the rest stay. -/
def turn (A : Fin 128 → EReal) (C S : Fin 16 → EReal) (l : Fin 128) : EReal :=
  if hl : (l : ℕ) < 16 then A l * C ⟨l, hl⟩ - A ⟨l + 16, by omega⟩ * S ⟨l, hl⟩
  else if hm : (l : ℕ) < 32 then A l * C ⟨l - 16, by omega⟩ + A ⟨l - 16, by omega⟩ * S ⟨l - 16, by omega⟩
  else A l

/-- Where the 128 columns of a packed head begin in the unpacked product. -/
def srcOf (c : ℕ) : ℕ := if c < 20 then c * 128 else if c < 32 then c * 128 + 780 else c * 128 - 1536

theorem srcOf_lt (c : Fin 38) (l : Fin 128) : srcOf c + l < 4880 := by
  unfold srcOf; split_ifs <;> omega

theorem srcOf_low {c : ℕ} (h : c < 20) : srcOf c = c * 128 := by unfold srcOf; rw [if_pos h]

theorem srcOf_mid {c : ℕ} (h : 20 ≤ c) (h' : c < 32) : srcOf c = c * 128 + 780 := by unfold srcOf; rw [if_neg (by omega), if_pos h']

theorem srcOf_high {c : ℕ} (h : 32 ≤ c) : srcOf c = c * 128 - 1536 := by unfold srcOf; rw [if_neg (by omega), if_neg (by omega)]

/-- Which packed heads are rotated. -/
def turned (c : ℕ) : Prop := 16 ≤ c ∧ c < 20 ∨ 32 ≤ c ∧ c % 2 = 0

instance (c : ℕ) : Decidable (turned c) := inferInstanceAs (Decidable (_ ∨ _))

/-- One row of the packed result, from the row of the product and the row's cosines and sines. -/
def row (A : Fin 4880 → EReal) (C S : Fin 16 → EReal) (c : Fin 38) (l : Fin 128) : EReal :=
  if turned c then turn (fun j => A ⟨srcOf c + j, srcOf_lt c j⟩) C S l else A ⟨srcOf c + l, srcOf_lt c l⟩

theorem turn4_at (x : FVec Ideal S2x4096x4x128 .f32) (b : Fin 2) (s : Fin 4096) (h : Fin 4) (l : Fin 128) :
    turn4 x (ix4 b s h l) = turn (fun j => x (ix4 b s h j)) (fun j => cosT (ix2 s j)) (fun j => sinT (ix2 s j)) l := by
  pointwise [turn4]
  unfold turn
  by_cases h1 : (l : ℕ) < 16
  · rw [dif_pos h1, dif_pos h1]
    congr 4
    exact Fin.ext (Nat.add_comm _ _)
  · rw [dif_neg h1, dif_neg h1]
    by_cases h2 : (l : ℕ) < 32
    · rw [dif_pos (by omega), dif_pos h2]
      congr 4
      exact Fin.ext (by dsimp only; omega)
    · rw [dif_neg (by omega), dif_neg h2]
      congr 2
      exact Fin.ext (by dsimp only; omega)

theorem turn3_at (x : FVec Ideal S2x4096x3x128 .f32) (b : Fin 2) (s : Fin 4096) (h : Fin 3) (l : Fin 128) :
    turn3 x (ix4 b s h l) = turn (fun j => x (ix4 b s h j)) (fun j => cosT (ix2 s j)) (fun j => sinT (ix2 s j)) l := by
  pointwise [turn3]
  unfold turn
  by_cases h1 : (l : ℕ) < 16
  · rw [dif_pos h1, dif_pos h1]
    congr 4
    exact Fin.ext (Nat.add_comm _ _)
  · rw [dif_neg h1, dif_neg h1]
    by_cases h2 : (l : ℕ) < 32
    · rw [dif_pos (by omega), dif_pos h2]
      congr 4
      exact Fin.ext (by dsimp only; omega)
    · rw [dif_neg (by omega), dif_neg h2]
      congr 2
      exact Fin.ext (by dsimp only; omega)

theorem heads4_at (H : FVec Ideal S2x4096x4880 .f32) (b : Fin 2) (s : Fin 4096) (h : Fin 4) (l : Fin 128) :
    heads4 H (ix4 b s h l) = H (ix3 b s ⟨2048 + (h * 128 + l), by omega⟩) := by
  pointwise [heads4]

theorem evens_at (H : FVec Ideal S2x4096x4880 .f32) (b : Fin 2) (s : Fin 4096) (h : Fin 3) (l : Fin 128) :
    evens H (ix4 b s h l) = H (ix3 b s ⟨2560 + (2 * h * 128 + l), by omega⟩) := by
  pointwise [evens]

theorem odds_at (H : FVec Ideal S2x4096x4880 .f32) (b : Fin 2) (s : Fin 4096) (h : Fin 3) (l : Fin 128) :
    odds H (ix4 b s h l) = H (ix3 b s ⟨2560 + ((1 + 2 * h) * 128 + l), by omega⟩) := by
  pointwise [odds]

theorem flat4_at (x : FVec Ideal S2x4096x4x128 .f32) (b : Fin 2) (s : Fin 4096) (n : Fin 512) :
    flat4 x (ix3 b s n) = x (ix4 b s (⟨n / 128, by omega⟩ : Fin 4) (⟨n % 128, by omega⟩ : Fin 128)) := by
  pointwise [flat4]

theorem interleaved_at (e o : FVec Ideal S2x4096x3x128 .f32) (b : Fin 2) (s : Fin 4096) (n : Fin 768) :
    interleaved e o (ix3 b s n) = if (n : ℕ) / 128 % 2 < 1 then e (ix4 b s (⟨n / 256, by omega⟩ : Fin 3) (⟨n % 128, by omega⟩ : Fin 128))
      else o (ix4 b s (⟨n / 256, by omega⟩ : Fin 3) (⟨n % 128, by omega⟩ : Fin 128)) := by
  pointwise [interleaved]
  split_ifs <;> rfl

/-- An unrotated column of the packed result. -/
theorem row_plain (A : Fin 4880 → EReal) (C S : Fin 16 → EReal) (n : Fin 4864) (k : ℕ) (hk' : k < 4880) (ht : ¬ turned (n / 128))
    (hk : k = srcOf (n / 128) + n % 128) : A ⟨k, hk'⟩ = row A C S ⟨n / 128, by omega⟩ ⟨n % 128, by omega⟩ := by
  unfold row
  rw [if_neg ht]
  exact congrArg A (Fin.ext hk)

/-- A rotated column of the packed result. -/
theorem row_turned (A : Fin 4880 → EReal) (C S : Fin 16 → EReal) (n : Fin 4864) (B : Fin 128 → EReal) (l : Fin 128) (ht : turned (n / 128))
    (hl : (l : ℕ) = n % 128) (hB : ∀ (j : Fin 128) (k : Fin 4880), (k : ℕ) = srcOf (n / 128) + j → B j = A k) :
    turn B C S l = row A C S ⟨n / 128, by omega⟩ ⟨n % 128, by omega⟩ := by
  unfold row
  rw [if_pos ht]
  exact congrArg₂ (fun B l => turn B C S l) (funext fun j => hB j _ rfl) (Fin.ext hl)

theorem packed_at (H : FVec Ideal S2x4096x4880 .f32) (r : Fin 8192) (n : Fin 4864) :
    packed H (flat4 (turn4 (heads4 H))) (interleaved (turn3 (evens H)) (odds H)) (ix2 r n)
      = row (fun j => H (ix3 (⟨r / 4096, by omega⟩ : Fin 2) (⟨r % 4096, by omega⟩ : Fin 4096) j)) (fun j => cosT (ix2 (⟨r % 4096, by omega⟩ : Fin 4096) j))
        (fun j => sinT (ix2 (⟨r % 4096, by omega⟩ : Fin 4096) j)) ⟨n / 128, by omega⟩ ⟨n % 128, by omega⟩ := by
  generalize hp : flat4 (turn4 (heads4 H)) = p
  generalize hq : interleaved (turn3 (evens H)) (odds H) = q
  have plain : ∀ (k : ℕ) (hk : k < 4880), ¬ turned (n / 128) → k = srcOf (n / 128) + n % 128 → _ := fun k hk =>
    row_plain (fun j => H (ix3 (⟨r / 4096, by omega⟩ : Fin 2) (⟨r % 4096, by omega⟩ : Fin 4096) j)) (fun j => cosT (ix2 (⟨r % 4096, by omega⟩ : Fin 4096) j))
        (fun j => sinT (ix2 (⟨r % 4096, by omega⟩ : Fin 4096) j)) n k hk
  pointwise [packed]
  by_cases h1 : (n : ℕ) < 1024
  · rw [dif_pos h1]
    exact plain _ _ (by unfold turned; omega) (by rw [srcOf_low (by omega)]; omega)
  rw [dif_neg h1]
  by_cases h2 : (n : ℕ) < 2048
  · rw [dif_pos (by omega)]
    exact plain _ _ (by unfold turned; omega) (by rw [srcOf_low (by omega)]; omega)
  rw [dif_neg (by omega)]
  by_cases h3 : (n : ℕ) < 2560
  · rw [dif_pos (by omega), ← hp, flat4_at, turn4_at]
    refine row_turned _ _ _ n _ _ (by unfold turned; omega) (by dsimp only; omega) fun j k hk => ?_
    rw [heads4_at]
    rw [srcOf_low (by omega)] at hk
    exact congrArg (fun k => H (ix3 _ _ k)) (Fin.ext (by dsimp only; omega))
  rw [dif_neg (by omega)]
  by_cases h4 : (n : ℕ) < 3072
  · rw [dif_pos (by omega)]
    exact plain _ _ (by unfold turned; omega) (by rw [srcOf_mid (by omega) (by omega)]; omega)
  rw [dif_neg (by omega)]
  by_cases h5 : (n : ℕ) < 3584
  · rw [dif_pos (by omega)]
    exact plain _ _ (by unfold turned; omega) (by rw [srcOf_mid (by omega) (by omega)]; omega)
  rw [dif_neg (by omega)]
  by_cases h6 : (n : ℕ) < 4096
  · rw [dif_pos (by omega)]
    exact plain _ _ (by unfold turned; omega) (by rw [srcOf_mid (by omega) (by omega)]; omega)
  rw [dif_neg (by omega), ← hq, interleaved_at]
  by_cases he : (n : ℕ) / 128 % 2 = 0
  · rw [if_pos (by dsimp only; omega), turn3_at]
    refine row_turned _ _ _ n _ _ (by unfold turned; omega) (by dsimp only; omega) fun j k hk => ?_
    rw [evens_at]
    rw [srcOf_high (by omega)] at hk
    exact congrArg (fun k => H (ix3 _ _ k)) (Fin.ext (by dsimp only; omega))
  · rw [if_neg (by dsimp only; omega), odds_at]
    exact plain _ _ (by unfold turned; omega) (by rw [srcOf_high (by omega)]; dsimp only; omega)

/-- The packed result at a point. -/
theorem ref_at (a0 : FVec Ideal S8192x2048 .f32) (a1 : FVec Ideal S2048 .f32) (a2 : FVec Ideal S2048x4880 .f32) (r : Fin 8192) (n : Fin 4864) :
    ref a0 a1 a2 (ix2 r n) = row (fun j => ∑ k : Fin 2048, normed a0 a1 (ix2 r k) * a2 (ix2 k j)) (fun j => cosT (ix2 (⟨r % 4096, by omega⟩ : Fin 4096) j))
        (fun j => sinT (ix2 (⟨r % 4096, by omega⟩ : Fin 4096) j)) ⟨n / 128, by omega⟩ ⟨n % 128, by omega⟩ := by
  unfold ref
  rw [packed_at]
  simp only [product_at]

/-- The logarithm of the sigmoid at a point. -/
def lsig (z : EReal) : EReal := -(max (-z) 0 + Ideal.log1p (Ideal.exp (-FloatOps.absf (F := Ideal) (φ := .f32) (-z))))

/-- The sigmoid at a point. -/
def sig (z : EReal) : EReal := Ideal.div 1 (1 + Ideal.exp (-z))

/-- One row of the gates, from the row of the product and the bias. -/
def gateRow (A : Fin 4880 → EReal) (b : Fin 4 → EReal) (n : Fin 128) : EReal :=
  if h : (n : ℕ) < 4 then lsig (A ⟨4876 + n, by omega⟩ + b ⟨n, h⟩)
  else if h : (n : ℕ) < 16 then sig (A ⟨3328 + (n - 4), by omega⟩) else sig 0

theorem logSigmoid_at (z : FVec Ideal S2x4096x4 .f32) (y) : logSigmoid z y = lsig (z y) := by
  pointwise [logSigmoid]
  rw [if_neg (by simp)]
  rfl

theorem gateSum_at (H : FVec Ideal S2x4096x4880 .f32) (a3 : FVec Ideal S4 .f32) (b : Fin 2) (s : Fin 4096) (n : Fin 4) :
    gateSum H a3 (ix3 b s n) = H (ix3 b s ⟨4876 + n, by omega⟩) + a3 (ix1 n) := by
  pointwise [gateSum]

/-- The gates at a point. -/
theorem refGates_at (a0 : FVec Ideal S8192x2048 .f32) (a1 : FVec Ideal S2048 .f32) (a2 : FVec Ideal S2048x4880 .f32) (a3 : FVec Ideal S4 .f32) (r : Fin 8192) (n : Fin 128) :
    refGates a0 a1 a2 a3 (ix2 r n) = gateRow (fun j => ∑ k : Fin 2048, normed a0 a1 (ix2 r k) * a2 (ix2 k j)) (fun j => a3 (ix1 j)) n := by
  unfold refGates
  generalize hl : logSigmoid (gateSum (product a0 a1 a2) a3) = l
  have hP := product_at a0 a1 a2 r
  generalize product a0 a1 a2 = H at hl hP ⊢
  pointwise [gateCols]
  unfold gateRow
  by_cases h1 : (n : ℕ) < 4
  · rw [dif_pos h1, dif_pos h1, ← hl, logSigmoid_at, gateSum_at, hP]
  · rw [dif_neg h1, dif_neg h1]
    by_cases h2 : (n : ℕ) < 16
    · rw [dif_pos (by omega), dif_pos h2, hP]; rfl
    · rw [dif_neg (by omega), dif_neg h2]; rfl

end Cert.Reference4Ideal.Value

end
-- ==== Proof.Inproj.lean ====
/- The input-projection kernel at extended reals: the blocks of its operands as parts of the arguments, and what each point
   writes as a block of the reference's results. -/
module

public import proofs.«01_k».proof.Proof.InprojRef
public import proofs.«01_k».proof.Proof.InprojFrame
public import Idealize.ShloMosaic.Lib.Pipeline.Value

@[expose] public section

set_option maxRecDepth 16384

noncomputable section

namespace Cert.Kernel4Ideal.Inproj

open Idealize.ShloMosaic Idealize.ShloMosaic.TcCoe Idealize.SL.Sem
open Idealize.ShloMosaic.Pipeline (Dat)
open scoped BigOperators
open Cert.Kernel4Ideal Cert.Kernel4Ideal.Gen
open Cert.Reference4Ideal.Value (normed cosT sinT turn srcOf turned row gateRow lsig sig)

variable (m : (ℓ : Loc nD τ sig) → Buf (Elt Ideal) ℓ)

theorem idx : ∀ t : Fin cfg0.N, win0_0.index t = ![t.val / 19, 0]
    ∧ win0_1.index t = ![0, 0]
    ∧ win0_2.index t = ![0, t.val % 19]
    ∧ win0_3.index t = ![0, 0]
    ∧ win0_4.index t = ![0, 0]
    ∧ win0_5.index t = ![t.val / 19, 0]
    ∧ win0_6.index t = ![t.val / 19, 0]
    ∧ win0_7.index t = ![t.val / 19, 0]
    ∧ win0_8.index t = ![t.val / 19, t.val % 19]
    ∧ win0_9.index t = ![t.val / 19, t.val % 19]
    ∧ win0_10.index t = ![t.val / 19, 0] :=
  (by decide +kernel : ∀ t : Fin grid0.N, _)

/-- The array row a block row of point `t` sits at. -/
abbrev rowOf (t : Fin cfg0.N) (p : Fin 1024) : Fin 8192 :=
  ⟨t.val / 19 * 1024 + p, by have := lt152 t; omega⟩

/-! ## The prepared operands -/

/-- The packed weight. -/
def weight (a2 : FVec Ideal S2048x4880 .f32) : FVec Ideal S2048x4864 .bf16 :=
  truncf .bf16 (concatenate S2048x4864 1 [⟨S2048x2560, extractStridedSlice S2048x2560 ![0, 0] a2 slices_S2048x4880_S2048x2560_0_0⟩, ⟨S2048x1536, extractStridedSlice S2048x1536 ![0, 3340] a2 slices_S2048x4880_S2048x1536_0_3340⟩, ⟨S2048x768, extractStridedSlice S2048x768 ![0, 2560] a2 slices_S2048x4880_S2048x768_0_2560⟩] concatenates_S2048x2560_S2048x1536_S2048x768_S2048x4864_d1) bitsLt_bf16_f32

/-- The gates' weight: the used columns and zeros. -/
def gateWeight (a2 : FVec Ideal S2048x4880 .f32) : FVec Ideal S2048x128 .bf16 :=
  truncf .bf16 (concatenate S2048x128 1 [⟨S2048x4, extractStridedSlice S2048x4 ![0, 4876] a2 slices_S2048x4880_S2048x4_0_4876⟩, ⟨S2048x12, extractStridedSlice S2048x12 ![0, 3328] a2 slices_S2048x4880_S2048x12_0_3328⟩, ⟨S2048x112, broadcastInDim S2048x112 ![] bcast_S_S2048x112 (constant S_ .f32 0x00000000#32)⟩] concatenates_S2048x4_S2048x12_S2048x112_S2048x128_d1) bitsLt_bf16_f32

/-- The gates' bias: the forget gates' and zeros. -/
def gateBias (a3 : FVec Ideal S4 .f32) : FVec Ideal S1x128 .f32 :=
  broadcastInDim S1x128 ![1] bcast_S128_S1x128_1 (concatenate S128 0 [⟨S4, a3⟩, ⟨S124, broadcastInDim S124 ![] bcast_S_S124 (constant S_ .f32 0x00000000#32)⟩] concatenates_S4_S124_S128_d0)

/-- The rotation angles of all rows: the positions repeat once per batch element. -/
def angles : FVec Ideal S8192x16 .f32 :=
  mulf (broadcastInDim S8192x16 ![0, 1] bcast_S8192x1_S8192x16_0_1 (broadcastInDim S8192x1 ![0] bcast_S8192_S8192x1_0 (sitofp .f32 (shapeCast S8192 (broadcastInDim S2x4096 ![0, 1] bcast_S1x4096_S2x4096_0_1 (shapeCast S1x4096 (iotaInDim S4096 32 0) shapeCasts_S4096_S1x4096)) shapeCasts_S2x4096_S8192))))
    (broadcastInDim S8192x16 ![0, 1] bcast_S1x16_S8192x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The factors of the lanes themselves: cosines twice, then ones. -/
def keepF (C : FVec Ideal S8192x16 .f32) : FVec Ideal S8192x128 .f32 :=
  concatenate S8192x128 1 [⟨S8192x16, C⟩, ⟨S8192x16, C⟩, ⟨S8192x96, broadcastInDim S8192x96 ![] bcast_S_S8192x96 (constant S_ .f32 0x3F800000#32)⟩] concatenates_S8192x16_S8192x16_S8192x96_S8192x128_d1

/-- The factors of the lanes 16 above: minus sines, then zeros. -/
def aboveF (S : FVec Ideal S8192x16 .f32) : FVec Ideal S8192x128 .f32 :=
  concatenate S8192x128 1 [⟨S8192x16, Host.negf S⟩, ⟨S8192x112, broadcastInDim S8192x112 ![] bcast_S_S8192x112 (constant S_ .f32 0x00000000#32)⟩] concatenates_S8192x16_S8192x112_S8192x128_d1

/-- The factors of the lanes 16 below: zeros, sines, zeros. -/
def belowF (S : FVec Ideal S8192x16 .f32) : FVec Ideal S8192x128 .f32 :=
  concatenate S8192x128 1 [⟨S8192x16, broadcastInDim S8192x16 ![] bcast_S_S8192x16 (constant S_ .f32 0x00000000#32)⟩, ⟨S8192x16, S⟩, ⟨S8192x96, broadcastInDim S8192x96 ![] bcast_S_S8192x96 (constant S_ .f32 0x00000000#32)⟩] concatenates_S8192x16_S8192x16_S8192x96_S8192x128_d1

theorem V_weight (c : Dev nD) : V m c main_v4 = weight (m ((c : Thread nD τ).loc main_arg2)) := rfl
theorem V_gateWeight (c : Dev nD) : V m c main_v9 = gateWeight (m ((c : Thread nD τ).loc main_arg2)) := rfl
theorem V_gateBias (c : Dev nD) : V m c main_v12 = gateBias (m ((c : Thread nD τ).loc main_arg3)) := rfl
theorem V_keepF (c : Dev nD) : V m c main_v32 = keepF (Host.cos angles) := rfl
theorem V_aboveF (c : Dev nD) : V m c main_v35 = aboveF (Host.sin angles) := rfl
theorem V_belowF (c : Dev nD) : V m c main_v38 = belowF (Host.sin angles) := rfl

theorem cos_at (r : Fin 8192) (j : Fin 16) : Host.cos angles (ix2 r j) = cosT (ix2 (⟨r % 4096, by omega⟩ : Fin 4096) j) := by
  pointwise [angles, cosT, Cert.Reference4Ideal.Value.angle]

theorem sin_at (r : Fin 8192) (j : Fin 16) : Host.sin angles (ix2 r j) = sinT (ix2 (⟨r % 4096, by omega⟩ : Fin 4096) j) := by
  pointwise [angles, sinT, Cert.Reference4Ideal.Value.angle]

theorem weight_at (a2 : FVec Ideal S2048x4880 .f32) (k : Fin 2048) (n : Fin 4864) (j : Fin 4880) (hj : (j : ℕ) = srcOf (n / 128) + n % 128) :
    weight a2 (ix2 k n) = a2 (ix2 k j) := by
  pointwise [weight]
  have e : ∀ (i : ℕ) (hi : i < 4880), i = j → a2 (ix2 k (⟨i, hi⟩ : Fin 4880)) = a2 (ix2 k j) := fun i hi h => congrArg (fun j => a2 (ix2 k j)) (Fin.ext h)
  by_cases h1 : (n : ℕ) < 2560
  · rw [dif_pos h1]
    exact e _ _ (by rw [hj, Cert.Reference4Ideal.Value.srcOf_low (by omega)]; omega)
  rw [dif_neg h1]
  by_cases h2 : (n : ℕ) < 4096
  · rw [dif_pos (by omega)]
    exact e _ _ (by rw [hj, Cert.Reference4Ideal.Value.srcOf_mid (by omega) (by omega)]; omega)
  · rw [dif_neg (by omega)]
    exact e _ _ (by rw [hj, Cert.Reference4Ideal.Value.srcOf_high (by omega)]; omega)

/-- A lane of the gates' weight, from the row of the whole weight. -/
def gateLane (A : Fin 4880 → EReal) (n : Fin 128) : EReal :=
  if h : (n : ℕ) < 4 then A ⟨4876 + n, by omega⟩ else if h : (n : ℕ) - 4 < 12 then A ⟨3328 + (n - 4), by omega⟩ else 0

theorem gateWeight_at (a2 : FVec Ideal S2048x4880 .f32) (k : Fin 2048) (n : Fin 128) :
    gateWeight a2 (ix2 k n) = gateLane (fun j => a2 (ix2 k j)) n := by
  pointwise [gateWeight]
  rfl

theorem gateBias_at (a3 : FVec Ideal S4 .f32) (n : Fin 128) : gateBias a3 (ix2 0 n) = if h : (n : ℕ) < 4 then a3 (ix1 ⟨n, h⟩) else 0 := by
  pointwise [gateBias]

/-- A row of the factors of the lanes themselves. -/
def keep (C : Fin 16 → EReal) (l : Fin 128) : EReal :=
  if h : (l : ℕ) < 16 then C ⟨l, h⟩ else if h : (l : ℕ) - 16 < 16 then C ⟨l - 16, h⟩ else 1

/-- A row of the factors of the lanes 16 above. -/
def above (S : Fin 16 → EReal) (l : Fin 128) : EReal := if h : (l : ℕ) < 16 then -S ⟨l, h⟩ else 0

/-- A row of the factors of the lanes 16 below. -/
def below (S : Fin 16 → EReal) (l : Fin 128) : EReal :=
  if h : (l : ℕ) < 16 then 0 else if h : (l : ℕ) - 16 < 16 then S ⟨l - 16, h⟩ else 0

theorem keepF_at (C : FVec Ideal S8192x16 .f32) (r : Fin 8192) (l : Fin 128) : keepF C (ix2 r l) = keep (fun j => C (ix2 r j)) l := by
  pointwise [keepF]
  rfl

theorem aboveF_at (S : FVec Ideal S8192x16 .f32) (r : Fin 8192) (l : Fin 128) : aboveF S (ix2 r l) = above (fun j => S (ix2 r j)) l := by
  pointwise [aboveF]
  rfl

theorem belowF_at (S : FVec Ideal S8192x16 .f32) (r : Fin 8192) (l : Fin 128) : belowF S (ix2 r l) = below (fun j => S (ix2 r j)) l := by
  pointwise [belowF]
  rfl

/-! ## The operands' blocks -/

/-- The row of the reference's product a block row of point `t` holds. -/
def acc (c : Dev nD) (t : Fin cfg0.N) (p : Fin 1024) (j : Fin 4880) : EReal :=
  ∑ k : Fin 2048, normed (m ((c : Thread nD τ).loc main_arg0)) (m ((c : Thread nD τ).loc main_arg1)) (ix2 (rowOf t p) k)
    * (show FVec Ideal S2048x4880 .f32 from m ((c : Thread nD τ).loc main_arg2)) (ix2 k j)

/-- The cosines of a block row. -/
def cosR (t : Fin cfg0.N) (p : Fin 1024) (j : Fin 16) : EReal := cosT (ix2 (⟨(rowOf t p : ℕ) % 4096, by omega⟩ : Fin 4096) j)

/-- The sines of a block row. -/
def sinR (t : Fin cfg0.N) (p : Fin 1024) (j : Fin 16) : EReal := sinT (ix2 (⟨(rowOf t p : ℕ) % 4096, by omega⟩ : Fin 4096) j)

theorem xn_at (c : Dev nD) (t : Fin cfg0.N) (p : Fin 1024) (k : Fin 2048) :
    xn m c t (ix2 p k) = normed (m ((c : Thread nD τ).loc main_arg0)) (m ((c : Thread nD τ).loc main_arg1)) (ix2 (rowOf t p) k) := by
  unfold xn
  pointwise [k0_pay7, normed]
  blk_point [iblk, V, idx t, rowOf]

theorem blk2_at (c : Dev nD) (t : Fin cfg0.N) (k : Fin 2048) (q : Fin 256) (j : Fin 4880)
    (hj : (j : ℕ) = srcOf (2 * (t.val % 19) + q / 128) + q % 128) :
    iblk m c 2 t (ix2 k q) = (show FVec Ideal S2048x4880 .f32 from m ((c : Thread nD τ).loc main_arg2)) (ix2 k j) := by
  have key : ∀ A : FVec Ideal S2048x4864 .bf16, ((cfg0.win 2).blk t).view.read (Elt Ideal) A (ix2 k q)
      = A (ix2 k (⟨t.val % 19 * 256 + q, by have := lt152 t; omega⟩ : Fin 4864)) := fun A => by blk_point [idx t]
  refine (key (V m c main_v4)).trans ?_
  rw [V_weight]
  refine weight_at _ _ _ _ ?_
  rw [hj]
  have e1 : (t.val % 19 * 256 + (q : ℕ)) / 128 = 2 * (t.val % 19) + q / 128 := by omega
  have e2 : (t.val % 19 * 256 + (q : ℕ)) % 128 = q % 128 := by omega
  dsimp only
  rw [e1, e2]

theorem blk3_at (c : Dev nD) (t : Fin cfg0.N) (k : Fin 2048) (n : Fin 128) :
    iblk m c 3 t (ix2 k n) = gateLane (fun j => (show FVec Ideal S2048x4880 .f32 from m ((c : Thread nD τ).loc main_arg2)) (ix2 k j)) n := by
  have key : ∀ A : FVec Ideal S2048x128 .bf16, ((cfg0.win 3).blk t).view.read (Elt Ideal) A (ix2 k n) = A (ix2 k n) := fun A => by blk_point [idx t]
  refine (key (V m c main_v9)).trans ?_
  rw [V_gateWeight]
  exact gateWeight_at _ _ _

theorem blk4_at (c : Dev nD) (t : Fin cfg0.N) (n : Fin 128) :
    iblk m c 4 t (ix2 0 n) = if h : (n : ℕ) < 4 then (show FVec Ideal S4 .f32 from m ((c : Thread nD τ).loc main_arg3)) (ix1 ⟨n, h⟩) else 0 := by
  have key : ∀ A : FVec Ideal S1x128 .f32, ((cfg0.win 4).blk t).view.read (Elt Ideal) A (ix2 0 n) = A (ix2 0 n) := fun A => by blk_point [idx t]
  refine (key (V m c main_v12)).trans ?_
  rw [V_gateBias]
  exact gateBias_at _ _

theorem blk5_at (c : Dev nD) (t : Fin cfg0.N) (p : Fin 1024) (l : Fin 128) : iblk m c 5 t (ix2 p l) = keep (cosR t p) l := by
  have key : ∀ A : FVec Ideal S8192x128 .f32, ((cfg0.win 5).blk t).view.read (Elt Ideal) A (ix2 p l) = A (ix2 (rowOf t p) l) := fun A => by blk_point [idx t, rowOf]
  refine (key (V m c main_v32)).trans ?_
  rw [V_keepF, keepF_at]
  simp only [cos_at]
  rfl

theorem blk6_at (c : Dev nD) (t : Fin cfg0.N) (p : Fin 1024) (l : Fin 128) : iblk m c 6 t (ix2 p l) = above (sinR t p) l := by
  have key : ∀ A : FVec Ideal S8192x128 .f32, ((cfg0.win 6).blk t).view.read (Elt Ideal) A (ix2 p l) = A (ix2 (rowOf t p) l) := fun A => by blk_point [idx t, rowOf]
  refine (key (V m c main_v35)).trans ?_
  rw [V_aboveF, aboveF_at]
  simp only [sin_at]
  rfl

theorem blk7_at (c : Dev nD) (t : Fin cfg0.N) (p : Fin 1024) (l : Fin 128) : iblk m c 7 t (ix2 p l) = below (sinR t p) l := by
  have key : ∀ A : FVec Ideal S8192x128 .f32, ((cfg0.win 7).blk t).view.read (Elt Ideal) A (ix2 p l) = A (ix2 (rowOf t p) l) := fun A => by blk_point [idx t, rowOf]
  refine (key (V m c main_v38)).trans ?_
  rw [V_belowF, belowF_at]
  simp only [sin_at]
  rfl

/-! ## The body's terms -/

theorem pay1_at (x : Vec Ideal S1024x2048 .bf16) (w : Vec Ideal S2048x256 .bf16) (p : Fin 1024) (q : Fin 256) :
    k0_pay1 (F := Ideal) x w (ix2 p q) = ∑ k : Fin 2048, x (ix2 p k) * w (ix2 k q) := by
  pointwise [k0_pay1]

/-- A head's lanes, each with the lane 16 above and the lane 16 below, times the three factors. -/
def spin (B f g h : Fin 128 → EReal) (l : Fin 128) : EReal :=
  B l * f l + B ⟨(l + 128 - 112) % 128, by omega⟩ * g l + B ⟨(l + 128 - 16) % 128, by omega⟩ * h l

/-- With the prepared factors that is the reference's rotation. -/
theorem spin_turn (B : Fin 128 → EReal) (C S : Fin 16 → EReal) (l : Fin 128) : spin B (keep C) (above S) (below S) l = turn B C S l := by
  unfold spin keep above below turn
  by_cases h1 : (l : ℕ) < 16
  · simp only [dif_pos h1, mul_zero, add_zero, sub_eq_add_neg, mul_neg]
    exact congrArg (fun j => B l * C ⟨l, h1⟩ + -(B j * S ⟨l, h1⟩)) (Fin.ext (by dsimp only; omega))
  · by_cases h2 : (l : ℕ) < 32
    · have h3 : (l : ℕ) - 16 < 16 := by omega
      simp only [dif_neg h1, dif_pos h2, dif_pos h3, mul_zero, add_zero]
      exact congrArg (fun j => B l * C ⟨l - 16, h3⟩ + B j * S ⟨l - 16, h3⟩) (Fin.ext (by dsimp only; omega))
    · have h3 : ¬ (l : ℕ) - 16 < 16 := by omega
      simp only [dif_neg h1, dif_neg h2, dif_neg h3, mul_zero, add_zero, mul_one]

theorem pay3_at (x : Vec Ideal S1024x2048 .bf16) (w : Vec Ideal S2048x256 .bf16) (f g h : Vec Ideal S1024x128 .f32) (p : Fin 1024) (q : Fin 256) :
    k0_pay3 (F := Ideal) x w f g h (ix2 p q) = spin (fun j => k0_pay1 (F := Ideal) x w (ix2 p (⟨q / 128 * 128 + j, by omega⟩ : Fin 256)))
      (fun j => f (ix2 p j)) (fun j => g (ix2 p j)) (fun j => h (ix2 p j)) ⟨q % 128, by omega⟩ := by
  unfold k0_pay3
  generalize k0_pay1 x w = X
  pointwise []
  unfold spin
  by_cases hq : (q : ℕ) < 128
  · rw [dif_pos hq]
    have e1 : (⟨(q : ℕ), hq⟩ : Fin 128) = ⟨(q : ℕ) % 128, by omega⟩ := Fin.ext (by dsimp only; omega)
    refine congrArg₂ (· + ·) (congrArg₂ (· + ·) (congrArg₂ (· * ·) ?_ (congrArg (fun j => f (ix2 p j)) e1)) (congrArg₂ (· * ·) ?_ (congrArg (fun j => g (ix2 p j)) e1)))
      (congrArg₂ (· * ·) ?_ (congrArg (fun j => h (ix2 p j)) e1))
    all_goals exact congrArg (fun j => X (ix2 p j)) (Fin.ext (by dsimp only; omega))
  · rw [dif_neg hq]
    have e1 : (⟨(q : ℕ) - 128, by omega⟩ : Fin 128) = ⟨(q : ℕ) % 128, by omega⟩ := Fin.ext (by dsimp only; omega)
    refine congrArg₂ (· + ·) (congrArg₂ (· + ·) (congrArg₂ (· * ·) ?_ (congrArg (fun j => f (ix2 p j)) e1)) (congrArg₂ (· * ·) ?_ (congrArg (fun j => g (ix2 p j)) e1)))
      (congrArg₂ (· * ·) ?_ (congrArg (fun j => h (ix2 p j)) e1))
    all_goals exact congrArg (fun j => X (ix2 p j)) (Fin.ext (by dsimp only; omega))

theorem pay5_at (x : Vec Ideal S1024x2048 .bf16) (w : Vec Ideal S2048x256 .bf16) (f g h : Vec Ideal S1024x128 .f32) (p : Fin 1024) (q : Fin 256) :
    k0_pay5 (F := Ideal) x w f g h (ix2 p q) = if (q : ℕ) < 128 then spin (fun j => k0_pay1 (F := Ideal) x w (ix2 p (⟨q / 128 * 128 + j, by omega⟩ : Fin 256)))
      (fun j => f (ix2 p j)) (fun j => g (ix2 p j)) (fun j => h (ix2 p j)) ⟨q % 128, by omega⟩ else k0_pay1 (F := Ideal) x w (ix2 p q) := by
  unfold k0_pay5
  generalize k0_pay1 x w = X
  pointwise []
  unfold spin
  by_cases hq : (q : ℕ) < 128
  · rw [dif_pos hq, if_pos hq]
    have e1 : (⟨(q : ℕ), hq⟩ : Fin 128) = ⟨(q : ℕ) % 128, by omega⟩ := Fin.ext (by dsimp only; omega)
    refine congrArg₂ (· + ·) (congrArg₂ (· + ·) (congrArg₂ (· * ·) ?_ (congrArg (fun j => f (ix2 p j)) e1)) (congrArg₂ (· * ·) ?_ (congrArg (fun j => g (ix2 p j)) e1)))
      (congrArg₂ (· * ·) ?_ (congrArg (fun j => h (ix2 p j)) e1))
    all_goals exact congrArg (fun j => X (ix2 p j)) (Fin.ext (by dsimp only; omega))
  · rw [dif_neg hq, if_neg hq]
    exact congrArg (fun j => X (ix2 p j)) (Fin.ext (by dsimp only; omega))

theorem pay8_at (x : Vec Ideal S1024x2048 .bf16) (w : Vec Ideal S2048x128 .bf16) (b : Vec Ideal S1x128 .f32) (p : Fin 1024) (q : Fin 128) :
    k0_pay8 (F := Ideal) x w b (ix2 p q) = if (q : ℕ) < 4
      then min ((∑ k, x (ix2 p k) * w (ix2 k q)) + b (ix2 0 q)) 0 - Ideal.log1p (Ideal.exp (0 - FloatOps.absf (F := Ideal) (φ := .f32) ((∑ k, x (ix2 p k) * w (ix2 k q)) + b (ix2 0 q))))
      else Ideal.logistic ((∑ k, x (ix2 p k) * w (ix2 k q)) + b (ix2 0 q)) := by
  pointwise [k0_pay8]
  rw [(by decide +kernel : ∀ q : Fin 128, IntOp.cmpi CmpIPredicate.slt (BitVec.ofNat 32 (q : ℕ)) 4#32 = if (q : ℕ) < 4 then 1#1 else 0#1) q]
  split_ifs <;> rfl

/-! ## What each point writes -/

/-- The packed head a block column of point `t` lies in. -/
abbrev headOf (t : Fin cfg0.N) (q : Fin 256) : Fin 38 := ⟨2 * (t.val % 19) + q / 128, by have := lt152 t; omega⟩

theorem dot_at (c : Dev nD) (t : Fin cfg0.N) (p : Fin 1024) (q : Fin 256) (j : Fin 4880) (hj : (j : ℕ) = srcOf (2 * (t.val % 19) + q / 128) + q % 128) :
    k0_pay1 (F := Ideal) (xn m c t) (iblk m c 2 t) (ix2 p q) = acc m c t p j := by
  rw [pay1_at]
  unfold acc
  exact Finset.sum_congr rfl fun k _ => congrArg₂ (· * ·) (xn_at m c t p k) (blk2_at m c t k q j hj)

theorem spin_at (c : Dev nD) (t : Fin cfg0.N) (p : Fin 1024) (q : Fin 256) (ht : turned (headOf t q : Fin 38)) :
    spin (fun j => k0_pay1 (F := Ideal) (xn m c t) (iblk m c 2 t) (ix2 p (⟨q / 128 * 128 + j, by omega⟩ : Fin 256)))
      (fun j => iblk m c 5 t (ix2 p j)) (fun j => iblk m c 6 t (ix2 p j)) (fun j => iblk m c 7 t (ix2 p j)) ⟨q % 128, by omega⟩
    = row (acc m c t p) (cosR t p) (sinR t p) (headOf t q) ⟨q % 128, by omega⟩ := by
  have e5 : (fun j => iblk m c 5 t (ix2 p j)) = keep (cosR t p) := funext fun j => blk5_at m c t p j
  have e6 : (fun j => iblk m c 6 t (ix2 p j)) = above (sinR t p) := funext fun j => blk6_at m c t p j
  have e7 : (fun j => iblk m c 7 t (ix2 p j)) = below (sinR t p) := funext fun j => blk7_at m c t p j
  rw [e5, e6, e7, spin_turn]
  unfold row
  rw [if_pos ht]
  refine congrArg (fun B => turn B _ _ _) (funext fun j => dot_at m c t p _ _ ?_)
  have e1 : ((q : ℕ) / 128 * 128 + (j : ℕ)) / 128 = q / 128 := by omega
  have e2 : ((q : ℕ) / 128 * 128 + (j : ℕ)) % 128 = j := by omega
  dsimp only
  rw [e1, e2]

theorem plain_at (c : Dev nD) (t : Fin cfg0.N) (p : Fin 1024) (q : Fin 256) (ht : ¬ turned (headOf t q : Fin 38)) :
    k0_pay1 (F := Ideal) (xn m c t) (iblk m c 2 t) (ix2 p q) = row (acc m c t p) (cosR t p) (sinR t p) (headOf t q) ⟨q % 128, by omega⟩ := by
  unfold row
  rw [if_neg ht]
  exact dot_at m c t p q _ rfl

theorem prod_at (c : Dev nD) (t : Fin cfg0.N) (p : Fin 1024) (q : Fin 256) :
    Inproj.prod m c t (ix2 p q) = row (acc m c t p) (cosR t p) (sinR t p) (headOf t q) ⟨q % 128, by omega⟩ := by
  have h19 : t.val % 19 < 19 := Nat.mod_lt _ (by omega)
  unfold Inproj.prod
  by_cases h1 : 16 ≤ t.val % 19
  · rw [if_pos h1, pay5_at]
    by_cases hq : (q : ℕ) < 128
    · rw [if_pos hq]
      exact spin_at m c t p q (by unfold turned; dsimp only; omega)
    · rw [if_neg hq]
      exact plain_at m c t p q (by unfold turned; dsimp only; omega)
  · rw [if_neg h1]
    by_cases h2 : 8 ≤ t.val % 19 ∧ t.val % 19 ≤ 9
    · rw [if_pos h2, pay3_at]
      exact spin_at m c t p q (by unfold turned; dsimp only; omega)
    · rw [if_neg h2]
      exact plain_at m c t p q (by unfold turned; dsimp only; omega)

/-- What a point writes to the first result is the reference's block. -/
theorem point (c : Dev nD) (t : Fin cfg0.N) (p : Fin 1024) (q : Fin 256) :
    Inproj.prod m c t (ix2 p q) = Cert.Reference4Ideal.Value.ref (m ((c : Thread nD τ).loc main_arg0)) (m ((c : Thread nD τ).loc main_arg1)) (m ((c : Thread nD τ).loc main_arg2))
      (ix2 (rowOf t p) (⟨t.val % 19 * 256 + q, by have := lt152 t; omega⟩ : Fin 4864)) := by
  rw [prod_at, Cert.Reference4Ideal.Value.ref_at]
  exact congrArg₂ (row (acc m c t p) (cosR t p) (sinR t p)) (Fin.ext (by dsimp only; omega)) (Fin.ext (by dsimp only; omega))

/-- What is subtracted is a real number. -/
theorem log1p_real (z : EReal) : ∃ r : ℝ, Ideal.log1p (Ideal.exp (-max z (-z))) = r := by
  have key : ∀ x : ℝ, 0 ≤ x → ∃ r : ℝ, Ideal.log1p (x : EReal) = r := fun x hx => by
    have e : (1 : EReal) + (x : EReal) = ((1 + x : ℝ) : EReal) := by push_cast; rfl
    refine ⟨Real.log (1 + x), ?_⟩
    show Ideal.log (1 + (x : EReal)) = _
    rw [e]
    exact if_neg (by linarith)
  induction z with
  | bot => exact key 0 le_rfl
  | top => exact key 0 le_rfl
  | coe x =>
    rcases max_choice (x : EReal) (-x) with h | h <;> rw [h, ← EReal.coe_neg] <;> exact key _ (Real.exp_pos _).le

/-- The logarithm of the sigmoid by a minimum is the one by a maximum. -/
theorem lsig_eq (z : EReal) : min z 0 - Ideal.log1p (Ideal.exp (0 - FloatOps.absf (F := Ideal) (φ := .f32) z)) = lsig z := by
  obtain ⟨r, hr⟩ := log1p_real z
  have e : FloatOps.absf (F := Ideal) (φ := .f32) (-z) = max z (-z) := by
    show max (-z) (- -z) = _
    rw [neg_neg, max_comm]
  unfold lsig
  rw [e, hr]
  show min z 0 - Ideal.log1p (Ideal.exp (0 - max z (-z))) = _
  rw [zero_sub, hr, EReal.neg_add (Or.inr (EReal.coe_ne_top r)) (Or.inr (EReal.coe_ne_bot r))]
  refine congrArg (· - (r : EReal)) ?_
  rw [← EReal.min_neg_neg, neg_neg, neg_zero]

theorem gates_at (c : Dev nD) (t : Fin cfg0.N) (p : Fin 1024) (n : Fin 128) :
    gates m c t (ix2 p n) = Cert.Reference4Ideal.Value.refGates (m ((c : Thread nD τ).loc main_arg0)) (m ((c : Thread nD τ).loc main_arg1)) (m ((c : Thread nD τ).loc main_arg2))
      (m ((c : Thread nD τ).loc main_arg3)) (ix2 (rowOf t p) n) := by
  rw [Cert.Reference4Ideal.Value.refGates_at]
  unfold gates gateRow
  rw [pay8_at, blk4_at]
  simp only [xn_at, blk3_at]
  unfold gateLane
  by_cases h1 : (n : ℕ) < 4
  · simp only [if_pos h1, dif_pos h1]
    exact lsig_eq _
  · by_cases h2 : (n : ℕ) < 16
    · have h3 : (n : ℕ) - 4 < 12 := by omega
      simp only [if_neg h1, dif_neg h1, dif_pos h2, dif_pos h3, add_zero]
      rfl
    · have h3 : ¬ (n : ℕ) - 4 < 12 := by omega
      simp only [if_neg h1, dif_neg h1, dif_neg h2, dif_neg h3, mul_zero, Finset.sum_const_zero, add_zero]
      rfl

theorem array8 (c : Dev nD) (R : FVec Ideal S8192x4864 .f32) (h : ∀ (t : Fin cfg0.N) (p : Fin 1024) (q : Fin 256),
    Inproj.prod m c t (ix2 p q) = R (ix2 (rowOf t p) (⟨t.val % 19 * 256 + q, by have := lt152 t; omega⟩ : Fin 4864))) : (dats m 0 c).arrAt 8 (cfgs 0).N = R := by
  refine (dats m 0 c).arrAt_eq_of_covers 8 _ (by decide +kernel) fun t hf y => ?_
  blk_simp; rw [after0_8]; frame_out
  obtain ⟨p, q, rfl⟩ : ∃ (p : Fin 1024) (q : Fin 256), y = ix2 p q := ⟨y 0, y 1, eq_ix2 y⟩
  refine (h t p q).trans ?_
  blk_point [idx t, rowOf]

theorem prodB_eq (c : Dev nD) (t : Fin cfg0.N) : prodB m c t = Inproj.prod m c t := by
  unfold prodB Inproj.prod
  split_ifs <;> rfl

theorem array9 (c : Dev nD) (R : FVec Ideal S8192x4864 .bf16) (h : ∀ (t : Fin cfg0.N) (p : Fin 1024) (q : Fin 256),
    prodB m c t (ix2 p q) = R (ix2 (rowOf t p) (⟨t.val % 19 * 256 + q, by have := lt152 t; omega⟩ : Fin 4864))) : (dats m 0 c).arrAt 9 (cfgs 0).N = R := by
  refine (dats m 0 c).arrAt_eq_of_covers 9 _ (by decide +kernel) fun t hf y => ?_
  blk_simp; rw [after0_9]; frame_out
  obtain ⟨p, q, rfl⟩ : ∃ (p : Fin 1024) (q : Fin 256), y = ix2 p q := ⟨y 0, y 1, eq_ix2 y⟩
  refine (h t p q).trans ?_
  blk_point [idx t, rowOf]

theorem array10 (c : Dev nD) (R : FVec Ideal S8192x128 .f32) (h : ∀ (t : Fin cfg0.N) (p : Fin 1024) (n : Fin 128),
    gates m c t (ix2 p n) = R (ix2 (rowOf t p) n)) : (dats m 0 c).arrAt 10 (cfgs 0).N = R := by
  refine (dats m 0 c).arrAt_eq_of_covers 10 _ (by decide +kernel) fun t hf y => ?_
  blk_simp; rw [after0_10]; frame_out
  obtain ⟨p, q, rfl⟩ : ∃ (p : Fin 1024) (q : Fin 128), y = ix2 p q := ⟨y 0, y 1, eq_ix2 y⟩
  refine (h t p q).trans ?_
  blk_point [idx t, rowOf]

theorem final8 (c : Dev nD) : (dats m 0 c).arrAt 8 (cfgs 0).N = Cert.Reference4Ideal.Value.ref (m ((c : Thread nD τ).loc main_arg0)) (m ((c : Thread nD τ).loc main_arg1)) (m ((c : Thread nD τ).loc main_arg2)) :=
  array8 m c _ (point m c)

theorem final9 (c : Dev nD) : (dats m 0 c).arrAt 9 (cfgs 0).N = Cert.Reference4Ideal.Value.ref (m ((c : Thread nD τ).loc main_arg0)) (m ((c : Thread nD τ).loc main_arg1)) (m ((c : Thread nD τ).loc main_arg2)) :=
  array9 m c _ fun t p q => (congrFun (prodB_eq m c t) _).trans (point m c t p q)

theorem final10 (c : Dev nD) : (dats m 0 c).arrAt 10 (cfgs 0).N = Cert.Reference4Ideal.Value.refGates (m ((c : Thread nD τ).loc main_arg0)) (m ((c : Thread nD τ).loc main_arg1)) (m ((c : Thread nD τ).loc main_arg2)) (m ((c : Thread nD τ).loc main_arg3)) :=
  array10 m c _ (gates_at m c)

/-- The kernel's run: its three results are the reference's, its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v40_0) = Cert.Reference4Ideal.Value.ref (m ((c.tc : Thread nD τ).loc main_arg0)) (m ((c.tc : Thread nD τ).loc main_arg1)) (m ((c.tc : Thread nD τ).loc main_arg2))
      ∧ r.2.mem ((c.tc : Thread nD τ).loc main_v40_1) = Cert.Reference4Ideal.Value.ref (m ((c.tc : Thread nD τ).loc main_arg0)) (m ((c.tc : Thread nD τ).loc main_arg1)) (m ((c.tc : Thread nD τ).loc main_arg2))
      ∧ r.2.mem ((c.tc : Thread nD τ).loc main_v40_2) = Cert.Reference4Ideal.Value.refGates (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 8).trans (final8 m c), ((h c).1 9).trans (final9 m c), ((h c).1 10).trans (final10 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel4Ideal.Inproj

end
-- ==== Proof.InprojClaim.lean ====
/- The input-projection kernel and its reference end with equal results. -/
module

public import proofs.«01_k».proof.Defs
public import proofs.«01_k».proof.Proof.Inproj
public import Idealize.ShloMosaic.Lib.Claim

@[expose] public section

noncomputable section

namespace Cert.Proof

open Idealize.ShloMosaic Idealize.SL.Sem

theorem algebraic4 : Cert.algebraic_Kernel4Ideal_Reference4Ideal := by
  intro m g m' g' _ hagree
  refine ⟨_, _, _, Cert.Kernel4Ideal.Inproj.run_value m g, (θ_run _ _ _).mono (fun r h c => ?_) (Cert.Reference4Ideal.Value.run m' g')⟩
  obtain ⟨h0, h1, h2, h3⟩ := hagree c
  obtain ⟨e0, e1, e2, args⟩ := h c
  refine ⟨e0.trans ?_, e1.trans ?_, e2.trans ?_, args⟩
  · rw [Cert.Reference4Ideal.Value.res_eq m' c, h0, h1, h2]
  · rw [Cert.Reference4Ideal.Value.res_eq_copy m' c, h0, h1, h2]
  · rw [Cert.Reference4Ideal.Value.res_eq_gates m' c, h0, h1, h2, h3]

end Cert.Proof

end
-- ==== Proof.FfnSampleRef.lean ====
/- The feed-forward reference over the sample rows: the result as a term of its arguments, in two steps: the hidden layer contracted with the
   second weight (before normalisation), then the residual with the normalised row. -/
module

public import proofs.«01_k».proof.Proof.Gen.Reference5Ideal.Run
public import Idealize.ShloMosaic.Lib.Pipeline.ValueKit

@[expose] public section

set_option maxRecDepth 16384

noncomputable section

namespace Cert.Reference5Ideal.Value

open Idealize.ShloMosaic Idealize.ShloMosaic.TcCoe Idealize.SL.Sem
open Cert.Reference5Ideal Cert.Reference5Ideal.Gen

/-- The input rows normalised by their root mean square. -/
def normed (a0 : FVec Ideal S128x2048 .f32) (a1 : FVec Ideal S2048 .f32) : FVec Ideal S128x2048 .f32 :=
  mulf (mulf a0 (broadcastInDim S128x2048 ![0, 1] bcast_S128x1_S128x2048_0_1 (Host.rsqrt (addf (Host.divf (broadcastInDim S128x1 ![0] bcast_S128_S128x1_0 (Host.reduceAdd (mulf a0 a0) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 a1))

/-- The first product, rectified. -/
def hidden (h : FVec Ideal S128x2048 .f32) (a3 : FVec Ideal S2048x8192 .f32) : FVec Ideal S128x8192 .f32 :=
  maximumf (Host.dotGeneral dot_S128x2048_S2048x8192_S128x8192_1_0_0_1_n_n none h a3) (broadcastInDim S128x8192 ![] bcast_S_S128x8192 (constant S_ .f32 0x00000000#32))

/-- The squared hidden layer times the second weight. -/
def down (h : FVec Ideal S128x8192 .f32) (a4 : FVec Ideal S8192x2048 .f32) : FVec Ideal S128x2048 .f32 :=
  Host.dotGeneral dot_S128x8192_S8192x2048_S128x2048_1_0_0_1_n_n none (mulf h h) a4

/-- The residual plus the normalised row. -/
def closing (a0 d : FVec Ideal S128x2048 .f32) (a2 : FVec Ideal S2048 .f32) : FVec Ideal S128x2048 .f32 :=
  addf a0 (normed d a2)

/-- The whole reference. -/
def ref (a0 : FVec Ideal S128x2048 .f32) (a1 a2 : FVec Ideal S2048 .f32) (a3 : FVec Ideal S2048x8192 .f32)
    (a4 : FVec Ideal S8192x2048 .f32) : FVec Ideal S128x2048 .f32 :=
  closing a0 (down (hidden (normed a0 a1) a3) a4) a2

theorem res_eq (m : (ℓ : Loc nD τ sig) → Buf (Elt Ideal) ℓ) (c : Dev nD) :
    res_main_v30 (F := Ideal) m c = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.Reference5Ideal.Value

end
-- ==== Proof.FfnSample.lean ====
/- The feed-forward kernel over the sample rows at extended reals: the accumulator after the last step of a row block is the reference's
   contraction, so the block written back is the reference's. -/
module

public import proofs.«01_k».proof.Proof.FfnSampleRef
public import proofs.«01_k».proof.Proof.Gen.Kernel5Ideal.Value
public import Idealize.ShloMosaic.Lib.Pipeline.ReadBack

@[expose] public section

set_option maxRecDepth 16384

noncomputable section

namespace Cert.Kernel5Ideal.Value

open Idealize.ShloMosaic Idealize.ShloMosaic.TcCoe Idealize.SL.Sem
open Idealize.ShloMosaic.Pipeline (Dat)
open scoped BigOperators
open Cert.Kernel5Ideal Cert.Kernel5Ideal.Gen

variable (m : (ℓ : Loc nD τ sig) → Buf (Elt Ideal) ℓ)

theorem idx : ∀ t : Fin cfg0.N, win0_0.index t = ![t.val / 8, 0]
    ∧ win0_1.index t = ![0, 0]
    ∧ win0_2.index t = ![0, t.val % 8]
    ∧ win0_3.index t = ![t.val % 8, 0]
    ∧ win0_4.index t = ![0, 0]
    ∧ win0_5.index t = ![t.val / 8, 0] ∧ t.val / 8 < 1 :=
  (by decide +kernel : ∀ t : Fin grid0.N, _)

/-- The normalised rows of a point's block. -/
theorem pay1_at (c : Dev nD) (t : Fin cfg0.N) (y : S128x2048.Idx) (r : Fin 128) (hr : (r : ℕ) = t.val / 8 * 128 + y 0) :
    k0_pay1 (F := Ideal) (iblk m c 0 t) (iblk m c 1 t) y
      = Cert.Reference5Ideal.Value.normed (m ((c : Thread nD τ).loc main_arg0)) (m ((c : Thread nD τ).loc main_arg1)) (ix2 r (y 1)) := by
  pointwise [k0_pay1, Cert.Reference5Ideal.Value.normed]
  blk_point [iblk, V, idx t]

theorem zero_at (y) : k0_pay2 (F := Ideal) y = 0 := by pointwise [k0_pay2]

/-- One step of the accumulation: the block's squared hidden columns times their rows of the second weight. -/
theorem pay3_at (xn : FVec Ideal S128x2048 .bf16) (wu : FVec Ideal S2048x1024 .bf16) (acc : FVec Ideal S128x2048 .f32) (wd : FVec Ideal S1024x2048 .bf16) (y) :
    k0_pay3 (F := Ideal) xn wu acc wd y = acc y + ∑ k : Fin 1024,
        max (∑ l : Fin 2048, xn (ix2 (y 0) l) * wu (ix2 l k)) 0 * max (∑ l : Fin 2048, xn (ix2 (y 0) l) * wu (ix2 l k)) 0 * wd (ix2 k (y 1)) := by
  pointwise [k0_pay3]

/-- The array row a block row of point `n` sits at. -/
abbrev rowOf (n : ℕ) (hn : n < cfg0.N) (p : Fin 128) : Fin 128 :=
  ⟨n / 8 * 128 + p, by have := (idx ⟨n, hn⟩).2.2.2.2.2.2; dsimp only at this; omega⟩

/-- At every point the carried block holds the normalised rows of its row block. -/
theorem xn_at (c : Dev nD) : ∀ (n : ℕ) (hn : n < cfg0.N) (y : S128x2048.Idx), (outsAt0 m c n hn).2.1 y
    = Cert.Reference5Ideal.Value.normed (m ((c : Thread nD τ).loc main_arg0)) (m ((c : Thread nD τ).loc main_arg1)) (ix2 (rowOf n hn (y 0)) (y 1)) := by
  intro n
  induction n with
  | zero =>
    intro hn y
    rw [outsAt0_A m c ⟨0, hn⟩ rfl (by dsimp only; omega)]
    frame_out
    exact pay1_at m c ⟨0, hn⟩ y _ rfl
  | succ n ih =>
    intro hn y
    by_cases h0 : (n + 1) % 8 = 0
    · rw [outsAt0_A m c ⟨n + 1, hn⟩ h0 (by dsimp only; omega)]
      frame_out
      exact pay1_at m c ⟨n + 1, hn⟩ y _ rfl
    · have hr : rowOf (n + 1) hn (y 0) = rowOf n (by omega) (y 0) := by
        apply Fin.ext; simp only [rowOf]; omega
      rw [hr, ← ih (by omega) y]
      by_cases h1 : (n + 1) % 8 = 7
      · rw [outsAt0_C m c ⟨n + 1, hn⟩ h0 h1]; rfl
      · rw [outsAt0_B m c ⟨n + 1, hn⟩ h0 h1]; rfl

/-- One summand of the reference's second contraction, at row `r`, hidden column `l`, output column `q`. -/
def term (c : Dev nD) (r : Fin 128) (l : Fin 8192) (q : Fin 2048) : EReal :=
  Cert.Reference5Ideal.Value.hidden (Cert.Reference5Ideal.Value.normed (m ((c : Thread nD τ).loc main_arg0)) (m ((c : Thread nD τ).loc main_arg1))) (m ((c : Thread nD τ).loc main_arg3)) (ix2 r l)
    * Cert.Reference5Ideal.Value.hidden (Cert.Reference5Ideal.Value.normed (m ((c : Thread nD τ).loc main_arg0)) (m ((c : Thread nD τ).loc main_arg1))) (m ((c : Thread nD τ).loc main_arg3)) (ix2 r l)
    * (show FVec Ideal S8192x2048 .f32 from m ((c : Thread nD τ).loc main_arg4)) (ix2 l q)

/-- What point `t` adds to the accumulator. -/
def part (c : Dev nD) (t : Fin cfg0.N) (y : S128x2048.Idx) : EReal :=
  ∑ k : Fin 1024, term m c (rowOf t.val t.isLt (y 0)) ⟨t.val % 8 * 1024 + k, by have := k.isLt; omega⟩ (y 1)

theorem step_at (c : Dev nD) (t : Fin cfg0.N) (xn : FVec Ideal S128x2048 .bf16) (acc : FVec Ideal S128x2048 .f32)
    (hx : ∀ y, xn y = Cert.Reference5Ideal.Value.normed (m ((c : Thread nD τ).loc main_arg0)) (m ((c : Thread nD τ).loc main_arg1)) (ix2 (rowOf t.val t.isLt (y 0)) (y 1))) (y) :
    k0_pay3 (F := Ideal) xn (iblk m c 2 t) acc (iblk m c 3 t) y = acc y + part m c t y := by
  rw [pay3_at]
  simp only [hx, part, term]
  congr 1
  refine Finset.sum_congr rfl fun k _ => ?_
  pointwise [Cert.Reference5Ideal.Value.hidden]
  blk_point [iblk, V, idx t]

theorem acc_step (c : Dev nD) (t : Fin cfg0.N) (h : ¬t.val % 8 = 0) (y) :
    (outsAt0 m c t.val t.isLt).2.2 y = (outsAt0 m c (t.val - 1) (Nat.lt_of_le_of_lt (Nat.sub_le _ _) t.isLt)).2.2 y + part m c t y := by
  have hx : ∀ y, (outsAt0 m c (t.val - 1) (Nat.lt_of_le_of_lt (Nat.sub_le _ _) t.isLt)).2.1 y = Cert.Reference5Ideal.Value.normed (m ((c : Thread nD τ).loc main_arg0)) (m ((c : Thread nD τ).loc main_arg1)) (ix2 (rowOf t.val t.isLt (y 0)) (y 1)) := by
    intro y
    rw [xn_at]
    have hr : rowOf (t.val - 1) (Nat.lt_of_le_of_lt (Nat.sub_le _ _) t.isLt) (y 0) = rowOf t.val t.isLt (y 0) := by
      apply Fin.ext; simp only [rowOf]; omega
    rw [hr]
  by_cases h1 : t.val % 8 = 7
  · rw [outsAt0_C m c t h h1]; frame_out; rw [read_unread_whole, read_unread_whole]; exact step_at m c t _ _ hx y
  · rw [outsAt0_B m c t h h1]; frame_out; rw [read_unread_whole, read_unread_whole]; exact step_at m c t _ _ hx y

theorem acc_reset (c : Dev nD) (t : Fin cfg0.N) (h : t.val % 8 = 0) (y) :
    (outsAt0 m c t.val t.isLt).2.2 y = 0 + part m c t y := by
  rw [outsAt0_A m c t h (by omega)]; frame_out
  rw [step_at m c t _ _ (fun y => pay1_at m c t y _ rfl) y, zero_at]

/-- After the last step of a row block the accumulator is the reference's contraction. -/
theorem acc_last (c : Dev nD) (t : Fin cfg0.N) (h : t.val % 8 = 8 - 1) (y : S128x2048.Idx) :
    (outsAt0 m c t.val t.isLt).2.2 y = Cert.Reference5Ideal.Value.down (Cert.Reference5Ideal.Value.hidden (Cert.Reference5Ideal.Value.normed (m ((c : Thread nD τ).loc main_arg0)) (m ((c : Thread nD τ).loc main_arg1))) (m ((c : Thread nD τ).loc main_arg3))) (m ((c : Thread nD τ).loc main_arg4)) (ix2 (rowOf t.val t.isLt (y 0)) (y 1)) := by
  rw [Pipeline.eq_sum_fin_of_reset_step_apply_of_flush (fun n h => (outsAt0 m c n h).2.2) 8 (fun _ => 0) (part m c)
    (fun t h j => acc_reset m c t h j) (fun t h j => acc_step m c t h j) t h y, zero_add]
  pointwise [Cert.Reference5Ideal.Value.down]
  refine Fin.sum_mul_add_congr fun s k hl => ?_
  have e1 : rowOf (8 * (t.val / 8) + s.val) (Pipeline.run_point_lt_of_flush t h s) (y 0) = rowOf t.val t.isLt (y 0) :=
    Fin.ext (by have := s.isLt; simp only [rowOf]; omega)
  have e2 : (⟨(8 * (t.val / 8) + s.val) % 8 * 1024 + k.val, by have := k.isLt; omega⟩ : Fin 8192) = ⟨s.val * 1024 + k.val, hl⟩ :=
    Fin.ext (by have := s.isLt; dsimp only; omega)
  exact congrArg₂ (fun r l => term m c r l (y 1)) e1 e2

/-- What is written back for a row block is the reference's rows. -/
theorem point (c : Dev nD) (t : Fin cfg0.N) (h : t.val % 8 = 7) (y) : (outsAt0 m c t.val t.isLt).1 y
    = Cert.Reference5Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hacc := acc_last m c t h
  rw [outsAt0_C m c t (by omega) h] at hacc ⊢
  frame_out
  frame_out at hacc
  generalize k0_pay3 (F := Ideal) _ _ _ _ = A at hacc ⊢
  unfold Cert.Reference5Ideal.Value.ref
  generalize Cert.Reference5Ideal.Value.down _ _ = D at hacc ⊢
  pointwise [k0_pay4, Cert.Reference5Ideal.Value.closing, Cert.Reference5Ideal.Value.normed]
  simp only [hacc]
  blk_point [iblk, V, idx t, rowOf]

theorem final (c : Dev nD) : (dats m 0 c).arrAt 5 (cfgs 0).N = Cert.Reference5Ideal.Value.ref (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  exact point m c t ((flush0_5 t).mp hf) y

end Cert.Kernel5Ideal.Value

end
-- ==== Proof.FfnSampleClaim.lean ====
/- The feed-forward kernel over the sample rows and its reference end with equal results. -/
module

public import proofs.«01_k».proof.Defs
public import proofs.«01_k».proof.Proof.FfnSample
public import Idealize.ShloMosaic.Lib.Claim

@[expose] public section

noncomputable section

namespace Cert.Proof

open Idealize.ShloMosaic Idealize.SL.Sem

theorem algebraic5 : Cert.algebraic_Kernel5Ideal_Reference5Ideal := by
  pair_intro
  · run_from Cert.Kernel5Ideal.Gen.run_main m g
  · run_from Cert.Reference5Ideal.Value.run m' g'
    obtain ⟨h0, h1, h2, h3, h4⟩ := hagree c
    rw [Cert.Reference5Ideal.Value.res_eq m' c, h0, h1, h2, h3, h4]
    exact (Cert.Kernel5Ideal.Value.final m c).symm

end Cert.Proof

end
-- ==== Proof.InprojSampleRun.lean ====
module

public import proofs.«01_k».proof.Proof.Gen.Kernel6Ideal.Frame
public import proofs.«01_k».proof.Proof.Gen.Kernel6Ideal.Skeleton
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

/-! What one grid point of the input projection over the sample rows does to its buffers, over the extended reals.

The body runs in one of four ways.  On the first column block of a row block it normalises the rows into the scratch
buffer and stores the gates (`run_first`); on every column block it multiplies the normalised rows with the weight
block and stores the product twice, plain (`run_plain`), with both 128-lane halves rotated (`run_both`) or with the
first half rotated (`run_half`).  Each theorem states the contents the buffers end with in closed form.  -/

@[expose] public section

set_option maxRecDepth 16384

noncomputable section

namespace Cert.Kernel6Ideal.InprojSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

section

variable (c : Dev nD) (i : grid0.Coords)
variable (arg2 : Memref sig .tc .vmem S128x2048 .f32) (harg2 : arg2.IsWhole)
variable (arg3 : Memref sig .tc .vmem S1x2048 .f32) (harg3 : arg3.IsWhole)
variable (arg4 : Memref sig .tc .vmem S2048x256 .bf16) (harg4 : arg4.IsWhole)
variable (arg5 : Memref sig .tc .vmem S2048x128 .bf16) (harg5 : arg5.IsWhole)
variable (arg6 : Memref sig .tc .vmem S1x128 .f32) (harg6 : arg6.IsWhole)
variable (arg7 : Memref sig .tc .vmem S128x128 .f32) (harg7 : arg7.IsWhole)
variable (arg8 : Memref sig .tc .vmem S128x128 .f32) (harg8 : arg8.IsWhole)
variable (arg9 : Memref sig .tc .vmem S128x128 .f32) (harg9 : arg9.IsWhole)
variable (arg10 : Memref sig .tc .vmem S128x256 .f32) (harg10 : arg10.IsWhole)
variable (arg11 : Memref sig .tc .vmem S128x256 .bf16) (harg11 : arg11.IsWhole)
variable (arg12 : Memref sig .tc .vmem S128x128 .f32) (harg12 : arg12.IsWhole)
variable (arg13 : Memref sig .tc .vmem S128x2048 .bf16) (harg13 : arg13.IsWhole)
variable (x0 : Vec F S128x2048 .f32) (x1 : Vec F S1x2048 .f32) (x2 : Vec F S2048x256 .bf16) (x3 : Vec F S2048x128 .bf16)
  (x4 : Vec F S1x128 .f32) (x5 x6 x7 : Vec F S128x128 .f32) (xo : Vec F S128x128 .f32) (xs : Vec F S128x2048 .bf16)
  (y8 : Vec F S128x256 .f32) (y9 : Vec F S128x256 .bf16)

/-- On whole buffers the body leaves the inputs, the gates (`xo`) and the scratch (`xs`) as they are, and the two
products at `y8` and `y9`. -/
def Keeps : Prop := ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ owns (c : Thread nD τ) arg12 fullShare xo ∗ owns (c : Thread nD τ) arg13 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare y8 ∗ owns (c : Thread nD τ) arg11 fullShare y9 ∗ owns (c : Thread nD τ) arg12 fullShare xo ∗ owns (c : Thread nD τ) arg13 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13) K

/-- On whole buffers the body leaves the inputs as they are, the products at `y8` and `y9`, the gates at `xo` and the
scratch at `xs`, whatever these held. -/
def Fills : Prop := ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
            ∗ owns (c : Thread nD τ) arg10 fullShare y8 ∗ owns (c : Thread nD τ) arg11 fullShare y9 ∗ owns (c : Thread nD τ) arg12 fullShare xo ∗ owns (c : Thread nD τ) arg13 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13) K

set_option maxHeartbeats 1000000 in
/-- The first column block: rows normalised into the scratch, gates stored, plain product. -/
theorem run_first (hc1 : k0_cond1 i = 1#1) (hc2 : k0_cond2 i = 1#1) (hc3 : ¬k0_cond3 i = 1#1) (hc4 : ¬k0_cond4 i = 1#1) :
    Fills c i arg2 harg2 arg3 harg3 arg4 harg4 arg5 harg5 arg6 harg6 arg7 harg7 arg8 harg8 arg9 harg9 arg10 harg10 arg11 harg11 arg12 harg12 arg13 harg13 x0 x1 x2 x3 x4 x5 x6 x7 (k0_pay8 (k0_pay7 x0 x1) x3 x4) (k0_pay7 x0 x1) (k0_pay1 (k0_pay7 x0 x1) x2) (k0_pay2 (k0_pay7 x0 x1) x2) := by
  unfold Fills; intro E K
  simp only [cc0_inproj_eq_skeleton]; unfold cc0_inproj_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc1 | sl_exact hc2 | sl_exact hc3 | sl_exact hc4)
  sl_step
  iapply Hk
  have e7 : k0_pay7 (View.readAt (Elt F) arg2.view (Rect.unit ![0, 0] S128x2048.size inb_S128x2048_S128x2048_0_0).toLoadRect (harg2.unread x0))
      (View.readAt (Elt F) arg3.view (Rect.unit ![0, 0] S1x2048.size inb_S1x2048_S1x2048_0_0).toLoadRect (harg3.unread x1)) = k0_pay7 x0 x1 :=
    congrArg₂ (k0_pay7 (F := F)) ((View.readAt_full _ _ _).trans (harg2.read_unread _)) ((View.readAt_full _ _ _).trans (harg3.read_unread _))
  have eh : run_first.sl.HS_1 c arg2 harg2 arg3 harg3 x0 x1
      = [⟨Rect.unit ![0, 0] S128x2048.size inb_S128x2048_S128x2048_0_0, k0_pay7 x0 x1⟩] := by
    unfold run_first.sl.HS_1; rw [e7]
  have ev : run_first.sl.v3 c arg2 harg2 arg3 harg3 arg13 x0 x1 = k0_pay7 x0 x1 := by
    unfold run_first.sl.v3; rw [eh]; exact View.readCov_full _ _ _ _ _
  have ew : run_first.sl.v42 c arg2 harg2 arg3 harg3 arg13 x0 x1 = k0_pay7 x0 x1 := by
    unfold run_first.sl.v42; (try rw [eh]); first | exact View.readCov_full _ _ _ _ _ | exact (View.readCov_full _ _ _ _ _).trans e7
  have er : run_first.sl.r c arg2 harg2 arg3 harg3 arg5 harg5 arg6 harg6 arg13 x0 x1 x3 x4 = k0_pay8 (k0_pay7 x0 x1) x3 x4 := by
    unfold run_first.sl.r; rw [ew]
    exact congrArg₂ (k0_pay8 (F := F) (k0_pay7 x0 x1)) ((View.readAt_full _ _ _).trans (harg5.read_unread _)) ((View.readAt_full _ _ _).trans (harg6.read_unread _))
  rw [ev, er, eh]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro; exact (View.read_writes_full _ _ _ _ _).trans (congrArg (k0_pay1 (F := F) (k0_pay7 x0 x1)) ((View.readAt_full _ _ _).trans (harg4.read_unread _)))
  isplitl [H9]
  · iexists _; isplitr
    swap; · iexact H9
    ipureintro; exact (View.read_writes_full _ _ _ _ _).trans (congrArg (k0_pay2 (F := F) (k0_pay7 x0 x1)) ((View.readAt_full _ _ _).trans (harg4.read_unread _)))
  isplitl [H10]
  · iexists _; isplitr
    swap; · iexact H10
    ipureintro; exact View.read_writes_full _ _ _ _ _
  iexists _; isplitr
  swap; · iexact HS
  ipureintro; exact View.read_writes_full _ _ _ _ _

set_option maxHeartbeats 1000000 in
/-- A column block whose product is stored as it is. -/
theorem run_plain (hc1 : ¬k0_cond1 i = 1#1) (hc2 : k0_cond2 i = 1#1) (hc3 : ¬k0_cond3 i = 1#1) (hc4 : ¬k0_cond4 i = 1#1) :
    Keeps c i arg2 harg2 arg3 harg3 arg4 harg4 arg5 harg5 arg6 harg6 arg7 harg7 arg8 harg8 arg9 harg9 arg10 harg10 arg11 harg11 arg12 harg12 arg13 harg13 x0 x1 x2 x3 x4 x5 x6 x7 xo xs (k0_pay1 xs x2) (k0_pay2 xs x2) := by
  unfold Keeps; intro E K
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H9]
  · iexists _; isplitr
    swap; · iexact H9
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H10]
  · iexists _; isplitr; · ipureintro; exact harg12.read_unread _
    iexact H10
  iexists _; isplitr; · ipureintro; exact harg13.read_unread _
  iexact HS

set_option maxHeartbeats 1000000 in
/-- A column block with both halves rotated. -/
theorem run_both (hc1 : ¬k0_cond1 i = 1#1) (hc2 : ¬k0_cond2 i = 1#1) (hc3 : k0_cond3 i = 1#1) (hc4 : ¬k0_cond4 i = 1#1) :
    Keeps c i arg2 harg2 arg3 harg3 arg4 harg4 arg5 harg5 arg6 harg6 arg7 harg7 arg8 harg8 arg9 harg9 arg10 harg10 arg11 harg11 arg12 harg12 arg13 harg13 x0 x1 x2 x3 x4 x5 x6 x7 xo xs (k0_pay3 xs x2 x5 x6 x7) (k0_pay4 xs x2 x5 x6 x7) := by
  unfold Keeps; intro E K
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H9]
  · iexists _; isplitr
    swap; · iexact H9
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H10]
  · iexists _; isplitr; · ipureintro; exact harg12.read_unread _
    iexact H10
  iexists _; isplitr; · ipureintro; exact harg13.read_unread _
  iexact HS

set_option maxHeartbeats 1000000 in
/-- A column block with its first half rotated. -/
theorem run_half (hc1 : ¬k0_cond1 i = 1#1) (hc2 : ¬k0_cond2 i = 1#1) (hc3 : ¬k0_cond3 i = 1#1) (hc4 : k0_cond4 i = 1#1) :
    Keeps c i arg2 harg2 arg3 harg3 arg4 harg4 arg5 harg5 arg6 harg6 arg7 harg7 arg8 harg8 arg9 harg9 arg10 harg10 arg11 harg11 arg12 harg12 arg13 harg13 x0 x1 x2 x3 x4 x5 x6 x7 xo xs (k0_pay5 xs x2 x5 x6 x7) (k0_pay6 xs x2 x5 x6 x7) := by
  unfold Keeps; intro E K
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hf10; obtain rfl := harg13.eq_unread hfs
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H9]
  · iexists _; isplitr
    swap; · iexact H9
    ipureintro; refine (View.read_writes_full _ _ _ _ _).trans ?_
    congr 1 <;> first | exact (View.readAt_full _ _ _).trans (harg2.read_unread _) | exact (View.readAt_full _ _ _).trans (harg3.read_unread _) | exact (View.readAt_full _ _ _).trans (harg4.read_unread _) | exact (View.readAt_full _ _ _).trans (harg5.read_unread _) | exact (View.readAt_full _ _ _).trans (harg6.read_unread _) | exact (View.readAt_full _ _ _).trans (harg7.read_unread _) | exact (View.readAt_full _ _ _).trans (harg8.read_unread _) | exact (View.readAt_full _ _ _).trans (harg9.read_unread _) | exact (View.readAt_full _ _ _).trans (harg13.read_unread _)
  isplitl [H10]
  · iexists _; isplitr; · ipureintro; exact harg12.read_unread _
    iexact H10
  iexists _; isplitr; · ipureintro; exact harg13.read_unread _
  iexact HS

end

end Cert.Kernel6Ideal.InprojSample

end
-- ==== Proof.InprojSampleFrame.lean ====
module

public import proofs.«01_k».proof.Proof.InprojSampleRun
public import Idealize.ShloMosaic.Lib.Claim

/-! The input projection's whole run, over the extended reals: the contents of every buffer after every grid point in closed
form, the body's obligation from the four runs of `InprojRun`, the launch, and the frame.  -/

@[expose] public section

set_option maxRecDepth 16384

noncomputable section

namespace Cert.Kernel6Ideal.InprojSample

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which way the body runs at a point -/

theorem lt19 (t : Fin cfg0.N) : t.val < 19 := Nat.lt_of_lt_of_eq t.isLt N_0

/-- The body normalises at the first column block. -/
theorem cond1_iff : ∀ t : Fin cfg0.N, k0_cond1 (grid0.coords t) = 1#1 ↔ t.val % 19 = 0 := by decide +kernel
/-- The product is stored plain away from the rotated column blocks. -/
theorem cond2_iff : ∀ t : Fin cfg0.N, k0_cond2 (grid0.coords t) = 1#1 ↔ (t.val % 19 < 8 ∨ (9 < t.val % 19 ∧ t.val % 19 < 16)) := by
  decide +kernel
/-- Both halves are rotated at column blocks 8 and 9. -/
theorem cond3_iff : ∀ t : Fin cfg0.N, k0_cond3 (grid0.coords t) = 1#1 ↔ (8 ≤ t.val % 19 ∧ t.val % 19 ≤ 9) := by decide +kernel
/-- The first half is rotated from column block 16 on. -/
theorem cond4_iff : ∀ t : Fin cfg0.N, k0_cond4 (grid0.coords t) = 1#1 ↔ 16 ≤ t.val % 19 := by decide +kernel

/-- The products are stored at every point. -/
theorem live8 : ∀ t : Fin cfg0.N, cfg0.idle 8 (grid0.coords t) = false := by decide +kernel
theorem live9 : ∀ t : Fin cfg0.N, cfg0.idle 9 (grid0.coords t) = false := by decide +kernel
/-- The gates are stored at the first column block only. -/
theorem idle10 : ∀ t : Fin cfg0.N, cfg0.idle 10 (grid0.coords t) = !decide (t.val % 19 = 0) := by decide +kernel

/-- Before which points the gates' buffer holds nothing the body stored. -/
def freshTab : ℕ → Bool := fun n => decide (n % 19 = 0)
theorem freshTab_step : ∀ t : Fin cfg0.N,
    freshTab (t.val + 1) = ((cfg0.win 10).flush t || (cfg0.idle 10 (cfg0.grid.coords t) && freshTab t.val)) := by decide +kernel
theorem fresh10 (t : Fin cfg0.N) : cfg0.fresh 10 t.val = decide (t.val % 19 = 0) :=
  Pipeline.Cfg.fresh_tab cfg0 10 freshTab rfl freshTab_step t.val (Nat.le_of_lt t.isLt)

/-! ## The contents after a point -/

/-- The normalised rows of the row block of point `t`. -/
def xn (c : Dev nD) (t : Fin cfg0.N) : Vec F S128x2048 .bf16 := k0_pay7 (iblk m c 0 t) (iblk m c 1 t)
/-- The gates of the row block of point `t`. -/
def gates (c : Dev nD) (t : Fin cfg0.N) : Vec F S128x128 .f32 := k0_pay8 (xn m c t) (iblk m c 3 t) (iblk m c 4 t)
/-- The product stored at point `t`. -/
def prod (c : Dev nD) (t : Fin cfg0.N) : Vec F S128x256 .f32 :=
  if 16 ≤ t.val % 19 then k0_pay5 (xn m c t) (iblk m c 2 t) (iblk m c 5 t) (iblk m c 6 t) (iblk m c 7 t)
  else if 8 ≤ t.val % 19 ∧ t.val % 19 ≤ 9 then k0_pay3 (xn m c t) (iblk m c 2 t) (iblk m c 5 t) (iblk m c 6 t) (iblk m c 7 t)
  else k0_pay1 (xn m c t) (iblk m c 2 t)
/-- The rounded product stored at point `t`. -/
def prodB (c : Dev nD) (t : Fin cfg0.N) : Vec F S128x256 .bf16 :=
  if 16 ≤ t.val % 19 then k0_pay6 (xn m c t) (iblk m c 2 t) (iblk m c 5 t) (iblk m c 6 t) (iblk m c 7 t)
  else if 8 ≤ t.val % 19 ∧ t.val % 19 ≤ 9 then k0_pay4 (xn m c t) (iblk m c 2 t) (iblk m c 5 t) (iblk m c 6 t) (iblk m c 7 t)
  else k0_pay2 (xn m c t) (iblk m c 2 t)

/-- What holds between points: before the first, the scratch at anything; after a point, at its normalised rows. -/
def Inv (c : Dev nD) : (n : ℕ) → n ≤ cfg0.N → sProp 𝕄
  | 0, _ => Pipeline.ΦA spec0 c
  | n + 1, hn => iprop(iprop(owns (c : Thread nD τ) (Memref.whole cc0_scratch0) fullShare (xn m c ⟨n, hn⟩)) ∗ (∃ r, prngReg c r))

theorem Inv_zero (c : Dev nD) (n : ℕ) (h : n ≤ cfg0.N) (hz : n = 0) : Inv m c n h = Pipeline.ΦA spec0 c := by
  subst hz; rfl
theorem Inv_succ (c : Dev nD) (n : ℕ) (hn : n < cfg0.N) :
    Inv m c (n + 1) hn = iprop(iprop(owns (c : Thread nD τ) (Memref.whole cc0_scratch0) fullShare (xn m c ⟨n, hn⟩)) ∗ (∃ r, prngReg c r)) := rfl
theorem Inv_pos (c : Dev nD) (n : ℕ) (h : n ≤ cfg0.N) (hz : n ≠ 0) :
    Inv m c n h = iprop(iprop(owns (c : Thread nD τ) (Memref.whole cc0_scratch0) fullShare (xn m c ⟨n - 1, by omega⟩)) ∗ (∃ r, prngReg c r)) := by
  cases n with
  | zero => exact absurd rfl hz
  | succ n => rfl

/-- The scratch and the generator register as the region starts with them. -/
theorem start_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- The proof data of the pipeline: every window's contents after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => prod m c t
    | ⟨9, _⟩ => prodB m c t
    | ⟨10, _⟩ => gates m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]
theorem Inv_castSucc (c : Dev nD) (t : Fin cfg0.N) :
    (dats m 0 c).Φ t.castSucc = Inv m c t.val (Nat.le_of_lt t.isLt) := by
  dsimp only [dats]; exact Pipeline.Dat.Φ_castSucc (Inv m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = prod m c t := by dsimp only [dats]
theorem after0_9 (c : Dev nD) (t : Fin cfg0.N) : (dats m 0 c).after 9 t = prodB m c t := by dsimp only [dats]
theorem after0_10 (c : Dev nD) (t : Fin cfg0.N) : (dats m 0 c).after 10 t = gates m c t := by dsimp only [dats]

/-! Each input's buffer holds its block at every point. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## Rows and gates are those of the point before within a row block -/

theorem index0_pred : ∀ t : Fin cfg0.N, t.val % 19 ≠ 0 →
    (cfg0.win 0).index t = (cfg0.win 0).index ⟨t.val - 1, Nat.lt_of_le_of_lt (Nat.sub_le _ _) t.isLt⟩ := by decide +kernel
theorem iblk0_pred (c : Dev nD) (t : Fin cfg0.N) (h : t.val % 19 ≠ 0) :
    (iblk m c 0 t : ((cfg0.win 0).block).Idx → Elt F (cfg0.win 0).elt) = iblk m c 0 ⟨t.val - 1, Nat.lt_of_le_of_lt (Nat.sub_le _ _) t.isLt⟩ :=
  (dats m 0 c).fetched_congr 0 (index0_pred t h) rfl (iblk m c 0 t)
theorem index1_pred : ∀ t : Fin cfg0.N, t.val % 19 ≠ 0 →
    (cfg0.win 1).index t = (cfg0.win 1).index ⟨t.val - 1, Nat.lt_of_le_of_lt (Nat.sub_le _ _) t.isLt⟩ := by decide +kernel
theorem iblk1_pred (c : Dev nD) (t : Fin cfg0.N) (h : t.val % 19 ≠ 0) :
    (iblk m c 1 t : ((cfg0.win 1).block).Idx → Elt F (cfg0.win 1).elt) = iblk m c 1 ⟨t.val - 1, Nat.lt_of_le_of_lt (Nat.sub_le _ _) t.isLt⟩ :=
  (dats m 0 c).fetched_congr 1 (index1_pred t h) rfl (iblk m c 1 t)
theorem index3_pred : ∀ t : Fin cfg0.N, t.val % 19 ≠ 0 →
    (cfg0.win 3).index t = (cfg0.win 3).index ⟨t.val - 1, Nat.lt_of_le_of_lt (Nat.sub_le _ _) t.isLt⟩ := by decide +kernel
theorem iblk3_pred (c : Dev nD) (t : Fin cfg0.N) (h : t.val % 19 ≠ 0) :
    (iblk m c 3 t : ((cfg0.win 3).block).Idx → Elt F (cfg0.win 3).elt) = iblk m c 3 ⟨t.val - 1, Nat.lt_of_le_of_lt (Nat.sub_le _ _) t.isLt⟩ :=
  (dats m 0 c).fetched_congr 3 (index3_pred t h) rfl (iblk m c 3 t)
theorem index4_pred : ∀ t : Fin cfg0.N, t.val % 19 ≠ 0 →
    (cfg0.win 4).index t = (cfg0.win 4).index ⟨t.val - 1, Nat.lt_of_le_of_lt (Nat.sub_le _ _) t.isLt⟩ := by decide +kernel
theorem iblk4_pred (c : Dev nD) (t : Fin cfg0.N) (h : t.val % 19 ≠ 0) :
    (iblk m c 4 t : ((cfg0.win 4).block).Idx → Elt F (cfg0.win 4).elt) = iblk m c 4 ⟨t.val - 1, Nat.lt_of_le_of_lt (Nat.sub_le _ _) t.isLt⟩ :=
  (dats m 0 c).fetched_congr 4 (index4_pred t h) rfl (iblk m c 4 t)
theorem xn_pred (c : Dev nD) (t : Fin cfg0.N) (h : t.val % 19 ≠ 0) :
    xn m c ⟨t.val - 1, Nat.lt_of_le_of_lt (Nat.sub_le _ _) t.isLt⟩ = xn m c t :=
  (congrArg₂ (k0_pay7 (F := F)) (iblk0_pred m c t h) (iblk1_pred m c t h)).symm
theorem gates_pred (c : Dev nD) (t : Fin cfg0.N) (h : t.val % 19 ≠ 0) :
    gates m c ⟨t.val - 1, Nat.lt_of_le_of_lt (Nat.sub_le _ _) t.isLt⟩ = gates m c t := by
  unfold gates; rw [xn_pred m c t h]
  exact (congrArg₂ (k0_pay8 (F := F) (xn m c t)) (iblk3_pred m c t h) (iblk4_pred m c t h)).symm

theorem carry10 (c : Dev nD) (t : Fin cfg0.N) (_ : t.val ≠ 0) (hi : cfg0.idle 10 (grid0.coords t) = true) (_ : cfg0.fresh 10 t.val = false) :
    (dats m 0 c).after 10 t = (dats m 0 c).after 10 ⟨t.val - 1, by omega⟩ := by
  rw [after0_10, after0_10]
  refine (gates_pred m c t fun h => ?_).symm
  rw [idle10, h] at hi; exact absurd hi (by decide)

/-- Away from the first column block the gates' buffer holds this row block's gates. -/
theorem before0_10 (c : Dev nD) (t : Fin cfg0.N) (h : t.val % 19 ≠ 0) (d) : (dats m 0 c).before 10 t d = gates m c t := by
  rw [Dat.before_out_traj _ 10 rfl (fun _ _ => rfl) (carry10 m c) t.val t rfl d,
    if_neg (by rw [fresh10, decide_eq_false h]; exact Bool.false_ne_true), after0_10]
  exact gates_pred m c t h

/-! ## The body's obligation -/

abbrev st0 (t : Fin cfg0.N) : Memref sig .tc .vmem S128x2048 .f32 := win0_0.stage (cfg0.slots t 0)
abbrev st1 (t : Fin cfg0.N) : Memref sig .tc .vmem S1x2048 .f32 := win0_1.stage (cfg0.slots t 1)
abbrev st2 (t : Fin cfg0.N) : Memref sig .tc .vmem S2048x256 .bf16 := win0_2.stage (cfg0.slots t 2)
abbrev st3 (t : Fin cfg0.N) : Memref sig .tc .vmem S2048x128 .bf16 := win0_3.stage (cfg0.slots t 3)
abbrev st4 (t : Fin cfg0.N) : Memref sig .tc .vmem S1x128 .f32 := win0_4.stage (cfg0.slots t 4)
abbrev st5 (t : Fin cfg0.N) : Memref sig .tc .vmem S128x128 .f32 := win0_5.stage (cfg0.slots t 5)
abbrev st6 (t : Fin cfg0.N) : Memref sig .tc .vmem S128x128 .f32 := win0_6.stage (cfg0.slots t 6)
abbrev st7 (t : Fin cfg0.N) : Memref sig .tc .vmem S128x128 .f32 := win0_7.stage (cfg0.slots t 7)
abbrev st8 (t : Fin cfg0.N) : Memref sig .tc .vmem S128x256 .f32 := win0_8.stage (cfg0.slots t 8)
abbrev st9 (t : Fin cfg0.N) : Memref sig .tc .vmem S128x256 .bf16 := win0_9.stage (cfg0.slots t 9)
abbrev st10 (t : Fin cfg0.N) : Memref sig .tc .vmem S128x128 .f32 := win0_10.stage (cfg0.slots t 10)

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves0 (c : Dev nD) (t : Fin cfg0.N) : (dats m 0 c).leavesExact 0 t = owns (c : Thread nD τ) (st0 t) fullShare (iblk m c 0 t) := by
  unfold Dat.leavesExact; rw [show cfg0.idle 0 (cfg0.grid.coords t) = false from rfl, after0_0]
theorem leaves1 (c : Dev nD) (t : Fin cfg0.N) : (dats m 0 c).leavesExact 1 t = owns (c : Thread nD τ) (st1 t) fullShare (iblk m c 1 t) := by
  unfold Dat.leavesExact; rw [show cfg0.idle 1 (cfg0.grid.coords t) = false from rfl, after0_1]
theorem leaves2 (c : Dev nD) (t : Fin cfg0.N) : (dats m 0 c).leavesExact 2 t = owns (c : Thread nD τ) (st2 t) fullShare (iblk m c 2 t) := by
  unfold Dat.leavesExact; rw [show cfg0.idle 2 (cfg0.grid.coords t) = false from rfl, after0_2]
theorem leaves3 (c : Dev nD) (t : Fin cfg0.N) : (dats m 0 c).leavesExact 3 t = owns (c : Thread nD τ) (st3 t) fullShare (iblk m c 3 t) := by
  unfold Dat.leavesExact; rw [show cfg0.idle 3 (cfg0.grid.coords t) = false from rfl, after0_3]
theorem leaves4 (c : Dev nD) (t : Fin cfg0.N) : (dats m 0 c).leavesExact 4 t = owns (c : Thread nD τ) (st4 t) fullShare (iblk m c 4 t) := by
  unfold Dat.leavesExact; rw [show cfg0.idle 4 (cfg0.grid.coords t) = false from rfl, after0_4]
theorem leaves5 (c : Dev nD) (t : Fin cfg0.N) : (dats m 0 c).leavesExact 5 t = owns (c : Thread nD τ) (st5 t) fullShare (iblk m c 5 t) := by
  unfold Dat.leavesExact; rw [show cfg0.idle 5 (cfg0.grid.coords t) = false from rfl, after0_5]
theorem leaves6 (c : Dev nD) (t : Fin cfg0.N) : (dats m 0 c).leavesExact 6 t = owns (c : Thread nD τ) (st6 t) fullShare (iblk m c 6 t) := by
  unfold Dat.leavesExact; rw [show cfg0.idle 6 (cfg0.grid.coords t) = false from rfl, after0_6]
theorem leaves7 (c : Dev nD) (t : Fin cfg0.N) : (dats m 0 c).leavesExact 7 t = owns (c : Thread nD τ) (st7 t) fullShare (iblk m c 7 t) := by
  unfold Dat.leavesExact; rw [show cfg0.idle 7 (cfg0.grid.coords t) = false from rfl, after0_7]
theorem leaves8 (c : Dev nD) (t : Fin cfg0.N) : (dats m 0 c).leavesExact 8 t = owns (c : Thread nD τ) (st8 t) fullShare (prod m c t) := by
  unfold Dat.leavesExact; rw [show cfg0.idle 8 (cfg0.grid.coords t) = false from (live8 t), after0_8]
theorem leaves9 (c : Dev nD) (t : Fin cfg0.N) : (dats m 0 c).leavesExact 9 t = owns (c : Thread nD τ) (st9 t) fullShare (prodB m c t) := by
  unfold Dat.leavesExact; rw [show cfg0.idle 9 (cfg0.grid.coords t) = false from (live9 t), after0_9]
/-- The gates' buffer is left at the gates, stored there or not. -/
theorem leaves10 (c : Dev nD) (t : Fin cfg0.N) :
    owns (c : Thread nD τ) (st10 t) fullShare (gates m c t) ⊢ (dats m 0 c).leavesExact 10 t := by
  by_cases h : t.val % 19 = 0
  · rw [show (dats m 0 c).leavesExact 10 t = owns (c : Thread nD τ) (st10 t) fullShare (gates m c t) from by
      unfold Dat.leavesExact
      rw [show cfg0.idle 10 (cfg0.grid.coords t) = false from (idle10 t).trans (by simp [h]), after0_10]]
  · have hi : cfg0.idle 10 (cfg0.grid.coords t) = true := (idle10 t).trans (by simp [h])
    by_cases hf : (cfg0.win 10).flush t = true
    · rw [show (dats m 0 c).leavesExact 10 t = owns (c : Thread nD τ) (st10 t) fullShare (gates m c t) from by
        unfold Dat.leavesExact; rw [hi, hf, after0_10]]
    · rw [Dat.leavesExact_idle (dats m 0 c) 10 t hi (by simpa using hf)]
      simp only [before0_10 m c t h]
      iintro H
      iexists (gates m c t)
      iexact H

/-- A point that is not the first of its row block, from its run. -/
theorem sound_keep (c : Dev nD) (t : Fin cfg0.N) (h : t.val % 19 ≠ 0)
    (hrun : Keeps c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) (st10 t) (hstage0_10 ((cfg0.slots t 10).cast nbuf0_10)) (Memref.whole cc0_scratch0) (Memref.isWhole_whole _) (iblk m c 0 t) (iblk m c 1 t) (iblk m c 2 t) (iblk m c 3 t) (iblk m c 4 t) (iblk m c 5 t) (iblk m c 6 t) (iblk m c 7 t) (gates m c t) (xn m c t) (prod m c t) (prodB m c t)) :
    bodyPre m c t ⊢ wp frame (wpE (defs₀ (F := F)) Variants.none c none) Set.univ (bodyAt0 t) (fun _ => bodyPost m c t) := by
  unfold Keeps at hrun
  unfold bodyPre bodyPost bodyAt0
  simp only [before0_0, before0_1, before0_2, before0_3, before0_4, before0_5, before0_6, before0_7, leaves0, leaves1, leaves2, leaves3, leaves4, leaves5, leaves6, leaves7, leaves8, leaves9, before0_10 m c t h]
  rw [show (dats m 0 c).owesAt () t.succ = (dats m 0 c).owesAt () t.castSucc from rfl]
  rw [show (dats m 0 c).Φ t.succ = Inv m c (t.val + 1) t.isLt from rfl, Inv_succ]
  rw [Inv_castSucc m c t, Inv_pos m c _ _ (fun hz => h (by rw [hz])), xn_pred m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [HS]; · iexact HS
  iintro ⟨H0, H1, H2, H3, H4, H5, H6, H7, H8, H9, H10, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (leaves10 m c t)
  iexact H10

/-- The first point of a row block, from its run. -/
theorem sound_first (c : Dev nD) (t : Fin cfg0.N)
    (hrun : Fills c (grid0.coords t) (st0 t) (hstage0_0 ((cfg0.slots t 0).cast nbuf0_0)) (st1 t) (hstage0_1 ((cfg0.slots t 1).cast nbuf0_1)) (st2 t) (hstage0_2 ((cfg0.slots t 2).cast nbuf0_2)) (st3 t) (hstage0_3 ((cfg0.slots t 3).cast nbuf0_3)) (st4 t) (hstage0_4 ((cfg0.slots t 4).cast nbuf0_4)) (st5 t) (hstage0_5 ((cfg0.slots t 5).cast nbuf0_5)) (st6 t) (hstage0_6 ((cfg0.slots t 6).cast nbuf0_6)) (st7 t) (hstage0_7 ((cfg0.slots t 7).cast nbuf0_7)) (st8 t) (hstage0_8 ((cfg0.slots t 8).cast nbuf0_8)) (st9 t) (hstage0_9 ((cfg0.slots t 9).cast nbuf0_9)) (st10 t) (hstage0_10 ((cfg0.slots t 10).cast nbuf0_10)) (Memref.whole cc0_scratch0) (Memref.isWhole_whole _) (iblk m c 0 t) (iblk m c 1 t) (iblk m c 2 t) (iblk m c 3 t) (iblk m c 4 t) (iblk m c 5 t) (iblk m c 6 t) (iblk m c 7 t) (gates m c t) (xn m c t) (prod m c t) (prodB m c t)) :
    bodyPre m c t ⊢ wp frame (wpE (defs₀ (F := F)) Variants.none c none) Set.univ (bodyAt0 t) (fun _ => bodyPost m c t) := by
  unfold Fills at hrun
  unfold bodyPre bodyPost bodyAt0
  simp only [before0_0, before0_1, before0_2, before0_3, before0_4, before0_5, before0_6, before0_7, leaves0, leaves1, leaves2, leaves3, leaves4, leaves5, leaves6, leaves7, leaves8, leaves9]
  rw [show (dats m 0 c).owesAt () t.succ = (dats m 0 c).owesAt () t.castSucc from rfl]
  rw [show (dats m 0 c).Φ t.succ = Inv m c (t.val + 1) t.isLt from rfl, Inv_succ]
  by_cases hz : t.val = 0
  · rw [Inv_castSucc m c t, Inv_zero m c _ _ hz, start_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (hrun Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexact HS
    iintro ⟨H0, H1, H2, H3, H4, H5, H6, H7, H8, H9, H10, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves10 m c t)
    iexact H10
  · rw [Inv_castSucc m c t, Inv_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (hrun Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS]; · iexists _; iexact HS
    iintro ⟨H0, H1, H2, H3, H4, H5, H6, H7, H8, H9, H10, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iapply (leaves10 m c t)
    iexact H10

/-- The body's triple at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 19 = 0
  · refine sound_first m c t ?_
    rw [show prod m c t = k0_pay1 (xn m c t) (iblk m c 2 t) from by
        unfold InprojSample.prod; rw [if_neg (by omega), if_neg (by omega)],
      show prodB m c t = k0_pay2 (xn m c t) (iblk m c 2 t) from by
        unfold prodB; rw [if_neg (by omega), if_neg (by omega)]]
    exact run_first (F := F) _ _ _ _ _ _ _ _ _ _ _ _ _ _ _ _ _ _ _ _ _ _ _ _ _ _ _ _ _ _ _ _ _ _ ((cond1_iff t).mpr h0) ((cond2_iff t).mpr (by omega))
      (fun h => by have := (cond3_iff t).mp h; omega) (fun h => by have := (cond4_iff t).mp h; omega)
  · refine sound_keep m c t h0 ?_
    by_cases h4 : 16 ≤ t.val % 19
    · rw [show prod m c t = _ from if_pos h4, show prodB m c t = _ from if_pos h4]
      exact run_half (F := F) _ _ _ _ _ _ _ _ _ _ _ _ _ _ _ _ _ _ _ _ _ _ _ _ _ _ _ _ _ _ _ _ _ _ _ _ (fun h => h0 ((cond1_iff t).mp h)) (fun h => by have := (cond2_iff t).mp h; omega)
        (fun h => by have := (cond3_iff t).mp h; omega) ((cond4_iff t).mpr h4)
    by_cases h3 : 8 ≤ t.val % 19 ∧ t.val % 19 ≤ 9
    · rw [show prod m c t = _ from (if_neg h4).trans (if_pos h3), show prodB m c t = _ from (if_neg h4).trans (if_pos h3)]
      exact run_both (F := F) _ _ _ _ _ _ _ _ _ _ _ _ _ _ _ _ _ _ _ _ _ _ _ _ _ _ _ _ _ _ _ _ _ _ _ _ (fun h => h0 ((cond1_iff t).mp h)) (fun h => by have := (cond2_iff t).mp h; omega)
        ((cond3_iff t).mpr h3) (fun h => h4 ((cond4_iff t).mp h))
    · rw [show prod m c t = _ from (if_neg h4).trans (if_neg h3), show prodB m c t = _ from (if_neg h4).trans (if_neg h3)]
      have hlt : t.val % 19 < 19 := Nat.mod_lt _ (by decide)
      exact run_plain (F := F) _ _ _ _ _ _ _ _ _ _ _ _ _ _ _ _ _ _ _ _ _ _ _ _ _ _ _ _ _ _ _ _ _ _ _ _ (fun h => h0 ((cond1_iff t).mp h)) ((cond2_iff t).mpr (by omega))
        (fun h => h3 ((cond3_iff t).mp h)) (fun h => h4 ((cond4_iff t).mp h))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region starts with the invariant, -/
theorem hin (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

/-- and gives the scratch back at the end. -/
theorem hout (c : Dev nD) : (dats m 0 c).Φ (Fin.last cfg0.N) ⊢ Pipeline.ΦA spec0 c := by
  rw [show (dats m 0 c).Φ (Fin.last cfg0.N) = Inv m c cfg0.N (Nat.le_refl _) from rfl,
    Inv_pos m c _ _ (by have : cfg0.N = 19 := N_0; omega), start_eq]
  iintro ⟨HS, Hg⟩
  isplitl [HS]
  · iexists _; iexact HS
  iexact Hg

/-! ## The run and the frame -/

set_option backward.isDefEq.respectTransparency.types false in
/-- The launch: every array ends at what the proof data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel6Ideal.InprojSample

end
-- ==== Proof.InprojSampleRef.lean ====
/- The reference of the input projection over the sample rows as terms of its arguments: the product of the normalised rows with the whole weight,
   the two rotated pieces, the packing of the columns, and the gates. -/
module

public import proofs.«01_k».proof.Proof.Gen.Reference6Ideal.Run
public import proofs.«01_k».proof.Proof.InprojRef
public import Idealize.ShloMosaic.Lib.Pipeline.ValueKit

@[expose] public section

set_option maxRecDepth 16384

noncomputable section

namespace Cert.Reference6Ideal.Value

open Idealize.ShloMosaic Idealize.ShloMosaic.TcCoe Idealize.SL.Sem
open scoped BigOperators
open Cert.Reference6Ideal Cert.Reference6Ideal.Gen
open Cert.Reference4Ideal.Value (turn srcOf srcOf_low srcOf_mid srcOf_high turned row row_plain row_turned lsig sig gateRow)

/-- The input rows normalised by their root mean square. -/
def normed (a0 : FVec Ideal S128x2048 .f32) (a1 : FVec Ideal S2048 .f32) : FVec Ideal S128x2048 .f32 :=
  mulf (mulf a0 (broadcastInDim S128x2048 ![0, 1] bcast_S128x1_S128x2048_0_1 (Host.rsqrt (addf (Host.divf (broadcastInDim S128x1 ![0] bcast_S128_S128x1_0 (Host.reduceAdd (mulf a0 a0) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 a1))

/-- The normalised rows times the whole weight. -/
def product (a0 : FVec Ideal S128x2048 .f32) (a1 : FVec Ideal S2048 .f32) (a2 : FVec Ideal S2048x4880 .f32) : FVec Ideal S128x1x4880 .f32 :=
  Host.dotGeneral dot_S128x1x2048_S2048x4880_S128x1x4880_2_0_01_1_n_n none (shapeCast _ (normed a0 a1) shapeCasts_S128x2048_S128x1x2048) a2

/-- The rotation angles: position times inverse frequency. -/
def angle : FVec Ideal S1x16 .f32 :=
  mulf (broadcastInDim S1x16 ![0, 1] bcast_S1x1_S1x16_0_1 (broadcastInDim S1x1 ![0] bcast_S1_S1x1_0 (sitofp .f32 (addi (broadcastInDim S1 ![] bcast_S_S1 (constantI S_ 32 2048#32)) (iotaInDim S1 32 0))))) (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32)))))

/-- Their cosines. -/
def cosT : FVec Ideal S1x16 .f32 := Host.cos angle

/-- Their sines. -/
def sinT : FVec Ideal S1x16 .f32 := Host.sin angle

/-- The rotation of the first 32 lanes of each of four heads. -/
def turn4 (x : FVec Ideal S128x1x4x128 .f32) : FVec Ideal S128x1x4x128 .f32 :=
  concatenate S128x1x4x128 3 [⟨S128x1x4x16, ((subf (mulf (extractStridedSlice S128x1x4x16 ![0, 0, 0, 0] x slices_S128x1x4x128_S128x1x4x16_0_0_0_0) (broadcastInDim S128x1x4x16 ![0, 1, 2, 3] bcast_S1x1x1x16_S128x1x4x16_0_1_2_3 (broadcastInDim S1x1x1x16 ![1, 3] bcast_S1x16_S1x1x1x16_1_3 cosT))) (mulf (extractStridedSlice S128x1x4x16 ![0, 0, 0, 16] x slices_S128x1x4x128_S128x1x4x16_0_0_0_16) (broadcastInDim S128x1x4x16 ![0, 1, 2, 3] bcast_S1x1x1x16_S128x1x4x16_0_1_2_3 (broadcastInDim S1x1x1x16 ![1, 3] bcast_S1x16_S1x1x1x16_1_3 sinT)))))⟩, ⟨S128x1x4x16, ((addf (mulf (extractStridedSlice S128x1x4x16 ![0, 0, 0, 16] x slices_S128x1x4x128_S128x1x4x16_0_0_0_16) (broadcastInDim S128x1x4x16 ![0, 1, 2, 3] bcast_S1x1x1x16_S128x1x4x16_0_1_2_3 (broadcastInDim S1x1x1x16 ![1, 3] bcast_S1x16_S1x1x1x16_1_3 cosT))) (mulf (extractStridedSlice S128x1x4x16 ![0, 0, 0, 0] x slices_S128x1x4x128_S128x1x4x16_0_0_0_0) (broadcastInDim S128x1x4x16 ![0, 1, 2, 3] bcast_S1x1x1x16_S128x1x4x16_0_1_2_3 (broadcastInDim S1x1x1x16 ![1, 3] bcast_S1x16_S1x1x1x16_1_3 sinT)))))⟩, ⟨S128x1x4x96, ((extractStridedSlice S128x1x4x96 ![0, 0, 0, 32] x slices_S128x1x4x128_S128x1x4x96_0_0_0_32))⟩] concatenates_S128x1x4x16_S128x1x4x16_S128x1x4x96_S128x1x4x128_d3

/-- The rotation of the first 32 lanes of each of three heads. -/
def turn3 (x : FVec Ideal S128x1x3x128 .f32) : FVec Ideal S128x1x3x128 .f32 :=
  concatenate S128x1x3x128 3 [⟨S128x1x3x16, ((subf (mulf (extractStridedSlice S128x1x3x16 ![0, 0, 0, 0] x slices_S128x1x3x128_S128x1x3x16_0_0_0_0) (broadcastInDim S128x1x3x16 ![0, 1, 2, 3] bcast_S1x1x1x16_S128x1x3x16_0_1_2_3 (broadcastInDim S1x1x1x16 ![1, 3] bcast_S1x16_S1x1x1x16_1_3 cosT))) (mulf (extractStridedSlice S128x1x3x16 ![0, 0, 0, 16] x slices_S128x1x3x128_S128x1x3x16_0_0_0_16) (broadcastInDim S128x1x3x16 ![0, 1, 2, 3] bcast_S1x1x1x16_S128x1x3x16_0_1_2_3 (broadcastInDim S1x1x1x16 ![1, 3] bcast_S1x16_S1x1x1x16_1_3 sinT)))))⟩, ⟨S128x1x3x16, ((addf (mulf (extractStridedSlice S128x1x3x16 ![0, 0, 0, 16] x slices_S128x1x3x128_S128x1x3x16_0_0_0_16) (broadcastInDim S128x1x3x16 ![0, 1, 2, 3] bcast_S1x1x1x16_S128x1x3x16_0_1_2_3 (broadcastInDim S1x1x1x16 ![1, 3] bcast_S1x16_S1x1x1x16_1_3 cosT))) (mulf (extractStridedSlice S128x1x3x16 ![0, 0, 0, 0] x slices_S128x1x3x128_S128x1x3x16_0_0_0_0) (broadcastInDim S128x1x3x16 ![0, 1, 2, 3] bcast_S1x1x1x16_S128x1x3x16_0_1_2_3 (broadcastInDim S1x1x1x16 ![1, 3] bcast_S1x16_S1x1x1x16_1_3 sinT)))))⟩, ⟨S128x1x3x96, ((extractStridedSlice S128x1x3x96 ![0, 0, 0, 32] x slices_S128x1x3x128_S128x1x3x96_0_0_0_32))⟩] concatenates_S128x1x3x16_S128x1x3x16_S128x1x3x96_S128x1x3x128_d3

/-- The four heads at column 2048. -/
def heads4 (H : FVec Ideal S128x1x4880 .f32) : FVec Ideal S128x1x4x128 .f32 :=
  shapeCast _ (extractStridedSlice S128x1x512 ![0, 0, 2048] H slices_S128x1x4880_S128x1x512_0_0_2048) shapeCasts_S128x1x512_S128x1x4x128

/-- The six heads at column 2560, the even ones. -/
def evens (H : FVec Ideal S128x1x4880 .f32) : FVec Ideal S128x1x3x128 .f32 :=
  Host.slice S128x1x3x128 ![0, 0, 0, 0] ![1, 1, 2, 1] (shapeCast _ (extractStridedSlice S128x1x768 ![0, 0, 2560] H slices_S128x1x4880_S128x1x768_0_0_2560) shapeCasts_S128x1x768_S128x1x6x128) slicesBy_S128x1x6x128_S128x1x3x128_0s1_0s1_0s2_0s1

/-- The odd ones. -/
def odds (H : FVec Ideal S128x1x4880 .f32) : FVec Ideal S128x1x3x128 .f32 :=
  Host.slice S128x1x3x128 ![0, 0, 1, 0] ![1, 1, 2, 1] (shapeCast _ (extractStridedSlice S128x1x768 ![0, 0, 2560] H slices_S128x1x4880_S128x1x768_0_0_2560) shapeCasts_S128x1x768_S128x1x6x128) slicesBy_S128x1x6x128_S128x1x3x128_0s1_0s1_1s2_0s1

/-- Even and odd heads interleaved again. -/
def interleaved (e o : FVec Ideal S128x1x3x128 .f32) : FVec Ideal S128x1x768 .f32 :=
  shapeCast _ (concatenate S128x1x3x2x128 3 [⟨S128x1x3x1x128, (broadcastInDim S128x1x3x1x128 ![0, 1, 2, 4] bcast_S128x1x3x128_S128x1x3x1x128_0_1_2_4 e)⟩, ⟨S128x1x3x1x128, (broadcastInDim S128x1x3x1x128 ![0, 1, 2, 4] bcast_S128x1x3x128_S128x1x3x1x128_0_1_2_4 o)⟩] concatenates_S128x1x3x1x128_S128x1x3x1x128_S128x1x3x2x128_d3) shapeCasts_S128x1x3x2x128_S128x1x768

/-- The four heads as columns. -/
def flat4 (x : FVec Ideal S128x1x4x128 .f32) : FVec Ideal S128x1x512 .f32 :=
  shapeCast _ x shapeCasts_S128x1x4x128_S128x1x512

/-- The packed columns. -/
def packed (H : FVec Ideal S128x1x4880 .f32) (p : FVec Ideal S128x1x512 .f32) (q : FVec Ideal S128x1x768 .f32) : FVec Ideal S128x4864 .f32 :=
  shapeCast _ ((concatenate S128x1x4864 2 [⟨S128x1x1024, ((extractStridedSlice S128x1x1024 ![0, 0, 0] H slices_S128x1x4880_S128x1x1024_0_0_0))⟩, ⟨S128x1x1024, ((extractStridedSlice S128x1x1024 ![0, 0, 1024] H slices_S128x1x4880_S128x1x1024_0_0_1024))⟩, ⟨S128x1x512, (p)⟩, ⟨S128x1x512, ((extractStridedSlice S128x1x512 ![0, 0, 3340] H slices_S128x1x4880_S128x1x512_0_0_3340))⟩, ⟨S128x1x512, ((extractStridedSlice S128x1x512 ![0, 0, 3852] H slices_S128x1x4880_S128x1x512_0_0_3852))⟩, ⟨S128x1x512, ((extractStridedSlice S128x1x512 ![0, 0, 4364] H slices_S128x1x4880_S128x1x512_0_0_4364))⟩, ⟨S128x1x768, (q)⟩] concatenates_S128x1x1024_S128x1x1024_S128x1x512_S128x1x512_S128x1x512_S128x1x512_S128x1x768_S128x1x4864_d2)) shapeCasts_S128x1x4864_S128x4864

/-- The first result. -/
def ref (a0 : FVec Ideal S128x2048 .f32) (a1 : FVec Ideal S2048 .f32) (a2 : FVec Ideal S2048x4880 .f32) : FVec Ideal S128x4864 .f32 :=
  packed (product a0 a1 a2) (flat4 (turn4 (heads4 (product a0 a1 a2)))) (interleaved (turn3 (evens (product a0 a1 a2))) (odds (product a0 a1 a2)))

/-- The forget gates' argument. -/
def gateSum (H : FVec Ideal S128x1x4880 .f32) (a3 : FVec Ideal S4 .f32) : FVec Ideal S128x1x4 .f32 :=
  addf (extractStridedSlice S128x1x4 ![0, 0, 4876] H slices_S128x1x4880_S128x1x4_0_0_4876) (broadcastInDim S128x1x4 ![0, 1, 2] bcast_S1x1x4_S128x1x4_0_1_2 (broadcastInDim S1x1x4 ![2] bcast_S4_S1x1x4_2 a3))

/-- The logarithm of the sigmoid. -/
def logSigmoid (z : FVec Ideal S128x1x4 .f32) : FVec Ideal S128x1x4 .f32 :=
  Host.negf (select (cmpf .une (subf (Host.negf z) (broadcastInDim S128x1x4 ![] bcast_S_S128x1x4 (constant S_ .f32 0x00000000#32))) (subf (Host.negf z) (broadcastInDim S128x1x4 ![] bcast_S_S128x1x4 (constant S_ .f32 0x00000000#32)))) (addf (Host.negf z) (broadcastInDim S128x1x4 ![] bcast_S_S128x1x4 (constant S_ .f32 0x00000000#32))) (addf (maximumf (Host.negf z) (broadcastInDim S128x1x4 ![] bcast_S_S128x1x4 (constant S_ .f32 0x00000000#32))) (Host.log1p (Host.exp (Host.negf (Host.absf (subf (Host.negf z) (broadcastInDim S128x1x4 ![] bcast_S_S128x1x4 (constant S_ .f32 0x00000000#32)))))))))

/-- The gate columns. -/
def gateCols (H : FVec Ideal S128x1x4880 .f32) (l : FVec Ideal S128x1x4 .f32) : FVec Ideal S128x128 .f32 :=
  shapeCast _ ((concatenate S128x1x128 2 [⟨S128x1x4, (l)⟩, ⟨S128x1x12, ((Host.divf (broadcastInDim S128x1x12 ![] bcast_S_S128x1x12 (constant S_ .f32 0x3F800000#32)) (addf (broadcastInDim S128x1x12 ![] bcast_S_S128x1x12 (constant S_ .f32 0x3F800000#32)) (Host.exp (Host.negf (extractStridedSlice S128x1x12 ![0, 0, 3328] H slices_S128x1x4880_S128x1x12_0_0_3328))))))⟩, ⟨S128x1x112, ((Host.divf (broadcastInDim S128x1x112 ![] bcast_S_S128x1x112 (constant S_ .f32 0x3F800000#32)) (addf (broadcastInDim S128x1x112 ![] bcast_S_S128x1x112 (constant S_ .f32 0x3F800000#32)) (Host.exp (Host.negf (broadcastInDim S128x1x112 ![] bcast_S_S128x1x112 (constant S_ .f32 0x00000000#32)))))))⟩] concatenates_S128x1x4_S128x1x12_S128x1x112_S128x1x128_d2)) shapeCasts_S128x1x128_S128x128

/-- The third result. -/
def refGates (a0 : FVec Ideal S128x2048 .f32) (a1 : FVec Ideal S2048 .f32) (a2 : FVec Ideal S2048x4880 .f32) (a3 : FVec Ideal S4 .f32) : FVec Ideal S128x128 .f32 :=
  gateCols (product a0 a1 a2) (logSigmoid (gateSum (product a0 a1 a2) a3))

theorem res_eq (m : (ℓ : Loc nD τ sig) → Buf (Elt Ideal) ℓ) (c : Dev nD) :
    res_main_v105 (F := Ideal) m c = ref (m ((c.tc : Thread nD τ).loc main_arg0)) (m ((c.tc : Thread nD τ).loc main_arg1)) (m ((c.tc : Thread nD τ).loc main_arg2)) := rfl

theorem res_eq_copy (m : (ℓ : Loc nD τ sig) → Buf (Elt Ideal) ℓ) (c : Dev nD) :
    res_main_v115 (F := Ideal) m c = ref (m ((c.tc : Thread nD τ).loc main_arg0)) (m ((c.tc : Thread nD τ).loc main_arg1)) (m ((c.tc : Thread nD τ).loc main_arg2)) := rfl

theorem res_eq_gates (m : (ℓ : Loc nD τ sig) → Buf (Elt Ideal) ℓ) (c : Dev nD) :
    res_main_v114 (F := Ideal) m c = refGates (m ((c.tc : Thread nD τ).loc main_arg0)) (m ((c.tc : Thread nD τ).loc main_arg1)) (m ((c.tc : Thread nD τ).loc main_arg2)) (m ((c.tc : Thread nD τ).loc main_arg3)) := rfl

/-- The product at a point: a row of the normalised input against a column of the weight. -/
theorem product_at (a0 : FVec Ideal S128x2048 .f32) (a1 : FVec Ideal S2048 .f32) (a2 : FVec Ideal S2048x4880 .f32) (r : Fin 128) (n : Fin 4880) :
    product a0 a1 a2 (ix3 r (0 : Fin 1) n) = ∑ k : Fin 2048, normed a0 a1 (ix2 r k) * a2 (ix2 k n) := by
  pointwise [product]

theorem turn4_at (x : FVec Ideal S128x1x4x128 .f32) (b : Fin 128) (h : Fin 4) (l : Fin 128) :
    turn4 x (ix4 b 0 h l) = turn (fun j => x (ix4 b 0 h j)) (fun j => cosT (ix2 0 j)) (fun j => sinT (ix2 0 j)) l := by
  pointwise [turn4]
  unfold turn
  by_cases h1 : (l : ℕ) < 16
  · rw [dif_pos h1, dif_pos h1]
    congr 4
    exact Fin.ext (Nat.add_comm _ _)
  · rw [dif_neg h1, dif_neg h1]
    by_cases h2 : (l : ℕ) < 32
    · rw [dif_pos (by omega), dif_pos h2]
      congr 4
      exact Fin.ext (by dsimp only; omega)
    · rw [dif_neg (by omega), dif_neg h2]
      congr 2
      exact Fin.ext (by dsimp only; omega)

theorem turn3_at (x : FVec Ideal S128x1x3x128 .f32) (b : Fin 128) (h : Fin 3) (l : Fin 128) :
    turn3 x (ix4 b 0 h l) = turn (fun j => x (ix4 b 0 h j)) (fun j => cosT (ix2 0 j)) (fun j => sinT (ix2 0 j)) l := by
  pointwise [turn3]
  unfold turn
  by_cases h1 : (l : ℕ) < 16
  · rw [dif_pos h1, dif_pos h1]
    congr 4
    exact Fin.ext (Nat.add_comm _ _)
  · rw [dif_neg h1, dif_neg h1]
    by_cases h2 : (l : ℕ) < 32
    · rw [dif_pos (by omega), dif_pos h2]
      congr 4
      exact Fin.ext (by dsimp only; omega)
    · rw [dif_neg (by omega), dif_neg h2]
      congr 2
      exact Fin.ext (by dsimp only; omega)

theorem heads4_at (H : FVec Ideal S128x1x4880 .f32) (b : Fin 128) (h : Fin 4) (l : Fin 128) :
    heads4 H (ix4 b 0 h l) = H (ix3 b 0 ⟨2048 + (h * 128 + l), by omega⟩) := by
  pointwise [heads4]

theorem evens_at (H : FVec Ideal S128x1x4880 .f32) (b : Fin 128) (h : Fin 3) (l : Fin 128) :
    evens H (ix4 b 0 h l) = H (ix3 b 0 ⟨2560 + (2 * h * 128 + l), by omega⟩) := by
  pointwise [evens]

theorem odds_at (H : FVec Ideal S128x1x4880 .f32) (b : Fin 128) (h : Fin 3) (l : Fin 128) :
    odds H (ix4 b 0 h l) = H (ix3 b 0 ⟨2560 + ((1 + 2 * h) * 128 + l), by omega⟩) := by
  pointwise [odds]

theorem flat4_at (x : FVec Ideal S128x1x4x128 .f32) (b : Fin 128) (n : Fin 512) :
    flat4 x (ix3 b 0 n) = x (ix4 b 0 (⟨n / 128, by omega⟩ : Fin 4) (⟨n % 128, by omega⟩ : Fin 128)) := by
  pointwise [flat4]

theorem interleaved_at (e o : FVec Ideal S128x1x3x128 .f32) (b : Fin 128) (n : Fin 768) :
    interleaved e o (ix3 b 0 n) = if (n : ℕ) / 128 % 2 < 1 then e (ix4 b 0 (⟨n / 256, by omega⟩ : Fin 3) (⟨n % 128, by omega⟩ : Fin 128))
      else o (ix4 b 0 (⟨n / 256, by omega⟩ : Fin 3) (⟨n % 128, by omega⟩ : Fin 128)) := by
  pointwise [interleaved]
  split_ifs <;> rfl

theorem packed_at (H : FVec Ideal S128x1x4880 .f32) (r : Fin 128) (n : Fin 4864) :
    packed H (flat4 (turn4 (heads4 H))) (interleaved (turn3 (evens H)) (odds H)) (ix2 r n)
      = row (fun j => H (ix3 r (0 : Fin 1) j)) (fun j => cosT (ix2 0 j))
        (fun j => sinT (ix2 0 j)) ⟨n / 128, by omega⟩ ⟨n % 128, by omega⟩ := by
  generalize hp : flat4 (turn4 (heads4 H)) = p
  generalize hq : interleaved (turn3 (evens H)) (odds H) = q
  have plain : ∀ (k : ℕ) (hk : k < 4880), ¬ turned (n / 128) → k = srcOf (n / 128) + n % 128 → _ := fun k hk =>
    row_plain (fun j => H (ix3 r (0 : Fin 1) j)) (fun j => cosT (ix2 0 j))
        (fun j => sinT (ix2 0 j)) n k hk
  pointwise [packed]
  by_cases h1 : (n : ℕ) < 1024
  · rw [dif_pos h1]
    exact plain _ _ (by unfold turned; omega) (by rw [srcOf_low (by omega)]; omega)
  rw [dif_neg h1]
  by_cases h2 : (n : ℕ) < 2048
  · rw [dif_pos (by omega)]
    exact plain _ _ (by unfold turned; omega) (by rw [srcOf_low (by omega)]; omega)
  rw [dif_neg (by omega)]
  by_cases h3 : (n : ℕ) < 2560
  · rw [dif_pos (by omega), ← hp, flat4_at, turn4_at]
    refine row_turned _ _ _ n _ _ (by unfold turned; omega) (by dsimp only; omega) fun j k hk => ?_
    rw [heads4_at]
    rw [srcOf_low (by omega)] at hk
    exact congrArg (fun k => H (ix3 _ _ k)) (Fin.ext (by dsimp only; omega))
  rw [dif_neg (by omega)]
  by_cases h4 : (n : ℕ) < 3072
  · rw [dif_pos (by omega)]
    exact plain _ _ (by unfold turned; omega) (by rw [srcOf_mid (by omega) (by omega)]; omega)
  rw [dif_neg (by omega)]
  by_cases h5 : (n : ℕ) < 3584
  · rw [dif_pos (by omega)]
    exact plain _ _ (by unfold turned; omega) (by rw [srcOf_mid (by omega) (by omega)]; omega)
  rw [dif_neg (by omega)]
  by_cases h6 : (n : ℕ) < 4096
  · rw [dif_pos (by omega)]
    exact plain _ _ (by unfold turned; omega) (by rw [srcOf_mid (by omega) (by omega)]; omega)
  rw [dif_neg (by omega), ← hq, interleaved_at]
  by_cases he : (n : ℕ) / 128 % 2 = 0
  · rw [if_pos (by dsimp only; omega), turn3_at]
    refine row_turned _ _ _ n _ _ (by unfold turned; omega) (by dsimp only; omega) fun j k hk => ?_
    rw [evens_at]
    rw [srcOf_high (by omega)] at hk
    exact congrArg (fun k => H (ix3 _ _ k)) (Fin.ext (by dsimp only; omega))
  · rw [if_neg (by dsimp only; omega), odds_at]
    exact plain _ _ (by unfold turned; omega) (by rw [srcOf_high (by omega)]; dsimp only; omega)

/-- The packed result at a point. -/
theorem ref_at (a0 : FVec Ideal S128x2048 .f32) (a1 : FVec Ideal S2048 .f32) (a2 : FVec Ideal S2048x4880 .f32) (r : Fin 128) (n : Fin 4864) :
    ref a0 a1 a2 (ix2 r n) = row (fun j => ∑ k : Fin 2048, normed a0 a1 (ix2 r k) * a2 (ix2 k j)) (fun j => cosT (ix2 0 j))
        (fun j => sinT (ix2 0 j)) ⟨n / 128, by omega⟩ ⟨n % 128, by omega⟩ := by
  unfold ref
  rw [packed_at]
  simp only [product_at]

theorem logSigmoid_at (z : FVec Ideal S128x1x4 .f32) (y) : logSigmoid z y = lsig (z y) := by
  pointwise [logSigmoid]
  rw [if_neg (by simp)]
  rfl

theorem gateSum_at (H : FVec Ideal S128x1x4880 .f32) (a3 : FVec Ideal S4 .f32) (b : Fin 128) (n : Fin 4) :
    gateSum H a3 (ix3 b 0 n) = H (ix3 b 0 ⟨4876 + n, by omega⟩) + a3 (ix1 n) := by
  pointwise [gateSum]

/-- The gates at a point. -/
theorem refGates_at (a0 : FVec Ideal S128x2048 .f32) (a1 : FVec Ideal S2048 .f32) (a2 : FVec Ideal S2048x4880 .f32) (a3 : FVec Ideal S4 .f32) (r : Fin 128) (n : Fin 128) :
    refGates a0 a1 a2 a3 (ix2 r n) = gateRow (fun j => ∑ k : Fin 2048, normed a0 a1 (ix2 r k) * a2 (ix2 k j)) (fun j => a3 (ix1 j)) n := by
  unfold refGates
  generalize hl : logSigmoid (gateSum (product a0 a1 a2) a3) = l
  have hP := product_at a0 a1 a2 r
  generalize product a0 a1 a2 = H at hl hP ⊢
  pointwise [gateCols]
  unfold gateRow
  by_cases h1 : (n : ℕ) < 4
  · rw [dif_pos h1, dif_pos h1, ← hl, logSigmoid_at, gateSum_at, hP]
  · rw [dif_neg h1, dif_neg h1]
    by_cases h2 : (n : ℕ) < 16
    · rw [dif_pos (by omega), dif_pos h2, hP]; rfl
    · rw [dif_neg (by omega), dif_neg h2]; rfl

end Cert.Reference6Ideal.Value

end
-- ==== Proof.InprojSample.lean ====
/- The input-projection kernel over the sample rows, at extended reals: the blocks of its operands as parts of the arguments, and what each point
   writes as a block of the reference's results. -/
module

public import proofs.«01_k».proof.Proof.Inproj
public import proofs.«01_k».proof.Proof.InprojSampleRef
public import proofs.«01_k».proof.Proof.InprojSampleFrame
public import Idealize.ShloMosaic.Lib.Pipeline.Value

@[expose] public section

set_option maxRecDepth 16384

noncomputable section

namespace Cert.Kernel6Ideal.InprojSample

open Idealize.ShloMosaic Idealize.ShloMosaic.TcCoe Idealize.SL.Sem
open Idealize.ShloMosaic.Pipeline (Dat)
open scoped BigOperators
open Cert.Kernel6Ideal Cert.Kernel6Ideal.Gen
open Cert.Reference6Ideal.Value (normed cosT sinT)
open Cert.Reference4Ideal.Value (turn srcOf turned row gateRow lsig sig)
open Cert.Kernel4Ideal.Inproj (gateLane keep above below spin spin_turn log1p_real lsig_eq)

variable (m : (ℓ : Loc nD τ sig) → Buf (Elt Ideal) ℓ)

theorem idx : ∀ t : Fin cfg0.N, win0_0.index t = ![t.val / 19, 0]
    ∧ win0_1.index t = ![0, 0]
    ∧ win0_2.index t = ![0, t.val % 19]
    ∧ win0_3.index t = ![0, 0]
    ∧ win0_4.index t = ![0, 0]
    ∧ win0_5.index t = ![t.val / 19, 0]
    ∧ win0_6.index t = ![t.val / 19, 0]
    ∧ win0_7.index t = ![t.val / 19, 0]
    ∧ win0_8.index t = ![t.val / 19, t.val % 19]
    ∧ win0_9.index t = ![t.val / 19, t.val % 19]
    ∧ win0_10.index t = ![t.val / 19, 0] :=
  (by decide +kernel : ∀ t : Fin grid0.N, _)

/-- The array row a block row of point `t` sits at. -/
abbrev rowOf (t : Fin cfg0.N) (p : Fin 128) : Fin 128 :=
  ⟨t.val / 19 * 128 + p, by have := lt19 t; omega⟩

/-! ## The prepared operands -/

/-- The packed weight. -/
def weight (a2 : FVec Ideal S2048x4880 .f32) : FVec Ideal S2048x4864 .bf16 :=
  truncf .bf16 (concatenate S2048x4864 1 [⟨S2048x2560, extractStridedSlice S2048x2560 ![0, 0] a2 slices_S2048x4880_S2048x2560_0_0⟩, ⟨S2048x1536, extractStridedSlice S2048x1536 ![0, 3340] a2 slices_S2048x4880_S2048x1536_0_3340⟩, ⟨S2048x768, extractStridedSlice S2048x768 ![0, 2560] a2 slices_S2048x4880_S2048x768_0_2560⟩] concatenates_S2048x2560_S2048x1536_S2048x768_S2048x4864_d1) bitsLt_bf16_f32

/-- The gates' weight: the used columns and zeros. -/
def gateWeight (a2 : FVec Ideal S2048x4880 .f32) : FVec Ideal S2048x128 .bf16 :=
  truncf .bf16 (concatenate S2048x128 1 [⟨S2048x4, extractStridedSlice S2048x4 ![0, 4876] a2 slices_S2048x4880_S2048x4_0_4876⟩, ⟨S2048x12, extractStridedSlice S2048x12 ![0, 3328] a2 slices_S2048x4880_S2048x12_0_3328⟩, ⟨S2048x112, broadcastInDim S2048x112 ![] bcast_S_S2048x112 (constant S_ .f32 0x00000000#32)⟩] concatenates_S2048x4_S2048x12_S2048x112_S2048x128_d1) bitsLt_bf16_f32

/-- The gates' bias: the forget gates' and zeros. -/
def gateBias (a3 : FVec Ideal S4 .f32) : FVec Ideal S1x128 .f32 :=
  broadcastInDim S1x128 ![1] bcast_S128_S1x128_1 (concatenate S128 0 [⟨S4, a3⟩, ⟨S124, broadcastInDim S124 ![] bcast_S_S124 (constant S_ .f32 0x00000000#32)⟩] concatenates_S4_S124_S128_d0)

/-- The rotation angles of all rows: the position is the same for all. -/
def angles : FVec Ideal S128x16 .f32 :=
  mulf (broadcastInDim S128x16 ![0, 1] bcast_S128x1_S128x16_0_1 (broadcastInDim S128x1 ![0] bcast_S128_S128x1_0 (sitofp .f32 (broadcastInDim S128 ![] bcast_S_S128 (constantI S_ 32 2048#32)))))
    (broadcastInDim S128x16 ![0, 1] bcast_S1x16_S128x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

/-- The factors of the lanes themselves: cosines twice, then ones. -/
def keepF (C : FVec Ideal S128x16 .f32) : FVec Ideal S128x128 .f32 :=
  concatenate S128x128 1 [⟨S128x16, C⟩, ⟨S128x16, C⟩, ⟨S128x96, broadcastInDim S128x96 ![] bcast_S_S128x96 (constant S_ .f32 0x3F800000#32)⟩] concatenates_S128x16_S128x16_S128x96_S128x128_d1

/-- The factors of the lanes 16 above: minus sines, then zeros. -/
def aboveF (S : FVec Ideal S128x16 .f32) : FVec Ideal S128x128 .f32 :=
  concatenate S128x128 1 [⟨S128x16, Host.negf S⟩, ⟨S128x112, broadcastInDim S128x112 ![] bcast_S_S128x112 (constant S_ .f32 0x00000000#32)⟩] concatenates_S128x16_S128x112_S128x128_d1

/-- The factors of the lanes 16 below: zeros, sines, zeros. -/
def belowF (S : FVec Ideal S128x16 .f32) : FVec Ideal S128x128 .f32 :=
  concatenate S128x128 1 [⟨S128x16, broadcastInDim S128x16 ![] bcast_S_S128x16 (constant S_ .f32 0x00000000#32)⟩, ⟨S128x16, S⟩, ⟨S128x96, broadcastInDim S128x96 ![] bcast_S_S128x96 (constant S_ .f32 0x00000000#32)⟩] concatenates_S128x16_S128x16_S128x96_S128x128_d1

theorem V_weight (c : Dev nD) : V m c main_v4 = weight (m ((c : Thread nD τ).loc main_arg2)) := rfl
theorem V_gateWeight (c : Dev nD) : V m c main_v9 = gateWeight (m ((c : Thread nD τ).loc main_arg2)) := rfl
theorem V_gateBias (c : Dev nD) : V m c main_v12 = gateBias (m ((c : Thread nD τ).loc main_arg3)) := rfl
theorem V_keepF (c : Dev nD) : V m c main_v29 = keepF (Host.cos angles) := rfl
theorem V_aboveF (c : Dev nD) : V m c main_v32 = aboveF (Host.sin angles) := rfl
theorem V_belowF (c : Dev nD) : V m c main_v35 = belowF (Host.sin angles) := rfl

theorem cos_at (r : Fin 128) (j : Fin 16) : Host.cos angles (ix2 r j) = cosT (ix2 0 j) := by
  pointwise [angles, cosT, Cert.Reference6Ideal.Value.angle]
  rfl

theorem sin_at (r : Fin 128) (j : Fin 16) : Host.sin angles (ix2 r j) = sinT (ix2 0 j) := by
  pointwise [angles, sinT, Cert.Reference6Ideal.Value.angle]
  rfl

theorem weight_at (a2 : FVec Ideal S2048x4880 .f32) (k : Fin 2048) (n : Fin 4864) (j : Fin 4880) (hj : (j : ℕ) = srcOf (n / 128) + n % 128) :
    weight a2 (ix2 k n) = a2 (ix2 k j) := by
  pointwise [weight]
  have e : ∀ (i : ℕ) (hi : i < 4880), i = j → a2 (ix2 k (⟨i, hi⟩ : Fin 4880)) = a2 (ix2 k j) := fun i hi h => congrArg (fun j => a2 (ix2 k j)) (Fin.ext h)
  by_cases h1 : (n : ℕ) < 2560
  · rw [dif_pos h1]
    exact e _ _ (by rw [hj, Cert.Reference4Ideal.Value.srcOf_low (by omega)]; omega)
  rw [dif_neg h1]
  by_cases h2 : (n : ℕ) < 4096
  · rw [dif_pos (by omega)]
    exact e _ _ (by rw [hj, Cert.Reference4Ideal.Value.srcOf_mid (by omega) (by omega)]; omega)
  · rw [dif_neg (by omega)]
    exact e _ _ (by rw [hj, Cert.Reference4Ideal.Value.srcOf_high (by omega)]; omega)

theorem gateWeight_at (a2 : FVec Ideal S2048x4880 .f32) (k : Fin 2048) (n : Fin 128) :
    gateWeight a2 (ix2 k n) = gateLane (fun j => a2 (ix2 k j)) n := by
  pointwise [gateWeight]
  rfl

theorem gateBias_at (a3 : FVec Ideal S4 .f32) (n : Fin 128) : gateBias a3 (ix2 0 n) = if h : (n : ℕ) < 4 then a3 (ix1 ⟨n, h⟩) else 0 := by
  pointwise [gateBias]

theorem keepF_at (C : FVec Ideal S128x16 .f32) (r : Fin 128) (l : Fin 128) : keepF C (ix2 r l) = keep (fun j => C (ix2 r j)) l := by
  pointwise [keepF]
  rfl

theorem aboveF_at (S : FVec Ideal S128x16 .f32) (r : Fin 128) (l : Fin 128) : aboveF S (ix2 r l) = above (fun j => S (ix2 r j)) l := by
  pointwise [aboveF]
  rfl

theorem belowF_at (S : FVec Ideal S128x16 .f32) (r : Fin 128) (l : Fin 128) : belowF S (ix2 r l) = below (fun j => S (ix2 r j)) l := by
  pointwise [belowF]
  rfl

/-! ## The operands' blocks -/

/-- The row of the reference's product a block row of point `t` holds. -/
def acc (c : Dev nD) (t : Fin cfg0.N) (p : Fin 128) (j : Fin 4880) : EReal :=
  ∑ k : Fin 2048, normed (m ((c : Thread nD τ).loc main_arg0)) (m ((c : Thread nD τ).loc main_arg1)) (ix2 (rowOf t p) k)
    * (show FVec Ideal S2048x4880 .f32 from m ((c : Thread nD τ).loc main_arg2)) (ix2 k j)

/-- The cosines of a block row. -/
def cosR (t : Fin cfg0.N) (p : Fin 128) (j : Fin 16) : EReal := cosT (ix2 0 j)

/-- The sines of a block row. -/
def sinR (t : Fin cfg0.N) (p : Fin 128) (j : Fin 16) : EReal := sinT (ix2 0 j)

theorem xn_at (c : Dev nD) (t : Fin cfg0.N) (p : Fin 128) (k : Fin 2048) :
    xn m c t (ix2 p k) = normed (m ((c : Thread nD τ).loc main_arg0)) (m ((c : Thread nD τ).loc main_arg1)) (ix2 (rowOf t p) k) := by
  unfold xn
  pointwise [k0_pay7, normed]
  blk_point [iblk, V, idx t, rowOf]

theorem blk2_at (c : Dev nD) (t : Fin cfg0.N) (k : Fin 2048) (q : Fin 256) (j : Fin 4880)
    (hj : (j : ℕ) = srcOf (2 * (t.val % 19) + q / 128) + q % 128) :
    iblk m c 2 t (ix2 k q) = (show FVec Ideal S2048x4880 .f32 from m ((c : Thread nD τ).loc main_arg2)) (ix2 k j) := by
  have key : ∀ A : FVec Ideal S2048x4864 .bf16, ((cfg0.win 2).blk t).view.read (Elt Ideal) A (ix2 k q)
      = A (ix2 k (⟨t.val % 19 * 256 + q, by have := lt19 t; omega⟩ : Fin 4864)) := fun A => by blk_point [idx t]
  refine (key (V m c main_v4)).trans ?_
  rw [V_weight]
  refine weight_at _ _ _ _ ?_
  rw [hj]
  have e1 : (t.val % 19 * 256 + (q : ℕ)) / 128 = 2 * (t.val % 19) + q / 128 := by omega
  have e2 : (t.val % 19 * 256 + (q : ℕ)) % 128 = q % 128 := by omega
  dsimp only
  rw [e1, e2]

theorem blk3_at (c : Dev nD) (t : Fin cfg0.N) (k : Fin 2048) (n : Fin 128) :
    iblk m c 3 t (ix2 k n) = gateLane (fun j => (show FVec Ideal S2048x4880 .f32 from m ((c : Thread nD τ).loc main_arg2)) (ix2 k j)) n := by
  have key : ∀ A : FVec Ideal S2048x128 .bf16, ((cfg0.win 3).blk t).view.read (Elt Ideal) A (ix2 k n) = A (ix2 k n) := fun A => by blk_point [idx t]
  refine (key (V m c main_v9)).trans ?_
  rw [V_gateWeight]
  exact gateWeight_at _ _ _

theorem blk4_at (c : Dev nD) (t : Fin cfg0.N) (n : Fin 128) :
    iblk m c 4 t (ix2 0 n) = if h : (n : ℕ) < 4 then (show FVec Ideal S4 .f32 from m ((c : Thread nD τ).loc main_arg3)) (ix1 ⟨n, h⟩) else 0 := by
  have key : ∀ A : FVec Ideal S1x128 .f32, ((cfg0.win 4).blk t).view.read (Elt Ideal) A (ix2 0 n) = A (ix2 0 n) := fun A => by blk_point [idx t]
  refine (key (V m c main_v12)).trans ?_
  rw [V_gateBias]
  exact gateBias_at _ _

theorem blk5_at (c : Dev nD) (t : Fin cfg0.N) (p : Fin 128) (l : Fin 128) : iblk m c 5 t (ix2 p l) = keep (cosR t p) l := by
  have key : ∀ A : FVec Ideal S128x128 .f32, ((cfg0.win 5).blk t).view.read (Elt Ideal) A (ix2 p l) = A (ix2 (rowOf t p) l) := fun A => by blk_point [idx t, rowOf]
  refine (key (V m c main_v29)).trans ?_
  rw [V_keepF, keepF_at]
  simp only [cos_at]
  rfl

theorem blk6_at (c : Dev nD) (t : Fin cfg0.N) (p : Fin 128) (l : Fin 128) : iblk m c 6 t (ix2 p l) = above (sinR t p) l := by
  have key : ∀ A : FVec Ideal S128x128 .f32, ((cfg0.win 6).blk t).view.read (Elt Ideal) A (ix2 p l) = A (ix2 (rowOf t p) l) := fun A => by blk_point [idx t, rowOf]
  refine (key (V m c main_v32)).trans ?_
  rw [V_aboveF, aboveF_at]
  simp only [sin_at]
  rfl

theorem blk7_at (c : Dev nD) (t : Fin cfg0.N) (p : Fin 128) (l : Fin 128) : iblk m c 7 t (ix2 p l) = below (sinR t p) l := by
  have key : ∀ A : FVec Ideal S128x128 .f32, ((cfg0.win 7).blk t).view.read (Elt Ideal) A (ix2 p l) = A (ix2 (rowOf t p) l) := fun A => by blk_point [idx t, rowOf]
  refine (key (V m c main_v35)).trans ?_
  rw [V_belowF, belowF_at]
  simp only [sin_at]
  rfl

/-! ## The body's terms -/

theorem pay1_at (x : Vec Ideal S128x2048 .bf16) (w : Vec Ideal S2048x256 .bf16) (p : Fin 128) (q : Fin 256) :
    k0_pay1 (F := Ideal) x w (ix2 p q) = ∑ k : Fin 2048, x (ix2 p k) * w (ix2 k q) := by
  pointwise [k0_pay1]

theorem pay3_at (x : Vec Ideal S128x2048 .bf16) (w : Vec Ideal S2048x256 .bf16) (f g h : Vec Ideal S128x128 .f32) (p : Fin 128) (q : Fin 256) :
    k0_pay3 (F := Ideal) x w f g h (ix2 p q) = spin (fun j => k0_pay1 (F := Ideal) x w (ix2 p (⟨q / 128 * 128 + j, by omega⟩ : Fin 256)))
      (fun j => f (ix2 p j)) (fun j => g (ix2 p j)) (fun j => h (ix2 p j)) ⟨q % 128, by omega⟩ := by
  unfold k0_pay3
  generalize k0_pay1 x w = X
  pointwise []
  unfold spin
  by_cases hq : (q : ℕ) < 128
  · rw [dif_pos hq]
    have e1 : (⟨(q : ℕ), hq⟩ : Fin 128) = ⟨(q : ℕ) % 128, by omega⟩ := Fin.ext (by dsimp only; omega)
    refine congrArg₂ (· + ·) (congrArg₂ (· + ·) (congrArg₂ (· * ·) ?_ (congrArg (fun j => f (ix2 p j)) e1)) (congrArg₂ (· * ·) ?_ (congrArg (fun j => g (ix2 p j)) e1)))
      (congrArg₂ (· * ·) ?_ (congrArg (fun j => h (ix2 p j)) e1))
    all_goals exact congrArg (fun j => X (ix2 p j)) (Fin.ext (by dsimp only; omega))
  · rw [dif_neg hq]
    have e1 : (⟨(q : ℕ) - 128, by omega⟩ : Fin 128) = ⟨(q : ℕ) % 128, by omega⟩ := Fin.ext (by dsimp only; omega)
    refine congrArg₂ (· + ·) (congrArg₂ (· + ·) (congrArg₂ (· * ·) ?_ (congrArg (fun j => f (ix2 p j)) e1)) (congrArg₂ (· * ·) ?_ (congrArg (fun j => g (ix2 p j)) e1)))
      (congrArg₂ (· * ·) ?_ (congrArg (fun j => h (ix2 p j)) e1))
    all_goals exact congrArg (fun j => X (ix2 p j)) (Fin.ext (by dsimp only; omega))

theorem pay5_at (x : Vec Ideal S128x2048 .bf16) (w : Vec Ideal S2048x256 .bf16) (f g h : Vec Ideal S128x128 .f32) (p : Fin 128) (q : Fin 256) :
    k0_pay5 (F := Ideal) x w f g h (ix2 p q) = if (q : ℕ) < 128 then spin (fun j => k0_pay1 (F := Ideal) x w (ix2 p (⟨q / 128 * 128 + j, by omega⟩ : Fin 256)))
      (fun j => f (ix2 p j)) (fun j => g (ix2 p j)) (fun j => h (ix2 p j)) ⟨q % 128, by omega⟩ else k0_pay1 (F := Ideal) x w (ix2 p q) := by
  unfold k0_pay5
  generalize k0_pay1 x w = X
  pointwise []
  unfold spin
  by_cases hq : (q : ℕ) < 128
  · rw [dif_pos hq, if_pos hq]
    have e1 : (⟨(q : ℕ), hq⟩ : Fin 128) = ⟨(q : ℕ) % 128, by omega⟩ := Fin.ext (by dsimp only; omega)
    refine congrArg₂ (· + ·) (congrArg₂ (· + ·) (congrArg₂ (· * ·) ?_ (congrArg (fun j => f (ix2 p j)) e1)) (congrArg₂ (· * ·) ?_ (congrArg (fun j => g (ix2 p j)) e1)))
      (congrArg₂ (· * ·) ?_ (congrArg (fun j => h (ix2 p j)) e1))
    all_goals exact congrArg (fun j => X (ix2 p j)) (Fin.ext (by dsimp only; omega))
  · rw [dif_neg hq, if_neg hq]
    exact congrArg (fun j => X (ix2 p j)) (Fin.ext (by dsimp only; omega))

theorem pay8_at (x : Vec Ideal S128x2048 .bf16) (w : Vec Ideal S2048x128 .bf16) (b : Vec Ideal S1x128 .f32) (p : Fin 128) (q : Fin 128) :
    k0_pay8 (F := Ideal) x w b (ix2 p q) = if (q : ℕ) < 4
      then min ((∑ k, x (ix2 p k) * w (ix2 k q)) + b (ix2 0 q)) 0 - Ideal.log1p (Ideal.exp (0 - FloatOps.absf (F := Ideal) (φ := .f32) ((∑ k, x (ix2 p k) * w (ix2 k q)) + b (ix2 0 q))))
      else Ideal.logistic ((∑ k, x (ix2 p k) * w (ix2 k q)) + b (ix2 0 q)) := by
  pointwise [k0_pay8]
  rw [(by decide +kernel : ∀ q : Fin 128, IntOp.cmpi CmpIPredicate.slt (BitVec.ofNat 32 (q : ℕ)) 4#32 = if (q : ℕ) < 4 then 1#1 else 0#1) q]
  split_ifs <;> rfl

/-! ## What each point writes -/

/-- The packed head a block column of point `t` lies in. -/
abbrev headOf (t : Fin cfg0.N) (q : Fin 256) : Fin 38 := ⟨2 * (t.val % 19) + q / 128, by have := lt19 t; omega⟩

theorem dot_at (c : Dev nD) (t : Fin cfg0.N) (p : Fin 128) (q : Fin 256) (j : Fin 4880) (hj : (j : ℕ) = srcOf (2 * (t.val % 19) + q / 128) + q % 128) :
    k0_pay1 (F := Ideal) (xn m c t) (iblk m c 2 t) (ix2 p q) = acc m c t p j := by
  rw [pay1_at]
  unfold acc
  exact Finset.sum_congr rfl fun k _ => congrArg₂ (· * ·) (xn_at m c t p k) (blk2_at m c t k q j hj)

theorem spin_at (c : Dev nD) (t : Fin cfg0.N) (p : Fin 128) (q : Fin 256) (ht : turned (headOf t q : Fin 38)) :
    spin (fun j => k0_pay1 (F := Ideal) (xn m c t) (iblk m c 2 t) (ix2 p (⟨q / 128 * 128 + j, by omega⟩ : Fin 256)))
      (fun j => iblk m c 5 t (ix2 p j)) (fun j => iblk m c 6 t (ix2 p j)) (fun j => iblk m c 7 t (ix2 p j)) ⟨q % 128, by omega⟩
    = row (acc m c t p) (cosR t p) (sinR t p) (headOf t q) ⟨q % 128, by omega⟩ := by
  have e5 : (fun j => iblk m c 5 t (ix2 p j)) = keep (cosR t p) := funext fun j => blk5_at m c t p j
  have e6 : (fun j => iblk m c 6 t (ix2 p j)) = above (sinR t p) := funext fun j => blk6_at m c t p j
  have e7 : (fun j => iblk m c 7 t (ix2 p j)) = below (sinR t p) := funext fun j => blk7_at m c t p j
  rw [e5, e6, e7, spin_turn]
  unfold row
  rw [if_pos ht]
  refine congrArg (fun B => turn B _ _ _) (funext fun j => dot_at m c t p _ _ ?_)
  have e1 : ((q : ℕ) / 128 * 128 + (j : ℕ)) / 128 = q / 128 := by omega
  have e2 : ((q : ℕ) / 128 * 128 + (j : ℕ)) % 128 = j := by omega
  dsimp only
  rw [e1, e2]

theorem plain_at (c : Dev nD) (t : Fin cfg0.N) (p : Fin 128) (q : Fin 256) (ht : ¬ turned (headOf t q : Fin 38)) :
    k0_pay1 (F := Ideal) (xn m c t) (iblk m c 2 t) (ix2 p q) = row (acc m c t p) (cosR t p) (sinR t p) (headOf t q) ⟨q % 128, by omega⟩ := by
  unfold row
  rw [if_neg ht]
  exact dot_at m c t p q _ rfl

theorem prod_at (c : Dev nD) (t : Fin cfg0.N) (p : Fin 128) (q : Fin 256) :
    InprojSample.prod m c t (ix2 p q) = row (acc m c t p) (cosR t p) (sinR t p) (headOf t q) ⟨q % 128, by omega⟩ := by
  have h19 : t.val % 19 < 19 := Nat.mod_lt _ (by omega)
  unfold InprojSample.prod
  by_cases h1 : 16 ≤ t.val % 19
  · rw [if_pos h1, pay5_at]
    by_cases hq : (q : ℕ) < 128
    · rw [if_pos hq]
      exact spin_at m c t p q (by unfold turned; dsimp only; omega)
    · rw [if_neg hq]
      exact plain_at m c t p q (by unfold turned; dsimp only; omega)
  · rw [if_neg h1]
    by_cases h2 : 8 ≤ t.val % 19 ∧ t.val % 19 ≤ 9
    · rw [if_pos h2, pay3_at]
      exact spin_at m c t p q (by unfold turned; dsimp only; omega)
    · rw [if_neg h2]
      exact plain_at m c t p q (by unfold turned; dsimp only; omega)

/-- What a point writes to the first result is the reference's block. -/
theorem point (c : Dev nD) (t : Fin cfg0.N) (p : Fin 128) (q : Fin 256) :
    InprojSample.prod m c t (ix2 p q) = Cert.Reference6Ideal.Value.ref (m ((c : Thread nD τ).loc main_arg0)) (m ((c : Thread nD τ).loc main_arg1)) (m ((c : Thread nD τ).loc main_arg2))
      (ix2 (rowOf t p) (⟨t.val % 19 * 256 + q, by have := lt19 t; omega⟩ : Fin 4864)) := by
  rw [prod_at, Cert.Reference6Ideal.Value.ref_at]
  exact congrArg₂ (row (acc m c t p) (cosR t p) (sinR t p)) (Fin.ext (by dsimp only; omega)) (Fin.ext (by dsimp only; omega))

theorem gates_at (c : Dev nD) (t : Fin cfg0.N) (p : Fin 128) (n : Fin 128) :
    gates m c t (ix2 p n) = Cert.Reference6Ideal.Value.refGates (m ((c : Thread nD τ).loc main_arg0)) (m ((c : Thread nD τ).loc main_arg1)) (m ((c : Thread nD τ).loc main_arg2))
      (m ((c : Thread nD τ).loc main_arg3)) (ix2 (rowOf t p) n) := by
  rw [Cert.Reference6Ideal.Value.refGates_at]
  unfold gates gateRow
  rw [pay8_at, blk4_at]
  simp only [xn_at, blk3_at]
  unfold gateLane
  by_cases h1 : (n : ℕ) < 4
  · simp only [if_pos h1, dif_pos h1]
    exact lsig_eq _
  · by_cases h2 : (n : ℕ) < 16
    · have h3 : (n : ℕ) - 4 < 12 := by omega
      simp only [if_neg h1, dif_neg h1, dif_pos h2, dif_pos h3, add_zero]
      rfl
    · have h3 : ¬ (n : ℕ) - 4 < 12 := by omega
      simp only [if_neg h1, dif_neg h1, dif_neg h2, dif_neg h3, mul_zero, Finset.sum_const_zero, add_zero]
      rfl

theorem array8 (c : Dev nD) (R : FVec Ideal S128x4864 .f32) (h : ∀ (t : Fin cfg0.N) (p : Fin 128) (q : Fin 256),
    InprojSample.prod m c t (ix2 p q) = R (ix2 (rowOf t p) (⟨t.val % 19 * 256 + q, by have := lt19 t; omega⟩ : Fin 4864))) : (dats m 0 c).arrAt 8 (cfgs 0).N = R := by
  refine (dats m 0 c).arrAt_eq_of_covers 8 _ (by decide +kernel) fun t hf y => ?_
  blk_simp; rw [after0_8]; frame_out
  obtain ⟨p, q, rfl⟩ : ∃ (p : Fin 128) (q : Fin 256), y = ix2 p q := ⟨y 0, y 1, eq_ix2 y⟩
  refine (h t p q).trans ?_
  blk_point [idx t, rowOf]

theorem prodB_eq (c : Dev nD) (t : Fin cfg0.N) : prodB m c t = InprojSample.prod m c t := by
  unfold prodB InprojSample.prod
  split_ifs <;> rfl

theorem array9 (c : Dev nD) (R : FVec Ideal S128x4864 .bf16) (h : ∀ (t : Fin cfg0.N) (p : Fin 128) (q : Fin 256),
    prodB m c t (ix2 p q) = R (ix2 (rowOf t p) (⟨t.val % 19 * 256 + q, by have := lt19 t; omega⟩ : Fin 4864))) : (dats m 0 c).arrAt 9 (cfgs 0).N = R := by
  refine (dats m 0 c).arrAt_eq_of_covers 9 _ (by decide +kernel) fun t hf y => ?_
  blk_simp; rw [after0_9]; frame_out
  obtain ⟨p, q, rfl⟩ : ∃ (p : Fin 128) (q : Fin 256), y = ix2 p q := ⟨y 0, y 1, eq_ix2 y⟩
  refine (h t p q).trans ?_
  blk_point [idx t, rowOf]

theorem array10 (c : Dev nD) (R : FVec Ideal S128x128 .f32) (h : ∀ (t : Fin cfg0.N) (p : Fin 128) (n : Fin 128),
    gates m c t (ix2 p n) = R (ix2 (rowOf t p) n)) : (dats m 0 c).arrAt 10 (cfgs 0).N = R := by
  refine (dats m 0 c).arrAt_eq_of_covers 10 _ (by decide +kernel) fun t hf y => ?_
  blk_simp; rw [after0_10]; frame_out
  obtain ⟨p, q, rfl⟩ : ∃ (p : Fin 128) (q : Fin 128), y = ix2 p q := ⟨y 0, y 1, eq_ix2 y⟩
  refine (h t p q).trans ?_
  blk_point [idx t, rowOf]

theorem final8 (c : Dev nD) : (dats m 0 c).arrAt 8 (cfgs 0).N = Cert.Reference6Ideal.Value.ref (m ((c : Thread nD τ).loc main_arg0)) (m ((c : Thread nD τ).loc main_arg1)) (m ((c : Thread nD τ).loc main_arg2)) :=
  array8 m c _ (point m c)

theorem final9 (c : Dev nD) : (dats m 0 c).arrAt 9 (cfgs 0).N = Cert.Reference6Ideal.Value.ref (m ((c : Thread nD τ).loc main_arg0)) (m ((c : Thread nD τ).loc main_arg1)) (m ((c : Thread nD τ).loc main_arg2)) :=
  array9 m c _ fun t p q => (congrFun (prodB_eq m c t) _).trans (point m c t p q)

theorem final10 (c : Dev nD) : (dats m 0 c).arrAt 10 (cfgs 0).N = Cert.Reference6Ideal.Value.refGates (m ((c : Thread nD τ).loc main_arg0)) (m ((c : Thread nD τ).loc main_arg1)) (m ((c : Thread nD τ).loc main_arg2)) (m ((c : Thread nD τ).loc main_arg3)) :=
  array10 m c _ (gates_at m c)

/-- The kernel's run: its three results are the reference's, its arguments unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v37_0) = Cert.Reference6Ideal.Value.ref (m ((c.tc : Thread nD τ).loc main_arg0)) (m ((c.tc : Thread nD τ).loc main_arg1)) (m ((c.tc : Thread nD τ).loc main_arg2))
      ∧ r.2.mem ((c.tc : Thread nD τ).loc main_v37_1) = Cert.Reference6Ideal.Value.ref (m ((c.tc : Thread nD τ).loc main_arg0)) (m ((c.tc : Thread nD τ).loc main_arg1)) (m ((c.tc : Thread nD τ).loc main_arg2))
      ∧ r.2.mem ((c.tc : Thread nD τ).loc main_v37_2) = Cert.Reference6Ideal.Value.refGates (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 8).trans (final8 m c), ((h c).1 9).trans (final9 m c), ((h c).1 10).trans (final10 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel6Ideal.InprojSample

end
-- ==== Proof.InprojSampleClaim.lean ====
/- The input-projection kernel over the sample rows and its reference end with equal results. -/
module

public import proofs.«01_k».proof.Defs
public import proofs.«01_k».proof.Proof.InprojSample
public import Idealize.ShloMosaic.Lib.Claim

@[expose] public section

noncomputable section

namespace Cert.Proof

open Idealize.ShloMosaic Idealize.SL.Sem

theorem algebraic6 : Cert.algebraic_Kernel6Ideal_Reference6Ideal := by
  intro m g m' g' _ hagree
  refine ⟨_, _, _, Cert.Kernel6Ideal.InprojSample.run_value m g, (θ_run _ _ _).mono (fun r h c => ?_) (Cert.Reference6Ideal.Value.run m' g')⟩
  obtain ⟨h0, h1, h2, h3⟩ := hagree c
  obtain ⟨e0, e1, e2, args⟩ := h c
  refine ⟨e0.trans ?_, e1.trans ?_, e2.trans ?_, args⟩
  · rw [Cert.Reference6Ideal.Value.res_eq m' c, h0, h1, h2]
  · rw [Cert.Reference6Ideal.Value.res_eq_copy m' c, h0, h1, h2]
  · rw [Cert.Reference6Ideal.Value.res_eq_gates m' c, h0, h1, h2, h3]

end Cert.Proof

end
-- ==== Proof.LruSampleRef.lean ====
/- The recurrence's reference over the sample rows as terms of its arguments: the causal convolution, the gates, the decay
   and the input, the new state and the gated result. -/
module

public import proofs.«01_k».proof.Proof.Gen.Reference7Ideal.Run
public import Idealize.ShloMosaic.Lib.Pipeline.ValueKit

@[expose] public section

set_option maxRecDepth 16384

noncomputable section

namespace Cert.Reference7Ideal.Value

open Idealize.ShloMosaic Idealize.ShloMosaic.TcCoe Idealize.SL.Sem
open Cert.Reference7Ideal Cert.Reference7Ideal.Gen

/-- The convolution over the three buffered rows and the new one. -/
def conv (a0 : FVec Ideal S128x4864 .f32) (a1 : FVec Ideal S128x3x1024 .f32) (a3 : FVec Ideal S4x1024 .f32) (a4 : FVec Ideal S1024 .f32) : FVec Ideal S128x1x1024 .f32 :=
  addf (addf (addf (addf (broadcastInDim S128x1x1024 ![0, 1, 2] bcast_S1x1x1024_S128x1x1024_0_1_2 (broadcastInDim S1x1x1024 ![2] bcast_S1024_S1x1x1024_2 a4)) (mulf (broadcastInDim S128x1x1024 ![0, 1, 2] bcast_S1x1x1024_S128x1x1024_0_1_2 (broadcastInDim S1x1x1024 ![2] bcast_S1024_S1x1x1024_2 (shapeCast _ (extractStridedSlice S1x1024 ![0, 0] a3 slices_S4x1024_S1x1024_0_0) shapeCasts_S1x1024_S1024))) (extractStridedSlice S128x1x1024 ![0, 0, 0] (concatenate S128x4x1024 1 [⟨S128x3x1024, a1⟩, ⟨S128x1x1024, (broadcastInDim S128x1x1024 ![0, 2] bcast_S128x1024_S128x1x1024_0_2 (extractStridedSlice S128x1024 ![0, 0] a0 slices_S128x4864_S128x1024_0_0))⟩] concatenates_S128x3x1024_S128x1x1024_S128x4x1024_d1) slices_S128x4x1024_S128x1x1024_0_0_0))) (mulf (broadcastInDim S128x1x1024 ![0, 1, 2] bcast_S1x1x1024_S128x1x1024_0_1_2 (broadcastInDim S1x1x1024 ![2] bcast_S1024_S1x1x1024_2 (shapeCast _ (extractStridedSlice S1x1024 ![1, 0] a3 slices_S4x1024_S1x1024_1_0) shapeCasts_S1x1024_S1024))) (extractStridedSlice S128x1x1024 ![0, 1, 0] (concatenate S128x4x1024 1 [⟨S128x3x1024, a1⟩, ⟨S128x1x1024, (broadcastInDim S128x1x1024 ![0, 2] bcast_S128x1024_S128x1x1024_0_2 (extractStridedSlice S128x1024 ![0, 0] a0 slices_S128x4864_S128x1024_0_0))⟩] concatenates_S128x3x1024_S128x1x1024_S128x4x1024_d1) slices_S128x4x1024_S128x1x1024_0_1_0))) (mulf (broadcastInDim S128x1x1024 ![0, 1, 2] bcast_S1x1x1024_S128x1x1024_0_1_2 (broadcastInDim S1x1x1024 ![2] bcast_S1024_S1x1x1024_2 (shapeCast _ (extractStridedSlice S1x1024 ![2, 0] a3 slices_S4x1024_S1x1024_2_0) shapeCasts_S1x1024_S1024))) (extractStridedSlice S128x1x1024 ![0, 2, 0] (concatenate S128x4x1024 1 [⟨S128x3x1024, a1⟩, ⟨S128x1x1024, (broadcastInDim S128x1x1024 ![0, 2] bcast_S128x1024_S128x1x1024_0_2 (extractStridedSlice S128x1024 ![0, 0] a0 slices_S128x4864_S128x1024_0_0))⟩] concatenates_S128x3x1024_S128x1x1024_S128x4x1024_d1) slices_S128x4x1024_S128x1x1024_0_2_0))) (mulf (broadcastInDim S128x1x1024 ![0, 1, 2] bcast_S1x1x1024_S128x1x1024_0_1_2 (broadcastInDim S1x1x1024 ![2] bcast_S1024_S1x1x1024_2 (shapeCast _ (extractStridedSlice S1x1024 ![3, 0] a3 slices_S4x1024_S1x1024_3_0) shapeCasts_S1x1024_S1024))) (extractStridedSlice S128x1x1024 ![0, 3, 0] (concatenate S128x4x1024 1 [⟨S128x3x1024, a1⟩, ⟨S128x1x1024, (broadcastInDim S128x1x1024 ![0, 2] bcast_S128x1024_S128x1x1024_0_2 (extractStridedSlice S128x1024 ![0, 0] a0 slices_S128x4864_S128x1024_0_0))⟩] concatenates_S128x3x1024_S128x1x1024_S128x4x1024_d1) slices_S128x4x1024_S128x1x1024_0_3_0))

/-- A gate: the logistic function of a block-diagonal product plus its bias. -/
def gate (w : FVec Ideal S8x128x128 .f32) (b : FVec Ideal S1024 .f32) (x : FVec Ideal S128x1x1024 .f32) : FVec Ideal S128x1x1024 .f32 :=
  Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (addf (shapeCast _ (transpose S128x1x8x128 [2, 3, 0, 1] (Host.dotGeneral dot_S8x128x128_S128x1x8x128_S8x128x128x1_1_3_2_01_0_2 none w (shapeCast _ x shapeCasts_S128x1x1024_S128x1x8x128)) transposes_S8x128x128x1_S128x1x8x128_2_3_0_1) shapeCasts_S128x1x8x128_S128x1x1024) (broadcastInDim S128x1x1024 ![0, 1, 2] bcast_S1x1x1024_S128x1x1024_0_1_2 (broadcastInDim S1x1x1024 ![2] bcast_S1024_S1x1x1024_2 b))))))

/-- softplus(-lambda). -/
def softplus (lam : FVec Ideal S1024 .f32) : FVec Ideal S1024 .f32 :=
  select (cmpf .une (subf (Host.negf lam) (broadcastInDim S1024 ![] bcast_S_S1024 (constant S_ .f32 0x00000000#32))) (subf (Host.negf lam) (broadcastInDim S1024 ![] bcast_S_S1024 (constant S_ .f32 0x00000000#32)))) (addf (Host.negf lam) (broadcastInDim S1024 ![] bcast_S_S1024 (constant S_ .f32 0x00000000#32))) (addf (maximumf (Host.negf lam) (broadcastInDim S1024 ![] bcast_S_S1024 (constant S_ .f32 0x00000000#32))) (Host.log1p (Host.exp (Host.negf (Host.absf (subf (Host.negf lam) (broadcastInDim S1024 ![] bcast_S_S1024 (constant S_ .f32 0x00000000#32))))))))

/-- The logarithm of the decay. -/
def logA (w : FVec Ideal S8x128x128 .f32) (b lam : FVec Ideal S1024 .f32) (x : FVec Ideal S128x1x1024 .f32) : FVec Ideal S128x1x1024 .f32 :=
  mulf (mulf (broadcastInDim S128x1x1024 ![] bcast_S_S128x1x1024 (constant S_ .f32 0xC1000000#32)) (gate w b x)) (broadcastInDim S128x1x1024 ![0, 1, 2] bcast_S1x1x1024_S128x1x1024_0_1_2 (broadcastInDim S1x1x1024 ![2] bcast_S1024_S1x1x1024_2 (softplus lam)))

/-- What a row adds to the state. -/
def input (x : FVec Ideal S128x1x1024 .f32) (w : FVec Ideal S8x128x128 .f32) (b : FVec Ideal S1024 .f32) (wi : FVec Ideal S8x128x128 .f32) (bi lam : FVec Ideal S1024 .f32) : FVec Ideal S128x1x1024 .f32 :=
  mulf (Host.sqrt (Host.negf (Host.expm1 (mulf (broadcastInDim S128x1x1024 ![] bcast_S_S128x1x1024 (constant S_ .f32 0x40000000#32)) (logA w b lam x))))) (mulf (gate wi bi x) x)

/-- The new state, from the convolved rows. -/
def state (x : FVec Ideal S128x1x1024 .f32) (a2 : FVec Ideal S128x1024 .f32) (a5 : FVec Ideal S8x128x128 .f32) (a6 : FVec Ideal S1024 .f32) (a7 : FVec Ideal S8x128x128 .f32) (a8 a9 : FVec Ideal S1024 .f32) : FVec Ideal S128x1024 .f32 :=
  addf (mulf (shapeCast _ (Host.exp (logA a5 a6 a9 x)) shapeCasts_S128x1x1024_S128x1024) a2) (shapeCast _ (input x a5 a6 a7 a8 a9) shapeCasts_S128x1x1024_S128x1024)

/-- The branch the state is multiplied by. -/
def branch (y : FVec Ideal S128x1024 .f32) : FVec Ideal S128x1024 .f32 :=
  mulf y (mulf (broadcastInDim S128x1024 ![] bcast_S_S128x1024 (constant S_ .f32 0x3F000000#32)) (addf (broadcastInDim S128x1024 ![] bcast_S_S128x1024 (constant S_ .f32 0x3F800000#32)) (Host.tanh (mulf (broadcastInDim S128x1024 ![] bcast_S_S128x1024 (constant S_ .f32 0x3F4C422A#32)) (addf y (mulf (broadcastInDim S128x1024 ![] bcast_S_S128x1024 (constant S_ .f32 0x3D372713#32)) (mulf (mulf y y) y)))))))

/-- The first result. -/
def out (a0 : FVec Ideal S128x4864 .f32) (h : FVec Ideal S128x1024 .f32) : FVec Ideal S128x1024 .f32 :=
  mulf h (branch (extractStridedSlice S128x1024 ![0, 1024] a0 slices_S128x4864_S128x1024_0_1024))

theorem state_eq (m : (ℓ : Loc nD τ sig) → Buf (Elt Ideal) ℓ) (c : Dev nD) :
    res_main_v79 (F := Ideal) m c = state (conv (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

theorem out_eq (m : (ℓ : Loc nD τ sig) → Buf (Elt Ideal) ℓ) (c : Dev nD) :
    res_main_v93 (F := Ideal) m c = out (m ((c.tc : Thread nD τ).loc main_arg0)) (state (conv (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := rfl

end Cert.Reference7Ideal.Value

end
-- ==== Proof.LruMath.lean ====
/- The recurrence's gates and its scan at extended reals: the decay is a real number between 0 and 1, the input's factor
   sqrt(1 - a a) is sqrt(-(exp(2 log a) - 1)), and doubling the windows of a linear recurrence runs it. -/
module

public import Idealize.ShloMosaic.Lib.Pipeline.ValueKit

@[expose] public section

noncomputable section

namespace Cert.Lru

open Idealize.ShloMosaic

/-- softplus(-l). -/
def softplus (l : EReal) : EReal := max (-l) 0 + Ideal.log1p (Ideal.exp (-FloatOps.absf (F := Ideal) (φ := .f32) (-l)))

/-- The logarithm of the decay, from the gate's argument and lambda. -/
def logDecay (z l : EReal) : EReal := Ideal.ofBits .f32 0xC1000000#32 * Ideal.div 1 (1 + Ideal.exp (-z)) * softplus l

/-- The decay. -/
def decay (z l : EReal) : EReal := Ideal.exp (logDecay z l)

/-- What a row adds to the state. -/
def input (z zi l x : EReal) : EReal :=
  Ideal.sqrt (-(Ideal.exp (Ideal.ofBits .f32 0x40000000#32 * logDecay z l) - 1)) * (Ideal.div 1 (1 + Ideal.exp (-zi)) * x)

/-- The gated branch. -/
def branch (y : EReal) : EReal :=
  y * (Ideal.ofBits .f32 0x3F000000#32 * (1 + Ideal.tanh (Ideal.ofBits .f32 0x3F4C422A#32 * (y + Ideal.ofBits .f32 0x3D372713#32 * (y * y * y)))))

theorem exp_nonneg (x : EReal) : 0 ≤ Ideal.exp x := by
  induction x with
  | bot => exact le_rfl
  | top => exact le_top
  | coe r => exact EReal.coe_nonneg.mpr (Real.exp_pos r).le

theorem sigmoid_nonneg (z : EReal) : 0 ≤ Ideal.div 1 (1 + Ideal.exp (-z)) := by
  have h : (0 : EReal) < 1 + Ideal.exp (-z) := lt_of_lt_of_le zero_lt_one (le_add_of_nonneg_right (exp_nonneg _))
  unfold Ideal.div
  rw [if_neg h.ne', one_mul]
  exact EReal.inv_nonneg_of_nonneg h.le

theorem log1p_nonneg (x : EReal) (h : 0 ≤ x) : 0 ≤ Ideal.log1p x := by
  induction x with
  | bot => exact absurd h (by simp)
  | top => exact le_top
  | coe r =>
    have hr : 0 ≤ r := EReal.coe_nonneg.mp h
    have e : (1 : EReal) + (r : EReal) = ((1 + r : ℝ) : EReal) := by push_cast; rfl
    show 0 ≤ Ideal.log (1 + (r : EReal))
    rw [e]
    show 0 ≤ (if 1 + r ≤ 0 then (⊥ : EReal) else (Real.log (1 + r) : EReal))
    rw [if_neg (by linarith)]
    exact EReal.coe_nonneg.mpr (Real.log_nonneg (by linarith))

theorem softplus_nonneg (l : EReal) : 0 ≤ softplus l :=
  add_nonneg (le_max_right _ _) (log1p_nonneg _ (exp_nonneg _))

theorem minus_eight : Ideal.ofBits .f32 0xC1000000#32 = -(8 : EReal) := by
  have : Ideal.ofBits .f32 0xC1000000#32 = ((-8 : ℝ) : EReal) := by
    simp [Ideal.ofBits, Ideal.ieee]
    rw [← EReal.coe_mul]; norm_num
  rw [this]; rfl

theorem two_bits : Ideal.ofBits .f32 0x40000000#32 = (2 : ℝ) := by
  simp [Ideal.ofBits, Ideal.ieee]
  rw [← EReal.coe_mul]; norm_num

theorem logDecay_le (z l : EReal) : logDecay z l ≤ 0 := by
  unfold logDecay
  rw [minus_eight, EReal.neg_mul, EReal.neg_mul, EReal.neg_le, neg_zero]
  exact mul_nonneg (mul_nonneg (by norm_num) (sigmoid_nonneg z)) (softplus_nonneg l)

/-- The decay is a real number that is not negative. -/
theorem decay_real (z l : EReal) : ∃ r : ℝ, 0 ≤ r ∧ decay z l = r := by
  have h := logDecay_le z l
  unfold decay
  generalize logDecay z l = x at h
  induction x with
  | bot => exact ⟨0, le_rfl, rfl⟩
  | top => exact absurd h (by simp)
  | coe r => exact ⟨Real.exp r, (Real.exp_pos r).le, rfl⟩

theorem exp_two (x : EReal) : Ideal.exp (Ideal.ofBits .f32 0x40000000#32 * x) = Ideal.exp x * Ideal.exp x := by
  rw [two_bits]
  induction x with
  | bot => rw [EReal.coe_mul_bot_of_pos (by norm_num)]; exact (mul_zero (0 : EReal)).symm
  | top => rw [EReal.coe_mul_top_of_pos (by norm_num)]; exact EReal.top_mul_top.symm
  | coe r =>
    rw [← EReal.coe_mul]
    show ((Real.exp (2 * r) : ℝ) : EReal) = (Real.exp r : EReal) * (Real.exp r : EReal)
    rw [← EReal.coe_mul, two_mul, Real.exp_add]

/-- The kernel's form of the input. -/
theorem input_eq (z zi l x : EReal) :
    Ideal.sqrt (1 - decay z l * decay z l) * (Ideal.logistic zi * x) = input z zi l x := by
  unfold input
  rw [exp_two]
  have e : ∀ y : EReal, -(y - 1) = 1 - y := fun y => by
    rw [EReal.neg_sub (Or.inr (by decide)) (Or.inr (by decide)), add_comm, sub_eq_add_neg]
  rw [e]
  rfl

/-- The kernel's form of the branch. -/
theorem branch_eq (y : EReal) :
    Ideal.ofBits .f32 0x3F000000#32 * y * (1 + Ideal.tanh (Ideal.ofBits .f32 0x3F4C422A#32 * (y + Ideal.ofBits .f32 0x3D372713#32 * (y * y * y)))) = branch y := by
  unfold branch
  rw [mul_comm (Ideal.ofBits .f32 0x3F000000#32) y, mul_assoc]

/-! ## The linear recurrence -/

/-- The product of the `n` decays ending at step `i`. -/
def prod (a : ℕ → EReal) (i : ℕ) : ℕ → EReal
  | 0 => 1
  | n + 1 => prod a i n * a (i - n)

/-- The state that `n` steps ending at step `i` reach from nothing. -/
def sum (a u : ℕ → EReal) (i : ℕ) : ℕ → EReal
  | 0 => 0
  | n + 1 => sum a u i n + prod a i n * u (i - n)

/-- A factor that is a real number, not negative, distributes over every sum. -/
theorem dist (r : ℝ) (hr : 0 ≤ r) (x y : EReal) : (r : EReal) * (x + y) = r * x + r * y :=
  EReal.left_distrib_of_nonneg_of_ne_top (EReal.coe_nonneg.mpr hr) (EReal.coe_ne_top r) x y

variable {a u : ℕ → EReal}

theorem prod_real (ha : ∀ i, ∃ r : ℝ, 0 ≤ r ∧ a i = r) (i : ℕ) : ∀ n, ∃ r : ℝ, 0 ≤ r ∧ prod a i n = r
  | 0 => ⟨1, zero_le_one, rfl⟩
  | n + 1 => by
    obtain ⟨r, h, e⟩ := prod_real ha i n
    obtain ⟨s, h', e'⟩ := ha (i - n)
    exact ⟨r * s, mul_nonneg h h', by rw [prod, e, e', EReal.coe_mul]⟩

theorem prod_add (i m : ℕ) : ∀ n, prod a i (m + n) = prod a i m * prod a (i - m) n
  | 0 => (mul_one _).symm
  | n + 1 => by
    show prod a i (m + n) * a (i - (m + n)) = _ * (prod a (i - m) n * a (i - m - n))
    rw [prod_add i m n, mul_assoc, Nat.sub_sub]

theorem sum_add (ha : ∀ i, ∃ r : ℝ, 0 ≤ r ∧ a i = r) (i m : ℕ) : ∀ n, sum a u i (m + n) = sum a u i m + prod a i m * sum a u (i - m) n
  | 0 => by show sum a u i m = sum a u i m + prod a i m * 0; rw [mul_zero, add_zero]
  | n + 1 => by
    obtain ⟨r, h, e⟩ := prod_real ha i m
    show sum a u i (m + n) + prod a i (m + n) * u (i - (m + n)) = _ + prod a i m * (sum a u (i - m) n + prod a (i - m) n * u (i - m - n))
    rw [sum_add ha i m n, prod_add, e, dist r h, add_assoc, mul_assoc, Nat.sub_sub]

/-- The recurrence from `h`, before step `0` and after `n` steps. -/
def run (a u : ℕ → EReal) (h : EReal) : ℕ → EReal
  | 0 => h
  | n + 1 => a n * run a u h n + u n

/-- Running on from where a run has come to. -/
theorem run_add (a u : ℕ → EReal) (h : EReal) (m : ℕ) : ∀ n, run (fun i => a (m + i)) (fun i => u (m + i)) (run a u h m) n = run a u h (m + n)
  | 0 => rfl
  | n + 1 => by
    show a (m + n) * run (fun i => a (m + i)) (fun i => u (m + i)) (run a u h m) n + u (m + n) = a (m + n) * run a u h (m + n) + u (m + n)
    rw [run_add a u h m n]

/-- The recurrence is what the whole window reaches plus the decayed start. -/
theorem run_eq (ha : ∀ i, ∃ r : ℝ, 0 ≤ r ∧ a i = r) (h : EReal) : ∀ n, sum a u n (n + 1) + prod a n (n + 1) * h = run a u h (n + 1)
  | 0 => by
    show 0 + 1 * u 0 + 1 * a 0 * h = a 0 * h + u 0
    rw [one_mul, one_mul, zero_add, add_comm]
  | n + 1 => by
    obtain ⟨r, hr, e⟩ := ha (n + 1)
    show _ = a (n + 1) * run a u h (n + 1) + u (n + 1)
    rw [← run_eq ha h n, show n + 1 + 1 = 1 + (n + 1) by omega, sum_add ha, prod_add]
    show 0 + 1 * u (n + 1) + 1 * a (n + 1) * sum a u n (n + 1) + 1 * a (n + 1) * prod a n (n + 1) * h = _
    rw [one_mul, one_mul, zero_add, e, dist r hr, mul_assoc, add_assoc, add_comm]

/-- One doubling of the windows, cut off at the first step. -/
theorem double_prod (s i : ℕ) (hs : 0 < s) :
    prod a i (min s (i + 1)) * (if s ≤ i then prod a (i - s) (min s (i - s + 1)) else 1) = prod a i (min (2 * s) (i + 1)) := by
  by_cases h : s ≤ i
  · rw [if_pos h, show min (2 * s) (i + 1) = s + min s (i - s + 1) by omega, prod_add, show min s (i + 1) = s by omega]
  · rw [if_neg h, mul_one, show min (2 * s) (i + 1) = min s (i + 1) by omega]

theorem double_sum (ha : ∀ i, ∃ r : ℝ, 0 ≤ r ∧ a i = r) (s i : ℕ) (hs : 0 < s) :
    sum a u i (min s (i + 1)) + prod a i (min s (i + 1)) * (if s ≤ i then sum a u (i - s) (min s (i - s + 1)) else 0) = sum a u i (min (2 * s) (i + 1)) := by
  by_cases h : s ≤ i
  · rw [if_pos h, show min (2 * s) (i + 1) = s + min s (i - s + 1) by omega, sum_add ha, show min s (i + 1) = s by omega]
  · rw [if_neg h, mul_zero, add_zero, show min (2 * s) (i + 1) = min s (i + 1) by omega]

end Cert.Lru

end
-- ==== Proof.LruSample.lean ====
/- The recurrence's kernel over the sample rows at extended reals: the convolved rows, the gates, the new state and the
   gated result are the reference's. -/
module

public import proofs.«01_k».proof.Proof.LruSampleRef
public import proofs.«01_k».proof.Proof.LruMath
public import proofs.«01_k».proof.Proof.Gen.Kernel7Ideal.Value
public import Idealize.ShloMosaic.Lib.Pipeline.ValueKit

@[expose] public section

set_option maxRecDepth 16384

noncomputable section

namespace Cert.Reference7Ideal.Value

open Idealize.ShloMosaic Idealize.ShloMosaic.TcCoe Idealize.SL.Sem
open scoped BigOperators
open Cert.Reference7Ideal Cert.Reference7Ideal.Gen

/-- An entry of the block-diagonal product. -/
def blockSum (x : FVec Ideal S128x1x1024 .f32) (w : FVec Ideal S8x128x128 .f32) (p : Fin 128) (q : Fin 1024) : EReal :=
  ∑ k : Fin 128, w (ix3 ⟨(q : ℕ) / 128, by omega⟩ k ⟨(q : ℕ) % 128, by omega⟩) * x (ix3 p 0 ⟨(q : ℕ) / 128 * 128 + k, by omega⟩)

/-- The new state at a row and a channel. -/
theorem state_at (x : FVec Ideal S128x1x1024 .f32) (a2 : FVec Ideal S128x1024 .f32) (a5 : FVec Ideal S8x128x128 .f32) (a6 : FVec Ideal S1024 .f32) (a7 : FVec Ideal S8x128x128 .f32) (a8 a9 : FVec Ideal S1024 .f32) (p : Fin 128) (q : Fin 1024) :
    state x a2 a5 a6 a7 a8 a9 (ix2 p q)
      = Lru.decay (blockSum x a5 p q + a6 (ix1 q)) (a9 (ix1 q)) * a2 (ix2 p q)
        + Lru.input (blockSum x a5 p q + a6 (ix1 q)) (blockSum x a7 p q + a8 (ix1 q)) (a9 (ix1 q)) (x (ix3 p 0 q)) := by
  have hs : softplus a9 (ix1 q) = Lru.softplus (a9 (ix1 q)) := by
    pointwise [softplus]
    rw [if_neg (by simp)]
    rfl
  have hg : ∀ (w : FVec Ideal S8x128x128 .f32) (b : FVec Ideal S1024 .f32), gate w b x (ix3 p 0 q) = Ideal.logistic (blockSum x w p q + b (ix1 q)) := by
    intro w b
    pointwise [gate]
    rfl
  have hl : logA a5 a6 a9 x (ix3 p 0 q) = Lru.logDecay (blockSum x a5 p q + a6 (ix1 q)) (a9 (ix1 q)) := by
    pointwise [logA]
    rw [hs, hg]
    rfl
  pointwise [state, input]
  rw [hl, hg]
  rfl

end Cert.Reference7Ideal.Value

namespace Cert.Kernel7Ideal.Value

open Idealize.ShloMosaic Idealize.ShloMosaic.TcCoe Idealize.SL.Sem
open scoped BigOperators
open Cert.Kernel7Ideal Cert.Kernel7Ideal.Gen

variable (m : (ℓ : Loc nD τ sig) → Buf (Elt Ideal) ℓ)

/-- Eight blocks of 128 columns beside one another: column `q` is column `q % 128` of block `q / 128`. -/
theorem cat8_at (f : Fin 8 → FVec Ideal S128x128 .f32) (a0 a1 a2 a3 a4 a5 a6 a7 : FVec Ideal S128x128 .f32)
    (h0 : a0 = f 0) (h1 : a1 = f 1) (h2 : a2 = f 2) (h3 : a3 = f 3) (h4 : a4 = f 4) (h5 : a5 = f 5) (h6 : a6 = f 6) (h7 : a7 = f 7) (p : Fin 128) (q : Fin 1024) :
    concatenate S128x1024 1 [⟨S128x128, a0⟩, ⟨S128x128, a1⟩, ⟨S128x128, a2⟩, ⟨S128x128, a3⟩, ⟨S128x128, a4⟩, ⟨S128x128, a5⟩, ⟨S128x128, a6⟩, ⟨S128x128, a7⟩] concatenates_S128x128_S128x128_S128x128_S128x128_S128x128_S128x128_S128x128_S128x128_S128x1024_d1 (ix2 p q)
      = f ⟨(q : ℕ) / 128, by omega⟩ (ix2 p ⟨(q : ℕ) % 128, by omega⟩) := by
  subst h0 h1 h2 h3 h4 h5 h6 h7
  pointwise
  obtain ⟨k, r, rfl⟩ : ∃ (k : Fin 8) (r : Fin 128), q = ⟨128 * k + r, by omega⟩ :=
    ⟨⟨q / 128, by omega⟩, ⟨q % 128, by omega⟩, Fin.ext (by dsimp only; omega)⟩
  have e1 : (⟨(128 * (k : ℕ) + r) / 128, by omega⟩ : Fin 8) = k := Fin.ext (by dsimp only; omega)
  have e2 : (⟨(128 * (k : ℕ) + r) % 128, by omega⟩ : Fin 128) = r := Fin.ext (by dsimp only; omega)
  rw [e1, e2]
  have hr := r.isLt
  fin_cases k <;> dsimp only <;>
  ((repeat rw [dif_neg (by omega)]) ; first | rw [dif_pos (by omega)] | skip) <;>
  exact congrArg (fun s => f _ (ix2 p s)) (Fin.ext (by dsimp only; omega))

/-- An entry of block `g` of the product with a weight: 128 columns of `x` against a column of the weight, from column `o`. -/
def blockProd (o : ℕ) (ho : o ≤ 128) (x : FVec Ideal S128x1024 .f32) (g : Fin 8) (w : Vec Ideal S1x128x256 .bf16) (p r : Fin 128) : EReal :=
  ∑ k : Fin 128, x (ix2 p ⟨(g : ℕ) * 128 + k, by omega⟩) * w (ix3 0 k ⟨o + r, by omega⟩)

/-- What a point leaves as the new state, from the convolved rows. -/
theorem new_at (x : FVec Ideal S128x1024 .f32) (b1 b2 l : Vec Ideal S1x1024 .f32) (W : Fin 8 → Vec Ideal S1x128x256 .bf16) (h : Vec Ideal S128x1024 .f32) (p : Fin 128) (q : Fin 1024) :
    k0_pay24 (F := Ideal) x (k0_pay3 b1) (k0_pay4 b2) (k0_pay5 l) (k0_pay6 x) (k0_pay8 x (W 0)) (k0_pay9 x (W 0)) (k0_pay11 x (W 1)) (k0_pay12 x (W 1)) (k0_pay14 x (W 2)) (k0_pay15 x (W 2)) (k0_pay17 x (W 3)) (k0_pay18 x (W 3)) (k0_pay20 x (W 4)) (k0_pay21 x (W 4)) (k0_pay22 x (W 5)) (k0_pay23 x (W 5)) (W 6) (W 7) h (ix2 p q)
      = Lru.decay (blockProd 0 (by decide) x ⟨(q : ℕ) / 128, by omega⟩ (W ⟨(q : ℕ) / 128, by omega⟩) p ⟨(q : ℕ) % 128, by omega⟩ + b1 (ix2 0 q)) (l (ix2 0 q)) * h (ix2 p q)
        + Lru.input (blockProd 0 (by decide) x ⟨(q : ℕ) / 128, by omega⟩ (W ⟨(q : ℕ) / 128, by omega⟩) p ⟨(q : ℕ) % 128, by omega⟩ + b1 (ix2 0 q))
            (blockProd 128 (by decide) x ⟨(q : ℕ) / 128, by omega⟩ (W ⟨(q : ℕ) / 128, by omega⟩) p ⟨(q : ℕ) % 128, by omega⟩ + b2 (ix2 0 q)) (l (ix2 0 q)) (x (ix2 p q)) := by
  unfold k0_pay24
  generalize h1 : concatenate _ _ _ _ = C1
  generalize h2 : concatenate _ _ _ _ = C2
  have e1 : C1 (ix2 p q) = blockProd 0 (by decide) x ⟨(q : ℕ) / 128, by omega⟩ (W ⟨(q : ℕ) / 128, by omega⟩) p ⟨(q : ℕ) % 128, by omega⟩ := by
    rw [← h1]
    refine cat8_at (fun g y => blockProd 0 (by decide) x g (W g) (y 0) (y 1)) _ _ _ _ _ _ _ _ ?_ ?_ ?_ ?_ ?_ ?_ ?_ ?_ p q <;>
    · funext y
      unfold blockProd
      pointwise [k0_pay6, k0_pay7, k0_pay8, k0_pay10, k0_pay11, k0_pay13, k0_pay14, k0_pay16, k0_pay17, k0_pay19, k0_pay20, k0_pay22, k0_pay23]
  have e2 : C2 (ix2 p q) = blockProd 128 (by decide) x ⟨(q : ℕ) / 128, by omega⟩ (W ⟨(q : ℕ) / 128, by omega⟩) p ⟨(q : ℕ) % 128, by omega⟩ := by
    rw [← h2]
    refine cat8_at (fun g y => blockProd 128 (by decide) x g (W g) (y 0) (y 1)) _ _ _ _ _ _ _ _ ?_ ?_ ?_ ?_ ?_ ?_ ?_ ?_ p q <;>
    · funext y
      unfold blockProd
      pointwise [k0_pay6, k0_pay7, k0_pay9, k0_pay10, k0_pay12, k0_pay13, k0_pay15, k0_pay16, k0_pay18, k0_pay19, k0_pay21, k0_pay22]
  pointwise [k0_pay3, k0_pay4, k0_pay5]
  rw [e1, e2]
  simp only [zero_sub]
  rw [← Lru.input_eq]
  rfl

theorem idx : ∀ t : Fin cfg0.N, win0_0.index t = ![0, 0] ∧ win0_1.index t = ![0, 1] ∧ win0_2.index t = ![0, 0, 0] ∧ win0_3.index t = ![0, 0]
    ∧ win0_4.index t = ![0, 0] ∧ win0_5.index t = ![0, 0] ∧ win0_6.index t = ![0, 0, 0] ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, _)

/-- The reference's convolved rows. -/
abbrev convR (c : Dev nD) : FVec Ideal Cert.Reference7Ideal.S128x1x1024 .f32 :=
  Cert.Reference7Ideal.Value.conv (m ((c : Thread nD τ).loc main_arg0)) (m ((c : Thread nD τ).loc main_arg1)) (m ((c : Thread nD τ).loc main_arg3)) (m ((c : Thread nD τ).loc main_arg4))

/-- The reference's new state. -/
abbrev stateR (c : Dev nD) : FVec Ideal S128x1024 .f32 :=
  Cert.Reference7Ideal.Value.state (convR m c) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9))

/-- The rows convolved at a point. -/
def convK (c : Dev nD) (t : Fin cfg0.N) : FVec Ideal S128x1024 .f32 :=
  k0_pay2 (X0_0 m c t) (iblk m c 5 t) (View.ld (iblk m c 4 t) (Rect.unit ![3, 0] ![1, 1024] inb_S4x1024_S1x1024_3_0))
    (View.ld (iblk m c 4 t) (Rect.unit ![0, 0] ![1, 1024] inb_S4x1024_S1x1024_0_0)) (View.ld (iblk m c 2 t) (Rect.unit ![0, 0, 0] ![1, 128, 1024] inb_S3x128x1024_S1x128x1024_0_0_0))
    (View.ld (iblk m c 4 t) (Rect.unit ![1, 0] ![1, 1024] inb_S4x1024_S1x1024_1_0)) (View.ld (iblk m c 2 t) (Rect.unit ![1, 0, 0] ![1, 128, 1024] inb_S3x128x1024_S1x128x1024_1_0_0))
    (View.ld (iblk m c 4 t) (Rect.unit ![2, 0] ![1, 1024] inb_S4x1024_S1x1024_2_0)) (View.ld (iblk m c 2 t) (Rect.unit ![2, 0, 0] ![1, 128, 1024] inb_S3x128x1024_S1x128x1024_2_0_0))

/-- A point's channels are the first 1024 columns of the packed rows. -/
theorem chan_at (c : Dev nD) (t : Fin cfg0.N) (p : Fin 128) (q : Fin 1024) :
    X0_0 m c t (ix2 p q) = (show FVec Ideal S128x4864 .f32 from m ((c : Thread nD τ).loc main_arg0)) (ix2 p ⟨q, by omega⟩) := by
  unfold X0_0 Pipeline.Window.fill
  rw [dif_pos (moved0_0 t _)]
  blk_point [iblk, V, idx t]

/-- A point's branch is the next 1024. -/
theorem branch_at (c : Dev nD) (t : Fin cfg0.N) (p : Fin 128) (q : Fin 1024) :
    X0_1 m c t (ix2 p q) = (show FVec Ideal S128x4864 .f32 from m ((c : Thread nD τ).loc main_arg0)) (ix2 p ⟨1024 + q, by omega⟩) := by
  unfold X0_1 Pipeline.Window.fill
  rw [dif_pos (moved0_1 t _)]
  blk_point [iblk, V, idx t]

theorem tap_at (c : Dev nD) (t : Fin cfg0.N) (j : Fin 4) (q : Fin 1024) :
    iblk m c 4 t (ix2 j q) = (show FVec Ideal S4x1024 .f32 from m ((c : Thread nD τ).loc main_arg3)) (ix2 j q) := by
  blk_point [iblk, V, idx t]

theorem buf_at (c : Dev nD) (t : Fin cfg0.N) (j : Fin 3) (p : Fin 128) (q : Fin 1024) :
    iblk m c 2 t (ix3 j p q) = (show FVec Ideal S128x3x1024 .f32 from m ((c : Thread nD τ).loc main_arg1)) (ix3 p j q) := by
  have key : ∀ A : FVec Ideal S3x128x1024 .f32, ((cfg0.win 2).blk t).view.read (Elt Ideal) A (ix3 j p q) = A (ix3 j p q) := fun A => by
    blk_point [idx t]
  refine (key (V m c main_v0)).trans ?_
  show transpose S3x128x1024 [1, 0, 2] (m ((c : Thread nD τ).loc main_arg1)) transposes_S128x3x1024_S3x128x1024_1_0_2 _ = _
  pointwise

theorem convBias_at (c : Dev nD) (t : Fin cfg0.N) (q : Fin 1024) :
    iblk m c 5 t (ix2 0 q) = (show FVec Ideal S1024 .f32 from m ((c : Thread nD τ).loc main_arg4)) (ix1 q) := by
  blk_point [iblk, V, idx t]

theorem conv_at (c : Dev nD) (t : Fin cfg0.N) (p : Fin 128) (q : Fin 1024) : convK m c t (ix2 p q) = convR m c (ix3 p 0 q) := by
  unfold convK convR
  pointwise [k0_pay2, Cert.Reference7Ideal.Value.conv]
  rw [chan_at, convBias_at, tap_at, tap_at, tap_at, tap_at, buf_at, buf_at, buf_at, add_assoc, add_assoc, add_assoc, add_comm (_ * _) (_ + (_ + _)), ← add_assoc, ← add_assoc, ← add_assoc]

/-- The eight blocks of the gates' weights. -/
def weights (c : Dev nD) (t : Fin cfg0.N) : Fin 8 → Vec Ideal S1x128x256 .bf16 :=
  ![View.ld (iblk m c 6 t) (Rect.unit ![0, 0, 0] ![1, 128, 256] inb_S8x128x256_S1x128x256_0_0_0),
    View.ld (iblk m c 6 t) (Rect.unit ![1, 0, 0] ![1, 128, 256] inb_S8x128x256_S1x128x256_1_0_0),
    View.ld (iblk m c 6 t) (Rect.unit ![2, 0, 0] ![1, 128, 256] inb_S8x128x256_S1x128x256_2_0_0),
    View.ld (iblk m c 6 t) (Rect.unit ![3, 0, 0] ![1, 128, 256] inb_S8x128x256_S1x128x256_3_0_0),
    View.ld (iblk m c 6 t) (Rect.unit ![4, 0, 0] ![1, 128, 256] inb_S8x128x256_S1x128x256_4_0_0),
    View.ld (iblk m c 6 t) (Rect.unit ![5, 0, 0] ![1, 128, 256] inb_S8x128x256_S1x128x256_5_0_0),
    View.ld (iblk m c 6 t) (Rect.unit ![6, 0, 0] ![1, 128, 256] inb_S8x128x256_S1x128x256_6_0_0),
    View.ld (iblk m c 6 t) (Rect.unit ![7, 0, 0] ![1, 128, 256] inb_S8x128x256_S1x128x256_7_0_0)]

theorem weights_at (c : Dev nD) (t : Fin cfg0.N) (g : Fin 8) (k : Fin 128) (r : Fin 256) :
    weights m c t g (ix3 0 k r) = (show FVec Ideal S8x128x256 .bf16 from V m c main_v2) (ix3 g k r) := by
  have key : ∀ A : FVec Ideal S8x128x256 .bf16, ((cfg0.win 6).blk t).view.read (Elt Ideal) A (ix3 g k r) = A (ix3 g k r) := fun A => by
    blk_point [idx t]
  refine Eq.trans ?_ (key (V m c main_v2))
  fin_cases g <;>
  · dsimp only [weights]
    pointwise
    rfl

theorem rg_at (c : Dev nD) (g : Fin 8) (k r : Fin 128) (hr : 0 + (r : ℕ) < 256) :
    (show FVec Ideal S8x128x256 .bf16 from V m c main_v2) (ix3 g k ⟨0 + r, hr⟩) = (show FVec Ideal S8x128x128 .f32 from m ((c : Thread nD τ).loc main_arg5)) (ix3 g k r) := by
  show (truncf (F := Ideal) .bf16 (concatenate S8x128x256 2 [⟨S8x128x128, m ((c : Thread nD τ).loc main_arg5)⟩, ⟨S8x128x128, m ((c : Thread nD τ).loc main_arg7)⟩] concatenates_S8x128x128_S8x128x128_S8x128x256_d2) bitsLt_bf16_f32) _ = _
  pointwise

theorem ig_at (c : Dev nD) (g : Fin 8) (k r : Fin 128) (hr : 128 + (r : ℕ) < 256) :
    (show FVec Ideal S8x128x256 .bf16 from V m c main_v2) (ix3 g k ⟨128 + r, hr⟩) = (show FVec Ideal S8x128x128 .f32 from m ((c : Thread nD τ).loc main_arg7)) (ix3 g k r) := by
  show (truncf (F := Ideal) .bf16 (concatenate S8x128x256 2 [⟨S8x128x128, m ((c : Thread nD τ).loc main_arg5)⟩, ⟨S8x128x128, m ((c : Thread nD τ).loc main_arg7)⟩] concatenates_S8x128x128_S8x128x128_S8x128x256_d2) bitsLt_bf16_f32) _ = _
  pointwise

theorem rgSum (c : Dev nD) (t : Fin cfg0.N) (p : Fin 128) (q : Fin 1024) :
    blockProd 0 (by decide) (convK m c t) ⟨(q : ℕ) / 128, by omega⟩ (weights m c t ⟨(q : ℕ) / 128, by omega⟩) p ⟨(q : ℕ) % 128, by omega⟩
      = Cert.Reference7Ideal.Value.blockSum (convR m c) (m ((c : Thread nD τ).loc main_arg5)) p q := by
  unfold blockProd Cert.Reference7Ideal.Value.blockSum
  refine Finset.sum_congr rfl fun k _ => ?_
  rw [weights_at, rg_at, conv_at, mul_comm]

theorem igSum (c : Dev nD) (t : Fin cfg0.N) (p : Fin 128) (q : Fin 1024) :
    blockProd 128 (by decide) (convK m c t) ⟨(q : ℕ) / 128, by omega⟩ (weights m c t ⟨(q : ℕ) / 128, by omega⟩) p ⟨(q : ℕ) % 128, by omega⟩
      = Cert.Reference7Ideal.Value.blockSum (convR m c) (m ((c : Thread nD τ).loc main_arg7)) p q := by
  unfold blockProd Cert.Reference7Ideal.Value.blockSum
  refine Finset.sum_congr rfl fun k _ => ?_
  rw [weights_at, ig_at, conv_at, mul_comm]

theorem gateBias_at (c : Dev nD) (t : Fin cfg0.N) (q : Fin 1024) :
    iblk m c 7 t (ix2 0 q) = (show FVec Ideal S1024 .f32 from m ((c : Thread nD τ).loc main_arg6)) (ix1 q) := by
  blk_point [iblk, V, idx t]

theorem inputBias_at (c : Dev nD) (t : Fin cfg0.N) (q : Fin 1024) :
    iblk m c 8 t (ix2 0 q) = (show FVec Ideal S1024 .f32 from m ((c : Thread nD τ).loc main_arg8)) (ix1 q) := by
  blk_point [iblk, V, idx t]

theorem lambda_at (c : Dev nD) (t : Fin cfg0.N) (q : Fin 1024) :
    iblk m c 9 t (ix2 0 q) = (show FVec Ideal S1024 .f32 from m ((c : Thread nD τ).loc main_arg9)) (ix1 q) := by
  blk_point [iblk, V, idx t]

theorem before_at (c : Dev nD) (t : Fin cfg0.N) (p : Fin 128) (q : Fin 1024) :
    iblk m c 3 t (ix2 p q) = (show FVec Ideal S128x1024 .f32 from m ((c : Thread nD τ).loc main_arg2)) (ix2 p q) := by
  blk_point [iblk, V, idx t]

/-- The state of a point, as the kernel computes it, is the reference's. -/
theorem new_point (c : Dev nD) (t : Fin cfg0.N) (p : Fin 128) (q : Fin 1024) :
    k0_pay24 (F := Ideal) (convK m c t) (k0_pay3 (iblk m c 7 t)) (k0_pay4 (iblk m c 8 t)) (k0_pay5 (iblk m c 9 t)) (k0_pay6 (convK m c t)) (k0_pay8 (convK m c t) (weights m c t 0)) (k0_pay9 (convK m c t) (weights m c t 0)) (k0_pay11 (convK m c t) (weights m c t 1)) (k0_pay12 (convK m c t) (weights m c t 1)) (k0_pay14 (convK m c t) (weights m c t 2)) (k0_pay15 (convK m c t) (weights m c t 2)) (k0_pay17 (convK m c t) (weights m c t 3)) (k0_pay18 (convK m c t) (weights m c t 3)) (k0_pay20 (convK m c t) (weights m c t 4)) (k0_pay21 (convK m c t) (weights m c t 4)) (k0_pay22 (convK m c t) (weights m c t 5)) (k0_pay23 (convK m c t) (weights m c t 5)) (weights m c t 6) (weights m c t 7) (iblk m c 3 t) (ix2 p q)
      = stateR m c (ix2 p q) := by
  rw [new_at, rgSum, igSum, conv_at, gateBias_at, inputBias_at, lambda_at, before_at]
  exact (Cert.Reference7Ideal.Value.state_at _ _ _ _ _ _ _ p q).symm

/-- The state a point writes back is the reference's. -/
theorem state_point (c : Dev nD) (t : Fin cfg0.N) (p : Fin 128) (q : Fin 1024) : (outsAt0 m c t).2 (ix2 p q) = stateR m c (ix2 p q) := by
  refine Eq.trans ?_ (new_point m c t p q)
  unfold outsAt0; frame_out
  rfl

/-- The gated result a point writes back is the reference's. -/
theorem out_point (c : Dev nD) (t : Fin cfg0.N) (p : Fin 128) (q : Fin 1024) :
    (outsAt0 m c t).1 (ix2 p q) = Cert.Reference7Ideal.Value.out (m ((c : Thread nD τ).loc main_arg0)) (stateR m c) (ix2 p q) := by
  have h := state_point m c t p q
  unfold outsAt0 at h ⊢
  frame_out
  frame_out at h
  generalize k0_pay24 (F := Ideal) _ _ _ _ _ _ _ _ _ _ _ _ _ _ _ _ _ _ _ _ = A at h ⊢
  unfold Cert.Reference7Ideal.Value.out
  generalize stateR m c = B at h ⊢
  pointwise [k0_pay1, Cert.Reference7Ideal.Value.branch]
  rw [h, branch_at]
  exact congrArg (B (ix2 p q) * ·) (Lru.branch_eq _)

theorem final_out (c : Dev nD) : (dats m 0 c).arrAt 10 (cfgs 0).N = Cert.Reference7Ideal.Value.out (m ((c : Thread nD τ).loc main_arg0)) (stateR m c) := by
  refine (dats m 0 c).arrAt_eq_of_covers 10 _ (by decide +kernel) fun t hf y => ?_
  blk_simp; rw [after0_10]
  have e : ((cfg0.win 10).blk t).view.emb y = ix2 (y 0) (y 1) := by blk_ext! [idx t]
  refine Eq.trans ?_ (congrArg (Cert.Reference7Ideal.Value.out (m ((c : Thread nD τ).loc main_arg0)) (stateR m c)) e.symm)
  exact (congrArg (outsAt0 m c t).1 (by blk_ext!)).trans (out_point m c t (y 0) (y 1))

theorem final_state (c : Dev nD) : (dats m 0 c).arrAt 11 (cfgs 0).N = stateR m c := by
  refine (dats m 0 c).arrAt_eq_of_covers 11 _ (by decide +kernel) fun t hf y => ?_
  blk_simp; rw [after0_11]
  have e : ((cfg0.win 11).blk t).view.emb y = ix2 (y 0) (y 1) := by blk_ext! [idx t]
  refine Eq.trans ?_ (congrArg (stateR m c) e.symm)
  exact (congrArg (outsAt0 m c t).2 (by blk_ext!)).trans (state_point m c t (y 0) (y 1))

end Cert.Kernel7Ideal.Value

end
-- ==== Proof.LruSampleClaim.lean ====
/- The recurrence's kernel over the sample rows and its reference end with equal results. -/
module

public import proofs.«01_k».proof.Defs
public import proofs.«01_k».proof.Proof.LruSample
public import Idealize.ShloMosaic.Lib.Claim

@[expose] public section

noncomputable section

namespace Cert.Proof

open Idealize.ShloMosaic Idealize.SL.Sem

theorem algebraic7 : Cert.algebraic_Kernel7Ideal_Reference7Ideal := by
  pair_intro
  · run_from Cert.Kernel7Ideal.Value.run_blocks m g
  · run_from Cert.Reference7Ideal.Value.run m' g'
    · obtain ⟨h0, h1, h2, h3, h4, h5, h6, h7, h8, h9⟩ := hagree c
      rw [Cert.Reference7Ideal.Value.out_eq m' c, h0, h1, h2, h3, h4, h5, h6, h7, h8, h9]
      exact (Cert.Kernel7Ideal.Value.final_out m c).symm
    · obtain ⟨h0, h1, h2, h3, h4, h5, h6, h7, h8, h9⟩ := hagree c
      rw [Cert.Reference7Ideal.Value.state_eq m' c, h0, h1, h2, h3, h4, h5, h6, h7, h8, h9]
      exact (Cert.Kernel7Ideal.Value.final_state m c).symm

end Cert.Proof

end
-- ==== Proof.LruScan.lean ====
/- The doubling scan of the recurrence's kernel over the prompt: eight rotations of 256 rows run the recurrence from the state
   the rows before left. -/
module

public import proofs.«01_k».proof.Proof.LruMath
public import proofs.«01_k».proof.Proof.Gen.Kernel8Ideal.Value
public import Idealize.ShloMosaic.Lib.Pipeline.ValueKit
public import Idealize.ShloMosaic.Lib.KernelVsHost
public import Idealize.ShloMosaic.Lib.WordCmp

@[expose] public section

set_option maxRecDepth 16384

noncomputable section

namespace Cert.Kernel8Ideal.Value

open Idealize.ShloMosaic Idealize.ShloMosaic.TcCoe Idealize.SL.Sem
open Cert.Kernel8Ideal Cert.Kernel8Ideal.Gen

/-- `x` moved down by `s` rows; the first `s` rows hold `z`. -/
def down (s : ℕ) (z : BitVec 32) (x : FVec Ideal S256x1024 .f32) : FVec Ideal S256x1024 .f32 :=
  select (cmpi .sge (iota .tc S256x1024 32 [0] iota_S256x1024_d0_w32) (broadcast S256x1024 (BitVec.ofNat 32 s)))
    (dynamicRotate 0 (BitVec.ofNat 32 s) none x rotates_S256x1024_d0) (broadcast S256x1024 (Scalar.ofBits .f32 z))

/-- One doubling of the decays' windows. -/
def stepA (s : ℕ) (A : FVec Ideal S256x1024 .f32) : FVec Ideal S256x1024 .f32 := mulf A (down s 0x3F800000#32 A)

/-- One doubling of the sums' windows. -/
def stepU (s : ℕ) (A U : FVec Ideal S256x1024 .f32) : FVec Ideal S256x1024 .f32 := addf U (mulf A (down s 0x00000000#32 U))

/-- The decays' windows after `k` doublings. -/
def winA (A : FVec Ideal S256x1024 .f32) : ℕ → FVec Ideal S256x1024 .f32
  | 0 => A
  | k + 1 => stepA (2 ^ k) (winA A k)

/-- The sums' windows after `k` doublings. -/
def winU (A U : FVec Ideal S256x1024 .f32) : ℕ → FVec Ideal S256x1024 .f32
  | 0 => U
  | k + 1 => stepU (2 ^ k) (winA A k) (winU A U k)

theorem down_at (s : ℕ) (hs : s < 256) (z : BitVec 32) (x : FVec Ideal S256x1024 .f32) (i : Fin 256) (q : Fin 1024) :
    down s z x (ix2 i q) = if h : s ≤ i then x (ix2 ⟨i - s, by omega⟩ q) else Ideal.ofBits .f32 z := by
  have hm : cmpi .sge (iota .tc S256x1024 32 [0] iota_S256x1024_d0_w32) (broadcast S256x1024 (BitVec.ofNat 32 s)) (ix2 i q) = BitVec.ofBool (decide (s ≤ (i : ℕ))) := by
    have hi := i.isLt
    refine Eq.trans ?_ (WordCmp.cmpi_sge_ofNat (w := 32) (a := i) (b := s) (by norm_num; omega) (by norm_num; omega))
    show IntOp.cmpi .sge (iota .tc S256x1024 32 [0] iota_S256x1024_d0_w32 (ix2 i q)) (BitVec.ofNat 32 s) = _
    congr 1
    pointwise
  unfold down
  show Scalar.select (cmpi .sge (iota .tc S256x1024 32 [0] iota_S256x1024_d0_w32) (broadcast S256x1024 (BitVec.ofNat 32 s)) (ix2 i q)) _ _ = _
  rw [hm]
  by_cases h : s ≤ (i : ℕ)
  · rw [dif_pos h, decide_eq_true h]
    refine Eq.trans (show _ = dynamicRotate 0 (BitVec.ofNat 32 s) none x rotates_S256x1024_d0 (ix2 i q) from rfl) ?_
    refine dynamicRotate_apply 0 _ x _ _ _ fun b => ?_
    have hi := i.isLt
    have hb : (BitVec.ofNat 32 s).toNat = s := by rw [BitVec.toNat_ofNat]; exact Nat.mod_eq_of_lt (by omega)
    rw [hb]
    fin_cases b
    · show (i : ℕ) - s = ((i : ℕ) + 256 - s % 256) % 256
      omega
    · rfl
  · rw [dif_neg h, decide_eq_false h]
    rfl

variable {a u : ℕ → EReal} {q : Fin 1024}

theorem winA_at {A : FVec Ideal S256x1024 .f32} (hA : ∀ i : Fin 256, A (ix2 i q) = a i) :
    ∀ k, k ≤ 8 → ∀ i : Fin 256, winA A k (ix2 i q) = Lru.prod a i (min (2 ^ k) (i + 1))
  | 0, _, i => by
    rw [show min (2 ^ 0) ((i : ℕ) + 1) = 0 + 1 by norm_num]
    show A (ix2 i q) = 1 * a i
    rw [hA, one_mul]
  | k + 1, hk, i => by
    have h2 : 2 ^ k < 256 := lt_of_lt_of_le (Nat.pow_lt_pow_right (by norm_num) hk) (by norm_num : 2 ^ 8 ≤ 256)
    show winA A k (ix2 i q) * down (2 ^ k) 0x3F800000#32 (winA A k) (ix2 i q) = _
    rw [down_at _ h2, winA_at hA k (by omega), pow_succ, mul_comm (2 ^ k) 2, ← Lru.double_prod (2 ^ k) i (by positivity)]
    congr 1
    by_cases h : 2 ^ k ≤ (i : ℕ)
    · rw [dif_pos h, if_pos h, winA_at hA k (by omega)]
    · rw [dif_neg h, if_neg h]
      pointwise

theorem winU_at (ha : ∀ i, ∃ r : ℝ, 0 ≤ r ∧ a i = r) {A U : FVec Ideal S256x1024 .f32} (hA : ∀ i : Fin 256, A (ix2 i q) = a i) (hU : ∀ i : Fin 256, U (ix2 i q) = u i) :
    ∀ k, k ≤ 8 → ∀ i : Fin 256, winU A U k (ix2 i q) = Lru.sum a u i (min (2 ^ k) (i + 1))
  | 0, _, i => by
    rw [show min (2 ^ 0) ((i : ℕ) + 1) = 0 + 1 by norm_num]
    show U (ix2 i q) = 0 + 1 * u i
    rw [hU, one_mul, zero_add]
  | k + 1, hk, i => by
    have h2 : 2 ^ k < 256 := lt_of_lt_of_le (Nat.pow_lt_pow_right (by norm_num) hk) (by norm_num : 2 ^ 8 ≤ 256)
    show winU A U k (ix2 i q) + winA A k (ix2 i q) * down (2 ^ k) 0x00000000#32 (winU A U k) (ix2 i q) = _
    rw [down_at _ h2, winU_at ha hA hU k (by omega), winA_at hA k (by omega), pow_succ, mul_comm (2 ^ k) 2, ← Lru.double_sum ha (2 ^ k) i (by positivity)]
    congr 2
    by_cases h : 2 ^ k ≤ (i : ℕ)
    · rw [dif_pos h, if_pos h, winU_at ha hA hU k (by omega)]
    · rw [dif_neg h, if_neg h]
      pointwise

/-- The states of 256 rows, from the decays, what each row adds and the state before them. -/
def states (A U : FVec Ideal S256x1024 .f32) (h : Vec Ideal S1x1024 .f32) : FVec Ideal S256x1024 .f32 :=
  addf (winU A U 8) (mulf (winA A 8) (broadcastTo S256x1024 h broadcasts_S1x1024_S256x1024))

theorem states_at (ha : ∀ i, ∃ r : ℝ, 0 ≤ r ∧ a i = r) {A U : FVec Ideal S256x1024 .f32} (hA : ∀ i : Fin 256, A (ix2 i q) = a i) (hU : ∀ i : Fin 256, U (ix2 i q) = u i)
    (h : Vec Ideal S1x1024 .f32) (i : Fin 256) : states A U h (ix2 i q) = Lru.run a u (h (ix2 0 q)) (i + 1) := by
  rw [← Lru.run_eq ha]
  have e : min (2 ^ 8) ((i : ℕ) + 1) = i + 1 := by have := i.isLt; omega
  have eA := winA_at hA 8 le_rfl i
  have eU := winU_at ha hA hU 8 le_rfl i
  rw [e] at eA eU
  rw [← eA, ← eU]
  unfold states
  generalize winA A 8 = A'
  generalize winU A U 8 = U'
  pointwise

/-! ## The kernel's operations are these steps -/

variable (X V27 V28 : FVec Ideal S256x1024 .f32) (Z1 Z2 : FVec Ideal S1x1024 .f32) (z : Ideal .f32)

/-- What each row adds, from the decays and the input gate. -/
def adds (A G X : FVec Ideal S256x1024 .f32) : FVec Ideal S256x1024 .f32 :=
  mulf (sqrt (subf (broadcast S256x1024 (Scalar.ofBits .f32 0x3F800000#32)) (mulf A A))) (mulf G X)

theorem a2 : k0_pay37 V28 Z1 Z2 z = winA (k0_pay32 V28 Z1 Z2 z) 2 := rfl
theorem a3 : k0_pay42 (k0_pay37 V28 Z1 Z2 z) (k0_pay39 V28 Z1 Z2 z) = stepA 4 (k0_pay37 V28 Z1 Z2 z) := rfl
theorem a6 (A B : FVec Ideal S256x1024 .f32) : k0_pay49 (F := Ideal) (iota .tc S256x1024 32 [0] iota_S256x1024_d0_w32) A B = stepA 32 (stepA 16 (stepA 8 (k0_pay42 A B))) := rfl
theorem a7 (A B : FVec Ideal S256x1024 .f32) : k0_pay51 (F := Ideal) (iota .tc S256x1024 32 [0] iota_S256x1024_d0_w32) A B
    = down 64 0x3F800000#32 (k0_pay49 (F := Ideal) (iota .tc S256x1024 32 [0] iota_S256x1024_d0_w32) A B) := rfl
theorem u2 : k0_pay36 X V27 V28 Z1 Z2 z = winU (k0_pay32 V28 Z1 Z2 z) (adds (k0_pay32 V28 Z1 Z2 z) V27 X) 2 := rfl
theorem u6 (U A B : FVec Ideal S256x1024 .f32) (M : IVec S256x1024 1) (C D : FVec Ideal S256x1024 .f32) :
    k0_pay48 (F := Ideal) (iota .tc S256x1024 32 [0] iota_S256x1024_d0_w32) U A M B C D
      = stepU 32 (stepA 16 (stepA 8 (k0_pay42 A B))) (stepU 16 (stepA 8 (k0_pay42 A B)) (stepU 8 (k0_pay42 A B) (addf U (mulf A (select M C D))))) := rfl
theorem u3 (U A : FVec Ideal S256x1024 .f32) (hU : U = k0_pay36 X V27 V28 Z1 Z2 z) :
    addf U (mulf A (select k0_pay38 (k0_pay40 X V27 V28 Z1 Z2 z) (k0_pay41 (F := Ideal)))) = stepU 4 A U := by
  subst hU; rfl
theorem all8 (U A : FVec Ideal S256x1024 .f32) (H : Vec Ideal S1x1024 .f32) :
    k0_pay52 (F := Ideal) (iota .tc S256x1024 32 [0] iota_S256x1024_d0_w32) U A (k0_pay50 (iota .tc S256x1024 32 [0] iota_S256x1024_d0_w32)) (down 64 0x3F800000#32 A) H
      = addf (stepU 128 (stepA 64 A) (stepU 64 A U)) (mulf (stepA 128 (stepA 64 A)) (broadcastTo S256x1024 H broadcasts_S1x1024_S256x1024)) := rfl

/-- The scan as the kernel writes it. -/
theorem states_eq (H : Vec Ideal S1x1024 .f32) :
    k0_pay52 (F := Ideal) (iota .tc S256x1024 32 [0] iota_S256x1024_d0_w32)
      (k0_pay48 (iota .tc S256x1024 32 [0] iota_S256x1024_d0_w32) (k0_pay36 X V27 V28 Z1 Z2 z) (k0_pay37 V28 Z1 Z2 z) k0_pay38 (k0_pay39 V28 Z1 Z2 z) (k0_pay40 X V27 V28 Z1 Z2 z) k0_pay41)
      (k0_pay49 (iota .tc S256x1024 32 [0] iota_S256x1024_d0_w32) (k0_pay37 V28 Z1 Z2 z) (k0_pay39 V28 Z1 Z2 z))
      (k0_pay50 (iota .tc S256x1024 32 [0] iota_S256x1024_d0_w32))
      (k0_pay51 (iota .tc S256x1024 32 [0] iota_S256x1024_d0_w32) (k0_pay37 V28 Z1 Z2 z) (k0_pay39 V28 Z1 Z2 z)) H
      = states (k0_pay32 V28 Z1 Z2 z) (adds (k0_pay32 V28 Z1 Z2 z) V27 X) H := by
  rw [a7, all8, u6, u3 X V27 V28 Z1 Z2 z _ _ rfl, u2, a6, a3, a2]
  rfl

end Cert.Kernel8Ideal.Value

end
-- ==== Proof.LruPromptRef.lean ====
/- The recurrence's reference over the prompt rows as terms of its arguments: the causal convolution, the gates, the decay, the
   input and the branch; then its loop over the rows, which runs the recurrence. -/
module

public import proofs.«01_k».proof.Proof.Gen.Reference8Ideal.Run
public import proofs.«01_k».proof.Proof.LruMath
public import Idealize.ShloMosaic.Lib.Pipeline.ValueKit
public import Idealize.ShloMosaic.Lib.WordCmp

@[expose] public section

set_option maxRecDepth 16384

noncomputable section

namespace Cert.Reference8Ideal.Value

open Idealize.ShloMosaic Idealize.ShloMosaic.TcCoe Idealize.SL.Sem Idealize.ShloMosaic.StableHlo
open scoped BigOperators
open Cert.Reference8Ideal Cert.Reference8Ideal.Gen

/-- The channels of the packed rows, by sequence. -/
def chan (a0 : FVec Ideal S8192x4864 .f32) : FVec Ideal S2x4096x1024 .f32 :=
  shapeCast _ (extractStridedSlice S8192x1024 ![0, 0] a0 slices_S8192x4864_S8192x1024_0_0) shapeCasts_S8192x1024_S2x4096x1024

/-- The channels after three rows of zeros. -/
def padded (a0 : FVec Ideal S8192x4864 .f32) : FVec Ideal S2x4099x1024 .f32 :=
  concatenate S2x4099x1024 1 [⟨S2x3x1024, broadcastInDim S2x3x1024 ![] bcast_S_S2x3x1024 (constant S_ .f32 0x00000000#32)⟩, ⟨S2x4096x1024, chan a0⟩] concatenates_S2x3x1024_S2x4096x1024_S2x4099x1024_d1

/-- Row `n` of the padded channels: zeros for the first three. -/
def row (a0 : FVec Ideal S8192x4864 .f32) (b : Fin 2) (q : Fin 1024) (n : ℕ) : EReal :=
  if h : n < 3 then 0 else a0 (ix2 ⟨(4096 * b + (n - 3)) % 8192, by omega⟩ ⟨q, by omega⟩)

/-- The causal convolution. -/
def conv (a0 : FVec Ideal S8192x4864 .f32) (a1 : FVec Ideal S4x1024 .f32) (a2 : FVec Ideal S1024 .f32) : FVec Ideal S2x4096x1024 .f32 :=
  addf (addf (addf (addf (broadcastInDim S2x4096x1024 ![0, 1, 2] bcast_S1x1x1024_S2x4096x1024_0_1_2 (broadcastInDim S1x1x1024 ![2] bcast_S1024_S1x1x1024_2 a2)) (mulf (broadcastInDim S2x4096x1024 ![0, 1, 2] bcast_S1x1x1024_S2x4096x1024_0_1_2 (broadcastInDim S1x1x1024 ![2] bcast_S1024_S1x1x1024_2 (shapeCast _ (extractStridedSlice S1x1024 ![0, 0] a1 slices_S4x1024_S1x1024_0_0) shapeCasts_S1x1024_S1024))) (extractStridedSlice S2x4096x1024 ![0, 0, 0] (padded a0) slices_S2x4099x1024_S2x4096x1024_0_0_0))) (mulf (broadcastInDim S2x4096x1024 ![0, 1, 2] bcast_S1x1x1024_S2x4096x1024_0_1_2 (broadcastInDim S1x1x1024 ![2] bcast_S1024_S1x1x1024_2 (shapeCast _ (extractStridedSlice S1x1024 ![1, 0] a1 slices_S4x1024_S1x1024_1_0) shapeCasts_S1x1024_S1024))) (extractStridedSlice S2x4096x1024 ![0, 1, 0] (padded a0) slices_S2x4099x1024_S2x4096x1024_0_1_0))) (mulf (broadcastInDim S2x4096x1024 ![0, 1, 2] bcast_S1x1x1024_S2x4096x1024_0_1_2 (broadcastInDim S1x1x1024 ![2] bcast_S1024_S1x1x1024_2 (shapeCast _ (extractStridedSlice S1x1024 ![2, 0] a1 slices_S4x1024_S1x1024_2_0) shapeCasts_S1x1024_S1024))) (extractStridedSlice S2x4096x1024 ![0, 2, 0] (padded a0) slices_S2x4099x1024_S2x4096x1024_0_2_0))) (mulf (broadcastInDim S2x4096x1024 ![0, 1, 2] bcast_S1x1x1024_S2x4096x1024_0_1_2 (broadcastInDim S1x1x1024 ![2] bcast_S1024_S1x1x1024_2 (shapeCast _ (extractStridedSlice S1x1024 ![3, 0] a1 slices_S4x1024_S1x1024_3_0) shapeCasts_S1x1024_S1024))) (extractStridedSlice S2x4096x1024 ![0, 3, 0] (padded a0) slices_S2x4099x1024_S2x4096x1024_0_3_0))

/-- A gate: the logistic function of a block-diagonal product plus its bias. -/
def gate (w : FVec Ideal S8x128x128 .f32) (b : FVec Ideal S1024 .f32) (x : FVec Ideal S2x4096x1024 .f32) : FVec Ideal S2x4096x1024 .f32 :=
  Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (addf (shapeCast _ (transpose S2x4096x8x128 [2, 3, 0, 1] (Host.dotGeneral dot_S8x128x128_S2x4096x8x128_S8x128x2x4096_1_3_2_01_0_2 none w (shapeCast _ x shapeCasts_S2x4096x1024_S2x4096x8x128)) transposes_S8x128x2x4096_S2x4096x8x128_2_3_0_1) shapeCasts_S2x4096x8x128_S2x4096x1024) (broadcastInDim S2x4096x1024 ![0, 1, 2] bcast_S1x1x1024_S2x4096x1024_0_1_2 (broadcastInDim S1x1x1024 ![2] bcast_S1024_S1x1x1024_2 b))))))

/-- softplus(-lambda). -/
def softplus (lam : FVec Ideal S1024 .f32) : FVec Ideal S1024 .f32 :=
  select (cmpf .une (subf (Host.negf lam) (broadcastInDim S1024 ![] bcast_S_S1024 (constant S_ .f32 0x00000000#32))) (subf (Host.negf lam) (broadcastInDim S1024 ![] bcast_S_S1024 (constant S_ .f32 0x00000000#32)))) (addf (Host.negf lam) (broadcastInDim S1024 ![] bcast_S_S1024 (constant S_ .f32 0x00000000#32))) (addf (maximumf (Host.negf lam) (broadcastInDim S1024 ![] bcast_S_S1024 (constant S_ .f32 0x00000000#32))) (Host.log1p (Host.exp (Host.negf (Host.absf (subf (Host.negf lam) (broadcastInDim S1024 ![] bcast_S_S1024 (constant S_ .f32 0x00000000#32))))))))

/-- The logarithm of the decay. -/
def logA (w : FVec Ideal S8x128x128 .f32) (b lam : FVec Ideal S1024 .f32) (x : FVec Ideal S2x4096x1024 .f32) : FVec Ideal S2x4096x1024 .f32 :=
  mulf (mulf (broadcastInDim S2x4096x1024 ![] bcast_S_S2x4096x1024 (constant S_ .f32 0xC1000000#32)) (gate w b x)) (broadcastInDim S2x4096x1024 ![0, 1, 2] bcast_S1x1x1024_S2x4096x1024_0_1_2 (broadcastInDim S1x1x1024 ![2] bcast_S1024_S1x1x1024_2 (softplus lam)))

/-- What a row adds to the state. -/
def input (x : FVec Ideal S2x4096x1024 .f32) (w : FVec Ideal S8x128x128 .f32) (b : FVec Ideal S1024 .f32) (wi : FVec Ideal S8x128x128 .f32) (bi lam : FVec Ideal S1024 .f32) : FVec Ideal S2x4096x1024 .f32 :=
  mulf (Host.sqrt (Host.negf (Host.expm1 (mulf (broadcastInDim S2x4096x1024 ![] bcast_S_S2x4096x1024 (constant S_ .f32 0x40000000#32)) (logA w b lam x))))) (mulf (gate wi bi x) x)

/-- The branch's argument. -/
def side (a0 : FVec Ideal S8192x4864 .f32) : FVec Ideal S2x4096x1024 .f32 :=
  shapeCast _ (extractStridedSlice S8192x1024 ![0, 1024] a0 slices_S8192x4864_S8192x1024_0_1024) shapeCasts_S8192x1024_S2x4096x1024

/-- The branch the state is multiplied by. -/
def branch (y : FVec Ideal S2x4096x1024 .f32) : FVec Ideal S2x4096x1024 .f32 :=
  mulf y (mulf (broadcastInDim S2x4096x1024 ![] bcast_S_S2x4096x1024 (constant S_ .f32 0x3F000000#32)) (addf (broadcastInDim S2x4096x1024 ![] bcast_S_S2x4096x1024 (constant S_ .f32 0x3F800000#32)) (Host.tanh (mulf (broadcastInDim S2x4096x1024 ![] bcast_S_S2x4096x1024 (constant S_ .f32 0x3F4C422A#32)) (addf y (mulf (broadcastInDim S2x4096x1024 ![] bcast_S_S2x4096x1024 (constant S_ .f32 0x3D372713#32)) (mulf (mulf y y) y)))))))

/-- An entry of the block-diagonal product. -/
def blockSum (x : FVec Ideal S2x4096x1024 .f32) (w : FVec Ideal S8x128x128 .f32) (b : Fin 2) (p : Fin 4096) (q : Fin 1024) : EReal :=
  ∑ k : Fin 128, w (ix3 ⟨(q : ℕ) / 128, by omega⟩ k ⟨(q : ℕ) % 128, by omega⟩) * x (ix3 b p ⟨(q : ℕ) / 128 * 128 + k, by omega⟩)

theorem softplus_at (lam : FVec Ideal S1024 .f32) (q : Fin 1024) : softplus lam (ix1 q) = Lru.softplus (lam (ix1 q)) := by
  pointwise [softplus]
  rw [if_neg (by simp)]
  rfl

theorem gate_at (w : FVec Ideal S8x128x128 .f32) (v : FVec Ideal S1024 .f32) (x : FVec Ideal S2x4096x1024 .f32) (b : Fin 2) (p : Fin 4096) (q : Fin 1024) :
    gate w v x (ix3 b p q) = Ideal.logistic (blockSum x w b p q + v (ix1 q)) := by
  pointwise [gate]
  rfl

theorem logA_at (w : FVec Ideal S8x128x128 .f32) (v lam : FVec Ideal S1024 .f32) (x : FVec Ideal S2x4096x1024 .f32) (b : Fin 2) (p : Fin 4096) (q : Fin 1024) :
    logA w v lam x (ix3 b p q) = Lru.logDecay (blockSum x w b p q + v (ix1 q)) (lam (ix1 q)) := by
  pointwise [logA]
  rw [softplus_at, gate_at]
  rfl

theorem input_at (x : FVec Ideal S2x4096x1024 .f32) (w : FVec Ideal S8x128x128 .f32) (v : FVec Ideal S1024 .f32) (wi : FVec Ideal S8x128x128 .f32) (vi lam : FVec Ideal S1024 .f32) (b : Fin 2) (p : Fin 4096) (q : Fin 1024) :
    input x w v wi vi lam (ix3 b p q) = Lru.input (blockSum x w b p q + v (ix1 q)) (blockSum x wi b p q + vi (ix1 q)) (lam (ix1 q)) (x (ix3 b p q)) := by
  pointwise [input]
  rw [logA_at, gate_at]
  rfl

theorem branch_at (y : FVec Ideal S2x4096x1024 .f32) (b : Fin 2) (p : Fin 4096) (q : Fin 1024) : branch y (ix3 b p q) = Lru.branch (y (ix3 b p q)) := by
  pointwise [branch]
  rfl

/-! ## The loop -/

/-- The decay of step `n`. -/
def aR (x : FVec Ideal S2x4096x1024 .f32) (w : FVec Ideal S8x128x128 .f32) (v lam : FVec Ideal S1024 .f32) (b : Fin 2) (q : Fin 1024) (n : ℕ) : EReal :=
  Lru.decay (blockSum x w b ⟨n % 4096, by omega⟩ q + v (ix1 q)) (lam (ix1 q))

/-- What step `n` adds. -/
def uR (x : FVec Ideal S2x4096x1024 .f32) (w : FVec Ideal S8x128x128 .f32) (v : FVec Ideal S1024 .f32) (wi : FVec Ideal S8x128x128 .f32) (vi lam : FVec Ideal S1024 .f32) (b : Fin 2) (q : Fin 1024) (n : ℕ) : EReal :=
  Lru.input (blockSum x w b ⟨n % 4096, by omega⟩ q + v (ix1 q)) (blockSum x wi b ⟨n % 4096, by omega⟩ q + vi (ix1 q)) (lam (ix1 q)) (x (ix3 b ⟨n % 4096, by omega⟩ q))

variable (m : (ℓ : Loc nD τ sig) → Buf (Elt Ideal) ℓ)

/-- The convolved rows of the launch's arguments. -/
abbrev convOf (c : Dev nD) : FVec Ideal S2x4096x1024 .f32 := conv (m ((c.tc : Thread nD τ).loc main_arg0)) (m ((c.tc : Thread nD τ).loc main_arg1)) (m ((c.tc : Thread nD τ).loc main_arg2))

/-- The state after `n` steps. -/
def stateOf (c : Dev nD) (b : Fin 2) (q : Fin 1024) : ℕ → EReal :=
  Lru.run (aR (convOf m c) (m ((c.tc : Thread nD τ).loc main_arg3)) (m ((c.tc : Thread nD τ).loc main_arg4)) (m ((c.tc : Thread nD τ).loc main_arg7)) b q)
    (uR (convOf m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b q) 0

theorem entry_decay (c : Dev nD) : entryContents preI m c (Proc.devRef .tc main_v96_0)
    = transpose S4096x2x1024 [1, 0, 2] (Host.exp (logA (m ((c.tc : Thread nD τ).loc main_arg3)) (m ((c.tc : Thread nD τ).loc main_arg4)) (m ((c.tc : Thread nD τ).loc main_arg7)) (convOf m c))) transposes_S2x4096x1024_S4096x2x1024_1_0_2 := by
  simp only [entryContents, afterL_cons, afterL_nil]
  after_reads_simp
  rfl

theorem entry_input (c : Dev nD) : entryContents preI m c (Proc.devRef .tc main_v96_1)
    = transpose S4096x2x1024 [1, 0, 2] (input (convOf m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) transposes_S2x4096x1024_S4096x2x1024_1_0_2 := by
  simp only [entryContents, afterL_cons, afterL_nil]
  after_reads_simp
  rfl

theorem entry_branch (c : Dev nD) : entryContents preI m c (Proc.devRef .tc main_v96_2)
    = transpose S4096x2x1024 [1, 0, 2] (branch (side (m ((c.tc : Thread nD τ).loc main_arg0)))) transposes_S2x4096x1024_S4096x2x1024_1_0_2 := by
  simp only [entryContents, afterL_cons, afterL_nil]
  after_reads_simp
  rfl

theorem entry_state (c : Dev nD) : entryContents (F := Ideal) preI m c (Proc.devRef .tc main_v96_4) = (broadcastInDim S2x1024 ![] bcast_S_S2x1024 (constant S_ .f32 0x00000000#32) : FVec Ideal S2x1024 .f32) := by
  simp only [entryContents, afterL_cons, afterL_nil]
  after_reads_simp
  rfl

theorem word_int (k : ℕ) (hk : k < 4096) : (BitVec.ofNat 32 k).toInt = (k : Int) := by
  rw [BitVec.toInt_ofNat']
  exact Int.bmod_eq_of_le (by omega) (by omega)

/-- The row of `A` the loop reads when its counter is `k`. -/
theorem row_at (A : FVec Ideal S4096x2x1024 .f32) (ctr : (⟨S_, .i32⟩ : BufTy).Contents (Elt Ideal)) (k : ℕ) (hk : k < 4096) (hc : ctr = fun _ => BitVec.ofNat 32 k) (b : Fin 2) (q : Fin 1024) :
    shapeCast S2x1024 (Host.dynamicSlice S1x2x1024 A (fun j => (((![ctr, constantI S_ 32 0#32, constantI S_ 32 0#32] : Fin 3 → (⟨S_, .i32⟩ : BufTy).Contents (Elt Ideal))) j (Shape.Idx.first h_S_)).toInt) sliceFits_S4096x2x1024_S1x2x1024) shapeCasts_S1x2x1024_S2x1024 (ix2 b q)
      = A (ix3 ⟨k, hk⟩ b q) := by
  rw [WordCmp.dynamicSlice_eq_extract S1x2x1024 A _ _ ![k, 0, 0] (by refine ⟨rfl, fun a => ?_⟩; fin_cases a <;> simp <;> omega)]
  · pointwise
  · intro a; subst hc
    fin_cases a
    · exact word_int k hk
    · rfl
    · rfl

/-- What the loop carries before step `k`. -/
theorem iter (c : Dev nD) : ∀ k, k ≤ 4096 →
    STEP^[k] (entryContents preI m c) (Proc.devRef .tc main_v96_0) = entryContents preI m c (Proc.devRef .tc main_v96_0)
    ∧ STEP^[k] (entryContents preI m c) (Proc.devRef .tc main_v96_1) = entryContents preI m c (Proc.devRef .tc main_v96_1)
    ∧ STEP^[k] (entryContents preI m c) (Proc.devRef .tc main_v96_2) = entryContents preI m c (Proc.devRef .tc main_v96_2)
    ∧ STEP^[k] (entryContents preI m c) (Proc.devRef .tc main_v96_3) = (fun _ => (BitVec.ofNat 32 k : BitVec 32))
    ∧ (∀ (b : Fin 2) (q : Fin 1024), (show FVec Ideal S2x1024 .f32 from STEP^[k] (entryContents preI m c) (Proc.devRef .tc main_v96_4)) (ix2 b q) = stateOf m c b q k)
    ∧ (∀ (n : Fin 4096) (b : Fin 2) (q : Fin 1024), (n : ℕ) < k → (show FVec Ideal S4096x2x1024 .f32 from STEP^[k] (entryContents preI m c) (Proc.devRef .tc main_v96_5)) (ix3 n b q)
        = stateOf m c b q (n + 1) * Lru.branch (side (m ((c.tc : Thread nD τ).loc main_arg0)) (ix3 b n q)))
  | 0, _ => by
    simp only [Function.iterate_zero, id_eq]
    refine ⟨trivial, trivial, trivial, ctr_entry m c, fun b q => ?_, fun n b q h => absurd h (Nat.not_lt_zero _)⟩
    rw [entry_state]
    show (broadcastInDim S2x1024 ![] bcast_S_S2x1024 (constant S_ .f32 0x00000000#32) : FVec Ideal S2x1024 .f32) (ix2 b q) = 0
    pointwise
  | k + 1, hk => by
    obtain ⟨i0, i1, i2, i3, i4, i5⟩ := iter c k (by omega)
    rw [Function.iterate_succ_apply', STEP_main_v96_0, STEP_main_v96_1, STEP_main_v96_2, STEP_main_v96_3, STEP_main_v96_4, STEP_main_v96_5]
    generalize hV : STEP^[k] (entryContents preI m c) = V0 at i0 i1 i2 i3 i4 i5 ⊢
    have hm : (⟨k, by omega⟩ : Fin 4096) = ⟨k % 4096, by omega⟩ := Fin.ext (Nat.mod_eq_of_lt (by omega)).symm
    have hs : ∀ (b : Fin 2) (q : Fin 1024), (show FVec Ideal S2x1024 .f32 from res_main_while0b_v107 V0) (ix2 b q) = stateOf m c b q (k + 1) := by
      intro b q
      unfold res_main_while0b_v107
      have e0 := row_at (V0 (Proc.devRef .tc main_v96_0)) (V0 (Proc.devRef .tc main_v96_3)) k (by omega) i3 b q
      have e1 := row_at (V0 (Proc.devRef .tc main_v96_1)) (V0 (Proc.devRef .tc main_v96_3)) k (by omega) i3 b q
      refine (congrArg₂ (fun x y : EReal => x + y) (congrArg₂ (fun x y : EReal => x * y) (e0.trans ?_) (i4 b q)) (e1.trans ?_)).trans
        (show aR (convOf m c) (m ((c.tc : Thread nD τ).loc main_arg3)) (m ((c.tc : Thread nD τ).loc main_arg4)) (m ((c.tc : Thread nD τ).loc main_arg7)) b q k * stateOf m c b q k
          + uR (convOf m c) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b q k = _ from rfl)
      · rw [i0, entry_decay, hm]
        generalize convOf m c = x
        pointwise
        rw [logA_at]
        rfl
      · rw [i1, entry_input, hm]
        generalize convOf m c = x
        pointwise
        rw [input_at]
        rfl
    refine ⟨i0, i1, i2, ?_, hs, ?_⟩
    · unfold step_main_v96_3
      rw [i3]
      funext j
      show BitVec.ofNat 32 k + 1#32 = BitVec.ofNat 32 (k + 1)
      exact BitVec.eq_of_toNat_eq (by simp [BitVec.toNat_add])
    · intro n b q hn
      unfold step_main_v96_5
      show Host.dynamicUpdateSlice _ _ _ _ (ix3 n b q) = _
      rw [WordCmp.dynamicUpdateSlice_eq_update _ _ _ _ ![k, 0, 0] (by refine ⟨rfl, fun a => ?_⟩; fin_cases a <;> simp <;> omega) (by
        intro a
        rw [i3]
        fin_cases a
        · exact word_int k (by omega)
        · rfl
        · rfl)]
      by_cases h : (n : ℕ) = k
      · have hn' : n = ⟨k, Nat.lt_of_succ_le hk⟩ := Fin.ext h
        rw [hn']
        have e2 := row_at (V0 (Proc.devRef .tc main_v96_2)) (V0 (Proc.devRef .tc main_v96_3)) k (by omega) i3 b q
        refine Eq.trans ?_ (congrArg₂ (fun x y : EReal => x * y) (hs b q) (e2.trans ?_))
        · generalize res_main_while0b_v107 V0 = R
          generalize shapeCast S2x1024 _ _ = T
          generalize V0 (Proc.devRef .tc main_v96_5) = O
          pointwise
          exact dif_pos ⟨le_rfl, Nat.lt_succ_self k⟩
        · rw [i2, entry_branch]
          generalize side _ = x
          pointwise
          rw [branch_at]
      · refine Eq.trans ?_ (i5 n b q (by omega))
        generalize broadcastInDim S1x2x1024 _ _ _ = U
        generalize V0 (Proc.devRef .tc main_v96_5) = O
        unfold updateSlice
        exact dif_neg fun hh => absurd (hh 0) (by simp [ix3]; omega)

/-! ## The results -/

/-- The gated rows. -/
theorem out_at (c : Dev nD) (r : Fin 8192) (q : Fin 1024) :
    (show FVec Ideal S8192x1024 .f32 from out_main_v101 (STEP^[4096] (entryContents preI m c))) (ix2 r q)
      = stateOf m c ⟨(r : ℕ) / 4096, by omega⟩ q ((r : ℕ) % 4096 + 1)
        * Lru.branch ((show FVec Ideal S8192x4864 .f32 from m ((c.tc : Thread nD τ).loc main_arg0)) (ix2 r ⟨1024 + q, by omega⟩)) := by
  have h := (iter m c 4096 le_rfl).2.2.2.2.2 ⟨(r : ℕ) % 4096, by omega⟩ ⟨(r : ℕ) / 4096, by omega⟩ q (by dsimp only; omega)
  unfold out_main_v101
  generalize STEP^[4096] (entryContents preI m c) (Proc.devRef .tc main_v96_5) = O at h ⊢
  have e : side (m ((c.tc : Thread nD τ).loc main_arg0)) (ix3 ⟨(r : ℕ) / 4096, by omega⟩ ⟨(r : ℕ) % 4096, by omega⟩ q)
      = (show FVec Ideal S8192x4864 .f32 from m ((c.tc : Thread nD τ).loc main_arg0)) (ix2 r ⟨1024 + q, by omega⟩) := by
    generalize m ((c.tc : Thread nD τ).loc main_arg0) = A
    pointwise [side]
  rw [e] at h
  refine Eq.trans ?_ h
  pointwise

/-- The last state. -/
theorem last_at (c : Dev nD) (b : Fin 2) (q : Fin 1024) :
    (show FVec Ideal S2x1x1024 .f32 from out_main_v102 (STEP^[4096] (entryContents preI m c))) (ix3 b 0 q) = stateOf m c b q 4096 := by
  have h := (iter m c 4096 le_rfl).2.2.2.2.1 b q
  unfold out_main_v102
  generalize STEP^[4096] (entryContents preI m c) (Proc.devRef .tc main_v96_4) = O at h ⊢
  refine Eq.trans ?_ h
  pointwise

/-- The last three rows of the channels. -/
theorem tail_at (c : Dev nD) (b : Fin 2) (p : Fin 3) (q : Fin 1024) :
    (show FVec Ideal S2x3x1024 .f32 from out_main_v100 (STEP^[4096] (entryContents preI m c))) (ix3 b p q)
      = (show FVec Ideal S8192x4864 .f32 from m ((c.tc : Thread nD τ).loc main_arg0)) (ix2 ⟨4096 * b + (4093 + p), by omega⟩ ⟨q, by omega⟩) := by
  unfold out_main_v100
  rw [iter_main_arg0]
  generalize m ((c.tc : Thread nD τ).loc main_arg0) = A
  pointwise
  all_goals exact congrArg A (by congr 1; exact Fin.ext (by dsimp only; omega))

/-- The channels before a sequence are zeros. -/
theorem conv_at (a0 : FVec Ideal S8192x4864 .f32) (a1 : FVec Ideal S4x1024 .f32) (a2 : FVec Ideal S1024 .f32) (b : Fin 2) (p : Fin 4096) (q : Fin 1024) :
    conv a0 a1 a2 (ix3 b p q)
      = a2 (ix1 q) + a1 (ix2 0 q) * row a0 b q p + a1 (ix2 1 q) * row a0 b q (p + 1) + a1 (ix2 2 q) * row a0 b q (p + 2) + a1 (ix2 3 q) * row a0 b q (p + 3) := by
  have hp : ∀ n : Fin 4099, padded a0 (ix3 b n q) = row a0 b q n := by
    intro n
    have hn := n.isLt
    unfold row
    by_cases h : (n : ℕ) < 3
    · rw [dif_pos h]
      pointwise [padded]
      rw [dif_pos h]
    · rw [dif_neg h]
      pointwise [padded]
      rw [dif_neg h]
      pointwise [chan]
      exact congrArg a0 (by congr 1; exact Fin.ext (by dsimp only; omega))
  pointwise [conv]
  rw [hp, hp, hp, hp, Nat.add_comm (p : ℕ) 1, Nat.add_comm (p : ℕ) 2, Nat.add_comm (p : ℕ) 3]

end Cert.Reference8Ideal.Value

end
-- ==== Proof.LruPromptGates.lean ====
/- The recurrence's kernel over the prompt rows at extended reals: the decays and the inputs of 256 rows from the convolved
   rows, and what a point's blocks are of the arguments. -/
module

public import proofs.«01_k».proof.Proof.LruScan
public import proofs.«01_k».proof.Proof.LruPromptRef
public import proofs.«01_k».proof.Proof.Gen.Kernel8Ideal.Value
public import Idealize.ShloMosaic.Lib.Pipeline.ValueKit

@[expose] public section

set_option maxRecDepth 16384

noncomputable section

namespace Cert.Kernel8Ideal.Value

open Idealize.ShloMosaic Idealize.ShloMosaic.TcCoe Idealize.SL.Sem
open scoped BigOperators
open Cert.Kernel8Ideal Cert.Kernel8Ideal.Gen

variable (m : (ℓ : Loc nD τ sig) → Buf (Elt Ideal) ℓ)

/-- Eight blocks of 128 columns beside one another: column `q` is column `q % 128` of block `q / 128`. -/
theorem cat8_at (f : Fin 8 → FVec Ideal S256x128 .f32) (a0 a1 a2 a3 a4 a5 a6 a7 : FVec Ideal S256x128 .f32)
    (h0 : a0 = f 0) (h1 : a1 = f 1) (h2 : a2 = f 2) (h3 : a3 = f 3) (h4 : a4 = f 4) (h5 : a5 = f 5) (h6 : a6 = f 6) (h7 : a7 = f 7) (p : Fin 256) (q : Fin 1024) :
    concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, a7⟩] concatenates_S256x128_S256x128_S256x128_S256x128_S256x128_S256x128_S256x128_S256x128_S256x1024_d1 (ix2 p q)
      = f ⟨(q : ℕ) / 128, by omega⟩ (ix2 p ⟨(q : ℕ) % 128, by omega⟩) := by
  subst h0 h1 h2 h3 h4 h5 h6 h7
  pointwise
  obtain ⟨k, r, rfl⟩ : ∃ (k : Fin 8) (r : Fin 128), q = ⟨128 * k + r, by omega⟩ :=
    ⟨⟨q / 128, by omega⟩, ⟨q % 128, by omega⟩, Fin.ext (by dsimp only; omega)⟩
  have e1 : (⟨(128 * (k : ℕ) + r) / 128, by omega⟩ : Fin 8) = k := Fin.ext (by dsimp only; omega)
  have e2 : (⟨(128 * (k : ℕ) + r) % 128, by omega⟩ : Fin 128) = r := Fin.ext (by dsimp only; omega)
  rw [e1, e2]
  have hr := r.isLt
  fin_cases k <;> dsimp only <;>
  ((repeat rw [dif_neg (by omega)]) ; first | rw [dif_pos (by omega)] | skip) <;>
  exact congrArg (fun s => f _ (ix2 p s)) (Fin.ext (by dsimp only; omega))

/-- An entry of block `g` of the product with a weight: 128 columns of `x` against a column of the weight, from column `o`. -/
def blockProd (o : ℕ) (ho : o ≤ 128) (x : FVec Ideal S256x1024 .f32) (g : Fin 8) (w : Vec Ideal S1x128x256 .bf16) (p : Fin 256) (r : Fin 128) : EReal :=
  ∑ k : Fin 128, x (ix2 p ⟨(g : ℕ) * 128 + k, by omega⟩) * w (ix3 0 k ⟨o + r, by omega⟩)

/-- The decays of 256 rows, as the kernel computes them. -/
def decays (X : FVec Ideal S256x1024 .f32) (b1 l : Vec Ideal S1x1024 .f32) (W : Fin 8 → Vec Ideal S1x128x256 .bf16) : FVec Ideal S256x1024 .f32 :=
  k0_pay32 (k0_pay28 (k0_pay8 b1) (k0_pay11 X) (k0_pay13 X (W 0)) (k0_pay16 X (W 1)) (k0_pay19 X (W 2)) (k0_pay22 X (W 3)) (W 4) (W 5) (W 6) (W 7)) (k0_pay30 (k0_pay10 l)) (k0_pay31 (k0_pay10 l)) (FloatOps.ofBits FTy.f32 0#32)

/-- The input gate of 256 rows. -/
def inGate (X : FVec Ideal S256x1024 .f32) (b2 : Vec Ideal S1x1024 .f32) (W : Fin 8 → Vec Ideal S1x128x256 .bf16) : FVec Ideal S256x1024 .f32 :=
  k0_pay27 (k0_pay9 b2) (k0_pay11 X) (k0_pay14 X (W 0)) (k0_pay17 X (W 1)) (k0_pay20 X (W 2)) (k0_pay21 X (W 3)) (W 4) (W 5) (W 6) (W 7)

theorem rGate_at (X : FVec Ideal S256x1024 .f32) (b1 : Vec Ideal S1x1024 .f32) (W : Fin 8 → Vec Ideal S1x128x256 .bf16) (p : Fin 256) (q : Fin 1024) :
    k0_pay28 (F := Ideal) (k0_pay8 b1) (k0_pay11 X) (k0_pay13 X (W 0)) (k0_pay16 X (W 1)) (k0_pay19 X (W 2)) (k0_pay22 X (W 3)) (W 4) (W 5) (W 6) (W 7) (ix2 p q)
      = Ideal.ofBits .f32 0xC1000000#32 * Ideal.logistic (blockProd 0 (by decide) X ⟨(q : ℕ) / 128, by omega⟩ (W ⟨(q : ℕ) / 128, by omega⟩) p ⟨(q : ℕ) % 128, by omega⟩ + b1 (ix2 0 q)) := by
  refine congrArg (fun y : EReal => Ideal.ofBits .f32 0xC1000000#32 * Ideal.logistic y) (congrArg₂ (fun x y : EReal => x + y)
    (cat8_at (fun g y => blockProd 0 (by decide) X g (W g) (y 0) (y 1)) _ _ _ _ _ _ _ _ ?_ ?_ ?_ ?_ ?_ ?_ ?_ ?_ p q) ?_)
  on_goal 9 => pointwise [k0_pay8]
  all_goals
    funext y
    unfold blockProd
    pointwise [k0_pay11, k0_pay12, k0_pay13, k0_pay14, k0_pay15, k0_pay16, k0_pay17, k0_pay18, k0_pay19, k0_pay20, k0_pay21, k0_pay22, k0_pay23, k0_pay24, k0_pay25, k0_pay26]

theorem decays_at (X : FVec Ideal S256x1024 .f32) (b1 l : Vec Ideal S1x1024 .f32) (W : Fin 8 → Vec Ideal S1x128x256 .bf16) (p : Fin 256) (q : Fin 1024) :
    decays X b1 l W (ix2 p q) = Lru.decay (blockProd 0 (by decide) X ⟨(q : ℕ) / 128, by omega⟩ (W ⟨(q : ℕ) / 128, by omega⟩) p ⟨(q : ℕ) % 128, by omega⟩ + b1 (ix2 0 q)) (l (ix2 0 q)) := by
  have e := rGate_at X b1 W p q
  unfold decays
  generalize k0_pay28 (F := Ideal) _ _ _ _ _ _ _ _ _ _ = R at e ⊢
  pointwise [k0_pay10, k0_pay29, k0_pay30, k0_pay31, k0_pay32]
  rw [e]
  simp only [zero_sub]
  rfl

theorem inGate_at (X : FVec Ideal S256x1024 .f32) (b2 : Vec Ideal S1x1024 .f32) (W : Fin 8 → Vec Ideal S1x128x256 .bf16) (p : Fin 256) (q : Fin 1024) :
    inGate X b2 W (ix2 p q) = Ideal.logistic (blockProd 128 (by decide) X ⟨(q : ℕ) / 128, by omega⟩ (W ⟨(q : ℕ) / 128, by omega⟩) p ⟨(q : ℕ) % 128, by omega⟩ + b2 (ix2 0 q)) := by
  refine congrArg Ideal.logistic (congrArg₂ (fun x y : EReal => x + y)
    (cat8_at (fun g y => blockProd 128 (by decide) X g (W g) (y 0) (y 1)) _ _ _ _ _ _ _ _ ?_ ?_ ?_ ?_ ?_ ?_ ?_ ?_ p q) ?_)
  on_goal 9 => pointwise [k0_pay9]
  all_goals
    funext y
    unfold blockProd
    pointwise [k0_pay11, k0_pay12, k0_pay13, k0_pay14, k0_pay15, k0_pay16, k0_pay17, k0_pay18, k0_pay19, k0_pay20, k0_pay21, k0_pay22, k0_pay23, k0_pay24, k0_pay25, k0_pay26]

/-- What 256 rows add. -/
theorem adds_at (X : FVec Ideal S256x1024 .f32) (b1 b2 l : Vec Ideal S1x1024 .f32) (W : Fin 8 → Vec Ideal S1x128x256 .bf16) (p : Fin 256) (q : Fin 1024) :
    adds (decays X b1 l W) (inGate X b2 W) X (ix2 p q)
      = Lru.input (blockProd 0 (by decide) X ⟨(q : ℕ) / 128, by omega⟩ (W ⟨(q : ℕ) / 128, by omega⟩) p ⟨(q : ℕ) % 128, by omega⟩ + b1 (ix2 0 q)) (blockProd 128 (by decide) X ⟨(q : ℕ) / 128, by omega⟩ (W ⟨(q : ℕ) / 128, by omega⟩) p ⟨(q : ℕ) % 128, by omega⟩ + b2 (ix2 0 q)) (l (ix2 0 q)) (X (ix2 p q)) := by
  have hd := decays_at X b1 l W p q
  have hg := inGate_at X b2 W p q
  generalize decays X b1 l W = A at hd ⊢
  generalize inGate X b2 W = G at hg ⊢
  pointwise [adds]
  rw [hd, hg, ← Lru.input_eq]

/-! ## A point's blocks -/

theorem idx : ∀ t : Fin cfg0.N, win0_0.index t = ![(t : ℕ), 0] ∧ win0_1.index t = ![(t : ℕ), 1] ∧ win0_2.index t = ![0, 0] ∧ win0_3.index t = ![0, 0]
    ∧ win0_4.index t = ![0, 0, 0] ∧ win0_5.index t = ![0, 0] ∧ win0_6.index t = ![0, 0] ∧ win0_7.index t = ![0, 0] ∧ win0_8.index t = ![(t : ℕ), 0]
    ∧ win0_9.index t = ![(t : ℕ) / 16, 0, 0] ∧ win0_10.index t = ![(t : ℕ) / 16, 0, 0] :=
  (by decide +kernel : ∀ t : Fin grid0.N, _)

/-- A point's channels are 256 rows of the first 1024 columns of the packed rows. -/
theorem chan_at (c : Dev nD) (t : Fin cfg0.N) (p : Fin 256) (q : Fin 1024) (h : 256 * (t : ℕ) + p < 8192) :
    X0_0 m c t (ix2 p q) = (show FVec Ideal S8192x4864 .f32 from m ((c : Thread nD τ).loc main_arg0)) (ix2 ⟨256 * t + p, h⟩ ⟨q, by omega⟩) := by
  unfold X0_0 Pipeline.Window.fill
  rw [dif_pos (moved0_0 t _)]
  blk_point [iblk, V, idx t]

/-- A point's branch is the same rows of the next 1024. -/
theorem side_at (c : Dev nD) (t : Fin cfg0.N) (p : Fin 256) (q : Fin 1024) (h : 256 * (t : ℕ) + p < 8192) :
    X0_1 m c t (ix2 p q) = (show FVec Ideal S8192x4864 .f32 from m ((c : Thread nD τ).loc main_arg0)) (ix2 ⟨256 * t + p, h⟩ ⟨1024 + q, by omega⟩) := by
  unfold X0_1 Pipeline.Window.fill
  rw [dif_pos (moved0_1 t _)]
  blk_point [iblk, V, idx t]

theorem tap_at (c : Dev nD) (t : Fin cfg0.N) (j : Fin 4) (q : Fin 1024) :
    iblk m c 2 t (ix2 j q) = (show FVec Ideal S4x1024 .f32 from m ((c : Thread nD τ).loc main_arg1)) (ix2 j q) := by
  blk_point [iblk, V, idx t]

theorem convBias_at (c : Dev nD) (t : Fin cfg0.N) (q : Fin 1024) :
    iblk m c 3 t (ix2 0 q) = (show FVec Ideal S1024 .f32 from m ((c : Thread nD τ).loc main_arg2)) (ix1 q) := by
  blk_point [iblk, V, idx t]

/-- The eight blocks of the gates' weights. -/
def weights (c : Dev nD) (t : Fin cfg0.N) : Fin 8 → Vec Ideal S1x128x256 .bf16 :=
  ![View.ld (iblk m c 4 t) (Rect.unit ![0, 0, 0] ![1, 128, 256] inb_S8x128x256_S1x128x256_0_0_0),
    View.ld (iblk m c 4 t) (Rect.unit ![1, 0, 0] ![1, 128, 256] inb_S8x128x256_S1x128x256_1_0_0),
    View.ld (iblk m c 4 t) (Rect.unit ![2, 0, 0] ![1, 128, 256] inb_S8x128x256_S1x128x256_2_0_0),
    View.ld (iblk m c 4 t) (Rect.unit ![3, 0, 0] ![1, 128, 256] inb_S8x128x256_S1x128x256_3_0_0),
    View.ld (iblk m c 4 t) (Rect.unit ![4, 0, 0] ![1, 128, 256] inb_S8x128x256_S1x128x256_4_0_0),
    View.ld (iblk m c 4 t) (Rect.unit ![5, 0, 0] ![1, 128, 256] inb_S8x128x256_S1x128x256_5_0_0),
    View.ld (iblk m c 4 t) (Rect.unit ![6, 0, 0] ![1, 128, 256] inb_S8x128x256_S1x128x256_6_0_0),
    View.ld (iblk m c 4 t) (Rect.unit ![7, 0, 0] ![1, 128, 256] inb_S8x128x256_S1x128x256_7_0_0)]

theorem weights_at (c : Dev nD) (t : Fin cfg0.N) (g : Fin 8) (k : Fin 128) (r : Fin 256) :
    weights m c t g (ix3 0 k r) = (show FVec Ideal S8x128x256 .bf16 from V m c main_v1) (ix3 g k r) := by
  have key : ∀ A : FVec Ideal S8x128x256 .bf16, ((cfg0.win 4).blk t).view.read (Elt Ideal) A (ix3 g k r) = A (ix3 g k r) := fun A => by
    blk_point [idx t]
  refine Eq.trans ?_ (key (V m c main_v1))
  fin_cases g <;>
  · dsimp only [weights]
    pointwise
    rfl

theorem rg_at (c : Dev nD) (g : Fin 8) (k r : Fin 128) (hr : 0 + (r : ℕ) < 256) :
    (show FVec Ideal S8x128x256 .bf16 from V m c main_v1) (ix3 g k ⟨0 + r, hr⟩) = (show FVec Ideal S8x128x128 .f32 from m ((c : Thread nD τ).loc main_arg3)) (ix3 g k r) := by
  show (truncf (F := Ideal) .bf16 (concatenate S8x128x256 2 [⟨S8x128x128, m ((c : Thread nD τ).loc main_arg3)⟩, ⟨S8x128x128, m ((c : Thread nD τ).loc main_arg5)⟩] concatenates_S8x128x128_S8x128x128_S8x128x256_d2) bitsLt_bf16_f32) _ = _
  pointwise

theorem ig_at (c : Dev nD) (g : Fin 8) (k r : Fin 128) (hr : 128 + (r : ℕ) < 256) :
    (show FVec Ideal S8x128x256 .bf16 from V m c main_v1) (ix3 g k ⟨128 + r, hr⟩) = (show FVec Ideal S8x128x128 .f32 from m ((c : Thread nD τ).loc main_arg5)) (ix3 g k r) := by
  show (truncf (F := Ideal) .bf16 (concatenate S8x128x256 2 [⟨S8x128x128, m ((c : Thread nD τ).loc main_arg3)⟩, ⟨S8x128x128, m ((c : Thread nD τ).loc main_arg5)⟩] concatenates_S8x128x128_S8x128x128_S8x128x256_d2) bitsLt_bf16_f32) _ = _
  pointwise

theorem gateBias_at (c : Dev nD) (t : Fin cfg0.N) (q : Fin 1024) :
    iblk m c 5 t (ix2 0 q) = (show FVec Ideal S1024 .f32 from m ((c : Thread nD τ).loc main_arg4)) (ix1 q) := by
  blk_point [iblk, V, idx t]

theorem inputBias_at (c : Dev nD) (t : Fin cfg0.N) (q : Fin 1024) :
    iblk m c 6 t (ix2 0 q) = (show FVec Ideal S1024 .f32 from m ((c : Thread nD τ).loc main_arg6)) (ix1 q) := by
  blk_point [iblk, V, idx t]

theorem lambda_at (c : Dev nD) (t : Fin cfg0.N) (q : Fin 1024) :
    iblk m c 7 t (ix2 0 q) = (show FVec Ideal S1024 .f32 from m ((c : Thread nD τ).loc main_arg7)) (ix1 q) := by
  blk_point [iblk, V, idx t]

end Cert.Kernel8Ideal.Value

end
-- ==== Proof.LruPromptState.lean ====
/- The states of a point of the recurrence's kernel over the prompt rows: from the rows before it and the state before it, the
   256 states are the recurrence's. -/
module

public import proofs.«01_k».proof.Proof.LruPromptGates
public import Idealize.ShloMosaic.Lib.Pipeline.ValueKit

@[expose] public section

set_option maxRecDepth 16384

noncomputable section

namespace Cert.Kernel8Ideal.Value

open Idealize.ShloMosaic Idealize.ShloMosaic.TcCoe Idealize.SL.Sem
open scoped BigOperators
open Cert.Kernel8Ideal Cert.Kernel8Ideal.Gen

variable (m : (ℓ : Loc nD τ sig) → Buf (Elt Ideal) ℓ)

/-- The packed rows. -/
abbrev packed (c : Dev nD) : FVec Ideal Cert.Reference8Ideal.S8192x4864 .f32 := m ((c : Thread nD τ).loc main_arg0)

/-- The reference's convolved rows. -/
abbrev convR (c : Dev nD) : FVec Ideal Cert.Reference8Ideal.S2x4096x1024 .f32 :=
  Cert.Reference8Ideal.Value.conv (packed m c) (m ((c : Thread nD τ).loc main_arg1)) (m ((c : Thread nD τ).loc main_arg2))

/-- The reference's decays. -/
def aK (c : Dev nD) (b : Fin 2) (q : Fin 1024) : ℕ → EReal :=
  Cert.Reference8Ideal.Value.aR (convR m c) (m ((c : Thread nD τ).loc main_arg3)) (m ((c : Thread nD τ).loc main_arg4)) (m ((c : Thread nD τ).loc main_arg7)) b q

/-- What the reference's steps add. -/
def uK (c : Dev nD) (b : Fin 2) (q : Fin 1024) : ℕ → EReal :=
  Cert.Reference8Ideal.Value.uR (convR m c) (m ((c : Thread nD τ).loc main_arg3)) (m ((c : Thread nD τ).loc main_arg4)) (m ((c : Thread nD τ).loc main_arg5)) (m ((c : Thread nD τ).loc main_arg6)) (m ((c : Thread nD τ).loc main_arg7)) b q

/-- The reference's states. -/
def stateK (c : Dev nD) (b : Fin 2) (q : Fin 1024) : ℕ → EReal := Lru.run (aK m c b q) (uK m c b q) 0

/-- The sequence a point belongs to. -/
def seq (t : Fin cfg0.N) : Fin 2 := ⟨(t : ℕ) / 16, by have : (t : ℕ) < 32 := t.isLt; omega⟩

/-- The rows a point loads from row `o` of the extended block are the padded channels from `o - 5` rows on. -/
def Loads (c : Dev nD) (t : Fin cfg0.N) (d : ℕ) (E : FVec Ideal S256x1024 .f32) : Prop :=
  ∀ (p : Fin 256) (q : Fin 1024), E (ix2 p q) = Cert.Reference8Ideal.Value.row (packed m c) (seq t) q (256 * ((t : ℕ) % 16) + p + d)

/-- The rows convolved at a point. -/
def convK (c : Dev nD) (t : Fin cfg0.N) (E5 E6 E7 : FVec Ideal S256x1024 .f32) : FVec Ideal S256x1024 .f32 :=
  k0_pay5 (X0_0 m c t) (iblk m c 3 t) (View.ld (iblk m c 2 t) (Rect.unit ![3, 0] ![1, 1024] inb_S4x1024_S1x1024_3_0))
    (View.ld (iblk m c 2 t) (Rect.unit ![0, 0] ![1, 1024] inb_S4x1024_S1x1024_0_0)) E5
    (View.ld (iblk m c 2 t) (Rect.unit ![1, 0] ![1, 1024] inb_S4x1024_S1x1024_1_0)) E6
    (View.ld (iblk m c 2 t) (Rect.unit ![2, 0] ![1, 1024] inb_S4x1024_S1x1024_2_0)) E7

/-- The row of the sequence a point's row is. -/
def pos (t : Fin cfg0.N) (p : Fin 256) : Fin 4096 := ⟨256 * ((t : ℕ) % 16) + p, by omega⟩

/-- A point's channels are the padded channels from three rows on. -/
theorem chan_row (c : Dev nD) (t : Fin cfg0.N) (p : Fin 256) (q : Fin 1024) :
    X0_0 m c t (ix2 p q) = Cert.Reference8Ideal.Value.row (packed m c) (seq t) q (256 * ((t : ℕ) % 16) + p + 3) := by
  have ht : (t : ℕ) < 32 := t.isLt
  rw [chan_at m c t p q (by omega)]
  unfold Cert.Reference8Ideal.Value.row
  rw [dif_neg (by omega)]
  unfold seq
  refine congrArg (packed m c) ?_
  congr 1
  exact Fin.ext (by dsimp only; omega)

variable {m} in
theorem conv_at {c : Dev nD} {t : Fin cfg0.N} {E5 E6 E7 : FVec Ideal S256x1024 .f32} (h5 : Loads m c t 0 E5) (h6 : Loads m c t 1 E6) (h7 : Loads m c t 2 E7)
    (p : Fin 256) (q : Fin 1024) : convK m c t E5 E6 E7 (ix2 p q) = convR m c (ix3 (seq t) (pos t p) q) := by
  have e5 := h5 p q
  have e6 := h6 p q
  have e7 := h7 p q
  unfold convR
  rw [Cert.Reference8Ideal.Value.conv_at]
  unfold convK
  pointwise [k0_pay5]
  rw [e5, e6, e7, chan_row, convBias_at, tap_at, tap_at, tap_at, tap_at, add_assoc, add_assoc, add_assoc, add_comm (_ * _) (_ + (_ + _)), ← add_assoc, ← add_assoc, ← add_assoc]
  rfl

/-- The decays of a point. -/
def decK (c : Dev nD) (t : Fin cfg0.N) (X : FVec Ideal S256x1024 .f32) : FVec Ideal S256x1024 .f32 := decays X (iblk m c 5 t) (iblk m c 7 t) (weights m c t)

/-- The states of a point. -/
def stK (c : Dev nD) (t : Fin cfg0.N) (E5 E6 E7 : FVec Ideal S256x1024 .f32) (H : Vec Ideal S1x1024 .f32) : FVec Ideal S256x1024 .f32 :=
  states (decK m c t (convK m c t E5 E6 E7)) (adds (decK m c t (convK m c t E5 E6 E7)) (inGate (convK m c t E5 E6 E7) (iblk m c 6 t) (weights m c t)) (convK m c t E5 E6 E7)) H

section Point

variable {m} {c : Dev nD} {t : Fin cfg0.N} {E5 E6 E7 : FVec Ideal S256x1024 .f32} (h5 : Loads m c t 0 E5) (h6 : Loads m c t 1 E6) (h7 : Loads m c t 2 E7)
include h5 h6 h7

theorem rgSum (p : Fin 256) (q : Fin 1024) :
    blockProd 0 (by decide) (convK m c t E5 E6 E7) ⟨(q : ℕ) / 128, by omega⟩ (weights m c t ⟨(q : ℕ) / 128, by omega⟩) p ⟨(q : ℕ) % 128, by omega⟩
      = Cert.Reference8Ideal.Value.blockSum (convR m c) (m ((c : Thread nD τ).loc main_arg3)) (seq t) (pos t p) q := by
  unfold blockProd Cert.Reference8Ideal.Value.blockSum
  refine Finset.sum_congr rfl fun k _ => ?_
  rw [weights_at, rg_at, conv_at h5 h6 h7, mul_comm]

theorem igSum (p : Fin 256) (q : Fin 1024) :
    blockProd 128 (by decide) (convK m c t E5 E6 E7) ⟨(q : ℕ) / 128, by omega⟩ (weights m c t ⟨(q : ℕ) / 128, by omega⟩) p ⟨(q : ℕ) % 128, by omega⟩
      = Cert.Reference8Ideal.Value.blockSum (convR m c) (m ((c : Thread nD τ).loc main_arg5)) (seq t) (pos t p) q := by
  unfold blockProd Cert.Reference8Ideal.Value.blockSum
  refine Finset.sum_congr rfl fun k _ => ?_
  rw [weights_at, ig_at, conv_at h5 h6 h7, mul_comm]

omit h5 h6 h7 in
theorem pos_mod (p : Fin 256) (h : (256 * ((t : ℕ) % 16) + p) % 4096 < 4096) : (⟨(256 * ((t : ℕ) % 16) + p) % 4096, h⟩ : Fin 4096) = pos t p :=
  Fin.ext (Nat.mod_eq_of_lt (by omega))

/-- The states of a point are the recurrence's. -/
theorem state_point (H : Vec Ideal S1x1024 .f32) (hH : ∀ q : Fin 1024, H (ix2 0 q) = stateK m c (seq t) q (256 * ((t : ℕ) % 16))) (p : Fin 256) (q : Fin 1024) :
    stK m c t E5 E6 E7 H (ix2 p q) = stateK m c (seq t) q (256 * ((t : ℕ) % 16) + (p + 1)) := by
  unfold stK
  rw [states_at (a := fun i => aK m c (seq t) q (256 * ((t : ℕ) % 16) + i)) (u := fun i => uK m c (seq t) q (256 * ((t : ℕ) % 16) + i))
    (fun i => Lru.decay_real _ _) (fun i => ?_) (fun i => ?_), hH]
  · exact Lru.run_add _ _ _ _ _
  · unfold decK aK Cert.Reference8Ideal.Value.aR
    rw [decays_at, rgSum h5 h6 h7, gateBias_at, lambda_at, pos_mod]
  · unfold decK uK Cert.Reference8Ideal.Value.uR
    rw [adds_at, rgSum h5 h6 h7, igSum h5 h6 h7, gateBias_at, inputBias_at, lambda_at, conv_at h5 h6 h7, pos_mod]

end Point

end Cert.Kernel8Ideal.Value

end
-- ==== Proof.LruPrompt.lean ====
/- The recurrence's kernel over the prompt rows, point by point: what the two scratch buffers carry from a point to the next,
   and the three results. -/
module

public import proofs.«01_k».proof.Proof.LruPromptState
public import Idealize.ShloMosaic.Lib.Pipeline.ValueKit
public import Idealize.ShloMosaic.Lib.WritesUnit

@[expose] public section

set_option maxRecDepth 16384

noncomputable section

namespace Cert.Kernel8Ideal.Value

open Idealize.ShloMosaic Idealize.ShloMosaic.TcCoe Idealize.SL.Sem
open scoped BigOperators
open Cert.Kernel8Ideal Cert.Kernel8Ideal.Gen

variable (m : (ℓ : Loc nD τ sig) → Buf (Elt Ideal) ℓ)

/-! ## The extended block: eight rows, then 256 -/

theorem loaded_row (o : ℕ) (inb : ∀ a, (![o, 0] : Fin 2 → ℕ) a + S256x1024.size a ≤ S264x1024.size a) (p : Fin 256) (q : Fin 1024) (h : o + p < 264) :
    (Rect.unit (s := S264x1024) ![o, 0] ![256, 1024] inb).idx (ix2 p q) = ix2 ⟨o + p, h⟩ q := by
  funext a
  apply Fin.ext
  fin_cases a <;> simp [LoadRect.idx, Rect.unit, ix2]

theorem low_emb (p : Fin 8) (q : Fin 1024) (h : (p : ℕ) < 264) : (ix2 ⟨p, h⟩ q : S264x1024.Idx) = (Rect.unit (s := S264x1024) ![0, 0] ![8, 1024] inb_S264x1024_S8x1024_0_0).emb (ix2 p q : S8x1024.Idx) := by
  funext a
  apply Fin.ext
  fin_cases a <;> simp [Rect.emb, Rect.unit, ix2]

theorem high_emb (p : Fin 256) (q : Fin 1024) (h : 8 + (p : ℕ) < 264) : (ix2 ⟨8 + p, h⟩ q : S264x1024.Idx) = (Rect.unit (s := S264x1024) ![8, 0] ![256, 1024] inb_S264x1024_S256x1024_8_0).emb (ix2 p q : S256x1024.Idx) := by
  funext a
  apply Fin.ext
  fin_cases a <;> simp [Rect.emb, Rect.unit, ix2]

theorem low_at (Z : S8x1024.Idx → EReal) (L : List (View.Piece (Elt Ideal) S264x1024 .f32)) (p : Fin 8) (q : Fin 1024) (h : (p : ℕ) < 264) :
    View.canon ((⟨Rect.unit ![0, 0] ![8, 1024] inb_S264x1024_S8x1024_0_0, Z⟩ : View.Piece (Elt Ideal) S264x1024 .f32) :: L) (ix2 ⟨p, h⟩ q) = Z (ix2 p q) := by
  rw [low_emb]
  exact View.canon_cons_emb _ _ _ _

theorem high_at (P : S256x1024.Idx → EReal) (L : List (View.Piece (Elt Ideal) S264x1024 .f32)) (p : Fin 256) (q : Fin 1024) (h : 8 + (p : ℕ) < 264) :
    View.canon ((⟨Rect.unit ![8, 0] ![256, 1024] inb_S264x1024_S256x1024_8_0, P⟩ : View.Piece (Elt Ideal) S264x1024 .f32) :: L) (ix2 ⟨8 + p, h⟩ q) = P (ix2 p q) := by
  rw [high_emb]
  exact View.canon_cons_emb _ _ _ _

theorem skip_at (P : S256x1024.Idx → EReal) (L : List (View.Piece (Elt Ideal) S264x1024 .f32)) (p : Fin 8) (q : Fin 1024) (h : (p : ℕ) < 264) :
    View.canon ((⟨Rect.unit ![8, 0] ![256, 1024] inb_S264x1024_S256x1024_8_0, P⟩ : View.Piece (Elt Ideal) S264x1024 .f32) :: L) (ix2 ⟨p, h⟩ q) = View.canon L (ix2 ⟨p, h⟩ q) := by
  refine View.canon_cons_of_not_mem _ L ?_
  rw [Rect.mem_set_unit]
  intro hh
  have h0 : 8 ≤ (p : ℕ) := (hh 0).1
  omega

/-- Rows loaded over a block stored below eight rows. -/
theorem load_new (P : S256x1024.Idx → EReal) (Z : S8x1024.Idx → EReal) (o : ℕ) (ho : o ≤ 8) (inb : ∀ a, (![o, 0] : Fin 2 → ℕ) a + S256x1024.size a ≤ S264x1024.size a) (p : Fin 256) (q : Fin 1024) :
    View.readCov (Val := Elt Ideal) (View.whole cc0_scratch0) [⟨Rect.unit ![8, 0] ![256, 1024] inb_S264x1024_S256x1024_8_0, P⟩, ⟨Rect.unit ![0, 0] ![8, 1024] inb_S264x1024_S8x1024_0_0, Z⟩] (Rect.unit (s := S264x1024) ![o, 0] ![256, 1024] inb).toLoadRect (ix2 p q)
      = if h : o + p < 8 then Z (ix2 ⟨o + p, h⟩ q) else P (ix2 ⟨o + p - 8, by omega⟩ q) := by
  rw [View.readCov_eq_canon']
  show View.canon _ ((Rect.unit (s := S264x1024) ![o, 0] ![256, 1024] inb).idx (ix2 p q)) = _
  rw [loaded_row o inb p q (by omega)]
  by_cases h : o + p < 8
  · rw [dif_pos h]
    exact (skip_at P _ ⟨o + p, h⟩ q (by dsimp only; omega)).trans (low_at Z [] ⟨o + p, h⟩ q (by dsimp only; omega))
  · rw [dif_neg h]
    have e : (⟨o + p, by omega⟩ : Fin 264) = ⟨8 + ((⟨o + p - 8, by omega⟩ : Fin 256) : ℕ), by dsimp only; omega⟩ := Fin.ext (by dsimp only; omega)
    rw [e]
    exact high_at P _ ⟨o + p - 8, by omega⟩ q _

/-- Rows loaded over a block stored into what the point before left. -/
theorem load_kept (P : S256x1024.Idx → EReal) (f : S264x1024.Idx → EReal) (o : ℕ) (ho : o ≤ 8) (inb : ∀ a, (![o, 0] : Fin 2 → ℕ) a + S256x1024.size a ≤ S264x1024.size a) (p : Fin 256) (q : Fin 1024) :
    View.ld (View.read (Elt Ideal) (View.whole cc0_scratch0) ((View.whole cc0_scratch0).writes (Elt Ideal) ((Memref.isWhole_whole cc0_scratch0).unread f) [⟨Rect.unit ![8, 0] ![256, 1024] inb_S264x1024_S256x1024_8_0, P⟩])) (Rect.unit (s := S264x1024) ![o, 0] ![256, 1024] inb) (ix2 p q)
      = if h : o + p < 8 then f (ix2 ⟨o + p, by omega⟩ q) else P (ix2 ⟨o + p - 8, by omega⟩ q) := by
  show View.read (Elt Ideal) (View.whole cc0_scratch0) _ ((Rect.unit (s := S264x1024) ![o, 0] ![256, 1024] inb).idx (ix2 p q)) = _
  rw [loaded_row o inb p q (by omega)]
  by_cases h : o + p < 8
  · rw [dif_pos h, View.read_writes_cons_unit_of_not_mem _ _ _ _ _ _ rfl (0 : Fin 2) (.inl (show o + (p : ℕ) < 8 from h))]
    exact congrFun ((Memref.isWhole_whole cc0_scratch0).read_unread (Val := Elt Ideal) f) _
  · rw [dif_neg h]
    have e : (⟨o + p, by omega⟩ : Fin 264) = ⟨8 + ((⟨o + p - 8, by omega⟩ : Fin 256) : ℕ), by dsimp only; omega⟩ := Fin.ext (by dsimp only; omega)
    rw [e, high_emb]
    exact View.read_writes_cons_emb _ _ _ _ _ _

/-- The last eight rows of a point's channels are left for the next. -/
theorem ext_at (c : Dev nD) (t : Fin cfg0.N) (p : Fin 8) (q : Fin 1024) (h : (p : ℕ) < 264) :
    (outsAt0 m c t.val t.isLt).2.2.2.1 (ix2 ⟨p, h⟩ q) = X0_0 m c t (ix2 ⟨248 + p, by omega⟩ q) := by
  have e : k0_pay7 (F := Ideal) (X0_0 m c t) (ix2 p q) = X0_0 m c t (ix2 ⟨248 + p, by omega⟩ q) := by
    generalize X0_0 m c t = A
    pointwise [k0_pay7]
  rw [← e]
  by_cases h0 : t.val % 16 = 0
  · rw [outsAt0_A m c t h0 (by omega)]
    frame_out
    exact low_at _ _ p q h
  · by_cases h1 : t.val % 16 = 15
    · rw [outsAt0_C m c t h0 h1]
      frame_out
      exact low_at _ _ p q h
    · rw [outsAt0_B m c t h0 h1]
      frame_out
      exact low_at _ _ p q h

theorem pay4_eq (A : Vec Ideal S256x1024 .f32) (p : Fin 256) (q : Fin 1024) : k0_pay4 (F := Ideal) A (ix2 p q) = A (ix2 p q) := by
  pointwise [k0_pay4]

/-- At a sequence's first point the rows before are zeros. -/
theorem loads_new (c : Dev nD) (t : Fin cfg0.N) (h0 : (t : ℕ) % 16 = 0) (o d : ℕ) (ho : o = 5 + d) (hd : d ≤ 2) (inb : ∀ a, (![o, 0] : Fin 2 → ℕ) a + S256x1024.size a ≤ S264x1024.size a) :
    Loads m c t d (View.readCov (Val := Elt Ideal) (View.whole cc0_scratch0) [⟨Rect.unit ![8, 0] ![256, 1024] inb_S264x1024_S256x1024_8_0, k0_pay4 (X0_0 m c t)⟩, ⟨Rect.unit ![0, 0] ![8, 1024] inb_S264x1024_S8x1024_0_0, k0_pay2 (F := Ideal)⟩] (Rect.unit (s := S264x1024) ![o, 0] ![256, 1024] inb).toLoadRect) := by
  intro p q
  refine (load_new _ _ o (by omega) inb p q).trans ?_
  by_cases h : o + (p : ℕ) < 8
  · rw [dif_pos h]
    unfold Cert.Reference8Ideal.Value.row
    rw [dif_pos (by omega)]
    pointwise [k0_pay2]
  · rw [dif_neg h, pay4_eq, chan_row]
    congr 1
    dsimp only
    omega

/-- At every other point they are the last rows of the point before. -/
theorem loads_kept (c : Dev nD) (t : Fin cfg0.N) (h0 : ¬(t : ℕ) % 16 = 0) (h' : (t : ℕ) - 1 < cfg0.N) (o d : ℕ) (ho : o = 5 + d) (hd : d ≤ 2) (inb : ∀ a, (![o, 0] : Fin 2 → ℕ) a + S256x1024.size a ≤ S264x1024.size a) :
    Loads m c t d (View.ld (View.read (Elt Ideal) (View.whole cc0_scratch0) ((View.whole cc0_scratch0).writes (Elt Ideal) ((Memref.isWhole_whole cc0_scratch0).unread (outsAt0 m c ((t : ℕ) - 1) h').2.2.2.1) [⟨Rect.unit ![8, 0] ![256, 1024] inb_S264x1024_S256x1024_8_0, k0_pay4 (X0_0 m c t)⟩])) (Rect.unit (s := S264x1024) ![o, 0] ![256, 1024] inb)) := by
  intro p q
  refine (load_kept _ _ o (by omega) inb p q).trans ?_
  by_cases h : o + (p : ℕ) < 8
  · rw [dif_pos h]
    refine (ext_at m c ⟨(t : ℕ) - 1, h'⟩ ⟨o + p, h⟩ q (by dsimp only; omega)).trans ?_
    rw [chan_row]
    have e : seq ⟨(t : ℕ) - 1, h'⟩ = seq t := Fin.ext (by unfold seq; dsimp only; omega)
    rw [e]
    congr 1
    dsimp only
    omega
  · rw [dif_neg h, pay4_eq, chan_row]
    congr 1
    dsimp only
    omega

/-! ## The scan -/

theorem row255 (U A : FVec Ideal S256x1024 .f32) (I : IVec S256x1024 32) (M : IVec S256x1024 1) (D : FVec Ideal S256x1024 .f32) (H : Vec Ideal S1x1024 .f32) (p : Fin 8) (q : Fin 1024) :
    k0_pay53 (F := Ideal) I U A M D H (ix2 p q) = k0_pay52 (F := Ideal) I U A M D H (ix2 255 q) := by
  unfold k0_pay53
  generalize k0_pay52 (F := Ideal) I U A M D H = R
  pointwise

theorem row255' (U A : FVec Ideal S256x1024 .f32) (I : IVec S256x1024 32) (M : IVec S256x1024 1) (D : FVec Ideal S256x1024 .f32) (H : Vec Ideal S1x1024 .f32) (q : Fin 1024) :
    k0_pay54 (F := Ideal) I U A M D H (ix3 0 0 q) = k0_pay52 (F := Ideal) I U A M D H (ix2 255 q) := by
  unfold k0_pay54
  generalize k0_pay52 (F := Ideal) I U A M D H = R
  pointwise

theorem gated (R : FVec Ideal S256x1024 .f32) (Y : Vec Ideal S256x1024 .f32) (p : Fin 256) (q : Fin 1024) :
    k0_pay1 (F := Ideal) R (k0_pay55 Y) (k0_pay56 Y) (Scalar.ofBits .f32 0x3F4C422A#32) (ix2 p q) = R (ix2 p q) * Lru.branch (Y (ix2 p q)) := by
  pointwise [k0_pay1, k0_pay55, k0_pay56]
  exact congrArg (R (ix2 p q) * ·) (Lru.branch_eq _)

/-- The state of zeros a sequence starts from. -/
theorem start_new (q : Fin 1024) :
    View.readCov (Val := Elt Ideal) (View.whole cc0_scratch1) [⟨Rect.unit ![0, 0] ![8, 1024] inb_S8x1024_S8x1024_0_0, k0_pay3 (F := Ideal)⟩] (Rect.unit (s := S8x1024) ![0, 0] ![1, 1024] inb_S8x1024_S1x1024_0_0).toLoadRect (ix2 0 q) = (0 : EReal) := by
  rw [View.readCov_eq_canon']
  show View.canon _ ((Rect.unit (s := S8x1024) ![0, 0] ![1, 1024] inb_S8x1024_S1x1024_0_0).idx (ix2 0 q)) = _
  rw [View.canon_cons_unit_lit _ _ _ (by decide)]
  pointwise [k0_pay3]

/-- The state the point before left. -/
theorem start_kept (f : S8x1024.Idx → EReal) (q : Fin 1024) :
    View.ld (View.read (Elt Ideal) (View.whole cc0_scratch1) ((Memref.isWhole_whole cc0_scratch1).unread f)) (Rect.unit (s := S8x1024) ![0, 0] ![1, 1024] inb_S8x1024_S1x1024_0_0) (ix2 0 q) = f (ix2 0 q) := by
  refine (congrFun ((Memref.isWhole_whole cc0_scratch1).read_unread (Val := Elt Ideal) f) _).trans (congrArg f ?_)
  funext a
  apply Fin.ext
  fin_cases a <;> simp [LoadRect.idx, Rect.unit, ix2]

/-- What a point writes, from its states. -/
def Writes (c : Dev nD) (t : Fin cfg0.N) (S : FVec Ideal S256x1024 .f32) : Prop :=
  (∀ (p : Fin 8) (q : Fin 1024), (outsAt0 m c t.val t.isLt).2.2.2.2 (ix2 p q) = S (ix2 255 q))
  ∧ (∀ (p : Fin 256) (q : Fin 1024), (outsAt0 m c t.val t.isLt).1 (ix2 p q) = S (ix2 p q) * Lru.branch (X0_1 m c t (ix2 p q)))

set_option maxHeartbeats 1000000 in
theorem point_new (c : Dev nD) (t : Fin cfg0.N) (h0 : (t : ℕ) % 16 = 0) :
    ∃ (E5 E6 E7 : FVec Ideal S256x1024 .f32) (H : Vec Ideal S1x1024 .f32), Loads m c t 0 E5 ∧ Loads m c t 1 E6 ∧ Loads m c t 2 E7
      ∧ (∀ q : Fin 1024, H (ix2 0 q) = 0) ∧ Writes m c t (stK m c t E5 E6 E7 H) := by
  refine ⟨_, _, _, _, loads_new m c t h0 5 0 rfl (by omega) inb_S264x1024_S256x1024_5_0, loads_new m c t h0 6 1 rfl (by omega) inb_S264x1024_S256x1024_6_0,
    loads_new m c t h0 7 2 rfl (by omega) inb_S264x1024_S256x1024_7_0, start_new, fun p q => ?_, fun p q => ?_⟩
  · rw [outsAt0_A m c t h0 (by omega)]
    frame_out
    refine (row255 _ _ _ _ _ _ p q).trans ((congrFun (states_eq _ _ _ _ _ _ _) _).trans ?_)
    rfl
  · rw [outsAt0_A m c t h0 (by omega)]
    frame_out
    refine (gated _ _ p q).trans (congrArg (· * _) ((congrFun (states_eq _ _ _ _ _ _ _) _).trans ?_))
    rfl

set_option maxHeartbeats 1000000 in
theorem point_kept (c : Dev nD) (t : Fin cfg0.N) (h0 : ¬(t : ℕ) % 16 = 0) (h' : (t : ℕ) - 1 < cfg0.N) :
    ∃ (E5 E6 E7 : FVec Ideal S256x1024 .f32) (H : Vec Ideal S1x1024 .f32), Loads m c t 0 E5 ∧ Loads m c t 1 E6 ∧ Loads m c t 2 E7
      ∧ (∀ q : Fin 1024, H (ix2 0 q) = (outsAt0 m c ((t : ℕ) - 1) h').2.2.2.2 (ix2 0 q)) ∧ Writes m c t (stK m c t E5 E6 E7 H) := by
  refine ⟨_, _, _, _, loads_kept m c t h0 h' 5 0 rfl (by omega) inb_S264x1024_S256x1024_5_0, loads_kept m c t h0 h' 6 1 rfl (by omega) inb_S264x1024_S256x1024_6_0,
    loads_kept m c t h0 h' 7 2 rfl (by omega) inb_S264x1024_S256x1024_7_0, start_kept _, fun p q => ?_, fun p q => ?_⟩
  · by_cases h1 : t.val % 16 = 15
    · rw [outsAt0_C m c t h0 h1]
      frame_out
      refine (row255 _ _ _ _ _ _ p q).trans ((congrFun (states_eq _ _ _ _ _ _ _) _).trans ?_)
      rfl
    · rw [outsAt0_B m c t h0 h1]
      frame_out
      refine (row255 _ _ _ _ _ _ p q).trans ((congrFun (states_eq _ _ _ _ _ _ _) _).trans ?_)
      rfl
  · by_cases h1 : t.val % 16 = 15
    · rw [outsAt0_C m c t h0 h1]
      frame_out
      refine (gated _ _ p q).trans (congrArg (· * _) ((congrFun (states_eq _ _ _ _ _ _ _) _).trans ?_))
      rfl
    · rw [outsAt0_B m c t h0 h1]
      frame_out
      refine (gated _ _ p q).trans (congrArg (· * _) ((congrFun (states_eq _ _ _ _ _ _ _) _).trans ?_))
      rfl

/-- The last state written is the one carried. -/
theorem last_kept (c : Dev nD) (t : Fin cfg0.N) (h1 : (t : ℕ) % 16 = 15) (q : Fin 1024) :
    (outsAt0 m c t.val t.isLt).2.1 (ix3 0 0 q) = (outsAt0 m c t.val t.isLt).2.2.2.2 (ix2 0 q) := by
  rw [outsAt0_C m c t (by omega) h1]
  frame_out
  exact (row255' _ _ _ _ _ _ q).trans (row255 _ _ _ _ _ _ 0 q).symm

theorem buffer_new (P : S256x1024.Idx → EReal) (p : Fin 3) (q : Fin 1024) :
    k0_pay6 (F := Ideal) (View.readCov (Val := Elt Ideal) (View.whole cc0_scratch0) [⟨Rect.unit ![8, 0] ![256, 1024] inb_S264x1024_S256x1024_8_0, P⟩] (Rect.unit (s := S264x1024) ![261, 0] ![3, 1024] inb_S264x1024_S3x1024_261_0).toLoadRect) (ix3 0 p q)
      = P (ix2 ⟨253 + p, by omega⟩ q) := by
  have e : ∀ B : Vec Ideal S3x1024 .f32, k0_pay6 (F := Ideal) B (ix3 0 p q) = B (ix2 p q) := by
    intro B
    pointwise [k0_pay6]
  rw [e, View.readCov_eq_canon']
  have e2 : (Rect.unit (s := S264x1024) ![261, 0] ![3, 1024] inb_S264x1024_S3x1024_261_0).idx (ix2 p q) = ix2 ⟨8 + ((⟨253 + p, by omega⟩ : Fin 256) : ℕ), by dsimp only; omega⟩ q := by
    funext a
    apply Fin.ext
    fin_cases a <;> simp [LoadRect.idx, Rect.unit, ix2]
    omega
  show View.canon _ ((Rect.unit (s := S264x1024) ![261, 0] ![3, 1024] inb_S264x1024_S3x1024_261_0).idx (ix2 p q)) = _
  rw [e2]
  exact high_at P [] ⟨253 + p, by omega⟩ q _

/-- The new buffer is the last three rows of the channels. -/
theorem buffer_at (c : Dev nD) (t : Fin cfg0.N) (h1 : (t : ℕ) % 16 = 15) (p : Fin 3) (q : Fin 1024) :
    (outsAt0 m c t.val t.isLt).2.2.1 (ix3 0 p q) = X0_0 m c t (ix2 ⟨253 + p, by omega⟩ q) := by
  rw [outsAt0_C m c t (by omega) h1]
  frame_out
  exact (buffer_new _ p q).trans (pay4_eq _ _ q)

end Cert.Kernel8Ideal.Value

end
-- ==== Proof.LruPromptFinal.lean ====
/- What the recurrence's kernel over the prompt rows leaves in its three results: the states times the branch, the last state of
   each sequence, and the last three rows of its channels. -/
module

public import proofs.«01_k».proof.Proof.LruPrompt

@[expose] public section

set_option maxRecDepth 16384

noncomputable section

namespace Cert.Kernel8Ideal.Value

open Idealize.ShloMosaic Idealize.ShloMosaic.TcCoe Idealize.SL.Sem
open scoped BigOperators
open Cert.Kernel8Ideal Cert.Kernel8Ideal.Gen

variable (m : (ℓ : Loc nD τ sig) → Buf (Elt Ideal) ℓ)

theorem state_zero (c : Dev nD) (b : Fin 2) (q : Fin 1024) (n : ℕ) (h : n = 0) : (0 : EReal) = stateK m c b q n := by
  subst h
  rfl

/-- What a point writes are the recurrence's states of its 256 rows. -/
theorem point_states (c : Dev nD) : ∀ (n : ℕ) (hn : n < cfg0.N), ∃ S : FVec Ideal S256x1024 .f32,
    Writes m c ⟨n, hn⟩ S ∧ ∀ (p : Fin 256) (q : Fin 1024), S (ix2 p q) = stateK m c (seq ⟨n, hn⟩) q (256 * (n % 16) + (p + 1)) := by
  intro n
  induction n with
  | zero =>
    intro hn
    obtain ⟨E5, E6, E7, H, h5, h6, h7, hH, hW⟩ := point_new m c ⟨0, hn⟩ rfl
    exact ⟨_, hW, state_point h5 h6 h7 H fun q => (hH q).trans (state_zero m c _ q _ rfl)⟩
  | succ n ih =>
    intro hn
    by_cases h0 : (n + 1) % 16 = 0
    · obtain ⟨E5, E6, E7, H, h5, h6, h7, hH, hW⟩ := point_new m c ⟨n + 1, hn⟩ h0
      refine ⟨_, hW, state_point h5 h6 h7 H fun q => (hH q).trans (state_zero m c _ q _ (by dsimp only; omega))⟩
    · obtain ⟨E5, E6, E7, H, h5, h6, h7, hH, hW⟩ := point_kept m c ⟨n + 1, hn⟩ h0 (Nat.lt_of_succ_lt hn)
      refine ⟨_, hW, state_point h5 h6 h7 H fun q => (hH q).trans ?_⟩
      obtain ⟨S, hS, hs⟩ := ih (Nat.lt_of_succ_lt hn)
      refine (hS.1 0 q).trans ((hs 255 q).trans ?_)
      have e : seq ⟨n, Nat.lt_of_succ_lt hn⟩ = seq ⟨n + 1, hn⟩ := Fin.ext (by unfold seq; dsimp only; omega)
      rw [e]
      refine congrArg (stateK m c (seq ⟨n + 1, hn⟩) q) ?_
      show 256 * (n % 16) + (255 + 1) = 256 * ((n + 1) % 16)
      omega

/-- The first result at a row and a column: the state after the row times the row's branch. -/
def outF (c : Dev nD) (r : Fin 8192) (q : Fin 1024) : EReal :=
  stateK m c ⟨(r : ℕ) / 4096, by omega⟩ q ((r : ℕ) % 4096 + 1) * Lru.branch (packed m c (ix2 r ⟨1024 + (q : ℕ), by omega⟩))

theorem outF_of (c : Dev nD) (r : Fin 8192) (q : Fin 1024) (b : Fin 2) (hb : (b : ℕ) = (r : ℕ) / 4096) (n : ℕ) (hn : n = (r : ℕ) % 4096 + 1)
    (x : EReal) (hx : x = packed m c (ix2 r ⟨1024 + (q : ℕ), by omega⟩)) : stateK m c b q n * Lru.branch x = outF m c r q := by
  have e : b = ⟨(r : ℕ) / 4096, by omega⟩ := Fin.ext hb
  unfold outF
  rw [e, hn, hx]

/-- The first result. -/
def outK (c : Dev nD) : S8192x1024.Idx → EReal := fun y => outF m c (y 0) (y 1)

/-- The second: each sequence's last state. -/
def lastK (c : Dev nD) : S2x1x1024.Idx → EReal := fun y => stateK m c (y 0) (y 2) 4096

/-- The third at a sequence, a row and a column: the sequence's last three rows of channels. -/
def tailF (c : Dev nD) (b : Fin 2) (p : Fin 3) (q : Fin 1024) : EReal :=
  packed m c (ix2 ⟨4096 * (b : ℕ) + (4093 + (p : ℕ)), by omega⟩ ⟨(q : ℕ), by omega⟩)

theorem tailF_of (c : Dev nD) (b : Fin 2) (p : Fin 3) (q : Fin 1024) (r : Fin 8192) (hr : (r : ℕ) = 4096 * (b : ℕ) + (4093 + (p : ℕ))) (k : Fin 4864) (hk : (k : ℕ) = q) :
    packed m c (ix2 r k) = tailF m c b p q := by
  have e : r = ⟨4096 * (b : ℕ) + (4093 + (p : ℕ)), by omega⟩ := Fin.ext hr
  have e' : k = ⟨(q : ℕ), by omega⟩ := Fin.ext hk
  unfold tailF
  rw [e, e']

/-- The third. -/
def tailK (c : Dev nD) : S2x3x1024.Idx → EReal := fun y => tailF m c (y 0) (y 1) (y 2)

theorem out_point (c : Dev nD) (t : Fin cfg0.N) (p : Fin 256) (q : Fin 1024) (h : 256 * (t : ℕ) + p < 8192) :
    (outsAt0 m c t.val t.isLt).1 (ix2 p q) = outF m c ⟨256 * t + p, h⟩ q := by
  obtain ⟨S, hS, hs⟩ := point_states m c t.val t.isLt
  refine (hS.2 p q).trans ?_
  rw [hs]
  refine outF_of m c _ q _ ?_ _ ?_ _ (side_at m c t p q h)
  · unfold seq
    dsimp only
    omega
  · dsimp only
    omega

theorem last_point (c : Dev nD) (t : Fin cfg0.N) (h1 : (t : ℕ) % 16 = 15) (q : Fin 1024) :
    (outsAt0 m c t.val t.isLt).2.1 (ix3 0 0 q) = stateK m c (seq t) q 4096 := by
  obtain ⟨S, hS, hs⟩ := point_states m c t.val t.isLt
  refine (last_kept m c t h1 q).trans ((hS.1 0 q).trans ((hs 255 q).trans ?_))
  have e : 256 * ((t : ℕ) % 16) + (((255 : Fin 256) : ℕ) + 1) = 4096 := by
    rw [h1]
    norm_num
  rw [e]

theorem tail_point (c : Dev nD) (t : Fin cfg0.N) (h1 : (t : ℕ) % 16 = 15) (p : Fin 3) (q : Fin 1024) :
    (outsAt0 m c t.val t.isLt).2.2.1 (ix3 0 p q) = tailF m c (seq t) p q := by
  have ht : (t : ℕ) < 32 := t.isLt
  refine (buffer_at m c t h1 p q).trans ((chan_at m c t ⟨253 + p, by omega⟩ q (by dsimp only; omega)).trans ?_)
  refine tailF_of m c _ p q _ ?_ _ rfl
  unfold seq
  dsimp only
  omega

theorem final_out (c : Dev nD) : (dats m 0 c).arrAt 8 (cfgs 0).N = outK m c := by
  refine (dats m 0 c).arrAt_eq_of_covers 8 _ (by decide +kernel) fun t hf y => ?_
  blk_simp; rw [after0_8]
  have ht : (t : ℕ) < 32 := t.isLt
  have hy : ((y 0 : Fin 256) : ℕ) < 256 := (y 0 : Fin 256).isLt
  have hb : 256 * (t : ℕ) + ((y 0 : Fin 256) : ℕ) < 8192 := by omega
  have e : ((cfg0.win 8).blk t).view.emb y = ix2 ⟨256 * (t : ℕ) + ((y 0 : Fin 256) : ℕ), hb⟩ (y 1) := by blk_ext! [idx t]
  refine Eq.trans ?_ (congrArg (outK m c) e.symm)
  exact (congrArg (outsAt0 m c t.val t.isLt).1 (by blk_ext!)).trans (out_point m c t (y 0) (y 1) hb)

theorem final_last (c : Dev nD) : (dats m 0 c).arrAt 9 (cfgs 0).N = lastK m c := by
  refine (dats m 0 c).arrAt_eq_of_covers 9 _ (by decide +kernel) fun t hf y => ?_
  have h1 : (t : ℕ) % 16 = 15 := (flush0_9 t).mp hf
  blk_simp; rw [after0_9]
  have e : ((cfg0.win 9).blk t).view.emb y = ix3 (seq t) 0 (y 2) := by
    blk_ext! [idx t]
    rfl
  refine Eq.trans ?_ (congrArg (lastK m c) e.symm)
  exact (congrArg (outsAt0 m c t.val t.isLt).2.1 (by blk_ext!)).trans (last_point m c t h1 (y 2))

theorem final_tail (c : Dev nD) : (dats m 0 c).arrAt 10 (cfgs 0).N = tailK m c := by
  refine (dats m 0 c).arrAt_eq_of_covers 10 _ (by decide +kernel) fun t hf y => ?_
  have h1 : (t : ℕ) % 16 = 15 := (flush0_10 t).mp hf
  blk_simp; rw [after0_10]
  have e : ((cfg0.win 10).blk t).view.emb y = ix3 (seq t) (y 1) (y 2) := by
    blk_ext! [idx t]
    rfl
  refine Eq.trans ?_ (congrArg (tailK m c) e.symm)
  exact (congrArg (outsAt0 m c t.val t.isLt).2.2.1 (by blk_ext!)).trans (tail_point m c t h1 (y 1) (y 2))

end Cert.Kernel8Ideal.Value

end
-- ==== Proof.LruPromptClaim.lean ====
/- The recurrence's kernel over the prompt rows and its reference end with equal results. -/
module

public import proofs.«01_k».proof.Defs
public import proofs.«01_k».proof.Proof.LruPromptFinal
public import Idealize.ShloMosaic.Lib.Claim

@[expose] public section

set_option maxRecDepth 16384

noncomputable section

namespace Cert.Reference8Ideal.Value

open Idealize.ShloMosaic Idealize.ShloMosaic.TcCoe Idealize.SL.Sem Idealize.ShloMosaic.StableHlo
open scoped BigOperators
open Cert.Reference8Ideal Cert.Reference8Ideal.Gen

variable (m : (ℓ : Loc nD τ sig) → Buf (Elt Ideal) ℓ) (ρ : Dev nD → PrngReg)

theorem ext2 {n0 n1 : ℕ} (A B : (⟨2, ![n0, n1]⟩ : Shape).Idx → EReal) (h : ∀ (r : Fin n0) (q : Fin n1), A (ix2 r q) = B (ix2 r q)) : A = B := by
  funext y
  rw [eq_ix2 y]
  exact h _ _

theorem ext3 {n0 n1 n2 : ℕ} (A B : (⟨3, ![n0, n1, n2]⟩ : Shape).Idx → EReal) (h : ∀ (b : Fin n0) (r : Fin n1) (q : Fin n2), A (ix3 b r q) = B (ix3 b r q)) : A = B := by
  funext y
  rw [eq_ix3 y]
  exact h _ _ _

/-- The reference's first result. -/
@[irreducible] def outR (c : Dev nD) : S8192x1024.Idx → EReal := out_main_v101 (STEP^[4096] (entryContents preI m c))

/-- Its second. -/
@[irreducible] def lastR (c : Dev nD) : S2x1x1024.Idx → EReal := out_main_v102 (STEP^[4096] (entryContents preI m c))

/-- Its third. -/
@[irreducible] def tailR (c : Dev nD) : S2x3x1024.Idx → EReal := out_main_v100 (STEP^[4096] (entryContents preI m c))

theorem outR_at (c : Dev nD) (r : Fin 8192) (q : Fin 1024) :
    outR m c (ix2 r q) = stateOf m c ⟨(r : ℕ) / 4096, by omega⟩ q ((r : ℕ) % 4096 + 1)
      * Lru.branch ((show FVec Ideal S8192x4864 .f32 from m ((c.tc : Thread nD τ).loc main_arg0)) (ix2 r ⟨1024 + q, by omega⟩)) := by
  unfold outR
  exact out_at m c r q

theorem lastR_at (c : Dev nD) (b : Fin 2) (q : Fin 1024) : lastR m c (ix3 b 0 q) = stateOf m c b q 4096 := by
  unfold lastR
  exact last_at m c b q

theorem tailR_at (c : Dev nD) (b : Fin 2) (p : Fin 3) (q : Fin 1024) :
    tailR m c (ix3 b p q) = (show FVec Ideal S8192x4864 .f32 from m ((c.tc : Thread nD τ).loc main_arg0)) (ix2 ⟨4096 * b + (4093 + p), by omega⟩ ⟨q, by omega⟩) := by
  unfold tailR
  exact tail_at m c b p q

/-- The reference's run, its results named. -/
theorem run_named : θ_run (defs (F := Ideal)) (onTc (τ := τ) (main (F := Ideal))) ⟨m, fun _ => 0, ρ⟩ fun r => ∀ c : Dev nD,
      r.2.mem ((c.tc : Thread nD τ).loc main_v101) = outR m c
      ∧ r.2.mem ((c.tc : Thread nD τ).loc main_v102) = lastR m c
      ∧ r.2.mem ((c.tc : Thread nD τ).loc main_v100) = tailR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  unfold outR lastR tailR
  exact run m ρ

end Cert.Reference8Ideal.Value

namespace Cert.Proof

open Idealize.ShloMosaic Idealize.SL.Sem
open Cert.Reference8Ideal.Value

theorem algebraic8 : Cert.algebraic_Kernel8Ideal_Reference8Ideal := by
  pair_intro
  · run_from Cert.Kernel8Ideal.Value.run_blocks m g
  · have hs : ∀ c : Dev Cert.Kernel8Ideal.nD, stateOf m' c = Cert.Kernel8Ideal.Value.stateK m c := by
      intro c
      obtain ⟨h0, h1, h2, h3, h4, h5, h6, h7⟩ := hagree c
      unfold stateOf convOf Cert.Kernel8Ideal.Value.stateK Cert.Kernel8Ideal.Value.aK Cert.Kernel8Ideal.Value.uK
      rw [h0, h1, h2, h3, h4, h5, h6, h7]
    refine θ_run_mono (Cert.Reference8Ideal.Value.run_named m' g') ?_
    intro r hr c
    obtain ⟨H1, H2, H3, A⟩ := hr c
    refine ⟨H1.trans ?_, H2.trans ?_, H3.trans ?_, A⟩
    · refine Eq.trans ?_ (Cert.Kernel8Ideal.Value.final_out m c).symm
      refine ext2 (n0 := 8192) (n1 := 1024) _ _ fun r q => (outR_at m' c r q).trans ?_
      rw [hs c]
      exact Cert.Kernel8Ideal.Value.outF_of m c r q _ rfl _ rfl _ (congrFun (hagree c).1 _)
    · refine Eq.trans ?_ (Cert.Kernel8Ideal.Value.final_last m c).symm
      refine ext3 (n0 := 2) (n1 := 1) (n2 := 1024) _ _ fun b z q => ?_
      obtain rfl : z = 0 := Subsingleton.elim _ _
      exact (lastR_at m' c b q).trans (congrFun (congrFun (congrFun (hs c) b) q) 4096)
    · refine Eq.trans ?_ (Cert.Kernel8Ideal.Value.final_tail m c).symm
      refine ext3 (n0 := 2) (n1 := 3) (n2 := 1024) _ _ fun b p q => (tailR_at m' c b p q).trans ?_
      exact (congrFun (hagree c).1 _).trans (Cert.Kernel8Ideal.Value.tailF_of m c b p q _ rfl _ rfl)

end Cert.Proof

end
-- ==== Proof.lean ====
/- The claims of this directory, assembled: every program runs and leaves its arguments as they were, and the kernels
   compute what their references compute. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.FoxClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.FfnClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.MixClaim
public import proofs.«01_k».proof.Proof.Gen.Kernel4
public import proofs.«01_k».proof.Proof.InprojFrameHw
public import proofs.«01_k».proof.Proof.Gen.Kernel4Ideal
public import proofs.«01_k».proof.Proof.InprojFrame
public import proofs.«01_k».proof.Proof.Gen.Reference4Ideal
public import proofs.«01_k».proof.Proof.Gen.Reference4Ideal.Run
public import proofs.«01_k».proof.Proof.InprojClaim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.FfnSampleClaim
public import proofs.«01_k».proof.Proof.Gen.Kernel6
public import proofs.«01_k».proof.Proof.InprojSampleFrameHw
public import proofs.«01_k».proof.Proof.Gen.Kernel6Ideal
public import proofs.«01_k».proof.Proof.InprojSampleFrame
public import proofs.«01_k».proof.Proof.Gen.Reference6Ideal
public import proofs.«01_k».proof.Proof.Gen.Reference6Ideal.Run
public import proofs.«01_k».proof.Proof.InprojSampleClaim
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.LruSampleClaim
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.LruPromptClaim
public import Idealize.ShloMosaic.Lib.Claim

@[expose] public section

noncomputable section

namespace Cert.Proof

open Idealize.ShloMosaic Idealize.SL.Sem Cert.Kernel

/-- The mask constant stands for minus infinity. -/
theorem preserves1 : Cert.preserves_Kernel_KernelIdeal :=
  IdealRules.named_const.statement Cert.KernelIdeal.κ "mask" .f32 0xF149F2CA#32 ⊥ rfl

theorem reference_frame : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

theorem reference2_frame : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run m ρ)

theorem reference3_frame : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run m ρ)

theorem reference4_frame : Cert.quiescent_Reference4Ideal := by
  intro m ρ _
  exact (θ_run Cert.Reference4Ideal.defs _ _).mono (fun r h => ⟨fun c => (h c).2.2.2, sem_eq_zero_of_no_sems (by decide) r.2⟩)
    (Cert.Reference4Ideal.Value.run m ρ)

theorem reference5_frame : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run m ρ)

theorem reference6_frame : Cert.quiescent_Reference6Ideal := by
  intro m ρ _
  exact (θ_run Cert.Reference6Ideal.defs _ _).mono (fun r h => ⟨fun c => (h c).2.2.2, sem_eq_zero_of_no_sems (by decide) r.2⟩)
    (Cert.Reference6Ideal.Value.run m ρ)

theorem reference7_frame : Cert.quiescent_Reference7Ideal := by
  intro m ρ _
  exact (θ_run Cert.Reference7Ideal.defs _ _).mono (fun r h => ⟨fun c => (h c).2.2, sem_eq_zero_of_no_sems (by decide) r.2⟩)
    (Cert.Reference7Ideal.Value.run m ρ)

theorem reference8_frame : Cert.quiescent_Reference8Ideal := by
  intro m ρ _
  exact (θ_run Cert.Reference8Ideal.defs _ _).mono (fun r h => ⟨fun c => (h c).2.2.2, sem_eq_zero_of_no_sems (by decide) r.2⟩)
    (Cert.Reference8Ideal.Value.run m ρ)

theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   fun m ρ _ => Cert.Kernel.Gen.frame m ρ,
   fun m ρ _ => Cert.KernelIdeal.Gen.frame m ρ,
   reference_frame,
   fun m ρ _ => Cert.Kernel2.Gen.frame m ρ,
   fun m ρ _ => Cert.Kernel2Ideal.Gen.frame m ρ,
   reference2_frame,
   fun m ρ _ => Cert.Kernel3.Gen.frame m ρ,
   fun m ρ _ => Cert.Kernel3Ideal.Gen.frame m ρ,
   reference3_frame,
   fun m ρ _ => Cert.Kernel4.Inproj.frame m ρ,
   fun m ρ _ => Cert.Kernel4Ideal.Inproj.frame m ρ,
   reference4_frame,
   fun m ρ _ => Cert.Kernel5.Gen.frame m ρ,
   fun m ρ _ => Cert.Kernel5Ideal.Gen.frame m ρ,
   reference5_frame,
   fun m ρ _ => Cert.Kernel6.InprojSample.frame m ρ,
   fun m ρ _ => Cert.Kernel6Ideal.InprojSample.frame m ρ,
   reference6_frame,
   fun m ρ _ => Cert.Kernel7.Gen.frame m ρ,
   fun m ρ _ => Cert.Kernel7Ideal.Gen.frame m ρ,
   reference7_frame,
   fun m ρ _ => Cert.Kernel8.Gen.frame m ρ,
   fun m ρ _ => Cert.Kernel8Ideal.Gen.frame m ρ,
   reference8_frame,
   preserves1,
   algebraic1,
   trivial,
   algebraic2,
   trivial,
   algebraic3,
   trivial,
   algebraic4,
   trivial,
   algebraic5,
   trivial,
   algebraic6,
   trivial,
   algebraic7,
   trivial,
   algebraic8⟩

end Cert.Proof

end
